-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_close_to_log2 [hKernelIdeal : Cert.KernelIdeal.Facts] [hPost_close_to_log2 : Cert.Post_close_to_log2.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_close_to_log2.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1))).1 = (fun _ => 1#1)
      ∧ (Cert.Post_close_to_log2.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v1_0)) (r.2.mem ((c.tc : Thread Cert.KernelIdeal.nD Cert.KernelIdeal.τ).loc Cert.KernelIdeal.main_v1_1))).2 = (fun _ => 1#1))

def Claim : Prop :=
  ∃ (hKernel : Cert.Kernel.Facts) (hKernelIdeal : Cert.KernelIdeal.Facts) (hReferenceIdeal : Cert.ReferenceIdeal.Facts) (hPost_close_to_log2 : Cert.Post_close_to_log2.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_close_to_log2 (hKernelIdeal := hKernelIdeal) (hPost_close_to_log2 := hPost_close_to_log2)
-- ==== Post_close_to_log2.lean ====
abbrev S1x16384x50x64 : Shape := ⟨4, ![1, 16384, 50, 64]⟩
abbrev S16384 : Shape := ⟨1, ![16384]⟩
abbrev S16384x50x64 : Shape := ⟨3, ![16384, 50, 64]⟩
abbrev S16384x1x64 : Shape := ⟨3, ![16384, 1, 64]⟩
abbrev S16384x64 : Shape := ⟨2, ![16384, 64]⟩
abbrev S16384x1 : Shape := ⟨2, ![16384, 1]⟩
abbrev S_ : Shape := ⟨0, ![]⟩
abbrev S16384x1x1 : Shape := ⟨3, ![16384, 1, 1]⟩
abbrev S16384x1x2 : Shape := ⟨3, ![16384, 1, 2]⟩

class Facts : Prop where
  shapeCasts_S1x16384x50x64_S16384x50x64 : S1x16384x50x64.ShapeCasts S16384x50x64
  slices_S16384x50x64_S16384x1x64_0_49_0 : S16384x50x64.Slices ![0, 49, 0] S16384x1x64
  shapeCasts_S16384x1x64_S16384x64 : S16384x1x64.ShapeCasts S16384x64
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1_S16384 : S16384x1.ShapeCasts S16384
  bcast_S_S16384 : S_.BroadcastsInDim S16384 (![] : Fin 0 → Fin S16384.rank)
  gather_S16384x64_S16384x1x2_S16384x1_n_01_n_n_01_2_11_wf : GatherDims.WF S16384x64 S16384x1x2 S16384x1 [] [0, 1] [] [0, 1] [] 2 ![1, 1]

variable [Facts]

def gather_S16384x64_S16384x1x2_S16384x1_n_01_n_n_01_2_11 : GatherDims S16384x64 S16384x1x2 S16384x1 where
  offsetDims := []
  collapsedSliceDims := [0, 1]
  operandBatchingDims := []
  startIndicesBatchingDims := []
  startIndexMap := [0, 1]
  indexVectorDim := 2
  sliceSizes := ![1, 1]
  wf := gather_S16384x64_S16384x1x2_S16384x1_n_01_n_n_01_2_11_wf

noncomputable abbrev lit0t0_0 (i : Nat) : BitVec 32 := match i % 128 with
  | 0 => 4#32
  | 1 => 4#32
  | 2 => 1#32
  | 3 => 4#32
  | 4 => 4#32
  | 5 => 4#32
  | 6 => 2#32
  | 7 => 2#32
  | 8 => 4#32
  | 9 => 1#32
  | 10 => 2#32
  | 11 => 4#32
  | 12 => 0#32
  | 13 => 1#32
  | 14 => 2#32
  | 15 => 0#32
  | 16 => 3#32
  | 17 => 4#32
  | 18 => 0#32
  | 19 => 4#32
  | 20 => 2#32
  | 21 => 3#32
  | 22 => 3#32
  | 23 => 2#32
  | 24 => 4#32
  | 25 => 1#32
  | 26 => 2#32
  | 27 => 1#32
  | 28 => 2#32
  | 29 => 4#32
  | 30 => 4#32
  | 31 => 2#32
  | 32 => 2#32
  | 33 => 3#32
  | 34 => 1#32
  | 35 => 4#32
  | 36 => 2#32
  | 37 => 4#32
  | 38 => 3#32
  | 39 => 3#32
  | 40 => 4#32
  | 41 => 1#32
  | 42 => 0#32
  | 43 => 4#32
  | 44 => 0#32
  | 45 => 2#32
  | 46 => 1#32
  | 47 => 4#32
  | 48 => 2#32
  | 49 => 3#32
  | 50 => 3#32
  | 51 => 0#32
  | 52 => 2#32
  | 53 => 3#32
  | 54 => 4#32
  | 55 => 4#32
  | 56 => 1#32
  | 57 => 0#32
  | 58 => 2#32
  | 59 => 1#32
  | 60 => 0#32
  | 61 => 0#32
  | 62 => 4#32
  | 63 => 0#32
  | 64 => 0#32
  | 65 => 2#32
  | 66 => 0#32
  | 67 => 1#32
  | 68 => 3#32
  | 69 => 1#32
  | 70 => 1#32
  | 71 => 3#32
  | 72 => 1#32
  | 73 => 3#32
  | 74 => 1#32
  | 75 => 1#32
  | 76 => 1#32
  | 77 => 0#32
  | 78 => 0#32
  | 79 => 2#32
  | 80 => 2#32
  | 81 => 4#32
  | 82 => 2#32
  | 83 => 1#32
  | 84 => 2#32
  | 85 => 4#32
  | 86 => 0#32
  | 87 => 2#32
  | 88 => 4#32
  | 89 => 0#32
  | 90 => 4#32
  | 91 => 1#32
  | 92 => 1#32
  | 93 => 3#32
  | 94 => 4#32
  | 95 => 4#32
  | 96 => 3#32
  | 97 => 1#32
  | 98 => 0#32
  | 99 => 1#32
  | 100 => 3#32
  | 101 => 2#32
  | 102 => 1#32
  | 103 => 1#32
  | 104 => 4#32
  | 105 => 4#32
  | 106 => 0#32
  | 107 => 2#32
  | 108 => 2#32
  | 109 => 2#32
  | 110 => 3#32
  | 111 => 0#32
  | 112 => 1#32
  | 113 => 3#32
  | 114 => 2#32
  | 115 => 0#32
  | 116 => 2#32
  | 117 => 1#32
  | 118 => 1#32
  | 119 => 2#32
  | 120 => 2#32
  | 121 => 4#32
  | 122 => 2#32
  | 123 => 3#32
  | 124 => 4#32
  | 125 => 2#32
  | 126 => 1#32
  | 127 => 1#32
  | _ => 0#32

noncomputable abbrev lit0t0_1 (i : Nat) : BitVec 32 := match i % 128 with
  | 0 => 0#32
  | 1 => 2#32
  | 2 => 0#32
  | 3 => 0#32
  | 4 => 2#32
  | 5 => 1#32
  | 6 => 3#32
  | 7 => 1#32
  | 8 => 2#32
  | 9 => 1#32
  | 10 => 1#32
  | 11 => 4#32
  | 12 => 0#32
  | 13 => 0#32
  | 14 => 0#32
  | 15 => 0#32
  | 16 => 3#32
  | 17 => 3#32
  | 18 => 4#32
  | 19 => 2#32
  | 20 => 3#32
  | 21 => 2#32
  | 22 => 1#32
  | 23 => 2#32
  | 24 => 3#32
  | 25 => 2#32
  | 26 => 2#32
  | 27 => 3#32
  | 28 => 4#32
  | 29 => 2#32
  | 30 => 4#32
  | 31 => 4#32
  | 32 => 4#32
  | 33 => 2#32
  | 34 => 3#32
  | 35 => 2#32
  | 36 => 4#32
  | 37 => 3#32
  | 38 => 0#32
  | 39 => 0#32
  | 40 => 4#32
  | 41 => 4#32
  | 42 => 4#32
  | 43 => 3#32
  | 44 => 0#32
  | 45 => 1#32
  | 46 => 2#32
  | 47 => 1#32
  | 48 => 3#32
  | 49 => 3#32
  | 50 => 3#32
  | 51 => 3#32
  | 52 => 4#32
  | 53 => 3#32
  | 54 => 2#32
  | 55 => 3#32
  | 56 => 4#32
  | 57 => 2#32
  | 58 => 1#32
  | 59 => 1#32
  | 60 => 2#32
  | 61 => 3#32
  | 62 => 2#32
  | 63 => 2#32
  | 64 => 1#32
  | 65 => 0#32
  | 66 => 3#32
  | 67 => 1#32
  | 68 => 4#32
  | 69 => 4#32
  | 70 => 2#32
  | 71 => 1#32
  | 72 => 2#32
  | 73 => 3#32
  | 74 => 4#32
  | 75 => 0#32
  | 76 => 1#32
  | 77 => 0#32
  | 78 => 3#32
  | 79 => 3#32
  | 80 => 3#32
  | 81 => 3#32
  | 82 => 0#32
  | 83 => 4#32
  | 84 => 2#32
  | 85 => 1#32
  | 86 => 4#32
  | 87 => 4#32
  | 88 => 0#32
  | 89 => 1#32
  | 90 => 0#32
  | 91 => 4#32
  | 92 => 1#32
  | 93 => 3#32
  | 94 => 2#32
  | 95 => 3#32
  | 96 => 0#32
  | 97 => 1#32
  | 98 => 2#32
  | 99 => 0#32
  | 100 => 1#32
  | 101 => 2#32
  | 102 => 1#32
  | 103 => 3#32
  | 104 => 3#32
  | 105 => 0#32
  | 106 => 1#32
  | 107 => 3#32
  | 108 => 3#32
  | 109 => 0#32
  | 110 => 4#32
  | 111 => 1#32
  | 112 => 3#32
  | 113 => 4#32
  | 114 => 4#32
  | 115 => 1#32
  | 116 => 1#32
  | 117 => 2#32
  | 118 => 1#32
  | 119 => 1#32
  | 120 => 1#32
  | 121 => 2#32
  | 122 => 0#32
  | 123 => 3#32
  | 124 => 4#32
  | 125 => 2#32
  | 126 => 4#32
  | 127 => 2#32
  | _ => 0#32

noncomputable abbrev lit0t0_2 (i : Nat) : BitVec 32 := match i % 128 with
  | 0 => 2#32
  | 1 => 3#32
  | 2 => 0#32
  | 3 => 0#32
  | 4 => 1#32
  | 5 => 4#32
  | 6 => 1#32
  | 7 => 2#32
  | 8 => 0#32
  | 9 => 1#32
  | 10 => 1#32
  | 11 => 1#32
  | 12 => 2#32
  | 13 => 4#32
  | 14 => 4#32
  | 15 => 0#32
  | 16 => 3#32
  | 17 => 2#32
  | 18 => 0#32
  | 19 => 2#32
  | 20 => 4#32
  | 21 => 4#32
  | 22 => 4#32
  | 23 => 1#32
  | 24 => 4#32
  | 25 => 2#32
  | 26 => 1#32
  | 27 => 0#32
  | 28 => 4#32
  | 29 => 4#32
  | 30 => 3#32
  | 31 => 4#32
  | 32 => 2#32
  | 33 => 0#32
  | 34 => 1#32
  | 35 => 2#32
  | 36 => 1#32
  | 37 => 4#32
  | 38 => 1#32
  | 39 => 3#32
  | 40 => 2#32
  | 41 => 3#32
  | 42 => 1#32
  | 43 => 3#32
  | 44 => 1#32
  | 45 => 0#32
  | 46 => 2#32
  | 47 => 4#32
  | 48 => 2#32
  | 49 => 3#32
  | 50 => 3#32
  | 51 => 4#32
  | 52 => 3#32
  | 53 => 1#32
  | 54 => 1#32
  | 55 => 4#32
  | 56 => 3#32
  | 57 => 4#32
  | 58 => 0#32
  | 59 => 2#32
  | 60 => 0#32
  | 61 => 1#32
  | 62 => 1#32
  | 63 => 0#32
  | 64 => 2#32
  | 65 => 1#32
  | 66 => 2#32
  | 67 => 0#32
  | 68 => 2#32
  | 69 => 2#32
  | 70 => 2#32
  | 71 => 2#32
  | 72 => 1#32
  | 73 => 2#32
  | 74 => 1#32
  | 75 => 0#32
  | 76 => 3#32
  | 77 => 2#32
  | 78 => 3#32
  | 79 => 0#32
  | 80 => 0#32
  | 81 => 2#32
  | 82 => 4#32
  | 83 => 2#32
  | 84 => 0#32
  | 85 => 4#32
  | 86 => 2#32
  | 87 => 1#32
  | 88 => 4#32
  | 89 => 3#32
  | 90 => 1#32
  | 91 => 4#32
  | 92 => 2#32
  | 93 => 2#32
  | 94 => 3#32
  | 95 => 0#32
  | 96 => 0#32
  | 97 => 2#32
  | 98 => 1#32
  | 99 => 1#32
  | 100 => 0#32
  | 101 => 0#32
  | 102 => 0#32
  | 103 => 1#32
  | 104 => 3#32
  | 105 => 3#32
  | 106 => 0#32
  | 107 => 1#32
  | 108 => 4#32
  | 109 => 2#32
  | 110 => 4#32
  | 111 => 4#32
  | 112 => 3#32
  | 113 => 0#32
  | 114 => 1#32
  | 115 => 2#32
  | 116 => 4#32
  | 117 => 4#32
  | 118 => 0#32
  | 119 => 0#32
  | 120 => 0#32
  | 121 => 3#32
  | 122 => 4#32
  | 123 => 2#32
  | 124 => 2#32
  | 125 => 2#32
  | 126 => 2#32
  | 127 => 4#32
  | _ => 0#32

noncomputable abbrev lit0t0_3 (i : Nat) : BitVec 32 := match i % 128 with
  | 0 => 2#32
  | 1 => 0#32
  | 2 => 2#32
  | 3 => 3#32
  | 4 => 1#32
  | 5 => 1#32
  | 6 => 1#32
  | 7 => 2#32
  | 8 => 3#32
  | 9 => 1#32
  | 10 => 4#32
  | 11 => 0#32
  | 12 => 4#32
  | 13 => 3#32
  | 14 => 1#32
  | 15 => 1#32
  | 16 => 0#32
  | 17 => 2#32
  | 18 => 1#32
  | 19 => 1#32
  | 20 => 4#32
  | 21 => 3#32
  | 22 => 4#32
  | 23 => 1#32
  | 24 => 2#32
  | 25 => 3#32
  | 26 => 4#32
  | 27 => 1#32
  | 28 => 2#32
  | 29 => 3#32
  | 30 => 1#32
  | 31 => 2#32
  | 32 => 0#32
  | 33 => 1#32
  | 34 => 3#32
  | 35 => 4#32
  | 36 => 4#32
  | 37 => 1#32
  | 38 => 3#32
  | 39 => 1#32
  | 40 => 3#32
  | 41 => 1#32
  | 42 => 1#32
  | 43 => 0#32
  | 44 => 3#32
  | 45 => 3#32
  | 46 => 0#32
  | 47 => 0#32
  | 48 => 3#32
  | 49 => 1#32
  | 50 => 4#32
  | 51 => 2#32
  | 52 => 4#32
  | 53 => 4#32
  | 54 => 4#32
  | 55 => 2#32
  | 56 => 0#32
  | 57 => 0#32
  | 58 => 1#32
  | 59 => 1#32
  | 60 => 2#32
  | 61 => 3#32
  | 62 => 0#32
  | 63 => 0#32
  | 64 => 4#32
  | 65 => 4#32
  | 66 => 1#32
  | 67 => 4#32
  | 68 => 0#32
  | 69 => 3#32
  | 70 => 4#32
  | 71 => 4#32
  | 72 => 0#32
  | 73 => 4#32
  | 74 => 0#32
  | 75 => 2#32
  | 76 => 2#32
  | 77 => 1#32
  | 78 => 0#32
  | 79 => 2#32
  | 80 => 0#32
  | 81 => 4#32
  | 82 => 3#32
  | 83 => 3#32
  | 84 => 3#32
  | 85 => 0#32
  | 86 => 0#32
  | 87 => 3#32
  | 88 => 4#32
  | 89 => 3#32
  | 90 => 2#32
  | 91 => 1#32
  | 92 => 4#32
  | 93 => 2#32
  | 94 => 1#32
  | 95 => 0#32
  | 96 => 3#32
  | 97 => 4#32
  | 98 => 0#32
  | 99 => 0#32
  | 100 => 0#32
  | 101 => 4#32
  | 102 => 4#32
  | 103 => 3#32
  | 104 => 2#32
  | 105 => 1#32
  | 106 => 3#32
  | 107 => 0#32
  | 108 => 2#32
  | 109 => 1#32
  | 110 => 1#32
  | 111 => 2#32
  | 112 => 4#32
  | 113 => 3#32
  | 114 => 1#32
  | 115 => 3#32
  | 116 => 1#32
  | 117 => 2#32
  | 118 => 4#32
  | 119 => 1#32
  | 120 => 1#32
  | 121 => 2#32
  | 122 => 2#32
  | 123 => 1#32
  | 124 => 1#32
  | 125 => 1#32
  | 126 => 2#32
  | 127 => 4#32
  | _ => 0#32

noncomputable abbrev lit0t0_4 (i : Nat) : BitVec 32 := match i % 128 with
  | 0 => 4#32
  | 1 => 2#32
  | 2 => 4#32
  | 3 => 0#32
  | 4 => 4#32
  | 5 => 0#32
  | 6 => 1#32
  | 7 => 1#32
  | 8 => 2#32
  | 9 => 3#32
  | 10 => 1#32
  | 11 => 2#32
  | 12 => 4#32
  | 13 => 0#32
  | 14 => 3#32
  | 15 => 2#32
  | 16 => 0#32
  | 17 => 0#32
  | 18 => 1#32
  | 19 => 1#32
  | 20 => 0#32
  | 21 => 0#32
  | 22 => 0#32
  | 23 => 0#32
  | 24 => 4#32
  | 25 => 0#32
  | 26 => 2#32
  | 27 => 2#32
  | 28 => 1#32
  | 29 => 4#32
  | 30 => 1#32
  | 31 => 0#32
  | 32 => 1#32
  | 33 => 3#32
  | 34 => 2#32
  | 35 => 2#32
  | 36 => 2#32
  | 37 => 2#32
  | 38 => 2#32
  | 39 => 1#32
  | 40 => 2#32
  | 41 => 0#32
  | 42 => 0#32
  | 43 => 1#32
  | 44 => 4#32
  | 45 => 0#32
  | 46 => 1#32
  | 47 => 2#32
  | 48 => 1#32
  | 49 => 2#32
  | 50 => 0#32
  | 51 => 1#32
  | 52 => 2#32
  | 53 => 2#32
  | 54 => 2#32
  | 55 => 3#32
  | 56 => 0#32
  | 57 => 2#32
  | 58 => 0#32
  | 59 => 1#32
  | 60 => 1#32
  | 61 => 2#32
  | 62 => 0#32
  | 63 => 2#32
  | 64 => 2#32
  | 65 => 2#32
  | 66 => 2#32
  | 67 => 0#32
  | 68 => 1#32
  | 69 => 4#32
  | 70 => 0#32
  | 71 => 3#32
  | 72 => 2#32
  | 73 => 0#32
  | 74 => 4#32
  | 75 => 3#32
  | 76 => 0#32
  | 77 => 3#32
  | 78 => 1#32
  | 79 => 3#32
  | 80 => 0#32
  | 81 => 2#32
  | 82 => 1#32
  | 83 => 1#32
  | 84 => 2#32
  | 85 => 4#32
  | 86 => 1#32
  | 87 => 4#32
  | 88 => 0#32
  | 89 => 1#32
  | 90 => 4#32
  | 91 => 3#32
  | 92 => 2#32
  | 93 => 0#32
  | 94 => 3#32
  | 95 => 2#32
  | 96 => 3#32
  | 97 => 3#32
  | 98 => 0#32
  | 99 => 1#32
  | 100 => 4#32
  | 101 => 1#32
  | 102 => 0#32
  | 103 => 3#32
  | 104 => 0#32
  | 105 => 2#32
  | 106 => 4#32
  | 107 => 3#32
  | 108 => 4#32
  | 109 => 2#32
  | 110 => 2#32
  | 111 => 2#32
  | 112 => 1#32
  | 113 => 0#32
  | 114 => 4#32
  | 115 => 2#32
  | 116 => 1#32
  | 117 => 4#32
  | 118 => 0#32
  | 119 => 4#32
  | 120 => 1#32
  | 121 => 0#32
  | 122 => 0#32
  | 123 => 1#32
  | 124 => 4#32
  | 125 => 4#32
  | 126 => 1#32
  | 127 => 2#32
  | _ => 0#32

noncomputable abbrev lit0t0_5 (i : Nat) : BitVec 32 := match i % 128 with
  | 0 => 2#32
  | 1 => 1#32
  | 2 => 0#32
  | 3 => 0#32
  | 4 => 1#32
  | 5 => 1#32
  | 6 => 2#32
  | 7 => 0#32
  | 8 => 0#32
  | 9 => 2#32
  | 10 => 2#32
  | 11 => 3#32
  | 12 => 2#32
  | 13 => 2#32
  | 14 => 1#32
  | 15 => 0#32
  | 16 => 4#32
  | 17 => 3#32
  | 18 => 3#32
  | 19 => 2#32
  | 20 => 4#32
  | 21 => 1#32
  | 22 => 2#32
  | 23 => 4#32
  | 24 => 1#32
  | 25 => 3#32
  | 26 => 1#32
  | 27 => 1#32
  | 28 => 2#32
  | 29 => 3#32
  | 30 => 4#32
  | 31 => 2#32
  | 32 => 3#32
  | 33 => 2#32
  | 34 => 2#32
  | 35 => 4#32
  | 36 => 3#32
  | 37 => 0#32
  | 38 => 2#32
  | 39 => 0#32
  | 40 => 4#32
  | 41 => 4#32
  | 42 => 0#32
  | 43 => 2#32
  | 44 => 0#32
  | 45 => 0#32
  | 46 => 1#32
  | 47 => 1#32
  | 48 => 2#32
  | 49 => 0#32
  | 50 => 1#32
  | 51 => 0#32
  | 52 => 0#32
  | 53 => 3#32
  | 54 => 3#32
  | 55 => 3#32
  | 56 => 4#32
  | 57 => 3#32
  | 58 => 0#32
  | 59 => 4#32
  | 60 => 2#32
  | 61 => 3#32
  | 62 => 0#32
  | 63 => 1#32
  | 64 => 0#32
  | 65 => 0#32
  | 66 => 0#32
  | 67 => 4#32
  | 68 => 1#32
  | 69 => 1#32
  | 70 => 0#32
  | 71 => 2#32
  | 72 => 1#32
  | 73 => 1#32
  | 74 => 3#32
  | 75 => 3#32
  | 76 => 4#32
  | 77 => 1#32
  | 78 => 2#32
  | 79 => 2#32
  | 80 => 2#32
  | 81 => 0#32
  | 82 => 1#32
  | 83 => 3#32
  | 84 => 0#32
  | 85 => 2#32
  | 86 => 3#32
  | 87 => 4#32
  | 88 => 0#32
  | 89 => 2#32
  | 90 => 4#32
  | 91 => 4#32
  | 92 => 0#32
  | 93 => 0#32
  | 94 => 4#32
  | 95 => 0#32
  | 96 => 2#32
  | 97 => 3#32
  | 98 => 0#32
  | 99 => 0#32
  | 100 => 4#32
  | 101 => 0#32
  | 102 => 0#32
  | 103 => 4#32
  | 104 => 1#32
  | 105 => 2#32
  | 106 => 1#32
  | 107 => 2#32
  | 108 => 0#32
  | 109 => 2#32
  | 110 => 4#32
  | 111 => 4#32
  | 112 => 4#32
  | 113 => 4#32
  | 114 => 0#32
  | 115 => 1#32
  | 116 => 2#32
  | 117 => 4#32
  | 118 => 2#32
  | 119 => 4#32
  | 120 => 2#32
  | 121 => 4#32
  | 122 => 0#32
  | 123 => 1#32
  | 124 => 3#32
  | 125 => 4#32
  | 126 => 2#32
  | 127 => 0#32
  | _ => 0#32

noncomputable abbrev lit0t0_6 (i : Nat) : BitVec 32 := match i % 128 with
  | 0 => 4#32
  | 1 => 1#32
  | 2 => 1#32
  | 3 => 2#32
  | 4 => 2#32
  | 5 => 4#32
  | 6 => 4#32
  | 7 => 4#32
  | 8 => 1#32
  | 9 => 3#32
  | 10 => 2#32
  | 11 => 3#32
  | 12 => 3#32
  | 13 => 0#32
  | 14 => 2#32
  | 15 => 0#32
  | 16 => 4#32
  | 17 => 3#32
  | 18 => 0#32
  | 19 => 1#32
  | 20 => 1#32
  | 21 => 1#32
  | 22 => 4#32
  | 23 => 0#32
  | 24 => 4#32
  | 25 => 2#32
  | 26 => 4#32
  | 27 => 4#32
  | 28 => 1#32
  | 29 => 4#32
  | 30 => 0#32
  | 31 => 0#32
  | 32 => 0#32
  | 33 => 4#32
  | 34 => 0#32
  | 35 => 4#32
  | 36 => 0#32
  | 37 => 0#32
  | 38 => 2#32
  | 39 => 4#32
  | 40 => 2#32
  | 41 => 4#32
  | 42 => 2#32
  | 43 => 2#32
  | 44 => 2#32
  | 45 => 4#32
  | 46 => 3#32
  | 47 => 3#32
  | 48 => 3#32
  | 49 => 3#32
  | 50 => 1#32
  | 51 => 2#32
  | 52 => 4#32
  | 53 => 0#32
  | 54 => 4#32
  | 55 => 2#32
  | 56 => 0#32
  | 57 => 4#32
  | 58 => 4#32
  | 59 => 0#32
  | 60 => 4#32
  | 61 => 0#32
  | 62 => 4#32
  | 63 => 3#32
  | 64 => 3#32
  | 65 => 1#32
  | 66 => 0#32
  | 67 => 4#32
  | 68 => 2#32
  | 69 => 3#32
  | 70 => 2#32
  | 71 => 2#32
  | 72 => 3#32
  | 73 => 4#32
  | 74 => 0#32
  | 75 => 2#32
  | 76 => 2#32
  | 77 => 1#32
  | 78 => 0#32
  | 79 => 2#32
  | 80 => 4#32
  | 81 => 4#32
  | 82 => 2#32
  | 83 => 3#32
  | 84 => 3#32
  | 85 => 2#32
  | 86 => 1#32
  | 87 => 0#32
  | 88 => 4#32
  | 89 => 0#32
  | 90 => 2#32
  | 91 => 2#32
  | 92 => 0#32
  | 93 => 2#32
  | 94 => 3#32
  | 95 => 3#32
  | 96 => 0#32
  | 97 => 4#32
  | 98 => 1#32
  | 99 => 2#32
  | 100 => 2#32
  | 101 => 0#32
  | 102 => 4#32
  | 103 => 2#32
  | 104 => 3#32
  | 105 => 3#32
  | 106 => 3#32
  | 107 => 3#32
  | 108 => 3#32
  | 109 => 2#32
  | 110 => 2#32
  | 111 => 2#32
  | 112 => 1#32
  | 113 => 4#32
  | 114 => 3#32
  | 115 => 1#32
  | 116 => 2#32
  | 117 => 1#32
  | 118 => 1#32
  | 119 => 4#32
  | 120 => 2#32
  | 121 => 1#32
  | 122 => 1#32
  | 123 => 1#32
  | 124 => 4#32
  | 125 => 1#32
  | 126 => 0#32
  | 127 => 4#32
  | _ => 0#32

noncomputable abbrev lit0t0_7 (i : Nat) : BitVec 32 := match i % 128 with
  | 0 => 3#32
  | 1 => 3#32
  | 2 => 4#32
  | 3 => 0#32
  | 4 => 4#32
  | 5 => 4#32
  | 6 => 4#32
  | 7 => 0#32
  | 8 => 4#32
  | 9 => 2#32
  | 10 => 3#32
  | 11 => 4#32
  | 12 => 1#32
  | 13 => 1#32
  | 14 => 4#32
  | 15 => 0#32
  | 16 => 1#32
  | 17 => 0#32
  | 18 => 4#32
  | 19 => 3#32
  | 20 => 1#32
  | 21 => 1#32
  | 22 => 3#32
  | 23 => 4#32
  | 24 => 1#32
  | 25 => 0#32
  | 26 => 3#32
  | 27 => 2#32
  | 28 => 0#32
  | 29 => 3#32
  | 30 => 1#32
  | 31 => 2#32
  | 32 => 1#32
  | 33 => 3#32
  | 34 => 2#32
  | 35 => 2#32
  | 36 => 0#32
  | 37 => 3#32
  | 38 => 0#32
  | 39 => 3#32
  | 40 => 3#32
  | 41 => 4#32
  | 42 => 4#32
  | 43 => 4#32
  | 44 => 3#32
  | 45 => 3#32
  | 46 => 3#32
  | 47 => 3#32
  | 48 => 2#32
  | 49 => 1#32
  | 50 => 2#32
  | 51 => 2#32
  | 52 => 1#32
  | 53 => 4#32
  | 54 => 4#32
  | 55 => 4#32
  | 56 => 2#32
  | 57 => 2#32
  | 58 => 0#32
  | 59 => 3#32
  | 60 => 4#32
  | 61 => 1#32
  | 62 => 0#32
  | 63 => 4#32
  | 64 => 3#32
  | 65 => 1#32
  | 66 => 1#32
  | 67 => 2#32
  | 68 => 3#32
  | 69 => 2#32
  | 70 => 0#32
  | 71 => 3#32
  | 72 => 1#32
  | 73 => 1#32
  | 74 => 0#32
  | 75 => 3#32
  | 76 => 4#32
  | 77 => 1#32
  | 78 => 0#32
  | 79 => 4#32
  | 80 => 1#32
  | 81 => 4#32
  | 82 => 0#32
  | 83 => 1#32
  | 84 => 0#32
  | 85 => 4#32
  | 86 => 0#32
  | 87 => 1#32
  | 88 => 0#32
  | 89 => 2#32
  | 90 => 2#32
  | 91 => 1#32
  | 92 => 0#32
  | 93 => 1#32
  | 94 => 3#32
  | 95 => 3#32
  | 96 => 0#32
  | 97 => 1#32
  | 98 => 0#32
  | 99 => 3#32
  | 100 => 4#32
  | 101 => 3#32
  | 102 => 0#32
  | 103 => 3#32
  | 104 => 4#32
  | 105 => 4#32
  | 106 => 1#32
  | 107 => 4#32
  | 108 => 4#32
  | 109 => 4#32
  | 110 => 4#32
  | 111 => 2#32
  | 112 => 0#32
  | 113 => 4#32
  | 114 => 2#32
  | 115 => 3#32
  | 116 => 4#32
  | 117 => 0#32
  | 118 => 3#32
  | 119 => 4#32
  | 120 => 1#32
  | 121 => 3#32
  | 122 => 2#32
  | 123 => 3#32
  | 124 => 4#32
  | 125 => 3#32
  | 126 => 1#32
  | 127 => 4#32
  | _ => 0#32

noncomputable abbrev lit0t0_8 (i : Nat) : BitVec 32 := match i % 128 with
  | 0 => 2#32
  | 1 => 4#32
  | 2 => 3#32
  | 3 => 3#32
  | 4 => 2#32
  | 5 => 2#32
  | 6 => 4#32
  | 7 => 0#32
  | 8 => 4#32
  | 9 => 1#32
  | 10 => 4#32
  | 11 => 3#32
  | 12 => 0#32
  | 13 => 4#32
  | 14 => 1#32
  | 15 => 3#32
  | 16 => 4#32
  | 17 => 1#32
  | 18 => 2#32
  | 19 => 0#32
  | 20 => 0#32
  | 21 => 3#32
  | 22 => 3#32
  | 23 => 2#32
  | 24 => 4#32
  | 25 => 0#32
  | 26 => 1#32
  | 27 => 4#32
  | 28 => 0#32
  | 29 => 0#32
  | 30 => 3#32
  | 31 => 3#32
  | 32 => 3#32
  | 33 => 2#32
  | 34 => 3#32
  | 35 => 3#32
  | 36 => 4#32
  | 37 => 2#32
  | 38 => 1#32
  | 39 => 4#32
  | 40 => 1#32
  | 41 => 0#32
  | 42 => 1#32
  | 43 => 0#32
  | 44 => 3#32
  | 45 => 2#32
  | 46 => 1#32
  | 47 => 4#32
  | 48 => 1#32
  | 49 => 3#32
  | 50 => 4#32
  | 51 => 4#32
  | 52 => 3#32
  | 53 => 4#32
  | 54 => 4#32
  | 55 => 2#32
  | 56 => 2#32
  | 57 => 3#32
  | 58 => 3#32
  | 59 => 4#32
  | 60 => 1#32
  | 61 => 1#32
  | 62 => 3#32
  | 63 => 0#32
  | 64 => 1#32
  | 65 => 4#32
  | 66 => 1#32
  | 67 => 4#32
  | 68 => 4#32
  | 69 => 1#32
  | 70 => 1#32
  | 71 => 0#32
  | 72 => 2#32
  | 73 => 0#32
  | 74 => 2#32
  | 75 => 3#32
  | 76 => 3#32
  | 77 => 2#32
  | 78 => 4#32
  | 79 => 3#32
  | 80 => 4#32
  | 81 => 3#32
  | 82 => 2#32
  | 83 => 4#32
  | 84 => 1#32
  | 85 => 3#32
  | 86 => 3#32
  | 87 => 2#32
  | 88 => 0#32
  | 89 => 0#32
  | 90 => 2#32
  | 91 => 2#32
  | 92 => 0#32
  | 93 => 2#32
  | 94 => 4#32
  | 95 => 3#32
  | 96 => 2#32
  | 97 => 1#32
  | 98 => 2#32
  | 99 => 3#32
  | 100 => 1#32
  | 101 => 3#32
  | 102 => 1#32
  | 103 => 2#32
  | 104 => 2#32
  | 105 => 4#32
  | 106 => 0#32
  | 107 => 3#32
  | 108 => 2#32
  | 109 => 3#32
  | 110 => 1#32
  | 111 => 1#32
  | 112 => 1#32
  | 113 => 4#32
  | 114 => 3#32
  | 115 => 4#32
  | 116 => 1#32
  | 117 => 1#32
  | 118 => 2#32
  | 119 => 2#32
  | 120 => 2#32
  | 121 => 4#32
  | 122 => 2#32
  | 123 => 4#32
  | 124 => 1#32
  | 125 => 1#32
  | 126 => 1#32
  | 127 => 2#32
  | _ => 0#32

noncomputable abbrev lit0t0_9 (i : Nat) : BitVec 32 := match i % 128 with
  | 0 => 2#32
  | 1 => 2#32
  | 2 => 2#32
  | 3 => 4#32
  | 4 => 2#32
  | 5 => 2#32
  | 6 => 1#32
  | 7 => 1#32
  | 8 => 4#32
  | 9 => 0#32
  | 10 => 0#32
  | 11 => 0#32
  | 12 => 1#32
  | 13 => 1#32
  | 14 => 1#32
  | 15 => 4#32
  | 16 => 1#32
  | 17 => 0#32
  | 18 => 4#32
  | 19 => 2#32
  | 20 => 3#32
  | 21 => 4#32
  | 22 => 3#32
  | 23 => 0#32
  | 24 => 4#32
  | 25 => 2#32
  | 26 => 3#32
  | 27 => 1#32
  | 28 => 3#32
  | 29 => 0#32
  | 30 => 0#32
  | 31 => 3#32
  | 32 => 0#32
  | 33 => 2#32
  | 34 => 1#32
  | 35 => 1#32
  | 36 => 4#32
  | 37 => 3#32
  | 38 => 2#32
  | 39 => 2#32
  | 40 => 4#32
  | 41 => 4#32
  | 42 => 1#32
  | 43 => 4#32
  | 44 => 3#32
  | 45 => 1#32
  | 46 => 4#32
  | 47 => 2#32
  | 48 => 4#32
  | 49 => 4#32
  | 50 => 2#32
  | 51 => 2#32
  | 52 => 3#32
  | 53 => 1#32
  | 54 => 3#32
  | 55 => 2#32
  | 56 => 0#32
  | 57 => 2#32
  | 58 => 3#32
  | 59 => 4#32
  | 60 => 0#32
  | 61 => 4#32
  | 62 => 4#32
  | 63 => 0#32
  | 64 => 2#32
  | 65 => 3#32
  | 66 => 1#32
  | 67 => 4#32
  | 68 => 0#32
  | 69 => 1#32
  | 70 => 0#32
  | 71 => 0#32
  | 72 => 1#32
  | 73 => 0#32
  | 74 => 3#32
  | 75 => 1#32
  | 76 => 0#32
  | 77 => 4#32
  | 78 => 4#32
  | 79 => 1#32
  | 80 => 1#32
  | 81 => 0#32
  | 82 => 4#32
  | 83 => 3#32
  | 84 => 4#32
  | 85 => 4#32
  | 86 => 2#32
  | 87 => 0#32
  | 88 => 4#32
  | 89 => 1#32
  | 90 => 1#32
  | 91 => 2#32
  | 92 => 0#32
  | 93 => 4#32
  | 94 => 0#32
  | 95 => 2#32
  | 96 => 3#32
  | 97 => 4#32
  | 98 => 1#32
  | 99 => 0#32
  | 100 => 2#32
  | 101 => 3#32
  | 102 => 3#32
  | 103 => 0#32
  | 104 => 2#32
  | 105 => 4#32
  | 106 => 2#32
  | 107 => 3#32
  | 108 => 0#32
  | 109 => 3#32
  | 110 => 1#32
  | 111 => 3#32
  | 112 => 2#32
  | 113 => 1#32
  | 114 => 0#32
  | 115 => 4#32
  | 116 => 3#32
  | 117 => 4#32
  | 118 => 0#32
  | 119 => 2#32
  | 120 => 4#32
  | 121 => 3#32
  | 122 => 2#32
  | 123 => 1#32
  | 124 => 1#32
  | 125 => 3#32
  | 126 => 2#32
  | 127 => 1#32
  | _ => 0#32

noncomputable abbrev lit0t0_10 (i : Nat) : BitVec 32 := match i % 128 with
  | 0 => 1#32
  | 1 => 3#32
  | 2 => 3#32
  | 3 => 0#32
  | 4 => 4#32
  | 5 => 0#32
  | 6 => 4#32
  | 7 => 3#32
  | 8 => 3#32
  | 9 => 2#32
  | 10 => 2#32
  | 11 => 3#32
  | 12 => 0#32
  | 13 => 3#32
  | 14 => 2#32
  | 15 => 3#32
  | 16 => 4#32
  | 17 => 1#32
  | 18 => 4#32
  | 19 => 3#32
  | 20 => 1#32
  | 21 => 2#32
  | 22 => 0#32
  | 23 => 2#32
  | 24 => 3#32
  | 25 => 0#32
  | 26 => 4#32
  | 27 => 4#32
  | 28 => 2#32
  | 29 => 4#32
  | 30 => 4#32
  | 31 => 3#32
  | 32 => 4#32
  | 33 => 2#32
  | 34 => 0#32
  | 35 => 0#32
  | 36 => 1#32
  | 37 => 1#32
  | 38 => 4#32
  | 39 => 0#32
  | 40 => 0#32
  | 41 => 0#32
  | 42 => 2#32
  | 43 => 2#32
  | 44 => 0#32
  | 45 => 2#32
  | 46 => 2#32
  | 47 => 0#32
  | 48 => 2#32
  | 49 => 0#32
  | 50 => 4#32
  | 51 => 2#32
  | 52 => 4#32
  | 53 => 4#32
  | 54 => 2#32
  | 55 => 2#32
  | 56 => 3#32
  | 57 => 2#32
  | 58 => 0#32
  | 59 => 2#32
  | 60 => 1#32
  | 61 => 2#32
  | 62 => 1#32
  | 63 => 4#32
  | 64 => 3#32
  | 65 => 2#32
  | 66 => 4#32
  | 67 => 0#32
  | 68 => 2#32
  | 69 => 1#32
  | 70 => 4#32
  | 71 => 4#32
  | 72 => 1#32
  | 73 => 4#32
  | 74 => 4#32
  | 75 => 3#32
  | 76 => 3#32
  | 77 => 3#32
  | 78 => 2#32
  | 79 => 0#32
  | 80 => 2#32
  | 81 => 0#32
  | 82 => 0#32
  | 83 => 3#32
  | 84 => 3#32
  | 85 => 2#32
  | 86 => 1#32
  | 87 => 4#32
  | 88 => 2#32
  | 89 => 4#32
  | 90 => 4#32
  | 91 => 3#32
  | 92 => 3#32
  | 93 => 2#32
  | 94 => 3#32
  | 95 => 3#32
  | 96 => 4#32
  | 97 => 1#32
  | 98 => 1#32
  | 99 => 4#32
  | 100 => 1#32
  | 101 => 3#32
  | 102 => 4#32
  | 103 => 2#32
  | 104 => 1#32
  | 105 => 3#32
  | 106 => 0#32
  | 107 => 3#32
  | 108 => 0#32
  | 109 => 0#32
  | 110 => 3#32
  | 111 => 3#32
  | 112 => 1#32
  | 113 => 4#32
  | 114 => 1#32
  | 115 => 0#32
  | 116 => 4#32
  | 117 => 4#32
  | 118 => 1#32
  | 119 => 4#32
  | 120 => 2#32
  | 121 => 1#32
  | 122 => 1#32
  | 123 => 0#32
  | 124 => 3#32
  | 125 => 0#32
  | 126 => 0#32
  | 127 => 4#32
  | _ => 0#32

noncomputable abbrev lit0t0_11 (i : Nat) : BitVec 32 := match i % 128 with
  | 0 => 2#32
  | 1 => 4#32
  | 2 => 1#32
  | 3 => 3#32
  | 4 => 0#32
  | 5 => 3#32
  | 6 => 3#32
  | 7 => 4#32
  | 8 => 4#32
  | 9 => 1#32
  | 10 => 2#32
  | 11 => 3#32
  | 12 => 3#32
  | 13 => 0#32
  | 14 => 1#32
  | 15 => 3#32
  | 16 => 1#32
  | 17 => 4#32
  | 18 => 4#32
  | 19 => 4#32
  | 20 => 4#32
  | 21 => 3#32
  | 22 => 0#32
  | 23 => 2#32
  | 24 => 1#32
  | 25 => 0#32
  | 26 => 2#32
  | 27 => 4#32
  | 28 => 4#32
  | 29 => 0#32
  | 30 => 2#32
  | 31 => 2#32
  | 32 => 0#32
  | 33 => 0#32
  | 34 => 4#32
  | 35 => 4#32
  | 36 => 0#32
  | 37 => 4#32
  | 38 => 0#32
  | 39 => 2#32
  | 40 => 0#32
  | 41 => 3#32
  | 42 => 3#32
  | 43 => 4#32
  | 44 => 4#32
  | 45 => 2#32
  | 46 => 2#32
  | 47 => 4#32
  | 48 => 2#32
  | 49 => 0#32
  | 50 => 2#32
  | 51 => 4#32
  | 52 => 2#32
  | 53 => 4#32
  | 54 => 1#32
  | 55 => 1#32
  | 56 => 4#32
  | 57 => 1#32
  | 58 => 4#32
  | 59 => 4#32
  | 60 => 0#32
  | 61 => 2#32
  | 62 => 3#32
  | 63 => 2#32
  | 64 => 1#32
  | 65 => 1#32
  | 66 => 1#32
  | 67 => 4#32
  | 68 => 3#32
  | 69 => 0#32
  | 70 => 1#32
  | 71 => 0#32
  | 72 => 2#32
  | 73 => 4#32
  | 74 => 0#32
  | 75 => 4#32
  | 76 => 0#32
  | 77 => 3#32
  | 78 => 2#32
  | 79 => 4#32
  | 80 => 0#32
  | 81 => 0#32
  | 82 => 2#32
  | 83 => 3#32
  | 84 => 3#32
  | 85 => 0#32
  | 86 => 0#32
  | 87 => 2#32
  | 88 => 3#32
  | 89 => 0#32
  | 90 => 4#32
  | 91 => 2#32
  | 92 => 0#32
  | 93 => 4#32
  | 94 => 1#32
  | 95 => 0#32
  | 96 => 4#32
  | 97 => 4#32
  | 98 => 4#32
  | 99 => 4#32
  | 100 => 0#32
  | 101 => 4#32
  | 102 => 1#32
  | 103 => 1#32
  | 104 => 0#32
  | 105 => 4#32
  | 106 => 3#32
  | 107 => 0#32
  | 108 => 0#32
  | 109 => 3#32
  | 110 => 0#32
  | 111 => 3#32
  | 112 => 1#32
  | 113 => 2#32
  | 114 => 1#32
  | 115 => 0#32
  | 116 => 2#32
  | 117 => 2#32
  | 118 => 0#32
  | 119 => 4#32
  | 120 => 4#32
  | 121 => 4#32
  | 122 => 2#32
  | 123 => 3#32
  | 124 => 2#32
  | 125 => 0#32
  | 126 => 2#32
  | 127 => 1#32
  | _ => 0#32

noncomputable abbrev lit0t0_12 (i : Nat) : BitVec 32 := match i % 128 with
  | 0 => 1#32
  | 1 => 0#32
  | 2 => 3#32
  | 3 => 4#32
  | 4 => 4#32
  | 5 => 2#32
  | 6 => 3#32
  | 7 => 3#32
  | 8 => 3#32
  | 9 => 3#32
  | 10 => 0#32
  | 11 => 2#32
  | 12 => 0#32
  | 13 => 3#32
  | 14 => 1#32
  | 15 => 1#32
  | 16 => 1#32
  | 17 => 1#32
  | 18 => 2#32
  | 19 => 2#32
  | 20 => 3#32
  | 21 => 3#32
  | 22 => 4#32
  | 23 => 4#32
  | 24 => 4#32
  | 25 => 4#32
  | 26 => 4#32
  | 27 => 3#32
  | 28 => 4#32
  | 29 => 2#32
  | 30 => 3#32
  | 31 => 2#32
  | 32 => 4#32
  | 33 => 2#32
  | 34 => 2#32
  | 35 => 1#32
  | 36 => 0#32
  | 37 => 1#32
  | 38 => 1#32
  | 39 => 0#32
  | 40 => 4#32
  | 41 => 2#32
  | 42 => 1#32
  | 43 => 2#32
  | 44 => 4#32
  | 45 => 3#32
  | 46 => 0#32
  | 47 => 3#32
  | 48 => 2#32
  | 49 => 2#32
  | 50 => 4#32
  | 51 => 1#32
  | 52 => 4#32
  | 53 => 1#32
  | 54 => 2#32
  | 55 => 4#32
  | 56 => 4#32
  | 57 => 4#32
  | 58 => 0#32
  | 59 => 2#32
  | 60 => 3#32
  | 61 => 3#32
  | 62 => 4#32
  | 63 => 0#32
  | 64 => 2#32
  | 65 => 1#32
  | 66 => 0#32
  | 67 => 2#32
  | 68 => 3#32
  | 69 => 3#32
  | 70 => 4#32
  | 71 => 3#32
  | 72 => 1#32
  | 73 => 4#32
  | 74 => 2#32
  | 75 => 3#32
  | 76 => 1#32
  | 77 => 3#32
  | 78 => 2#32
  | 79 => 3#32
  | 80 => 2#32
  | 81 => 3#32
  | 82 => 4#32
  | 83 => 3#32
  | 84 => 0#32
  | 85 => 0#32
  | 86 => 2#32
  | 87 => 4#32
  | 88 => 3#32
  | 89 => 1#32
  | 90 => 4#32
  | 91 => 2#32
  | 92 => 4#32
  | 93 => 2#32
  | 94 => 4#32
  | 95 => 2#32
  | 96 => 4#32
  | 97 => 2#32
  | 98 => 0#32
  | 99 => 2#32
  | 100 => 3#32
  | 101 => 0#32
  | 102 => 4#32
  | 103 => 3#32
  | 104 => 2#32
  | 105 => 4#32
  | 106 => 1#32
  | 107 => 4#32
  | 108 => 1#32
  | 109 => 3#32
  | 110 => 2#32
  | 111 => 0#32
  | 112 => 2#32
  | 113 => 3#32
  | 114 => 1#32
  | 115 => 0#32
  | 116 => 4#32
  | 117 => 2#32
  | 118 => 0#32
  | 119 => 1#32
  | 120 => 0#32
  | 121 => 0#32
  | 122 => 4#32
  | 123 => 2#32
  | 124 => 1#32
  | 125 => 0#32
  | 126 => 1#32
  | 127 => 3#32
  | _ => 0#32

noncomputable abbrev lit0t0_13 (i : Nat) : BitVec 32 := match i % 128 with
  | 0 => 4#32
  | 1 => 1#32
  | 2 => 4#32
  | 3 => 4#32
  | 4 => 4#32
  | 5 => 3#32
  | 6 => 3#32
  | 7 => 2#32
  | 8 => 1#32
  | 9 => 3#32
  | 10 => 1#32
  | 11 => 4#32
  | 12 => 1#32
  | 13 => 1#32
  | 14 => 4#32
  | 15 => 2#32
  | 16 => 1#32
  | 17 => 1#32
  | 18 => 0#32
  | 19 => 2#32
  | 20 => 4#32
  | 21 => 0#32
  | 22 => 2#32
  | 23 => 4#32
  | 24 => 3#32
  | 25 => 2#32
  | 26 => 2#32
  | 27 => 1#32
  | 28 => 1#32
  | 29 => 1#32
  | 30 => 0#32
  | 31 => 1#32
  | 32 => 1#32
  | 33 => 0#32
  | 34 => 4#32
  | 35 => 4#32
  | 36 => 2#32
  | 37 => 3#32
  | 38 => 3#32
  | 39 => 2#32
  | 40 => 1#32
  | 41 => 0#32
  | 42 => 3#32
  | 43 => 1#32
  | 44 => 3#32
  | 45 => 0#32
  | 46 => 2#32
  | 47 => 1#32
  | 48 => 3#32
  | 49 => 4#32
  | 50 => 0#32
  | 51 => 3#32
  | 52 => 4#32
  | 53 => 3#32
  | 54 => 3#32
  | 55 => 0#32
  | 56 => 1#32
  | 57 => 1#32
  | 58 => 2#32
  | 59 => 2#32
  | 60 => 1#32
  | 61 => 1#32
  | 62 => 4#32
  | 63 => 4#32
  | 64 => 4#32
  | 65 => 2#32
  | 66 => 2#32
  | 67 => 3#32
  | 68 => 4#32
  | 69 => 2#32
  | 70 => 2#32
  | 71 => 1#32
  | 72 => 2#32
  | 73 => 1#32
  | 74 => 0#32
  | 75 => 4#32
  | 76 => 1#32
  | 77 => 4#32
  | 78 => 3#32
  | 79 => 2#32
  | 80 => 3#32
  | 81 => 3#32
  | 82 => 1#32
  | 83 => 0#32
  | 84 => 2#32
  | 85 => 2#32
  | 86 => 1#32
  | 87 => 1#32
  | 88 => 4#32
  | 89 => 2#32
  | 90 => 1#32
  | 91 => 2#32
  | 92 => 4#32
  | 93 => 4#32
  | 94 => 4#32
  | 95 => 4#32
  | 96 => 0#32
  | 97 => 0#32
  | 98 => 2#32
  | 99 => 1#32
  | 100 => 0#32
  | 101 => 4#32
  | 102 => 3#32
  | 103 => 1#32
  | 104 => 1#32
  | 105 => 2#32
  | 106 => 1#32
  | 107 => 1#32
  | 108 => 0#32
  | 109 => 0#32
  | 110 => 4#32
  | 111 => 2#32
  | 112 => 2#32
  | 113 => 0#32
  | 114 => 1#32
  | 115 => 1#32
  | 116 => 0#32
  | 117 => 0#32
  | 118 => 3#32
  | 119 => 2#32
  | 120 => 2#32
  | 121 => 4#32
  | 122 => 2#32
  | 123 => 0#32
  | 124 => 4#32
  | 125 => 2#32
  | 126 => 1#32
  | 127 => 3#32
  | _ => 0#32

noncomputable abbrev lit0t0_14 (i : Nat) : BitVec 32 := match i % 128 with
  | 0 => 0#32
  | 1 => 0#32
  | 2 => 2#32
  | 3 => 3#32
  | 4 => 3#32
  | 5 => 2#32
  | 6 => 1#32
  | 7 => 1#32
  | 8 => 0#32
  | 9 => 2#32
  | 10 => 3#32
  | 11 => 3#32
  | 12 => 3#32
  | 13 => 3#32
  | 14 => 1#32
  | 15 => 3#32
  | 16 => 1#32
  | 17 => 3#32
  | 18 => 0#32
  | 19 => 2#32
  | 20 => 3#32
  | 21 => 4#32
  | 22 => 2#32
  | 23 => 3#32
  | 24 => 0#32
  | 25 => 3#32
  | 26 => 0#32
  | 27 => 3#32
  | 28 => 3#32
  | 29 => 0#32
  | 30 => 3#32
  | 31 => 2#32
  | 32 => 0#32
  | 33 => 3#32
  | 34 => 1#32
  | 35 => 3#32
  | 36 => 1#32
  | 37 => 2#32
  | 38 => 2#32
  | 39 => 2#32
  | 40 => 1#32
  | 41 => 3#32
  | 42 => 3#32
  | 43 => 4#32
  | 44 => 2#32
  | 45 => 1#32
  | 46 => 0#32
  | 47 => 3#32
  | 48 => 3#32
  | 49 => 1#32
  | 50 => 2#32
  | 51 => 1#32
  | 52 => 2#32
  | 53 => 2#32
  | 54 => 1#32
  | 55 => 2#32
  | 56 => 0#32
  | 57 => 1#32
  | 58 => 2#32
  | 59 => 2#32
  | 60 => 1#32
  | 61 => 1#32
  | 62 => 4#32
  | 63 => 2#32
  | 64 => 1#32
  | 65 => 4#32
  | 66 => 2#32
  | 67 => 0#32
  | 68 => 1#32
  | 69 => 4#32
  | 70 => 4#32
  | 71 => 1#32
  | 72 => 4#32
  | 73 => 4#32
  | 74 => 0#32
  | 75 => 1#32
  | 76 => 3#32
  | 77 => 3#32
  | 78 => 2#32
  | 79 => 3#32
  | 80 => 3#32
  | 81 => 4#32
  | 82 => 3#32
  | 83 => 3#32
  | 84 => 1#32
  | 85 => 0#32
  | 86 => 0#32
  | 87 => 1#32
  | 88 => 0#32
  | 89 => 0#32
  | 90 => 0#32
  | 91 => 3#32
  | 92 => 3#32
  | 93 => 1#32
  | 94 => 2#32
  | 95 => 0#32
  | 96 => 0#32
  | 97 => 2#32
  | 98 => 3#32
  | 99 => 0#32
  | 100 => 2#32
  | 101 => 2#32
  | 102 => 1#32
  | 103 => 3#32
  | 104 => 0#32
  | 105 => 2#32
  | 106 => 4#32
  | 107 => 0#32
  | 108 => 1#32
  | 109 => 2#32
  | 110 => 2#32
  | 111 => 3#32
  | 112 => 4#32
  | 113 => 1#32
  | 114 => 0#32
  | 115 => 3#32
  | 116 => 0#32
  | 117 => 4#32
  | 118 => 4#32
  | 119 => 4#32
  | 120 => 2#32
  | 121 => 4#32
  | 122 => 1#32
  | 123 => 2#32
  | 124 => 4#32
  | 125 => 2#32
  | 126 => 4#32
  | 127 => 2#32
  | _ => 0#32

noncomputable abbrev lit0t0_15 (i : Nat) : BitVec 32 := match i % 128 with
  | 0 => 3#32
  | 1 => 0#32
  | 2 => 0#32
  | 3 => 4#32
  | 4 => 2#32
  | 5 => 3#32
  | 6 => 1#32
  | 7 => 2#32
  | 8 => 2#32
  | 9 => 3#32
  | 10 => 4#32
  | 11 => 2#32
  | 12 => 4#32
  | 13 => 4#32
  | 14 => 4#32
  | 15 => 4#32
  | 16 => 1#32
  | 17 => 3#32
  | 18 => 3#32
  | 19 => 3#32
  | 20 => 3#32
  | 21 => 4#32
  | 22 => 0#32
  | 23 => 4#32
  | 24 => 1#32
  | 25 => 4#32
  | 26 => 3#32
  | 27 => 4#32
  | 28 => 0#32
  | 29 => 3#32
  | 30 => 2#32
  | 31 => 0#32
  | 32 => 1#32
  | 33 => 3#32
  | 34 => 4#32
  | 35 => 3#32
  | 36 => 4#32
  | 37 => 0#32
  | 38 => 2#32
  | 39 => 4#32
  | 40 => 0#32
  | 41 => 0#32
  | 42 => 0#32
  | 43 => 4#32
  | 44 => 2#32
  | 45 => 4#32
  | 46 => 3#32
  | 47 => 2#32
  | 48 => 4#32
  | 49 => 0#32
  | 50 => 0#32
  | 51 => 2#32
  | 52 => 0#32
  | 53 => 4#32
  | 54 => 4#32
  | 55 => 3#32
  | 56 => 3#32
  | 57 => 1#32
  | 58 => 2#32
  | 59 => 4#32
  | 60 => 1#32
  | 61 => 2#32
  | 62 => 1#32
  | 63 => 2#32
  | 64 => 1#32
  | 65 => 0#32
  | 66 => 0#32
  | 67 => 4#32
  | 68 => 4#32
  | 69 => 3#32
  | 70 => 0#32
  | 71 => 0#32
  | 72 => 0#32
  | 73 => 0#32
  | 74 => 0#32
  | 75 => 2#32
  | 76 => 4#32
  | 77 => 1#32
  | 78 => 0#32
  | 79 => 3#32
  | 80 => 1#32
  | 81 => 4#32
  | 82 => 2#32
  | 83 => 4#32
  | 84 => 3#32
  | 85 => 1#32
  | 86 => 0#32
  | 87 => 4#32
  | 88 => 0#32
  | 89 => 0#32
  | 90 => 2#32
  | 91 => 3#32
  | 92 => 0#32
  | 93 => 2#32
  | 94 => 2#32
  | 95 => 0#32
  | 96 => 1#32
  | 97 => 2#32
  | 98 => 0#32
  | 99 => 1#32
  | 100 => 2#32
  | 101 => 0#32
  | 102 => 1#32
  | 103 => 1#32
  | 104 => 0#32
  | 105 => 4#32
  | 106 => 4#32
  | 107 => 3#32
  | 108 => 0#32
  | 109 => 0#32
  | 110 => 2#32
  | 111 => 0#32
  | 112 => 0#32
  | 113 => 1#32
  | 114 => 0#32
  | 115 => 2#32
  | 116 => 4#32
  | 117 => 2#32
  | 118 => 1#32
  | 119 => 2#32
  | 120 => 0#32
  | 121 => 3#32
  | 122 => 1#32
  | 123 => 3#32
  | 124 => 3#32
  | 125 => 3#32
  | 126 => 1#32
  | 127 => 4#32
  | _ => 0#32

noncomputable abbrev lit0t0_16 (i : Nat) : BitVec 32 := match i % 128 with
  | 0 => 4#32
  | 1 => 4#32
  | 2 => 4#32
  | 3 => 4#32
  | 4 => 0#32
  | 5 => 3#32
  | 6 => 2#32
  | 7 => 1#32
  | 8 => 3#32
  | 9 => 2#32
  | 10 => 1#32
  | 11 => 2#32
  | 12 => 0#32
  | 13 => 4#32
  | 14 => 2#32
  | 15 => 3#32
  | 16 => 2#32
  | 17 => 1#32
  | 18 => 2#32
  | 19 => 1#32
  | 20 => 2#32
  | 21 => 1#32
  | 22 => 3#32
  | 23 => 4#32
  | 24 => 2#32
  | 25 => 1#32
  | 26 => 3#32
  | 27 => 3#32
  | 28 => 1#32
  | 29 => 0#32
  | 30 => 4#32
  | 31 => 4#32
  | 32 => 4#32
  | 33 => 3#32
  | 34 => 3#32
  | 35 => 3#32
  | 36 => 0#32
  | 37 => 1#32
  | 38 => 2#32
  | 39 => 0#32
  | 40 => 0#32
  | 41 => 4#32
  | 42 => 4#32
  | 43 => 3#32
  | 44 => 3#32
  | 45 => 0#32
  | 46 => 0#32
  | 47 => 1#32
  | 48 => 4#32
  | 49 => 4#32
  | 50 => 0#32
  | 51 => 3#32
  | 52 => 1#32
  | 53 => 2#32
  | 54 => 3#32
  | 55 => 4#32
  | 56 => 0#32
  | 57 => 2#32
  | 58 => 1#32
  | 59 => 4#32
  | 60 => 2#32
  | 61 => 0#32
  | 62 => 2#32
  | 63 => 0#32
  | 64 => 0#32
  | 65 => 4#32
  | 66 => 0#32
  | 67 => 2#32
  | 68 => 0#32
  | 69 => 0#32
  | 70 => 0#32
  | 71 => 3#32
  | 72 => 1#32
  | 73 => 1#32
  | 74 => 2#32
  | 75 => 4#32
  | 76 => 1#32
  | 77 => 1#32
  | 78 => 3#32
  | 79 => 4#32
  | 80 => 2#32
  | 81 => 4#32
  | 82 => 3#32
  | 83 => 1#32
  | 84 => 3#32
  | 85 => 3#32
  | 86 => 4#32
  | 87 => 3#32
  | 88 => 0#32
  | 89 => 3#32
  | 90 => 0#32
  | 91 => 3#32
  | 92 => 3#32
  | 93 => 3#32
  | 94 => 4#32
  | 95 => 3#32
  | 96 => 2#32
  | 97 => 2#32
  | 98 => 4#32
  | 99 => 1#32
  | 100 => 1#32
  | 101 => 1#32
  | 102 => 3#32
  | 103 => 2#32
  | 104 => 3#32
  | 105 => 4#32
  | 106 => 3#32
  | 107 => 4#32
  | 108 => 0#32
  | 109 => 0#32
  | 110 => 0#32
  | 111 => 1#32
  | 112 => 2#32
  | 113 => 4#32
  | 114 => 2#32
  | 115 => 3#32
  | 116 => 4#32
  | 117 => 0#32
  | 118 => 0#32
  | 119 => 4#32
  | 120 => 4#32
  | 121 => 4#32
  | 122 => 2#32
  | 123 => 3#32
  | 124 => 0#32
  | 125 => 0#32
  | 126 => 2#32
  | 127 => 3#32
  | _ => 0#32

noncomputable abbrev lit0t0_17 (i : Nat) : BitVec 32 := match i % 128 with
  | 0 => 2#32
  | 1 => 0#32
  | 2 => 3#32
  | 3 => 1#32
  | 4 => 1#32
  | 5 => 4#32
  | 6 => 1#32
  | 7 => 2#32
  | 8 => 4#32
  | 9 => 4#32
  | 10 => 1#32
  | 11 => 3#32
  | 12 => 3#32
  | 13 => 1#32
  | 14 => 1#32
  | 15 => 2#32
  | 16 => 4#32
  | 17 => 2#32
  | 18 => 0#32
  | 19 => 4#32
  | 20 => 0#32
  | 21 => 1#32
  | 22 => 2#32
  | 23 => 0#32
  | 24 => 3#32
  | 25 => 2#32
  | 26 => 3#32
  | 27 => 1#32
  | 28 => 3#32
  | 29 => 4#32
  | 30 => 3#32
  | 31 => 4#32
  | 32 => 0#32
  | 33 => 2#32
  | 34 => 2#32
  | 35 => 0#32
  | 36 => 0#32
  | 37 => 2#32
  | 38 => 4#32
  | 39 => 3#32
  | 40 => 3#32
  | 41 => 1#32
  | 42 => 3#32
  | 43 => 0#32
  | 44 => 2#32
  | 45 => 3#32
  | 46 => 1#32
  | 47 => 1#32
  | 48 => 1#32
  | 49 => 2#32
  | 50 => 3#32
  | 51 => 1#32
  | 52 => 2#32
  | 53 => 2#32
  | 54 => 4#32
  | 55 => 2#32
  | 56 => 0#32
  | 57 => 1#32
  | 58 => 4#32
  | 59 => 0#32
  | 60 => 0#32
  | 61 => 0#32
  | 62 => 1#32
  | 63 => 3#32
  | 64 => 1#32
  | 65 => 1#32
  | 66 => 0#32
  | 67 => 1#32
  | 68 => 0#32
  | 69 => 4#32
  | 70 => 4#32
  | 71 => 1#32
  | 72 => 1#32
  | 73 => 0#32
  | 74 => 2#32
  | 75 => 2#32
  | 76 => 1#32
  | 77 => 3#32
  | 78 => 2#32
  | 79 => 2#32
  | 80 => 3#32
  | 81 => 2#32
  | 82 => 0#32
  | 83 => 1#32
  | 84 => 0#32
  | 85 => 0#32
  | 86 => 2#32
  | 87 => 1#32
  | 88 => 2#32
  | 89 => 0#32
  | 90 => 0#32
  | 91 => 1#32
  | 92 => 4#32
  | 93 => 0#32
  | 94 => 1#32
  | 95 => 3#32
  | 96 => 4#32
  | 97 => 1#32
  | 98 => 0#32
  | 99 => 4#32
  | 100 => 0#32
  | 101 => 3#32
  | 102 => 1#32
  | 103 => 3#32
  | 104 => 0#32
  | 105 => 0#32
  | 106 => 2#32
  | 107 => 0#32
  | 108 => 3#32
  | 109 => 2#32
  | 110 => 1#32
  | 111 => 3#32
  | 112 => 2#32
  | 113 => 4#32
  | 114 => 2#32
  | 115 => 3#32
  | 116 => 3#32
  | 117 => 2#32
  | 118 => 0#32
  | 119 => 0#32
  | 120 => 0#32
  | 121 => 2#32
  | 122 => 0#32
  | 123 => 0#32
  | 124 => 2#32
  | 125 => 3#32
  | 126 => 3#32
  | 127 => 3#32
  | _ => 0#32

noncomputable abbrev lit0t0_18 (i : Nat) : BitVec 32 := match i % 128 with
  | 0 => 0#32
  | 1 => 4#32
  | 2 => 4#32
  | 3 => 3#32
  | 4 => 3#32
  | 5 => 1#32
  | 6 => 4#32
  | 7 => 2#32
  | 8 => 0#32
  | 9 => 3#32
  | 10 => 0#32
  | 11 => 1#32
  | 12 => 0#32
  | 13 => 1#32
  | 14 => 0#32
  | 15 => 1#32
  | 16 => 2#32
  | 17 => 1#32
  | 18 => 0#32
  | 19 => 3#32
  | 20 => 3#32
  | 21 => 0#32
  | 22 => 2#32
  | 23 => 2#32
  | 24 => 4#32
  | 25 => 2#32
  | 26 => 4#32
  | 27 => 2#32
  | 28 => 1#32
  | 29 => 1#32
  | 30 => 2#32
  | 31 => 1#32
  | 32 => 3#32
  | 33 => 2#32
  | 34 => 3#32
  | 35 => 4#32
  | 36 => 4#32
  | 37 => 1#32
  | 38 => 0#32
  | 39 => 2#32
  | 40 => 3#32
  | 41 => 3#32
  | 42 => 2#32
  | 43 => 0#32
  | 44 => 0#32
  | 45 => 2#32
  | 46 => 1#32
  | 47 => 1#32
  | 48 => 3#32
  | 49 => 4#32
  | 50 => 4#32
  | 51 => 2#32
  | 52 => 3#32
  | 53 => 1#32
  | 54 => 1#32
  | 55 => 4#32
  | 56 => 4#32
  | 57 => 2#32
  | 58 => 2#32
  | 59 => 0#32
  | 60 => 2#32
  | 61 => 2#32
  | 62 => 0#32
  | 63 => 1#32
  | 64 => 2#32
  | 65 => 2#32
  | 66 => 4#32
  | 67 => 1#32
  | 68 => 0#32
  | 69 => 4#32
  | 70 => 3#32
  | 71 => 3#32
  | 72 => 1#32
  | 73 => 0#32
  | 74 => 3#32
  | 75 => 4#32
  | 76 => 3#32
  | 77 => 4#32
  | 78 => 1#32
  | 79 => 0#32
  | 80 => 2#32
  | 81 => 2#32
  | 82 => 1#32
  | 83 => 3#32
  | 84 => 4#32
  | 85 => 1#32
  | 86 => 0#32
  | 87 => 4#32
  | 88 => 2#32
  | 89 => 4#32
  | 90 => 4#32
  | 91 => 3#32
  | 92 => 3#32
  | 93 => 3#32
  | 94 => 2#32
  | 95 => 1#32
  | 96 => 1#32
  | 97 => 4#32
  | 98 => 0#32
  | 99 => 0#32
  | 100 => 3#32
  | 101 => 3#32
  | 102 => 4#32
  | 103 => 3#32
  | 104 => 3#32
  | 105 => 1#32
  | 106 => 0#32
  | 107 => 4#32
  | 108 => 0#32
  | 109 => 1#32
  | 110 => 4#32
  | 111 => 2#32
  | 112 => 1#32
  | 113 => 1#32
  | 114 => 0#32
  | 115 => 1#32
  | 116 => 1#32
  | 117 => 2#32
  | 118 => 3#32
  | 119 => 2#32
  | 120 => 0#32
  | 121 => 2#32
  | 122 => 3#32
  | 123 => 1#32
  | 124 => 3#32
  | 125 => 2#32
  | 126 => 0#32
  | 127 => 0#32
  | _ => 0#32

noncomputable abbrev lit0t0_19 (i : Nat) : BitVec 32 := match i % 128 with
  | 0 => 1#32
  | 1 => 0#32
  | 2 => 2#32
  | 3 => 1#32
  | 4 => 4#32
  | 5 => 2#32
  | 6 => 0#32
  | 7 => 1#32
  | 8 => 3#32
  | 9 => 2#32
  | 10 => 4#32
  | 11 => 1#32
  | 12 => 4#32
  | 13 => 4#32
  | 14 => 1#32
  | 15 => 0#32
  | 16 => 4#32
  | 17 => 3#32
  | 18 => 1#32
  | 19 => 1#32
  | 20 => 3#32
  | 21 => 3#32
  | 22 => 0#32
  | 23 => 3#32
  | 24 => 4#32
  | 25 => 1#32
  | 26 => 4#32
  | 27 => 3#32
  | 28 => 0#32
  | 29 => 4#32
  | 30 => 4#32
  | 31 => 4#32
  | 32 => 1#32
  | 33 => 0#32
  | 34 => 1#32
  | 35 => 2#32
  | 36 => 2#32
  | 37 => 0#32
  | 38 => 2#32
  | 39 => 2#32
  | 40 => 3#32
  | 41 => 0#32
  | 42 => 2#32
  | 43 => 1#32
  | 44 => 1#32
  | 45 => 2#32
  | 46 => 2#32
  | 47 => 4#32
  | 48 => 1#32
  | 49 => 2#32
  | 50 => 0#32
  | 51 => 2#32
  | 52 => 3#32
  | 53 => 1#32
  | 54 => 2#32
  | 55 => 1#32
  | 56 => 4#32
  | 57 => 0#32
  | 58 => 1#32
  | 59 => 3#32
  | 60 => 0#32
  | 61 => 2#32
  | 62 => 0#32
  | 63 => 2#32
  | 64 => 2#32
  | 65 => 3#32
  | 66 => 2#32
  | 67 => 2#32
  | 68 => 3#32
  | 69 => 1#32
  | 70 => 0#32
  | 71 => 3#32
  | 72 => 1#32
  | 73 => 1#32
  | 74 => 0#32
  | 75 => 0#32
  | 76 => 3#32
  | 77 => 3#32
  | 78 => 1#32
  | 79 => 3#32
  | 80 => 4#32
  | 81 => 0#32
  | 82 => 3#32
  | 83 => 4#32
  | 84 => 2#32
  | 85 => 2#32
  | 86 => 4#32
  | 87 => 1#32
  | 88 => 4#32
  | 89 => 0#32
  | 90 => 1#32
  | 91 => 1#32
  | 92 => 0#32
  | 93 => 1#32
  | 94 => 4#32
  | 95 => 1#32
  | 96 => 4#32
  | 97 => 3#32
  | 98 => 3#32
  | 99 => 3#32
  | 100 => 4#32
  | 101 => 2#32
  | 102 => 1#32
  | 103 => 2#32
  | 104 => 0#32
  | 105 => 1#32
  | 106 => 3#32
  | 107 => 2#32
  | 108 => 0#32
  | 109 => 0#32
  | 110 => 3#32
  | 111 => 0#32
  | 112 => 2#32
  | 113 => 0#32
  | 114 => 2#32
  | 115 => 0#32
  | 116 => 2#32
  | 117 => 4#32
  | 118 => 3#32
  | 119 => 2#32
  | 120 => 0#32
  | 121 => 0#32
  | 122 => 3#32
  | 123 => 4#32
  | 124 => 4#32
  | 125 => 2#32
  | 126 => 0#32
  | 127 => 3#32
  | _ => 0#32

noncomputable abbrev lit0t0_20 (i : Nat) : BitVec 32 := match i % 128 with
  | 0 => 0#32
  | 1 => 3#32
  | 2 => 2#32
  | 3 => 3#32
  | 4 => 0#32
  | 5 => 3#32
  | 6 => 2#32
  | 7 => 0#32
  | 8 => 2#32
  | 9 => 3#32
  | 10 => 4#32
  | 11 => 3#32
  | 12 => 2#32
  | 13 => 4#32
  | 14 => 0#32
  | 15 => 4#32
  | 16 => 4#32
  | 17 => 2#32
  | 18 => 4#32
  | 19 => 1#32
  | 20 => 0#32
  | 21 => 0#32
  | 22 => 2#32
  | 23 => 0#32
  | 24 => 1#32
  | 25 => 3#32
  | 26 => 1#32
  | 27 => 0#32
  | 28 => 3#32
  | 29 => 3#32
  | 30 => 2#32
  | 31 => 0#32
  | 32 => 2#32
  | 33 => 1#32
  | 34 => 3#32
  | 35 => 2#32
  | 36 => 0#32
  | 37 => 3#32
  | 38 => 0#32
  | 39 => 3#32
  | 40 => 1#32
  | 41 => 2#32
  | 42 => 1#32
  | 43 => 4#32
  | 44 => 4#32
  | 45 => 4#32
  | 46 => 3#32
  | 47 => 1#32
  | 48 => 4#32
  | 49 => 1#32
  | 50 => 4#32
  | 51 => 2#32
  | 52 => 2#32
  | 53 => 2#32
  | 54 => 0#32
  | 55 => 1#32
  | 56 => 1#32
  | 57 => 1#32
  | 58 => 2#32
  | 59 => 0#32
  | 60 => 0#32
  | 61 => 0#32
  | 62 => 0#32
  | 63 => 2#32
  | 64 => 2#32
  | 65 => 2#32
  | 66 => 0#32
  | 67 => 4#32
  | 68 => 3#32
  | 69 => 0#32
  | 70 => 4#32
  | 71 => 2#32
  | 72 => 3#32
  | 73 => 0#32
  | 74 => 1#32
  | 75 => 3#32
  | 76 => 2#32
  | 77 => 1#32
  | 78 => 4#32
  | 79 => 3#32
  | 80 => 4#32
  | 81 => 3#32
  | 82 => 0#32
  | 83 => 3#32
  | 84 => 4#32
  | 85 => 3#32
  | 86 => 2#32
  | 87 => 2#32
  | 88 => 1#32
  | 89 => 3#32
  | 90 => 2#32
  | 91 => 3#32
  | 92 => 3#32
  | 93 => 0#32
  | 94 => 4#32
  | 95 => 4#32
  | 96 => 4#32
  | 97 => 3#32
  | 98 => 4#32
  | 99 => 4#32
  | 100 => 4#32
  | 101 => 4#32
  | 102 => 3#32
  | 103 => 3#32
  | 104 => 1#32
  | 105 => 4#32
  | 106 => 1#32
  | 107 => 4#32
  | 108 => 2#32
  | 109 => 1#32
  | 110 => 2#32
  | 111 => 3#32
  | 112 => 3#32
  | 113 => 3#32
  | 114 => 1#32
  | 115 => 1#32
  | 116 => 3#32
  | 117 => 4#32
  | 118 => 1#32
  | 119 => 4#32
  | 120 => 1#32
  | 121 => 2#32
  | 122 => 0#32
  | 123 => 1#32
  | 124 => 4#32
  | 125 => 0#32
  | 126 => 0#32
  | 127 => 3#32
  | _ => 0#32

noncomputable abbrev lit0t0_21 (i : Nat) : BitVec 32 := match i % 128 with
  | 0 => 2#32
  | 1 => 1#32
  | 2 => 0#32
  | 3 => 1#32
  | 4 => 2#32
  | 5 => 3#32
  | 6 => 3#32
  | 7 => 0#32
  | 8 => 0#32
  | 9 => 2#32
  | 10 => 0#32
  | 11 => 4#32
  | 12 => 1#32
  | 13 => 1#32
  | 14 => 1#32
  | 15 => 2#32
  | 16 => 3#32
  | 17 => 4#32
  | 18 => 0#32
  | 19 => 1#32
  | 20 => 4#32
  | 21 => 3#32
  | 22 => 1#32
  | 23 => 2#32
  | 24 => 0#32
  | 25 => 2#32
  | 26 => 3#32
  | 27 => 2#32
  | 28 => 0#32
  | 29 => 1#32
  | 30 => 3#32
  | 31 => 3#32
  | 32 => 0#32
  | 33 => 2#32
  | 34 => 1#32
  | 35 => 3#32
  | 36 => 4#32
  | 37 => 1#32
  | 38 => 3#32
  | 39 => 3#32
  | 40 => 1#32
  | 41 => 1#32
  | 42 => 4#32
  | 43 => 0#32
  | 44 => 2#32
  | 45 => 2#32
  | 46 => 0#32
  | 47 => 4#32
  | 48 => 1#32
  | 49 => 3#32
  | 50 => 0#32
  | 51 => 3#32
  | 52 => 2#32
  | 53 => 2#32
  | 54 => 3#32
  | 55 => 2#32
  | 56 => 2#32
  | 57 => 1#32
  | 58 => 4#32
  | 59 => 0#32
  | 60 => 0#32
  | 61 => 4#32
  | 62 => 2#32
  | 63 => 2#32
  | 64 => 2#32
  | 65 => 4#32
  | 66 => 3#32
  | 67 => 1#32
  | 68 => 3#32
  | 69 => 2#32
  | 70 => 2#32
  | 71 => 4#32
  | 72 => 3#32
  | 73 => 0#32
  | 74 => 1#32
  | 75 => 4#32
  | 76 => 1#32
  | 77 => 1#32
  | 78 => 0#32
  | 79 => 2#32
  | 80 => 4#32
  | 81 => 0#32
  | 82 => 2#32
  | 83 => 3#32
  | 84 => 4#32
  | 85 => 3#32
  | 86 => 4#32
  | 87 => 1#32
  | 88 => 0#32
  | 89 => 3#32
  | 90 => 4#32
  | 91 => 3#32
  | 92 => 2#32
  | 93 => 4#32
  | 94 => 2#32
  | 95 => 1#32
  | 96 => 1#32
  | 97 => 4#32
  | 98 => 4#32
  | 99 => 2#32
  | 100 => 4#32
  | 101 => 2#32
  | 102 => 3#32
  | 103 => 1#32
  | 104 => 2#32
  | 105 => 2#32
  | 106 => 1#32
  | 107 => 1#32
  | 108 => 1#32
  | 109 => 3#32
  | 110 => 4#32
  | 111 => 2#32
  | 112 => 4#32
  | 113 => 2#32
  | 114 => 1#32
  | 115 => 0#32
  | 116 => 0#32
  | 117 => 4#32
  | 118 => 4#32
  | 119 => 3#32
  | 120 => 2#32
  | 121 => 4#32
  | 122 => 2#32
  | 123 => 1#32
  | 124 => 0#32
  | 125 => 3#32
  | 126 => 1#32
  | 127 => 4#32
  | _ => 0#32

noncomputable abbrev lit0t0_22 (i : Nat) : BitVec 32 := match i % 128 with
  | 0 => 4#32
  | 1 => 3#32
  | 2 => 1#32
  | 3 => 2#32
  | 4 => 3#32
  | 5 => 3#32
  | 6 => 4#32
  | 7 => 4#32
  | 8 => 2#32
  | 9 => 0#32
  | 10 => 4#32
  | 11 => 4#32
  | 12 => 2#32
  | 13 => 1#32
  | 14 => 2#32
  | 15 => 2#32
  | 16 => 2#32
  | 17 => 0#32
  | 18 => 2#32
  | 19 => 3#32
  | 20 => 2#32
  | 21 => 3#32
  | 22 => 4#32
  | 23 => 0#32
  | 24 => 4#32
  | 25 => 4#32
  | 26 => 1#32
  | 27 => 2#32
  | 28 => 2#32
  | 29 => 3#32
  | 30 => 4#32
  | 31 => 4#32
  | 32 => 4#32
  | 33 => 2#32
  | 34 => 3#32
  | 35 => 4#32
  | 36 => 3#32
  | 37 => 3#32
  | 38 => 1#32
  | 39 => 2#32
  | 40 => 2#32
  | 41 => 3#32
  | 42 => 1#32
  | 43 => 2#32
  | 44 => 2#32
  | 45 => 4#32
  | 46 => 3#32
  | 47 => 2#32
  | 48 => 0#32
  | 49 => 1#32
  | 50 => 1#32
  | 51 => 2#32
  | 52 => 2#32
  | 53 => 4#32
  | 54 => 4#32
  | 55 => 4#32
  | 56 => 2#32
  | 57 => 1#32
  | 58 => 3#32
  | 59 => 4#32
  | 60 => 4#32
  | 61 => 2#32
  | 62 => 4#32
  | 63 => 2#32
  | 64 => 0#32
  | 65 => 1#32
  | 66 => 2#32
  | 67 => 1#32
  | 68 => 4#32
  | 69 => 2#32
  | 70 => 2#32
  | 71 => 2#32
  | 72 => 4#32
  | 73 => 2#32
  | 74 => 4#32
  | 75 => 1#32
  | 76 => 4#32
  | 77 => 3#32
  | 78 => 2#32
  | 79 => 1#32
  | 80 => 0#32
  | 81 => 0#32
  | 82 => 2#32
  | 83 => 1#32
  | 84 => 1#32
  | 85 => 3#32
  | 86 => 1#32
  | 87 => 1#32
  | 88 => 4#32
  | 89 => 1#32
  | 90 => 4#32
  | 91 => 3#32
  | 92 => 0#32
  | 93 => 3#32
  | 94 => 0#32
  | 95 => 4#32
  | 96 => 4#32
  | 97 => 3#32
  | 98 => 2#32
  | 99 => 3#32
  | 100 => 0#32
  | 101 => 2#32
  | 102 => 3#32
  | 103 => 0#32
  | 104 => 3#32
  | 105 => 3#32
  | 106 => 4#32
  | 107 => 4#32
  | 108 => 3#32
  | 109 => 1#32
  | 110 => 1#32
  | 111 => 1#32
  | 112 => 4#32
  | 113 => 0#32
  | 114 => 2#32
  | 115 => 0#32
  | 116 => 1#32
  | 117 => 1#32
  | 118 => 3#32
  | 119 => 2#32
  | 120 => 3#32
  | 121 => 2#32
  | 122 => 4#32
  | 123 => 4#32
  | 124 => 4#32
  | 125 => 1#32
  | 126 => 4#32
  | 127 => 0#32
  | _ => 0#32

noncomputable abbrev lit0t0_23 (i : Nat) : BitVec 32 := match i % 128 with
  | 0 => 0#32
  | 1 => 0#32
  | 2 => 3#32
  | 3 => 2#32
  | 4 => 4#32
  | 5 => 2#32
  | 6 => 4#32
  | 7 => 4#32
  | 8 => 2#32
  | 9 => 4#32
  | 10 => 0#32
  | 11 => 1#32
  | 12 => 2#32
  | 13 => 4#32
  | 14 => 2#32
  | 15 => 2#32
  | 16 => 1#32
  | 17 => 0#32
  | 18 => 0#32
  | 19 => 0#32
  | 20 => 1#32
  | 21 => 0#32
  | 22 => 0#32
  | 23 => 1#32
  | 24 => 2#32
  | 25 => 0#32
  | 26 => 0#32
  | 27 => 2#32
  | 28 => 1#32
  | 29 => 4#32
  | 30 => 0#32
  | 31 => 1#32
  | 32 => 4#32
  | 33 => 2#32
  | 34 => 4#32
  | 35 => 4#32
  | 36 => 1#32
  | 37 => 3#32
  | 38 => 2#32
  | 39 => 1#32
  | 40 => 3#32
  | 41 => 3#32
  | 42 => 4#32
  | 43 => 3#32
  | 44 => 1#32
  | 45 => 1#32
  | 46 => 0#32
  | 47 => 3#32
  | 48 => 4#32
  | 49 => 1#32
  | 50 => 0#32
  | 51 => 0#32
  | 52 => 2#32
  | 53 => 1#32
  | 54 => 4#32
  | 55 => 3#32
  | 56 => 0#32
  | 57 => 3#32
  | 58 => 3#32
  | 59 => 0#32
  | 60 => 1#32
  | 61 => 2#32
  | 62 => 1#32
  | 63 => 3#32
  | 64 => 1#32
  | 65 => 1#32
  | 66 => 0#32
  | 67 => 2#32
  | 68 => 1#32
  | 69 => 2#32
  | 70 => 0#32
  | 71 => 1#32
  | 72 => 0#32
  | 73 => 1#32
  | 74 => 0#32
  | 75 => 1#32
  | 76 => 2#32
  | 77 => 3#32
  | 78 => 3#32
  | 79 => 3#32
  | 80 => 4#32
  | 81 => 4#32
  | 82 => 1#32
  | 83 => 2#32
  | 84 => 3#32
  | 85 => 0#32
  | 86 => 2#32
  | 87 => 3#32
  | 88 => 0#32
  | 89 => 3#32
  | 90 => 2#32
  | 91 => 1#32
  | 92 => 3#32
  | 93 => 1#32
  | 94 => 0#32
  | 95 => 0#32
  | 96 => 4#32
  | 97 => 0#32
  | 98 => 4#32
  | 99 => 4#32
  | 100 => 4#32
  | 101 => 1#32
  | 102 => 2#32
  | 103 => 3#32
  | 104 => 4#32
  | 105 => 0#32
  | 106 => 4#32
  | 107 => 0#32
  | 108 => 4#32
  | 109 => 3#32
  | 110 => 1#32
  | 111 => 2#32
  | 112 => 0#32
  | 113 => 3#32
  | 114 => 3#32
  | 115 => 0#32
  | 116 => 3#32
  | 117 => 0#32
  | 118 => 0#32
  | 119 => 0#32
  | 120 => 4#32
  | 121 => 1#32
  | 122 => 0#32
  | 123 => 3#32
  | 124 => 4#32
  | 125 => 4#32
  | 126 => 1#32
  | 127 => 0#32
  | _ => 0#32

noncomputable abbrev lit0t0_24 (i : Nat) : BitVec 32 := match i % 128 with
  | 0 => 1#32
  | 1 => 4#32
  | 2 => 1#32
  | 3 => 2#32
  | 4 => 4#32
  | 5 => 3#32
  | 6 => 2#32
  | 7 => 0#32
  | 8 => 3#32
  | 9 => 0#32
  | 10 => 4#32
  | 11 => 2#32
  | 12 => 1#32
  | 13 => 1#32
  | 14 => 2#32
  | 15 => 2#32
  | 16 => 0#32
  | 17 => 0#32
  | 18 => 2#32
  | 19 => 2#32
  | 20 => 3#32
  | 21 => 2#32
  | 22 => 2#32
  | 23 => 4#32
  | 24 => 4#32
  | 25 => 3#32
  | 26 => 0#32
  | 27 => 1#32
  | 28 => 3#32
  | 29 => 0#32
  | 30 => 4#32
  | 31 => 0#32
  | 32 => 3#32
  | 33 => 0#32
  | 34 => 3#32
  | 35 => 1#32
  | 36 => 0#32
  | 37 => 3#32
  | 38 => 1#32
  | 39 => 4#32
  | 40 => 4#32
  | 41 => 2#32
  | 42 => 1#32
  | 43 => 1#32
  | 44 => 4#32
  | 45 => 4#32
  | 46 => 2#32
  | 47 => 0#32
  | 48 => 2#32
  | 49 => 0#32
  | 50 => 4#32
  | 51 => 0#32
  | 52 => 0#32
  | 53 => 3#32
  | 54 => 0#32
  | 55 => 1#32
  | 56 => 1#32
  | 57 => 2#32
  | 58 => 4#32
  | 59 => 1#32
  | 60 => 0#32
  | 61 => 0#32
  | 62 => 0#32
  | 63 => 3#32
  | 64 => 4#32
  | 65 => 2#32
  | 66 => 2#32
  | 67 => 4#32
  | 68 => 2#32
  | 69 => 2#32
  | 70 => 4#32
  | 71 => 1#32
  | 72 => 2#32
  | 73 => 0#32
  | 74 => 2#32
  | 75 => 3#32
  | 76 => 1#32
  | 77 => 3#32
  | 78 => 3#32
  | 79 => 1#32
  | 80 => 3#32
  | 81 => 3#32
  | 82 => 2#32
  | 83 => 3#32
  | 84 => 3#32
  | 85 => 1#32
  | 86 => 4#32
  | 87 => 1#32
  | 88 => 2#32
  | 89 => 4#32
  | 90 => 1#32
  | 91 => 3#32
  | 92 => 1#32
  | 93 => 3#32
  | 94 => 1#32
  | 95 => 4#32
  | 96 => 1#32
  | 97 => 0#32
  | 98 => 1#32
  | 99 => 1#32
  | 100 => 2#32
  | 101 => 4#32
  | 102 => 0#32
  | 103 => 0#32
  | 104 => 2#32
  | 105 => 0#32
  | 106 => 2#32
  | 107 => 1#32
  | 108 => 4#32
  | 109 => 2#32
  | 110 => 3#32
  | 111 => 1#32
  | 112 => 4#32
  | 113 => 2#32
  | 114 => 3#32
  | 115 => 2#32
  | 116 => 1#32
  | 117 => 3#32
  | 118 => 1#32
  | 119 => 4#32
  | 120 => 1#32
  | 121 => 1#32
  | 122 => 2#32
  | 123 => 0#32
  | 124 => 0#32
  | 125 => 0#32
  | 126 => 0#32
  | 127 => 0#32
  | _ => 0#32

noncomputable abbrev lit0t0_25 (i : Nat) : BitVec 32 := match i % 128 with
  | 0 => 4#32
  | 1 => 3#32
  | 2 => 3#32
  | 3 => 2#32
  | 4 => 4#32
  | 5 => 0#32
  | 6 => 0#32
  | 7 => 1#32
  | 8 => 3#32
  | 9 => 0#32
  | 10 => 4#32
  | 11 => 2#32
  | 12 => 1#32
  | 13 => 0#32
  | 14 => 1#32
  | 15 => 1#32
  | 16 => 1#32
  | 17 => 3#32
  | 18 => 0#32
  | 19 => 1#32
  | 20 => 4#32
  | 21 => 1#32
  | 22 => 4#32
  | 23 => 4#32
  | 24 => 1#32
  | 25 => 2#32
  | 26 => 2#32
  | 27 => 3#32
  | 28 => 0#32
  | 29 => 3#32
  | 30 => 0#32
  | 31 => 4#32
  | 32 => 1#32
  | 33 => 3#32
  | 34 => 0#32
  | 35 => 1#32
  | 36 => 0#32
  | 37 => 1#32
  | 38 => 2#32
  | 39 => 1#32
  | 40 => 4#32
  | 41 => 3#32
  | 42 => 1#32
  | 43 => 3#32
  | 44 => 2#32
  | 45 => 1#32
  | 46 => 0#32
  | 47 => 2#32
  | 48 => 0#32
  | 49 => 3#32
  | 50 => 2#32
  | 51 => 0#32
  | 52 => 3#32
  | 53 => 1#32
  | 54 => 3#32
  | 55 => 4#32
  | 56 => 1#32
  | 57 => 1#32
  | 58 => 4#32
  | 59 => 4#32
  | 60 => 4#32
  | 61 => 3#32
  | 62 => 0#32
  | 63 => 0#32
  | 64 => 2#32
  | 65 => 2#32
  | 66 => 3#32
  | 67 => 4#32
  | 68 => 3#32
  | 69 => 4#32
  | 70 => 0#32
  | 71 => 4#32
  | 72 => 1#32
  | 73 => 1#32
  | 74 => 4#32
  | 75 => 1#32
  | 76 => 4#32
  | 77 => 2#32
  | 78 => 3#32
  | 79 => 0#32
  | 80 => 1#32
  | 81 => 3#32
  | 82 => 3#32
  | 83 => 3#32
  | 84 => 1#32
  | 85 => 2#32
  | 86 => 3#32
  | 87 => 2#32
  | 88 => 3#32
  | 89 => 0#32
  | 90 => 2#32
  | 91 => 4#32
  | 92 => 0#32
  | 93 => 3#32
  | 94 => 1#32
  | 95 => 1#32
  | 96 => 2#32
  | 97 => 3#32
  | 98 => 4#32
  | 99 => 1#32
  | 100 => 2#32
  | 101 => 3#32
  | 102 => 3#32
  | 103 => 2#32
  | 104 => 0#32
  | 105 => 3#32
  | 106 => 0#32
  | 107 => 0#32
  | 108 => 1#32
  | 109 => 2#32
  | 110 => 3#32
  | 111 => 4#32
  | 112 => 2#32
  | 113 => 2#32
  | 114 => 4#32
  | 115 => 2#32
  | 116 => 3#32
  | 117 => 3#32
  | 118 => 1#32
  | 119 => 1#32
  | 120 => 4#32
  | 121 => 3#32
  | 122 => 1#32
  | 123 => 2#32
  | 124 => 1#32
  | 125 => 4#32
  | 126 => 0#32
  | 127 => 4#32
  | _ => 0#32

noncomputable abbrev lit0t0_26 (i : Nat) : BitVec 32 := match i % 128 with
  | 0 => 4#32
  | 1 => 1#32
  | 2 => 3#32
  | 3 => 2#32
  | 4 => 0#32
  | 5 => 4#32
  | 6 => 3#32
  | 7 => 1#32
  | 8 => 1#32
  | 9 => 1#32
  | 10 => 0#32
  | 11 => 3#32
  | 12 => 3#32
  | 13 => 2#32
  | 14 => 0#32
  | 15 => 3#32
  | 16 => 3#32
  | 17 => 0#32
  | 18 => 3#32
  | 19 => 0#32
  | 20 => 0#32
  | 21 => 3#32
  | 22 => 0#32
  | 23 => 3#32
  | 24 => 0#32
  | 25 => 3#32
  | 26 => 2#32
  | 27 => 1#32
  | 28 => 0#32
  | 29 => 3#32
  | 30 => 0#32
  | 31 => 2#32
  | 32 => 2#32
  | 33 => 0#32
  | 34 => 1#32
  | 35 => 3#32
  | 36 => 2#32
  | 37 => 3#32
  | 38 => 4#32
  | 39 => 1#32
  | 40 => 0#32
  | 41 => 3#32
  | 42 => 0#32
  | 43 => 1#32
  | 44 => 3#32
  | 45 => 0#32
  | 46 => 0#32
  | 47 => 3#32
  | 48 => 2#32
  | 49 => 1#32
  | 50 => 2#32
  | 51 => 3#32
  | 52 => 4#32
  | 53 => 0#32
  | 54 => 1#32
  | 55 => 1#32
  | 56 => 1#32
  | 57 => 3#32
  | 58 => 4#32
  | 59 => 4#32
  | 60 => 2#32
  | 61 => 3#32
  | 62 => 4#32
  | 63 => 2#32
  | 64 => 4#32
  | 65 => 3#32
  | 66 => 4#32
  | 67 => 2#32
  | 68 => 4#32
  | 69 => 1#32
  | 70 => 0#32
  | 71 => 4#32
  | 72 => 0#32
  | 73 => 3#32
  | 74 => 0#32
  | 75 => 3#32
  | 76 => 4#32
  | 77 => 0#32
  | 78 => 0#32
  | 79 => 3#32
  | 80 => 2#32
  | 81 => 0#32
  | 82 => 4#32
  | 83 => 1#32
  | 84 => 0#32
  | 85 => 1#32
  | 86 => 2#32
  | 87 => 1#32
  | 88 => 1#32
  | 89 => 1#32
  | 90 => 1#32
  | 91 => 4#32
  | 92 => 4#32
  | 93 => 1#32
  | 94 => 3#32
  | 95 => 3#32
  | 96 => 4#32
  | 97 => 1#32
  | 98 => 0#32
  | 99 => 3#32
  | 100 => 1#32
  | 101 => 3#32
  | 102 => 4#32
  | 103 => 2#32
  | 104 => 0#32
  | 105 => 3#32
  | 106 => 4#32
  | 107 => 0#32
  | 108 => 2#32
  | 109 => 3#32
  | 110 => 4#32
  | 111 => 0#32
  | 112 => 2#32
  | 113 => 3#32
  | 114 => 0#32
  | 115 => 3#32
  | 116 => 1#32
  | 117 => 2#32
  | 118 => 2#32
  | 119 => 0#32
  | 120 => 1#32
  | 121 => 3#32
  | 122 => 1#32
  | 123 => 2#32
  | 124 => 1#32
  | 125 => 2#32
  | 126 => 4#32
  | 127 => 3#32
  | _ => 0#32

noncomputable abbrev lit0t0_27 (i : Nat) : BitVec 32 := match i % 128 with
  | 0 => 2#32
  | 1 => 4#32
  | 2 => 3#32
  | 3 => 3#32
  | 4 => 4#32
  | 5 => 0#32
  | 6 => 3#32
  | 7 => 1#32
  | 8 => 1#32
  | 9 => 0#32
  | 10 => 3#32
  | 11 => 2#32
  | 12 => 1#32
  | 13 => 0#32
  | 14 => 4#32
  | 15 => 2#32
  | 16 => 3#32
  | 17 => 4#32
  | 18 => 3#32
  | 19 => 1#32
  | 20 => 4#32
  | 21 => 4#32
  | 22 => 0#32
  | 23 => 3#32
  | 24 => 0#32
  | 25 => 1#32
  | 26 => 3#32
  | 27 => 4#32
  | 28 => 0#32
  | 29 => 2#32
  | 30 => 3#32
  | 31 => 4#32
  | 32 => 3#32
  | 33 => 1#32
  | 34 => 0#32
  | 35 => 0#32
  | 36 => 3#32
  | 37 => 4#32
  | 38 => 1#32
  | 39 => 1#32
  | 40 => 2#32
  | 41 => 3#32
  | 42 => 0#32
  | 43 => 1#32
  | 44 => 4#32
  | 45 => 1#32
  | 46 => 2#32
  | 47 => 0#32
  | 48 => 3#32
  | 49 => 4#32
  | 50 => 2#32
  | 51 => 3#32
  | 52 => 3#32
  | 53 => 3#32
  | 54 => 4#32
  | 55 => 0#32
  | 56 => 1#32
  | 57 => 4#32
  | 58 => 1#32
  | 59 => 2#32
  | 60 => 1#32
  | 61 => 0#32
  | 62 => 4#32
  | 63 => 0#32
  | 64 => 4#32
  | 65 => 2#32
  | 66 => 1#32
  | 67 => 3#32
  | 68 => 1#32
  | 69 => 3#32
  | 70 => 3#32
  | 71 => 4#32
  | 72 => 3#32
  | 73 => 0#32
  | 74 => 4#32
  | 75 => 2#32
  | 76 => 3#32
  | 77 => 3#32
  | 78 => 1#32
  | 79 => 0#32
  | 80 => 0#32
  | 81 => 4#32
  | 82 => 0#32
  | 83 => 0#32
  | 84 => 4#32
  | 85 => 4#32
  | 86 => 3#32
  | 87 => 4#32
  | 88 => 0#32
  | 89 => 1#32
  | 90 => 1#32
  | 91 => 4#32
  | 92 => 0#32
  | 93 => 1#32
  | 94 => 1#32
  | 95 => 0#32
  | 96 => 0#32
  | 97 => 4#32
  | 98 => 2#32
  | 99 => 0#32
  | 100 => 0#32
  | 101 => 3#32
  | 102 => 3#32
  | 103 => 1#32
  | 104 => 2#32
  | 105 => 2#32
  | 106 => 3#32
  | 107 => 2#32
  | 108 => 1#32
  | 109 => 2#32
  | 110 => 0#32
  | 111 => 3#32
  | 112 => 2#32
  | 113 => 4#32
  | 114 => 2#32
  | 115 => 4#32
  | 116 => 0#32
  | 117 => 3#32
  | 118 => 3#32
  | 119 => 0#32
  | 120 => 3#32
  | 121 => 4#32
  | 122 => 3#32
  | 123 => 0#32
  | 124 => 2#32
  | 125 => 2#32
  | 126 => 3#32
  | 127 => 0#32
  | _ => 0#32

noncomputable abbrev lit0t0_28 (i : Nat) : BitVec 32 := match i % 128 with
  | 0 => 2#32
  | 1 => 1#32
  | 2 => 1#32
  | 3 => 0#32
  | 4 => 4#32
  | 5 => 0#32
  | 6 => 4#32
  | 7 => 2#32
  | 8 => 2#32
  | 9 => 3#32
  | 10 => 1#32
  | 11 => 0#32
  | 12 => 0#32
  | 13 => 3#32
  | 14 => 1#32
  | 15 => 1#32
  | 16 => 2#32
  | 17 => 1#32
  | 18 => 3#32
  | 19 => 3#32
  | 20 => 1#32
  | 21 => 4#32
  | 22 => 4#32
  | 23 => 4#32
  | 24 => 1#32
  | 25 => 4#32
  | 26 => 0#32
  | 27 => 4#32
  | 28 => 2#32
  | 29 => 2#32
  | 30 => 0#32
  | 31 => 1#32
  | 32 => 1#32
  | 33 => 2#32
  | 34 => 0#32
  | 35 => 4#32
  | 36 => 4#32
  | 37 => 0#32
  | 38 => 0#32
  | 39 => 4#32
  | 40 => 1#32
  | 41 => 4#32
  | 42 => 0#32
  | 43 => 0#32
  | 44 => 2#32
  | 45 => 2#32
  | 46 => 0#32
  | 47 => 1#32
  | 48 => 1#32
  | 49 => 2#32
  | 50 => 4#32
  | 51 => 2#32
  | 52 => 1#32
  | 53 => 0#32
  | 54 => 1#32
  | 55 => 0#32
  | 56 => 4#32
  | 57 => 0#32
  | 58 => 3#32
  | 59 => 3#32
  | 60 => 4#32
  | 61 => 0#32
  | 62 => 1#32
  | 63 => 2#32
  | 64 => 2#32
  | 65 => 3#32
  | 66 => 0#32
  | 67 => 1#32
  | 68 => 0#32
  | 69 => 4#32
  | 70 => 1#32
  | 71 => 1#32
  | 72 => 0#32
  | 73 => 3#32
  | 74 => 2#32
  | 75 => 2#32
  | 76 => 2#32
  | 77 => 4#32
  | 78 => 0#32
  | 79 => 2#32
  | 80 => 3#32
  | 81 => 1#32
  | 82 => 1#32
  | 83 => 3#32
  | 84 => 1#32
  | 85 => 1#32
  | 86 => 4#32
  | 87 => 1#32
  | 88 => 1#32
  | 89 => 1#32
  | 90 => 4#32
  | 91 => 1#32
  | 92 => 4#32
  | 93 => 0#32
  | 94 => 1#32
  | 95 => 0#32
  | 96 => 1#32
  | 97 => 0#32
  | 98 => 1#32
  | 99 => 2#32
  | 100 => 3#32
  | 101 => 4#32
  | 102 => 1#32
  | 103 => 3#32
  | 104 => 3#32
  | 105 => 2#32
  | 106 => 0#32
  | 107 => 2#32
  | 108 => 2#32
  | 109 => 0#32
  | 110 => 3#32
  | 111 => 4#32
  | 112 => 4#32
  | 113 => 1#32
  | 114 => 3#32
  | 115 => 2#32
  | 116 => 2#32
  | 117 => 4#32
  | 118 => 1#32
  | 119 => 1#32
  | 120 => 0#32
  | 121 => 2#32
  | 122 => 0#32
  | 123 => 0#32
  | 124 => 4#32
  | 125 => 1#32
  | 126 => 2#32
  | 127 => 2#32
  | _ => 0#32

noncomputable abbrev lit0t0_29 (i : Nat) : BitVec 32 := match i % 128 with
  | 0 => 4#32
  | 1 => 3#32
  | 2 => 3#32
  | 3 => 1#32
  | 4 => 2#32
  | 5 => 4#32
  | 6 => 1#32
  | 7 => 3#32
  | 8 => 1#32
  | 9 => 3#32
  | 10 => 1#32
  | 11 => 1#32
  | 12 => 1#32
  | 13 => 3#32
  | 14 => 4#32
  | 15 => 0#32
  | 16 => 2#32
  | 17 => 1#32
  | 18 => 4#32
  | 19 => 1#32
  | 20 => 0#32
  | 21 => 2#32
  | 22 => 1#32
  | 23 => 1#32
  | 24 => 1#32
  | 25 => 2#32
  | 26 => 4#32
  | 27 => 3#32
  | 28 => 2#32
  | 29 => 0#32
  | 30 => 2#32
  | 31 => 3#32
  | 32 => 4#32
  | 33 => 2#32
  | 34 => 2#32
  | 35 => 4#32
  | 36 => 0#32
  | 37 => 1#32
  | 38 => 0#32
  | 39 => 1#32
  | 40 => 3#32
  | 41 => 3#32
  | 42 => 1#32
  | 43 => 1#32
  | 44 => 4#32
  | 45 => 4#32
  | 46 => 3#32
  | 47 => 2#32
  | 48 => 4#32
  | 49 => 2#32
  | 50 => 3#32
  | 51 => 0#32
  | 52 => 1#32
  | 53 => 1#32
  | 54 => 3#32
  | 55 => 2#32
  | 56 => 4#32
  | 57 => 0#32
  | 58 => 1#32
  | 59 => 3#32
  | 60 => 2#32
  | 61 => 2#32
  | 62 => 1#32
  | 63 => 4#32
  | 64 => 2#32
  | 65 => 3#32
  | 66 => 4#32
  | 67 => 0#32
  | 68 => 2#32
  | 69 => 0#32
  | 70 => 4#32
  | 71 => 3#32
  | 72 => 4#32
  | 73 => 2#32
  | 74 => 1#32
  | 75 => 0#32
  | 76 => 0#32
  | 77 => 2#32
  | 78 => 4#32
  | 79 => 0#32
  | 80 => 0#32
  | 81 => 0#32
  | 82 => 4#32
  | 83 => 4#32
  | 84 => 3#32
  | 85 => 4#32
  | 86 => 4#32
  | 87 => 0#32
  | 88 => 4#32
  | 89 => 3#32
  | 90 => 1#32
  | 91 => 2#32
  | 92 => 3#32
  | 93 => 3#32
  | 94 => 2#32
  | 95 => 3#32
  | 96 => 2#32
  | 97 => 3#32
  | 98 => 1#32
  | 99 => 4#32
  | 100 => 2#32
  | 101 => 4#32
  | 102 => 0#32
  | 103 => 4#32
  | 104 => 0#32
  | 105 => 3#32
  | 106 => 3#32
  | 107 => 2#32
  | 108 => 1#32
  | 109 => 2#32
  | 110 => 3#32
  | 111 => 3#32
  | 112 => 2#32
  | 113 => 4#32
  | 114 => 4#32
  | 115 => 4#32
  | 116 => 0#32
  | 117 => 2#32
  | 118 => 4#32
  | 119 => 2#32
  | 120 => 3#32
  | 121 => 0#32
  | 122 => 0#32
  | 123 => 1#32
  | 124 => 4#32
  | 125 => 1#32
  | 126 => 2#32
  | 127 => 3#32
  | _ => 0#32

noncomputable abbrev lit0t0_30 (i : Nat) : BitVec 32 := match i % 128 with
  | 0 => 0#32
  | 1 => 2#32
  | 2 => 0#32
  | 3 => 3#32
  | 4 => 4#32
  | 5 => 2#32
  | 6 => 3#32
  | 7 => 4#32
  | 8 => 2#32
  | 9 => 0#32
  | 10 => 1#32
  | 11 => 4#32
  | 12 => 1#32
  | 13 => 3#32
  | 14 => 1#32
  | 15 => 2#32
  | 16 => 2#32
  | 17 => 1#32
  | 18 => 3#32
  | 19 => 1#32
  | 20 => 4#32
  | 21 => 1#32
  | 22 => 2#32
  | 23 => 0#32
  | 24 => 0#32
  | 25 => 4#32
  | 26 => 3#32
  | 27 => 1#32
  | 28 => 3#32
  | 29 => 2#32
  | 30 => 0#32
  | 31 => 1#32
  | 32 => 1#32
  | 33 => 4#32
  | 34 => 2#32
  | 35 => 3#32
  | 36 => 1#32
  | 37 => 3#32
  | 38 => 4#32
  | 39 => 3#32
  | 40 => 3#32
  | 41 => 2#32
  | 42 => 0#32
  | 43 => 0#32
  | 44 => 1#32
  | 45 => 2#32
  | 46 => 2#32
  | 47 => 0#32
  | 48 => 1#32
  | 49 => 2#32
  | 50 => 2#32
  | 51 => 0#32
  | 52 => 0#32
  | 53 => 2#32
  | 54 => 2#32
  | 55 => 4#32
  | 56 => 0#32
  | 57 => 4#32
  | 58 => 2#32
  | 59 => 3#32
  | 60 => 0#32
  | 61 => 3#32
  | 62 => 1#32
  | 63 => 1#32
  | 64 => 2#32
  | 65 => 4#32
  | 66 => 4#32
  | 67 => 3#32
  | 68 => 0#32
  | 69 => 0#32
  | 70 => 4#32
  | 71 => 2#32
  | 72 => 1#32
  | 73 => 2#32
  | 74 => 4#32
  | 75 => 0#32
  | 76 => 4#32
  | 77 => 1#32
  | 78 => 2#32
  | 79 => 4#32
  | 80 => 2#32
  | 81 => 1#32
  | 82 => 1#32
  | 83 => 4#32
  | 84 => 3#32
  | 85 => 3#32
  | 86 => 3#32
  | 87 => 2#32
  | 88 => 0#32
  | 89 => 4#32
  | 90 => 0#32
  | 91 => 3#32
  | 92 => 3#32
  | 93 => 3#32
  | 94 => 0#32
  | 95 => 4#32
  | 96 => 3#32
  | 97 => 2#32
  | 98 => 1#32
  | 99 => 0#32
  | 100 => 4#32
  | 101 => 3#32
  | 102 => 2#32
  | 103 => 0#32
  | 104 => 4#32
  | 105 => 4#32
  | 106 => 0#32
  | 107 => 3#32
  | 108 => 4#32
  | 109 => 4#32
  | 110 => 0#32
  | 111 => 1#32
  | 112 => 3#32
  | 113 => 2#32
  | 114 => 0#32
  | 115 => 1#32
  | 116 => 4#32
  | 117 => 1#32
  | 118 => 1#32
  | 119 => 2#32
  | 120 => 4#32
  | 121 => 2#32
  | 122 => 1#32
  | 123 => 4#32
  | 124 => 2#32
  | 125 => 4#32
  | 126 => 4#32
  | 127 => 3#32
  | _ => 0#32

noncomputable abbrev lit0t0_31 (i : Nat) : BitVec 32 := match i % 128 with
  | 0 => 4#32
  | 1 => 4#32
  | 2 => 0#32
  | 3 => 1#32
  | 4 => 4#32
  | 5 => 4#32
  | 6 => 2#32
  | 7 => 1#32
  | 8 => 0#32
  | 9 => 0#32
  | 10 => 3#32
  | 11 => 3#32
  | 12 => 1#32
  | 13 => 0#32
  | 14 => 3#32
  | 15 => 3#32
  | 16 => 1#32
  | 17 => 0#32
  | 18 => 0#32
  | 19 => 1#32
  | 20 => 4#32
  | 21 => 0#32
  | 22 => 3#32
  | 23 => 3#32
  | 24 => 2#32
  | 25 => 1#32
  | 26 => 2#32
  | 27 => 0#32
  | 28 => 1#32
  | 29 => 4#32
  | 30 => 4#32
  | 31 => 0#32
  | 32 => 4#32
  | 33 => 0#32
  | 34 => 0#32
  | 35 => 3#32
  | 36 => 4#32
  | 37 => 2#32
  | 38 => 3#32
  | 39 => 0#32
  | 40 => 2#32
  | 41 => 0#32
  | 42 => 2#32
  | 43 => 1#32
  | 44 => 4#32
  | 45 => 0#32
  | 46 => 0#32
  | 47 => 3#32
  | 48 => 1#32
  | 49 => 4#32
  | 50 => 4#32
  | 51 => 0#32
  | 52 => 0#32
  | 53 => 2#32
  | 54 => 3#32
  | 55 => 1#32
  | 56 => 3#32
  | 57 => 4#32
  | 58 => 0#32
  | 59 => 0#32
  | 60 => 1#32
  | 61 => 2#32
  | 62 => 2#32
  | 63 => 0#32
  | 64 => 2#32
  | 65 => 1#32
  | 66 => 3#32
  | 67 => 2#32
  | 68 => 3#32
  | 69 => 4#32
  | 70 => 4#32
  | 71 => 2#32
  | 72 => 2#32
  | 73 => 0#32
  | 74 => 0#32
  | 75 => 0#32
  | 76 => 1#32
  | 77 => 0#32
  | 78 => 2#32
  | 79 => 2#32
  | 80 => 2#32
  | 81 => 0#32
  | 82 => 0#32
  | 83 => 1#32
  | 84 => 3#32
  | 85 => 1#32
  | 86 => 4#32
  | 87 => 2#32
  | 88 => 2#32
  | 89 => 2#32
  | 90 => 3#32
  | 91 => 3#32
  | 92 => 1#32
  | 93 => 3#32
  | 94 => 4#32
  | 95 => 0#32
  | 96 => 3#32
  | 97 => 3#32
  | 98 => 0#32
  | 99 => 0#32
  | 100 => 0#32
  | 101 => 2#32
  | 102 => 0#32
  | 103 => 4#32
  | 104 => 3#32
  | 105 => 0#32
  | 106 => 3#32
  | 107 => 4#32
  | 108 => 3#32
  | 109 => 4#32
  | 110 => 0#32
  | 111 => 1#32
  | 112 => 4#32
  | 113 => 4#32
  | 114 => 1#32
  | 115 => 2#32
  | 116 => 2#32
  | 117 => 1#32
  | 118 => 3#32
  | 119 => 2#32
  | 120 => 1#32
  | 121 => 4#32
  | 122 => 2#32
  | 123 => 3#32
  | 124 => 3#32
  | 125 => 0#32
  | 126 => 2#32
  | 127 => 4#32
  | _ => 0#32

noncomputable abbrev lit0t0_32 (i : Nat) : BitVec 32 := match i % 128 with
  | 0 => 3#32
  | 1 => 1#32
  | 2 => 2#32
  | 3 => 4#32
  | 4 => 1#32
  | 5 => 0#32
  | 6 => 3#32
  | 7 => 2#32
  | 8 => 3#32
  | 9 => 0#32
  | 10 => 2#32
  | 11 => 2#32
  | 12 => 1#32
  | 13 => 2#32
  | 14 => 2#32
  | 15 => 4#32
  | 16 => 4#32
  | 17 => 1#32
  | 18 => 0#32
  | 19 => 2#32
  | 20 => 4#32
  | 21 => 2#32
  | 22 => 3#32
  | 23 => 1#32
  | 24 => 2#32
  | 25 => 3#32
  | 26 => 1#32
  | 27 => 2#32
  | 28 => 3#32
  | 29 => 3#32
  | 30 => 3#32
  | 31 => 0#32
  | 32 => 3#32
  | 33 => 4#32
  | 34 => 3#32
  | 35 => 3#32
  | 36 => 3#32
  | 37 => 2#32
  | 38 => 4#32
  | 39 => 3#32
  | 40 => 4#32
  | 41 => 4#32
  | 42 => 1#32
  | 43 => 0#32
  | 44 => 3#32
  | 45 => 0#32
  | 46 => 4#32
  | 47 => 3#32
  | 48 => 2#32
  | 49 => 1#32
  | 50 => 2#32
  | 51 => 4#32
  | 52 => 1#32
  | 53 => 1#32
  | 54 => 0#32
  | 55 => 4#32
  | 56 => 3#32
  | 57 => 1#32
  | 58 => 1#32
  | 59 => 1#32
  | 60 => 4#32
  | 61 => 0#32
  | 62 => 3#32
  | 63 => 4#32
  | 64 => 4#32
  | 65 => 2#32
  | 66 => 0#32
  | 67 => 2#32
  | 68 => 4#32
  | 69 => 0#32
  | 70 => 3#32
  | 71 => 3#32
  | 72 => 1#32
  | 73 => 4#32
  | 74 => 2#32
  | 75 => 2#32
  | 76 => 0#32
  | 77 => 4#32
  | 78 => 1#32
  | 79 => 0#32
  | 80 => 3#32
  | 81 => 3#32
  | 82 => 3#32
  | 83 => 3#32
  | 84 => 1#32
  | 85 => 0#32
  | 86 => 0#32
  | 87 => 3#32
  | 88 => 3#32
  | 89 => 1#32
  | 90 => 3#32
  | 91 => 3#32
  | 92 => 3#32
  | 93 => 0#32
  | 94 => 1#32
  | 95 => 3#32
  | 96 => 4#32
  | 97 => 3#32
  | 98 => 1#32
  | 99 => 1#32
  | 100 => 3#32
  | 101 => 3#32
  | 102 => 2#32
  | 103 => 1#32
  | 104 => 1#32
  | 105 => 1#32
  | 106 => 2#32
  | 107 => 4#32
  | 108 => 2#32
  | 109 => 0#32
  | 110 => 1#32
  | 111 => 3#32
  | 112 => 1#32
  | 113 => 0#32
  | 114 => 0#32
  | 115 => 4#32
  | 116 => 2#32
  | 117 => 2#32
  | 118 => 2#32
  | 119 => 2#32
  | 120 => 3#32
  | 121 => 1#32
  | 122 => 0#32
  | 123 => 2#32
  | 124 => 0#32
  | 125 => 4#32
  | 126 => 1#32
  | 127 => 0#32
  | _ => 0#32

noncomputable abbrev lit0t0_33 (i : Nat) : BitVec 32 := match i % 128 with
  | 0 => 4#32
  | 1 => 3#32
  | 2 => 1#32
  | 3 => 1#32
  | 4 => 2#32
  | 5 => 0#32
  | 6 => 2#32
  | 7 => 4#32
  | 8 => 3#32
  | 9 => 2#32
  | 10 => 3#32
  | 11 => 3#32
  | 12 => 1#32
  | 13 => 4#32
  | 14 => 3#32
  | 15 => 4#32
  | 16 => 2#32
  | 17 => 1#32
  | 18 => 4#32
  | 19 => 1#32
  | 20 => 0#32
  | 21 => 3#32
  | 22 => 3#32
  | 23 => 3#32
  | 24 => 3#32
  | 25 => 2#32
  | 26 => 2#32
  | 27 => 0#32
  | 28 => 1#32
  | 29 => 0#32
  | 30 => 4#32
  | 31 => 0#32
  | 32 => 1#32
  | 33 => 1#32
  | 34 => 2#32
  | 35 => 0#32
  | 36 => 1#32
  | 37 => 0#32
  | 38 => 4#32
  | 39 => 0#32
  | 40 => 1#32
  | 41 => 0#32
  | 42 => 3#32
  | 43 => 3#32
  | 44 => 4#32
  | 45 => 4#32
  | 46 => 1#32
  | 47 => 1#32
  | 48 => 1#32
  | 49 => 2#32
  | 50 => 3#32
  | 51 => 2#32
  | 52 => 1#32
  | 53 => 3#32
  | 54 => 3#32
  | 55 => 3#32
  | 56 => 0#32
  | 57 => 3#32
  | 58 => 0#32
  | 59 => 2#32
  | 60 => 2#32
  | 61 => 1#32
  | 62 => 0#32
  | 63 => 2#32
  | 64 => 4#32
  | 65 => 3#32
  | 66 => 1#32
  | 67 => 4#32
  | 68 => 0#32
  | 69 => 0#32
  | 70 => 1#32
  | 71 => 2#32
  | 72 => 0#32
  | 73 => 0#32
  | 74 => 0#32
  | 75 => 4#32
  | 76 => 4#32
  | 77 => 4#32
  | 78 => 1#32
  | 79 => 3#32
  | 80 => 1#32
  | 81 => 4#32
  | 82 => 1#32
  | 83 => 3#32
  | 84 => 2#32
  | 85 => 0#32
  | 86 => 1#32
  | 87 => 1#32
  | 88 => 0#32
  | 89 => 2#32
  | 90 => 2#32
  | 91 => 4#32
  | 92 => 2#32
  | 93 => 1#32
  | 94 => 3#32
  | 95 => 1#32
  | 96 => 1#32
  | 97 => 1#32
  | 98 => 0#32
  | 99 => 1#32
  | 100 => 0#32
  | 101 => 1#32
  | 102 => 1#32
  | 103 => 1#32
  | 104 => 0#32
  | 105 => 3#32
  | 106 => 0#32
  | 107 => 4#32
  | 108 => 1#32
  | 109 => 3#32
  | 110 => 2#32
  | 111 => 1#32
  | 112 => 1#32
  | 113 => 2#32
  | 114 => 2#32
  | 115 => 4#32
  | 116 => 1#32
  | 117 => 1#32
  | 118 => 0#32
  | 119 => 2#32
  | 120 => 4#32
  | 121 => 3#32
  | 122 => 3#32
  | 123 => 1#32
  | 124 => 3#32
  | 125 => 0#32
  | 126 => 3#32
  | 127 => 3#32
  | _ => 0#32

noncomputable abbrev lit0t0_34 (i : Nat) : BitVec 32 := match i % 128 with
  | 0 => 3#32
  | 1 => 3#32
  | 2 => 1#32
  | 3 => 1#32
  | 4 => 2#32
  | 5 => 2#32
  | 6 => 4#32
  | 7 => 3#32
  | 8 => 3#32
  | 9 => 3#32
  | 10 => 0#32
  | 11 => 0#32
  | 12 => 2#32
  | 13 => 0#32
  | 14 => 2#32
  | 15 => 4#32
  | 16 => 1#32
  | 17 => 1#32
  | 18 => 0#32
  | 19 => 0#32
  | 20 => 4#32
  | 21 => 4#32
  | 22 => 3#32
  | 23 => 2#32
  | 24 => 4#32
  | 25 => 1#32
  | 26 => 0#32
  | 27 => 0#32
  | 28 => 3#32
  | 29 => 2#32
  | 30 => 0#32
  | 31 => 3#32
  | 32 => 3#32
  | 33 => 1#32
  | 34 => 3#32
  | 35 => 0#32
  | 36 => 0#32
  | 37 => 1#32
  | 38 => 0#32
  | 39 => 0#32
  | 40 => 1#32
  | 41 => 3#32
  | 42 => 4#32
  | 43 => 3#32
  | 44 => 4#32
  | 45 => 1#32
  | 46 => 1#32
  | 47 => 2#32
  | 48 => 1#32
  | 49 => 4#32
  | 50 => 0#32
  | 51 => 3#32
  | 52 => 2#32
  | 53 => 2#32
  | 54 => 3#32
  | 55 => 3#32
  | 56 => 2#32
  | 57 => 4#32
  | 58 => 3#32
  | 59 => 3#32
  | 60 => 3#32
  | 61 => 4#32
  | 62 => 4#32
  | 63 => 3#32
  | 64 => 1#32
  | 65 => 4#32
  | 66 => 0#32
  | 67 => 2#32
  | 68 => 4#32
  | 69 => 2#32
  | 70 => 0#32
  | 71 => 0#32
  | 72 => 2#32
  | 73 => 4#32
  | 74 => 3#32
  | 75 => 1#32
  | 76 => 0#32
  | 77 => 1#32
  | 78 => 1#32
  | 79 => 4#32
  | 80 => 2#32
  | 81 => 0#32
  | 82 => 2#32
  | 83 => 0#32
  | 84 => 1#32
  | 85 => 4#32
  | 86 => 1#32
  | 87 => 3#32
  | 88 => 4#32
  | 89 => 4#32
  | 90 => 4#32
  | 91 => 1#32
  | 92 => 4#32
  | 93 => 0#32
  | 94 => 2#32
  | 95 => 4#32
  | 96 => 4#32
  | 97 => 4#32
  | 98 => 0#32
  | 99 => 3#32
  | 100 => 2#32
  | 101 => 3#32
  | 102 => 1#32
  | 103 => 1#32
  | 104 => 4#32
  | 105 => 4#32
  | 106 => 1#32
  | 107 => 0#32
  | 108 => 4#32
  | 109 => 2#32
  | 110 => 4#32
  | 111 => 3#32
  | 112 => 0#32
  | 113 => 0#32
  | 114 => 3#32
  | 115 => 4#32
  | 116 => 0#32
  | 117 => 1#32
  | 118 => 4#32
  | 119 => 4#32
  | 120 => 4#32
  | 121 => 0#32
  | 122 => 2#32
  | 123 => 4#32
  | 124 => 3#32
  | 125 => 3#32
  | 126 => 2#32
  | 127 => 4#32
  | _ => 0#32

noncomputable abbrev lit0t0_35 (i : Nat) : BitVec 32 := match i % 128 with
  | 0 => 4#32
  | 1 => 2#32
  | 2 => 4#32
  | 3 => 4#32
  | 4 => 2#32
  | 5 => 1#32
  | 6 => 0#32
  | 7 => 3#32
  | 8 => 0#32
  | 9 => 4#32
  | 10 => 2#32
  | 11 => 2#32
  | 12 => 1#32
  | 13 => 1#32
  | 14 => 4#32
  | 15 => 3#32
  | 16 => 1#32
  | 17 => 3#32
  | 18 => 0#32
  | 19 => 1#32
  | 20 => 1#32
  | 21 => 0#32
  | 22 => 4#32
  | 23 => 3#32
  | 24 => 3#32
  | 25 => 1#32
  | 26 => 3#32
  | 27 => 1#32
  | 28 => 1#32
  | 29 => 2#32
  | 30 => 1#32
  | 31 => 0#32
  | 32 => 4#32
  | 33 => 0#32
  | 34 => 4#32
  | 35 => 1#32
  | 36 => 1#32
  | 37 => 3#32
  | 38 => 0#32
  | 39 => 0#32
  | 40 => 1#32
  | 41 => 3#32
  | 42 => 4#32
  | 43 => 1#32
  | 44 => 2#32
  | 45 => 1#32
  | 46 => 4#32
  | 47 => 0#32
  | 48 => 4#32
  | 49 => 3#32
  | 50 => 1#32
  | 51 => 1#32
  | 52 => 2#32
  | 53 => 1#32
  | 54 => 3#32
  | 55 => 3#32
  | 56 => 1#32
  | 57 => 0#32
  | 58 => 3#32
  | 59 => 2#32
  | 60 => 2#32
  | 61 => 4#32
  | 62 => 2#32
  | 63 => 1#32
  | 64 => 4#32
  | 65 => 0#32
  | 66 => 1#32
  | 67 => 4#32
  | 68 => 0#32
  | 69 => 2#32
  | 70 => 2#32
  | 71 => 2#32
  | 72 => 0#32
  | 73 => 0#32
  | 74 => 2#32
  | 75 => 1#32
  | 76 => 2#32
  | 77 => 1#32
  | 78 => 3#32
  | 79 => 1#32
  | 80 => 1#32
  | 81 => 2#32
  | 82 => 3#32
  | 83 => 4#32
  | 84 => 3#32
  | 85 => 0#32
  | 86 => 2#32
  | 87 => 3#32
  | 88 => 4#32
  | 89 => 2#32
  | 90 => 4#32
  | 91 => 3#32
  | 92 => 3#32
  | 93 => 2#32
  | 94 => 3#32
  | 95 => 1#32
  | 96 => 2#32
  | 97 => 3#32
  | 98 => 3#32
  | 99 => 0#32
  | 100 => 1#32
  | 101 => 3#32
  | 102 => 4#32
  | 103 => 4#32
  | 104 => 1#32
  | 105 => 3#32
  | 106 => 4#32
  | 107 => 4#32
  | 108 => 0#32
  | 109 => 1#32
  | 110 => 0#32
  | 111 => 2#32
  | 112 => 0#32
  | 113 => 1#32
  | 114 => 2#32
  | 115 => 1#32
  | 116 => 1#32
  | 117 => 3#32
  | 118 => 4#32
  | 119 => 0#32
  | 120 => 1#32
  | 121 => 1#32
  | 122 => 4#32
  | 123 => 3#32
  | 124 => 3#32
  | 125 => 0#32
  | 126 => 0#32
  | 127 => 4#32
  | _ => 0#32

noncomputable abbrev lit0t0_36 (i : Nat) : BitVec 32 := match i % 128 with
  | 0 => 4#32
  | 1 => 2#32
  | 2 => 0#32
  | 3 => 3#32
  | 4 => 2#32
  | 5 => 1#32
  | 6 => 1#32
  | 7 => 4#32
  | 8 => 1#32
  | 9 => 4#32
  | 10 => 0#32
  | 11 => 0#32
  | 12 => 0#32
  | 13 => 4#32
  | 14 => 2#32
  | 15 => 2#32
  | 16 => 4#32
  | 17 => 0#32
  | 18 => 4#32
  | 19 => 0#32
  | 20 => 4#32
  | 21 => 4#32
  | 22 => 2#32
  | 23 => 0#32
  | 24 => 3#32
  | 25 => 3#32
  | 26 => 0#32
  | 27 => 0#32
  | 28 => 1#32
  | 29 => 3#32
  | 30 => 4#32
  | 31 => 1#32
  | 32 => 2#32
  | 33 => 1#32
  | 34 => 3#32
  | 35 => 0#32
  | 36 => 2#32
  | 37 => 2#32
  | 38 => 0#32
  | 39 => 3#32
  | 40 => 2#32
  | 41 => 1#32
  | 42 => 1#32
  | 43 => 3#32
  | 44 => 3#32
  | 45 => 4#32
  | 46 => 0#32
  | 47 => 3#32
  | 48 => 2#32
  | 49 => 4#32
  | 50 => 1#32
  | 51 => 0#32
  | 52 => 2#32
  | 53 => 2#32
  | 54 => 0#32
  | 55 => 1#32
  | 56 => 3#32
  | 57 => 4#32
  | 58 => 3#32
  | 59 => 0#32
  | 60 => 1#32
  | 61 => 3#32
  | 62 => 4#32
  | 63 => 4#32
  | 64 => 0#32
  | 65 => 3#32
  | 66 => 3#32
  | 67 => 3#32
  | 68 => 3#32
  | 69 => 1#32
  | 70 => 4#32
  | 71 => 2#32
  | 72 => 2#32
  | 73 => 2#32
  | 74 => 4#32
  | 75 => 3#32
  | 76 => 0#32
  | 77 => 1#32
  | 78 => 2#32
  | 79 => 1#32
  | 80 => 0#32
  | 81 => 3#32
  | 82 => 3#32
  | 83 => 3#32
  | 84 => 0#32
  | 85 => 3#32
  | 86 => 2#32
  | 87 => 4#32
  | 88 => 2#32
  | 89 => 0#32
  | 90 => 1#32
  | 91 => 3#32
  | 92 => 1#32
  | 93 => 4#32
  | 94 => 3#32
  | 95 => 4#32
  | 96 => 2#32
  | 97 => 4#32
  | 98 => 2#32
  | 99 => 3#32
  | 100 => 2#32
  | 101 => 1#32
  | 102 => 2#32
  | 103 => 2#32
  | 104 => 3#32
  | 105 => 2#32
  | 106 => 3#32
  | 107 => 3#32
  | 108 => 4#32
  | 109 => 1#32
  | 110 => 3#32
  | 111 => 2#32
  | 112 => 1#32
  | 113 => 0#32
  | 114 => 4#32
  | 115 => 2#32
  | 116 => 0#32
  | 117 => 3#32
  | 118 => 2#32
  | 119 => 2#32
  | 120 => 3#32
  | 121 => 0#32
  | 122 => 1#32
  | 123 => 0#32
  | 124 => 3#32
  | 125 => 3#32
  | 126 => 2#32
  | 127 => 3#32
  | _ => 0#32

noncomputable abbrev lit0t0_37 (i : Nat) : BitVec 32 := match i % 128 with
  | 0 => 4#32
  | 1 => 1#32
  | 2 => 0#32
  | 3 => 1#32
  | 4 => 4#32
  | 5 => 3#32
  | 6 => 0#32
  | 7 => 4#32
  | 8 => 1#32
  | 9 => 0#32
  | 10 => 3#32
  | 11 => 2#32
  | 12 => 4#32
  | 13 => 4#32
  | 14 => 1#32
  | 15 => 2#32
  | 16 => 0#32
  | 17 => 2#32
  | 18 => 4#32
  | 19 => 0#32
  | 20 => 0#32
  | 21 => 4#32
  | 22 => 1#32
  | 23 => 4#32
  | 24 => 3#32
  | 25 => 3#32
  | 26 => 0#32
  | 27 => 2#32
  | 28 => 3#32
  | 29 => 2#32
  | 30 => 3#32
  | 31 => 4#32
  | 32 => 4#32
  | 33 => 0#32
  | 34 => 0#32
  | 35 => 4#32
  | 36 => 1#32
  | 37 => 1#32
  | 38 => 3#32
  | 39 => 2#32
  | 40 => 1#32
  | 41 => 0#32
  | 42 => 0#32
  | 43 => 3#32
  | 44 => 1#32
  | 45 => 0#32
  | 46 => 3#32
  | 47 => 4#32
  | 48 => 3#32
  | 49 => 3#32
  | 50 => 1#32
  | 51 => 3#32
  | 52 => 4#32
  | 53 => 2#32
  | 54 => 1#32
  | 55 => 0#32
  | 56 => 4#32
  | 57 => 4#32
  | 58 => 0#32
  | 59 => 3#32
  | 60 => 0#32
  | 61 => 2#32
  | 62 => 1#32
  | 63 => 3#32
  | 64 => 3#32
  | 65 => 4#32
  | 66 => 2#32
  | 67 => 4#32
  | 68 => 1#32
  | 69 => 2#32
  | 70 => 3#32
  | 71 => 2#32
  | 72 => 4#32
  | 73 => 2#32
  | 74 => 0#32
  | 75 => 2#32
  | 76 => 0#32
  | 77 => 1#32
  | 78 => 1#32
  | 79 => 3#32
  | 80 => 3#32
  | 81 => 2#32
  | 82 => 0#32
  | 83 => 2#32
  | 84 => 4#32
  | 85 => 0#32
  | 86 => 3#32
  | 87 => 1#32
  | 88 => 4#32
  | 89 => 0#32
  | 90 => 0#32
  | 91 => 4#32
  | 92 => 4#32
  | 93 => 1#32
  | 94 => 4#32
  | 95 => 0#32
  | 96 => 2#32
  | 97 => 0#32
  | 98 => 4#32
  | 99 => 2#32
  | 100 => 1#32
  | 101 => 0#32
  | 102 => 4#32
  | 103 => 1#32
  | 104 => 1#32
  | 105 => 3#32
  | 106 => 2#32
  | 107 => 1#32
  | 108 => 1#32
  | 109 => 0#32
  | 110 => 4#32
  | 111 => 0#32
  | 112 => 4#32
  | 113 => 2#32
  | 114 => 1#32
  | 115 => 4#32
  | 116 => 2#32
  | 117 => 2#32
  | 118 => 3#32
  | 119 => 2#32
  | 120 => 1#32
  | 121 => 0#32
  | 122 => 0#32
  | 123 => 3#32
  | 124 => 1#32
  | 125 => 1#32
  | 126 => 0#32
  | 127 => 3#32
  | _ => 0#32

noncomputable abbrev lit0t0_38 (i : Nat) : BitVec 32 := match i % 128 with
  | 0 => 4#32
  | 1 => 2#32
  | 2 => 4#32
  | 3 => 4#32
  | 4 => 0#32
  | 5 => 2#32
  | 6 => 4#32
  | 7 => 0#32
  | 8 => 0#32
  | 9 => 2#32
  | 10 => 4#32
  | 11 => 2#32
  | 12 => 4#32
  | 13 => 0#32
  | 14 => 1#32
  | 15 => 4#32
  | 16 => 1#32
  | 17 => 4#32
  | 18 => 0#32
  | 19 => 3#32
  | 20 => 4#32
  | 21 => 4#32
  | 22 => 2#32
  | 23 => 4#32
  | 24 => 0#32
  | 25 => 3#32
  | 26 => 4#32
  | 27 => 4#32
  | 28 => 0#32
  | 29 => 3#32
  | 30 => 1#32
  | 31 => 3#32
  | 32 => 2#32
  | 33 => 4#32
  | 34 => 1#32
  | 35 => 0#32
  | 36 => 1#32
  | 37 => 0#32
  | 38 => 0#32
  | 39 => 1#32
  | 40 => 4#32
  | 41 => 4#32
  | 42 => 4#32
  | 43 => 0#32
  | 44 => 2#32
  | 45 => 4#32
  | 46 => 4#32
  | 47 => 1#32
  | 48 => 1#32
  | 49 => 1#32
  | 50 => 1#32
  | 51 => 1#32
  | 52 => 4#32
  | 53 => 4#32
  | 54 => 4#32
  | 55 => 0#32
  | 56 => 3#32
  | 57 => 2#32
  | 58 => 4#32
  | 59 => 0#32
  | 60 => 2#32
  | 61 => 2#32
  | 62 => 2#32
  | 63 => 1#32
  | 64 => 3#32
  | 65 => 4#32
  | 66 => 2#32
  | 67 => 4#32
  | 68 => 3#32
  | 69 => 2#32
  | 70 => 3#32
  | 71 => 0#32
  | 72 => 4#32
  | 73 => 4#32
  | 74 => 0#32
  | 75 => 4#32
  | 76 => 1#32
  | 77 => 3#32
  | 78 => 2#32
  | 79 => 1#32
  | 80 => 1#32
  | 81 => 2#32
  | 82 => 3#32
  | 83 => 2#32
  | 84 => 4#32
  | 85 => 2#32
  | 86 => 0#32
  | 87 => 1#32
  | 88 => 2#32
  | 89 => 2#32
  | 90 => 1#32
  | 91 => 4#32
  | 92 => 4#32
  | 93 => 0#32
  | 94 => 4#32
  | 95 => 4#32
  | 96 => 4#32
  | 97 => 4#32
  | 98 => 2#32
  | 99 => 3#32
  | 100 => 3#32
  | 101 => 4#32
  | 102 => 1#32
  | 103 => 3#32
  | 104 => 4#32
  | 105 => 0#32
  | 106 => 4#32
  | 107 => 3#32
  | 108 => 1#32
  | 109 => 2#32
  | 110 => 2#32
  | 111 => 4#32
  | 112 => 2#32
  | 113 => 2#32
  | 114 => 0#32
  | 115 => 0#32
  | 116 => 3#32
  | 117 => 2#32
  | 118 => 4#32
  | 119 => 2#32
  | 120 => 0#32
  | 121 => 1#32
  | 122 => 3#32
  | 123 => 1#32
  | 124 => 0#32
  | 125 => 2#32
  | 126 => 0#32
  | 127 => 0#32
  | _ => 0#32

noncomputable abbrev lit0t0_39 (i : Nat) : BitVec 32 := match i % 128 with
  | 0 => 0#32
  | 1 => 0#32
  | 2 => 4#32
  | 3 => 1#32
  | 4 => 3#32
  | 5 => 4#32
  | 6 => 2#32
  | 7 => 0#32
  | 8 => 2#32
  | 9 => 3#32
  | 10 => 4#32
  | 11 => 1#32
  | 12 => 1#32
  | 13 => 2#32
  | 14 => 0#32
  | 15 => 1#32
  | 16 => 0#32
  | 17 => 1#32
  | 18 => 1#32
  | 19 => 0#32
  | 20 => 4#32
  | 21 => 0#32
  | 22 => 0#32
  | 23 => 2#32
  | 24 => 1#32
  | 25 => 0#32
  | 26 => 2#32
  | 27 => 4#32
  | 28 => 0#32
  | 29 => 4#32
  | 30 => 2#32
  | 31 => 0#32
  | 32 => 4#32
  | 33 => 0#32
  | 34 => 0#32
  | 35 => 0#32
  | 36 => 2#32
  | 37 => 3#32
  | 38 => 4#32
  | 39 => 4#32
  | 40 => 4#32
  | 41 => 1#32
  | 42 => 0#32
  | 43 => 0#32
  | 44 => 3#32
  | 45 => 0#32
  | 46 => 2#32
  | 47 => 2#32
  | 48 => 1#32
  | 49 => 2#32
  | 50 => 4#32
  | 51 => 2#32
  | 52 => 4#32
  | 53 => 4#32
  | 54 => 1#32
  | 55 => 4#32
  | 56 => 4#32
  | 57 => 4#32
  | 58 => 0#32
  | 59 => 2#32
  | 60 => 1#32
  | 61 => 0#32
  | 62 => 3#32
  | 63 => 2#32
  | 64 => 4#32
  | 65 => 2#32
  | 66 => 4#32
  | 67 => 1#32
  | 68 => 3#32
  | 69 => 1#32
  | 70 => 1#32
  | 71 => 2#32
  | 72 => 1#32
  | 73 => 1#32
  | 74 => 1#32
  | 75 => 0#32
  | 76 => 4#32
  | 77 => 2#32
  | 78 => 1#32
  | 79 => 2#32
  | 80 => 4#32
  | 81 => 4#32
  | 82 => 1#32
  | 83 => 1#32
  | 84 => 3#32
  | 85 => 2#32
  | 86 => 2#32
  | 87 => 3#32
  | 88 => 4#32
  | 89 => 1#32
  | 90 => 2#32
  | 91 => 0#32
  | 92 => 3#32
  | 93 => 2#32
  | 94 => 4#32
  | 95 => 4#32
  | 96 => 4#32
  | 97 => 2#32
  | 98 => 4#32
  | 99 => 0#32
  | 100 => 3#32
  | 101 => 1#32
  | 102 => 2#32
  | 103 => 0#32
  | 104 => 2#32
  | 105 => 0#32
  | 106 => 3#32
  | 107 => 4#32
  | 108 => 4#32
  | 109 => 2#32
  | 110 => 2#32
  | 111 => 3#32
  | 112 => 0#32
  | 113 => 0#32
  | 114 => 1#32
  | 115 => 0#32
  | 116 => 0#32
  | 117 => 3#32
  | 118 => 4#32
  | 119 => 0#32
  | 120 => 1#32
  | 121 => 4#32
  | 122 => 1#32
  | 123 => 4#32
  | 124 => 2#32
  | 125 => 3#32
  | 126 => 0#32
  | 127 => 2#32
  | _ => 0#32

noncomputable abbrev lit0t0_40 (i : Nat) : BitVec 32 := match i % 128 with
  | 0 => 4#32
  | 1 => 0#32
  | 2 => 2#32
  | 3 => 3#32
  | 4 => 1#32
  | 5 => 2#32
  | 6 => 0#32
  | 7 => 2#32
  | 8 => 4#32
  | 9 => 4#32
  | 10 => 4#32
  | 11 => 0#32
  | 12 => 3#32
  | 13 => 4#32
  | 14 => 3#32
  | 15 => 0#32
  | 16 => 1#32
  | 17 => 1#32
  | 18 => 0#32
  | 19 => 2#32
  | 20 => 0#32
  | 21 => 1#32
  | 22 => 4#32
  | 23 => 4#32
  | 24 => 3#32
  | 25 => 0#32
  | 26 => 3#32
  | 27 => 1#32
  | 28 => 4#32
  | 29 => 4#32
  | 30 => 1#32
  | 31 => 4#32
  | 32 => 2#32
  | 33 => 3#32
  | 34 => 2#32
  | 35 => 4#32
  | 36 => 4#32
  | 37 => 2#32
  | 38 => 0#32
  | 39 => 1#32
  | 40 => 2#32
  | 41 => 4#32
  | 42 => 2#32
  | 43 => 4#32
  | 44 => 2#32
  | 45 => 3#32
  | 46 => 3#32
  | 47 => 1#32
  | 48 => 2#32
  | 49 => 4#32
  | 50 => 4#32
  | 51 => 3#32
  | 52 => 4#32
  | 53 => 3#32
  | 54 => 3#32
  | 55 => 0#32
  | 56 => 0#32
  | 57 => 4#32
  | 58 => 1#32
  | 59 => 1#32
  | 60 => 3#32
  | 61 => 4#32
  | 62 => 2#32
  | 63 => 0#32
  | 64 => 0#32
  | 65 => 4#32
  | 66 => 4#32
  | 67 => 1#32
  | 68 => 0#32
  | 69 => 1#32
  | 70 => 0#32
  | 71 => 3#32
  | 72 => 2#32
  | 73 => 3#32
  | 74 => 1#32
  | 75 => 4#32
  | 76 => 2#32
  | 77 => 0#32
  | 78 => 3#32
  | 79 => 4#32
  | 80 => 2#32
  | 81 => 3#32
  | 82 => 2#32
  | 83 => 2#32
  | 84 => 2#32
  | 85 => 2#32
  | 86 => 4#32
  | 87 => 4#32
  | 88 => 4#32
  | 89 => 3#32
  | 90 => 1#32
  | 91 => 4#32
  | 92 => 3#32
  | 93 => 1#32
  | 94 => 0#32
  | 95 => 1#32
  | 96 => 1#32
  | 97 => 0#32
  | 98 => 2#32
  | 99 => 3#32
  | 100 => 3#32
  | 101 => 3#32
  | 102 => 2#32
  | 103 => 4#32
  | 104 => 0#32
  | 105 => 3#32
  | 106 => 1#32
  | 107 => 1#32
  | 108 => 3#32
  | 109 => 1#32
  | 110 => 2#32
  | 111 => 2#32
  | 112 => 3#32
  | 113 => 1#32
  | 114 => 0#32
  | 115 => 2#32
  | 116 => 1#32
  | 117 => 4#32
  | 118 => 0#32
  | 119 => 3#32
  | 120 => 0#32
  | 121 => 2#32
  | 122 => 0#32
  | 123 => 1#32
  | 124 => 2#32
  | 125 => 1#32
  | 126 => 3#32
  | 127 => 4#32
  | _ => 0#32

noncomputable abbrev lit0t0_41 (i : Nat) : BitVec 32 := match i % 128 with
  | 0 => 1#32
  | 1 => 3#32
  | 2 => 2#32
  | 3 => 4#32
  | 4 => 0#32
  | 5 => 1#32
  | 6 => 3#32
  | 7 => 1#32
  | 8 => 2#32
  | 9 => 1#32
  | 10 => 1#32
  | 11 => 2#32
  | 12 => 2#32
  | 13 => 3#32
  | 14 => 4#32
  | 15 => 3#32
  | 16 => 1#32
  | 17 => 0#32
  | 18 => 3#32
  | 19 => 0#32
  | 20 => 2#32
  | 21 => 1#32
  | 22 => 3#32
  | 23 => 4#32
  | 24 => 1#32
  | 25 => 3#32
  | 26 => 3#32
  | 27 => 0#32
  | 28 => 1#32
  | 29 => 1#32
  | 30 => 4#32
  | 31 => 2#32
  | 32 => 3#32
  | 33 => 4#32
  | 34 => 4#32
  | 35 => 1#32
  | 36 => 3#32
  | 37 => 4#32
  | 38 => 2#32
  | 39 => 3#32
  | 40 => 1#32
  | 41 => 1#32
  | 42 => 0#32
  | 43 => 3#32
  | 44 => 0#32
  | 45 => 3#32
  | 46 => 1#32
  | 47 => 1#32
  | 48 => 1#32
  | 49 => 4#32
  | 50 => 1#32
  | 51 => 2#32
  | 52 => 1#32
  | 53 => 0#32
  | 54 => 3#32
  | 55 => 3#32
  | 56 => 4#32
  | 57 => 3#32
  | 58 => 0#32
  | 59 => 4#32
  | 60 => 3#32
  | 61 => 2#32
  | 62 => 2#32
  | 63 => 0#32
  | 64 => 3#32
  | 65 => 3#32
  | 66 => 2#32
  | 67 => 4#32
  | 68 => 1#32
  | 69 => 0#32
  | 70 => 0#32
  | 71 => 2#32
  | 72 => 3#32
  | 73 => 4#32
  | 74 => 3#32
  | 75 => 4#32
  | 76 => 3#32
  | 77 => 1#32
  | 78 => 4#32
  | 79 => 3#32
  | 80 => 2#32
  | 81 => 1#32
  | 82 => 3#32
  | 83 => 0#32
  | 84 => 2#32
  | 85 => 1#32
  | 86 => 0#32
  | 87 => 4#32
  | 88 => 3#32
  | 89 => 2#32
  | 90 => 3#32
  | 91 => 2#32
  | 92 => 3#32
  | 93 => 2#32
  | 94 => 0#32
  | 95 => 1#32
  | 96 => 0#32
  | 97 => 3#32
  | 98 => 2#32
  | 99 => 0#32
  | 100 => 1#32
  | 101 => 0#32
  | 102 => 4#32
  | 103 => 4#32
  | 104 => 2#32
  | 105 => 3#32
  | 106 => 0#32
  | 107 => 2#32
  | 108 => 2#32
  | 109 => 2#32
  | 110 => 4#32
  | 111 => 3#32
  | 112 => 2#32
  | 113 => 2#32
  | 114 => 0#32
  | 115 => 1#32
  | 116 => 0#32
  | 117 => 0#32
  | 118 => 3#32
  | 119 => 1#32
  | 120 => 2#32
  | 121 => 1#32
  | 122 => 2#32
  | 123 => 1#32
  | 124 => 4#32
  | 125 => 0#32
  | 126 => 1#32
  | 127 => 1#32
  | _ => 0#32

noncomputable abbrev lit0t0_42 (i : Nat) : BitVec 32 := match i % 128 with
  | 0 => 0#32
  | 1 => 2#32
  | 2 => 1#32
  | 3 => 4#32
  | 4 => 0#32
  | 5 => 4#32
  | 6 => 3#32
  | 7 => 1#32
  | 8 => 0#32
  | 9 => 4#32
  | 10 => 4#32
  | 11 => 0#32
  | 12 => 0#32
  | 13 => 3#32
  | 14 => 1#32
  | 15 => 2#32
  | 16 => 2#32
  | 17 => 3#32
  | 18 => 3#32
  | 19 => 4#32
  | 20 => 4#32
  | 21 => 4#32
  | 22 => 2#32
  | 23 => 1#32
  | 24 => 4#32
  | 25 => 4#32
  | 26 => 2#32
  | 27 => 3#32
  | 28 => 4#32
  | 29 => 1#32
  | 30 => 4#32
  | 31 => 0#32
  | 32 => 3#32
  | 33 => 2#32
  | 34 => 4#32
  | 35 => 0#32
  | 36 => 4#32
  | 37 => 3#32
  | 38 => 1#32
  | 39 => 1#32
  | 40 => 4#32
  | 41 => 2#32
  | 42 => 0#32
  | 43 => 4#32
  | 44 => 0#32
  | 45 => 1#32
  | 46 => 2#32
  | 47 => 4#32
  | 48 => 3#32
  | 49 => 0#32
  | 50 => 2#32
  | 51 => 2#32
  | 52 => 4#32
  | 53 => 2#32
  | 54 => 1#32
  | 55 => 2#32
  | 56 => 4#32
  | 57 => 3#32
  | 58 => 1#32
  | 59 => 0#32
  | 60 => 0#32
  | 61 => 1#32
  | 62 => 4#32
  | 63 => 1#32
  | 64 => 1#32
  | 65 => 2#32
  | 66 => 3#32
  | 67 => 2#32
  | 68 => 2#32
  | 69 => 4#32
  | 70 => 0#32
  | 71 => 3#32
  | 72 => 4#32
  | 73 => 2#32
  | 74 => 3#32
  | 75 => 1#32
  | 76 => 1#32
  | 77 => 2#32
  | 78 => 3#32
  | 79 => 2#32
  | 80 => 0#32
  | 81 => 0#32
  | 82 => 3#32
  | 83 => 1#32
  | 84 => 0#32
  | 85 => 0#32
  | 86 => 1#32
  | 87 => 1#32
  | 88 => 2#32
  | 89 => 0#32
  | 90 => 4#32
  | 91 => 0#32
  | 92 => 1#32
  | 93 => 1#32
  | 94 => 3#32
  | 95 => 1#32
  | 96 => 1#32
  | 97 => 1#32
  | 98 => 2#32
  | 99 => 2#32
  | 100 => 3#32
  | 101 => 0#32
  | 102 => 0#32
  | 103 => 1#32
  | 104 => 0#32
  | 105 => 1#32
  | 106 => 2#32
  | 107 => 1#32
  | 108 => 4#32
  | 109 => 2#32
  | 110 => 3#32
  | 111 => 2#32
  | 112 => 0#32
  | 113 => 4#32
  | 114 => 0#32
  | 115 => 0#32
  | 116 => 0#32
  | 117 => 3#32
  | 118 => 0#32
  | 119 => 4#32
  | 120 => 4#32
  | 121 => 1#32
  | 122 => 3#32
  | 123 => 4#32
  | 124 => 4#32
  | 125 => 0#32
  | 126 => 0#32
  | 127 => 0#32
  | _ => 0#32

noncomputable abbrev lit0t0_43 (i : Nat) : BitVec 32 := match i % 128 with
  | 0 => 2#32
  | 1 => 0#32
  | 2 => 2#32
  | 3 => 3#32
  | 4 => 0#32
  | 5 => 2#32
  | 6 => 0#32
  | 7 => 1#32
  | 8 => 0#32
  | 9 => 2#32
  | 10 => 0#32
  | 11 => 0#32
  | 12 => 3#32
  | 13 => 3#32
  | 14 => 0#32
  | 15 => 3#32
  | 16 => 1#32
  | 17 => 2#32
  | 18 => 3#32
  | 19 => 1#32
  | 20 => 3#32
  | 21 => 3#32
  | 22 => 4#32
  | 23 => 2#32
  | 24 => 0#32
  | 25 => 1#32
  | 26 => 4#32
  | 27 => 1#32
  | 28 => 2#32
  | 29 => 1#32
  | 30 => 3#32
  | 31 => 1#32
  | 32 => 2#32
  | 33 => 3#32
  | 34 => 0#32
  | 35 => 2#32
  | 36 => 4#32
  | 37 => 4#32
  | 38 => 1#32
  | 39 => 2#32
  | 40 => 1#32
  | 41 => 3#32
  | 42 => 4#32
  | 43 => 0#32
  | 44 => 4#32
  | 45 => 1#32
  | 46 => 3#32
  | 47 => 2#32
  | 48 => 0#32
  | 49 => 3#32
  | 50 => 4#32
  | 51 => 3#32
  | 52 => 1#32
  | 53 => 4#32
  | 54 => 2#32
  | 55 => 2#32
  | 56 => 4#32
  | 57 => 4#32
  | 58 => 4#32
  | 59 => 0#32
  | 60 => 4#32
  | 61 => 2#32
  | 62 => 3#32
  | 63 => 0#32
  | 64 => 1#32
  | 65 => 1#32
  | 66 => 1#32
  | 67 => 0#32
  | 68 => 3#32
  | 69 => 0#32
  | 70 => 0#32
  | 71 => 1#32
  | 72 => 4#32
  | 73 => 3#32
  | 74 => 3#32
  | 75 => 3#32
  | 76 => 0#32
  | 77 => 3#32
  | 78 => 3#32
  | 79 => 2#32
  | 80 => 3#32
  | 81 => 3#32
  | 82 => 2#32
  | 83 => 1#32
  | 84 => 0#32
  | 85 => 1#32
  | 86 => 4#32
  | 87 => 2#32
  | 88 => 4#32
  | 89 => 4#32
  | 90 => 3#32
  | 91 => 0#32
  | 92 => 2#32
  | 93 => 3#32
  | 94 => 2#32
  | 95 => 1#32
  | 96 => 1#32
  | 97 => 4#32
  | 98 => 1#32
  | 99 => 4#32
  | 100 => 3#32
  | 101 => 2#32
  | 102 => 2#32
  | 103 => 4#32
  | 104 => 4#32
  | 105 => 3#32
  | 106 => 2#32
  | 107 => 4#32
  | 108 => 3#32
  | 109 => 4#32
  | 110 => 1#32
  | 111 => 3#32
  | 112 => 1#32
  | 113 => 2#32
  | 114 => 1#32
  | 115 => 2#32
  | 116 => 4#32
  | 117 => 2#32
  | 118 => 0#32
  | 119 => 4#32
  | 120 => 3#32
  | 121 => 2#32
  | 122 => 1#32
  | 123 => 2#32
  | 124 => 1#32
  | 125 => 1#32
  | 126 => 4#32
  | 127 => 3#32
  | _ => 0#32

noncomputable abbrev lit0t0_44 (i : Nat) : BitVec 32 := match i % 128 with
  | 0 => 3#32
  | 1 => 2#32
  | 2 => 4#32
  | 3 => 1#32
  | 4 => 4#32
  | 5 => 4#32
  | 6 => 2#32
  | 7 => 0#32
  | 8 => 0#32
  | 9 => 1#32
  | 10 => 0#32
  | 11 => 1#32
  | 12 => 3#32
  | 13 => 2#32
  | 14 => 0#32
  | 15 => 4#32
  | 16 => 3#32
  | 17 => 3#32
  | 18 => 1#32
  | 19 => 4#32
  | 20 => 3#32
  | 21 => 1#32
  | 22 => 2#32
  | 23 => 4#32
  | 24 => 3#32
  | 25 => 2#32
  | 26 => 4#32
  | 27 => 4#32
  | 28 => 1#32
  | 29 => 4#32
  | 30 => 1#32
  | 31 => 3#32
  | 32 => 3#32
  | 33 => 1#32
  | 34 => 3#32
  | 35 => 0#32
  | 36 => 4#32
  | 37 => 1#32
  | 38 => 1#32
  | 39 => 2#32
  | 40 => 0#32
  | 41 => 1#32
  | 42 => 4#32
  | 43 => 4#32
  | 44 => 4#32
  | 45 => 0#32
  | 46 => 0#32
  | 47 => 3#32
  | 48 => 3#32
  | 49 => 0#32
  | 50 => 1#32
  | 51 => 2#32
  | 52 => 2#32
  | 53 => 0#32
  | 54 => 4#32
  | 55 => 4#32
  | 56 => 1#32
  | 57 => 4#32
  | 58 => 2#32
  | 59 => 3#32
  | 60 => 3#32
  | 61 => 0#32
  | 62 => 4#32
  | 63 => 1#32
  | 64 => 3#32
  | 65 => 0#32
  | 66 => 3#32
  | 67 => 1#32
  | 68 => 4#32
  | 69 => 4#32
  | 70 => 2#32
  | 71 => 0#32
  | 72 => 0#32
  | 73 => 4#32
  | 74 => 3#32
  | 75 => 2#32
  | 76 => 0#32
  | 77 => 3#32
  | 78 => 3#32
  | 79 => 2#32
  | 80 => 3#32
  | 81 => 3#32
  | 82 => 3#32
  | 83 => 2#32
  | 84 => 3#32
  | 85 => 4#32
  | 86 => 0#32
  | 87 => 2#32
  | 88 => 3#32
  | 89 => 0#32
  | 90 => 1#32
  | 91 => 0#32
  | 92 => 0#32
  | 93 => 2#32
  | 94 => 4#32
  | 95 => 0#32
  | 96 => 4#32
  | 97 => 3#32
  | 98 => 0#32
  | 99 => 1#32
  | 100 => 3#32
  | 101 => 4#32
  | 102 => 4#32
  | 103 => 2#32
  | 104 => 1#32
  | 105 => 0#32
  | 106 => 0#32
  | 107 => 0#32
  | 108 => 1#32
  | 109 => 1#32
  | 110 => 3#32
  | 111 => 0#32
  | 112 => 2#32
  | 113 => 4#32
  | 114 => 1#32
  | 115 => 0#32
  | 116 => 2#32
  | 117 => 1#32
  | 118 => 2#32
  | 119 => 4#32
  | 120 => 0#32
  | 121 => 1#32
  | 122 => 4#32
  | 123 => 4#32
  | 124 => 4#32
  | 125 => 3#32
  | 126 => 2#32
  | 127 => 2#32
  | _ => 0#32

noncomputable abbrev lit0t0_45 (i : Nat) : BitVec 32 := match i % 128 with
  | 0 => 2#32
  | 1 => 4#32
  | 2 => 0#32
  | 3 => 4#32
  | 4 => 2#32
  | 5 => 1#32
  | 6 => 2#32
  | 7 => 3#32
  | 8 => 0#32
  | 9 => 4#32
  | 10 => 1#32
  | 11 => 2#32
  | 12 => 0#32
  | 13 => 1#32
  | 14 => 0#32
  | 15 => 4#32
  | 16 => 0#32
  | 17 => 1#32
  | 18 => 2#32
  | 19 => 1#32
  | 20 => 1#32
  | 21 => 1#32
  | 22 => 3#32
  | 23 => 1#32
  | 24 => 3#32
  | 25 => 0#32
  | 26 => 0#32
  | 27 => 1#32
  | 28 => 3#32
  | 29 => 2#32
  | 30 => 1#32
  | 31 => 1#32
  | 32 => 3#32
  | 33 => 3#32
  | 34 => 4#32
  | 35 => 1#32
  | 36 => 1#32
  | 37 => 2#32
  | 38 => 4#32
  | 39 => 3#32
  | 40 => 0#32
  | 41 => 2#32
  | 42 => 0#32
  | 43 => 2#32
  | 44 => 1#32
  | 45 => 0#32
  | 46 => 0#32
  | 47 => 2#32
  | 48 => 1#32
  | 49 => 3#32
  | 50 => 3#32
  | 51 => 4#32
  | 52 => 2#32
  | 53 => 2#32
  | 54 => 2#32
  | 55 => 0#32
  | 56 => 0#32
  | 57 => 4#32
  | 58 => 2#32
  | 59 => 1#32
  | 60 => 1#32
  | 61 => 4#32
  | 62 => 0#32
  | 63 => 0#32
  | 64 => 3#32
  | 65 => 3#32
  | 66 => 4#32
  | 67 => 3#32
  | 68 => 2#32
  | 69 => 1#32
  | 70 => 0#32
  | 71 => 2#32
  | 72 => 1#32
  | 73 => 4#32
  | 74 => 2#32
  | 75 => 3#32
  | 76 => 3#32
  | 77 => 1#32
  | 78 => 3#32
  | 79 => 2#32
  | 80 => 1#32
  | 81 => 3#32
  | 82 => 1#32
  | 83 => 4#32
  | 84 => 2#32
  | 85 => 0#32
  | 86 => 1#32
  | 87 => 1#32
  | 88 => 1#32
  | 89 => 1#32
  | 90 => 2#32
  | 91 => 0#32
  | 92 => 4#32
  | 93 => 3#32
  | 94 => 3#32
  | 95 => 0#32
  | 96 => 1#32
  | 97 => 3#32
  | 98 => 1#32
  | 99 => 1#32
  | 100 => 1#32
  | 101 => 2#32
  | 102 => 1#32
  | 103 => 1#32
  | 104 => 4#32
  | 105 => 4#32
  | 106 => 3#32
  | 107 => 0#32
  | 108 => 0#32
  | 109 => 3#32
  | 110 => 2#32
  | 111 => 3#32
  | 112 => 4#32
  | 113 => 0#32
  | 114 => 0#32
  | 115 => 4#32
  | 116 => 0#32
  | 117 => 2#32
  | 118 => 0#32
  | 119 => 2#32
  | 120 => 0#32
  | 121 => 3#32
  | 122 => 0#32
  | 123 => 0#32
  | 124 => 2#32
  | 125 => 0#32
  | 126 => 4#32
  | 127 => 0#32
  | _ => 0#32

noncomputable abbrev lit0t0_46 (i : Nat) : BitVec 32 := match i % 128 with
  | 0 => 3#32
  | 1 => 1#32
  | 2 => 4#32
  | 3 => 1#32
  | 4 => 1#32
  | 5 => 3#32
  | 6 => 3#32
  | 7 => 0#32
  | 8 => 3#32
  | 9 => 2#32
  | 10 => 3#32
  | 11 => 0#32
  | 12 => 4#32
  | 13 => 2#32
  | 14 => 1#32
  | 15 => 1#32
  | 16 => 3#32
  | 17 => 1#32
  | 18 => 3#32
  | 19 => 3#32
  | 20 => 3#32
  | 21 => 2#32
  | 22 => 4#32
  | 23 => 2#32
  | 24 => 2#32
  | 25 => 1#32
  | 26 => 4#32
  | 27 => 1#32
  | 28 => 0#32
  | 29 => 1#32
  | 30 => 2#32
  | 31 => 3#32
  | 32 => 2#32
  | 33 => 4#32
  | 34 => 0#32
  | 35 => 2#32
  | 36 => 1#32
  | 37 => 3#32
  | 38 => 0#32
  | 39 => 1#32
  | 40 => 1#32
  | 41 => 2#32
  | 42 => 0#32
  | 43 => 2#32
  | 44 => 0#32
  | 45 => 4#32
  | 46 => 4#32
  | 47 => 2#32
  | 48 => 3#32
  | 49 => 0#32
  | 50 => 2#32
  | 51 => 0#32
  | 52 => 1#32
  | 53 => 3#32
  | 54 => 0#32
  | 55 => 2#32
  | 56 => 2#32
  | 57 => 4#32
  | 58 => 3#32
  | 59 => 3#32
  | 60 => 0#32
  | 61 => 2#32
  | 62 => 4#32
  | 63 => 2#32
  | 64 => 0#32
  | 65 => 1#32
  | 66 => 4#32
  | 67 => 1#32
  | 68 => 0#32
  | 69 => 2#32
  | 70 => 2#32
  | 71 => 2#32
  | 72 => 0#32
  | 73 => 2#32
  | 74 => 2#32
  | 75 => 4#32
  | 76 => 3#32
  | 77 => 2#32
  | 78 => 3#32
  | 79 => 3#32
  | 80 => 3#32
  | 81 => 4#32
  | 82 => 1#32
  | 83 => 2#32
  | 84 => 4#32
  | 85 => 4#32
  | 86 => 1#32
  | 87 => 3#32
  | 88 => 0#32
  | 89 => 4#32
  | 90 => 0#32
  | 91 => 4#32
  | 92 => 3#32
  | 93 => 3#32
  | 94 => 3#32
  | 95 => 2#32
  | 96 => 0#32
  | 97 => 2#32
  | 98 => 3#32
  | 99 => 2#32
  | 100 => 1#32
  | 101 => 4#32
  | 102 => 0#32
  | 103 => 0#32
  | 104 => 2#32
  | 105 => 2#32
  | 106 => 1#32
  | 107 => 4#32
  | 108 => 1#32
  | 109 => 3#32
  | 110 => 3#32
  | 111 => 3#32
  | 112 => 2#32
  | 113 => 1#32
  | 114 => 1#32
  | 115 => 4#32
  | 116 => 1#32
  | 117 => 3#32
  | 118 => 4#32
  | 119 => 2#32
  | 120 => 1#32
  | 121 => 3#32
  | 122 => 2#32
  | 123 => 4#32
  | 124 => 2#32
  | 125 => 4#32
  | 126 => 3#32
  | 127 => 4#32
  | _ => 0#32

noncomputable abbrev lit0t0_47 (i : Nat) : BitVec 32 := match i % 128 with
  | 0 => 2#32
  | 1 => 2#32
  | 2 => 0#32
  | 3 => 4#32
  | 4 => 3#32
  | 5 => 1#32
  | 6 => 1#32
  | 7 => 0#32
  | 8 => 0#32
  | 9 => 0#32
  | 10 => 4#32
  | 11 => 2#32
  | 12 => 1#32
  | 13 => 2#32
  | 14 => 2#32
  | 15 => 1#32
  | 16 => 3#32
  | 17 => 0#32
  | 18 => 1#32
  | 19 => 3#32
  | 20 => 1#32
  | 21 => 0#32
  | 22 => 3#32
  | 23 => 4#32
  | 24 => 0#32
  | 25 => 0#32
  | 26 => 0#32
  | 27 => 0#32
  | 28 => 4#32
  | 29 => 3#32
  | 30 => 1#32
  | 31 => 0#32
  | 32 => 3#32
  | 33 => 1#32
  | 34 => 4#32
  | 35 => 2#32
  | 36 => 3#32
  | 37 => 1#32
  | 38 => 2#32
  | 39 => 1#32
  | 40 => 1#32
  | 41 => 3#32
  | 42 => 2#32
  | 43 => 1#32
  | 44 => 1#32
  | 45 => 1#32
  | 46 => 3#32
  | 47 => 3#32
  | 48 => 4#32
  | 49 => 3#32
  | 50 => 1#32
  | 51 => 3#32
  | 52 => 1#32
  | 53 => 4#32
  | 54 => 1#32
  | 55 => 2#32
  | 56 => 3#32
  | 57 => 2#32
  | 58 => 1#32
  | 59 => 3#32
  | 60 => 2#32
  | 61 => 0#32
  | 62 => 4#32
  | 63 => 3#32
  | 64 => 3#32
  | 65 => 3#32
  | 66 => 2#32
  | 67 => 4#32
  | 68 => 1#32
  | 69 => 3#32
  | 70 => 0#32
  | 71 => 1#32
  | 72 => 1#32
  | 73 => 2#32
  | 74 => 3#32
  | 75 => 3#32
  | 76 => 1#32
  | 77 => 2#32
  | 78 => 4#32
  | 79 => 0#32
  | 80 => 0#32
  | 81 => 2#32
  | 82 => 4#32
  | 83 => 0#32
  | 84 => 0#32
  | 85 => 3#32
  | 86 => 1#32
  | 87 => 1#32
  | 88 => 3#32
  | 89 => 2#32
  | 90 => 2#32
  | 91 => 3#32
  | 92 => 0#32
  | 93 => 2#32
  | 94 => 1#32
  | 95 => 3#32
  | 96 => 1#32
  | 97 => 1#32
  | 98 => 1#32
  | 99 => 2#32
  | 100 => 4#32
  | 101 => 3#32
  | 102 => 3#32
  | 103 => 0#32
  | 104 => 3#32
  | 105 => 2#32
  | 106 => 0#32
  | 107 => 4#32
  | 108 => 4#32
  | 109 => 1#32
  | 110 => 3#32
  | 111 => 3#32
  | 112 => 1#32
  | 113 => 1#32
  | 114 => 3#32
  | 115 => 0#32
  | 116 => 0#32
  | 117 => 1#32
  | 118 => 0#32
  | 119 => 4#32
  | 120 => 3#32
  | 121 => 0#32
  | 122 => 2#32
  | 123 => 0#32
  | 124 => 0#32
  | 125 => 2#32
  | 126 => 0#32
  | 127 => 3#32
  | _ => 0#32

noncomputable abbrev lit0t0_48 (i : Nat) : BitVec 32 := match i % 128 with
  | 0 => 0#32
  | 1 => 4#32
  | 2 => 3#32
  | 3 => 0#32
  | 4 => 3#32
  | 5 => 3#32
  | 6 => 3#32
  | 7 => 1#32
  | 8 => 4#32
  | 9 => 4#32
  | 10 => 0#32
  | 11 => 3#32
  | 12 => 4#32
  | 13 => 3#32
  | 14 => 4#32
  | 15 => 2#32
  | 16 => 2#32
  | 17 => 2#32
  | 18 => 4#32
  | 19 => 4#32
  | 20 => 4#32
  | 21 => 4#32
  | 22 => 4#32
  | 23 => 0#32
  | 24 => 2#32
  | 25 => 1#32
  | 26 => 3#32
  | 27 => 2#32
  | 28 => 2#32
  | 29 => 3#32
  | 30 => 4#32
  | 31 => 2#32
  | 32 => 2#32
  | 33 => 1#32
  | 34 => 1#32
  | 35 => 2#32
  | 36 => 2#32
  | 37 => 4#32
  | 38 => 0#32
  | 39 => 1#32
  | 40 => 3#32
  | 41 => 1#32
  | 42 => 0#32
  | 43 => 1#32
  | 44 => 0#32
  | 45 => 4#32
  | 46 => 2#32
  | 47 => 2#32
  | 48 => 1#32
  | 49 => 3#32
  | 50 => 1#32
  | 51 => 0#32
  | 52 => 2#32
  | 53 => 2#32
  | 54 => 3#32
  | 55 => 1#32
  | 56 => 2#32
  | 57 => 3#32
  | 58 => 4#32
  | 59 => 2#32
  | 60 => 0#32
  | 61 => 2#32
  | 62 => 2#32
  | 63 => 3#32
  | 64 => 2#32
  | 65 => 1#32
  | 66 => 2#32
  | 67 => 4#32
  | 68 => 3#32
  | 69 => 1#32
  | 70 => 3#32
  | 71 => 0#32
  | 72 => 2#32
  | 73 => 2#32
  | 74 => 4#32
  | 75 => 0#32
  | 76 => 4#32
  | 77 => 4#32
  | 78 => 4#32
  | 79 => 4#32
  | 80 => 0#32
  | 81 => 1#32
  | 82 => 3#32
  | 83 => 0#32
  | 84 => 1#32
  | 85 => 4#32
  | 86 => 4#32
  | 87 => 3#32
  | 88 => 1#32
  | 89 => 4#32
  | 90 => 2#32
  | 91 => 4#32
  | 92 => 2#32
  | 93 => 3#32
  | 94 => 3#32
  | 95 => 1#32
  | 96 => 1#32
  | 97 => 4#32
  | 98 => 4#32
  | 99 => 4#32
  | 100 => 0#32
  | 101 => 4#32
  | 102 => 3#32
  | 103 => 4#32
  | 104 => 2#32
  | 105 => 4#32
  | 106 => 4#32
  | 107 => 2#32
  | 108 => 4#32
  | 109 => 1#32
  | 110 => 0#32
  | 111 => 2#32
  | 112 => 4#32
  | 113 => 0#32
  | 114 => 3#32
  | 115 => 4#32
  | 116 => 2#32
  | 117 => 1#32
  | 118 => 4#32
  | 119 => 1#32
  | 120 => 3#32
  | 121 => 1#32
  | 122 => 3#32
  | 123 => 4#32
  | 124 => 2#32
  | 125 => 4#32
  | 126 => 2#32
  | 127 => 0#32
  | _ => 0#32

noncomputable abbrev lit0t0_49 (i : Nat) : BitVec 32 := match i % 128 with
  | 0 => 3#32
  | 1 => 2#32
  | 2 => 4#32
  | 3 => 0#32
  | 4 => 2#32
  | 5 => 1#32
  | 6 => 0#32
  | 7 => 1#32
  | 8 => 4#32
  | 9 => 4#32
  | 10 => 1#32
  | 11 => 2#32
  | 12 => 1#32
  | 13 => 4#32
  | 14 => 4#32
  | 15 => 3#32
  | 16 => 0#32
  | 17 => 2#32
  | 18 => 0#32
  | 19 => 2#32
  | 20 => 2#32
  | 21 => 0#32
  | 22 => 3#32
  | 23 => 0#32
  | 24 => 0#32
  | 25 => 2#32
  | 26 => 4#32
  | 27 => 0#32
  | 28 => 3#32
  | 29 => 1#32
  | 30 => 3#32
  | 31 => 2#32
  | 32 => 3#32
  | 33 => 1#32
  | 34 => 1#32
  | 35 => 3#32
  | 36 => 1#32
  | 37 => 4#32
  | 38 => 0#32
  | 39 => 0#32
  | 40 => 0#32
  | 41 => 1#32
  | 42 => 4#32
  | 43 => 3#32
  | 44 => 1#32
  | 45 => 1#32
  | 46 => 2#32
  | 47 => 2#32
  | 48 => 2#32
  | 49 => 4#32
  | 50 => 0#32
  | 51 => 4#32
  | 52 => 0#32
  | 53 => 1#32
  | 54 => 0#32
  | 55 => 3#32
  | 56 => 0#32
  | 57 => 2#32
  | 58 => 3#32
  | 59 => 4#32
  | 60 => 2#32
  | 61 => 1#32
  | 62 => 4#32
  | 63 => 3#32
  | 64 => 3#32
  | 65 => 3#32
  | 66 => 0#32
  | 67 => 4#32
  | 68 => 4#32
  | 69 => 4#32
  | 70 => 3#32
  | 71 => 0#32
  | 72 => 0#32
  | 73 => 1#32
  | 74 => 1#32
  | 75 => 4#32
  | 76 => 1#32
  | 77 => 0#32
  | 78 => 1#32
  | 79 => 1#32
  | 80 => 3#32
  | 81 => 0#32
  | 82 => 1#32
  | 83 => 0#32
  | 84 => 1#32
  | 85 => 4#32
  | 86 => 2#32
  | 87 => 1#32
  | 88 => 1#32
  | 89 => 3#32
  | 90 => 1#32
  | 91 => 2#32
  | 92 => 2#32
  | 93 => 3#32
  | 94 => 1#32
  | 95 => 1#32
  | 96 => 0#32
  | 97 => 4#32
  | 98 => 4#32
  | 99 => 4#32
  | 100 => 1#32
  | 101 => 1#32
  | 102 => 2#32
  | 103 => 1#32
  | 104 => 3#32
  | 105 => 4#32
  | 106 => 0#32
  | 107 => 3#32
  | 108 => 0#32
  | 109 => 1#32
  | 110 => 1#32
  | 111 => 1#32
  | 112 => 4#32
  | 113 => 3#32
  | 114 => 0#32
  | 115 => 0#32
  | 116 => 4#32
  | 117 => 2#32
  | 118 => 2#32
  | 119 => 3#32
  | 120 => 2#32
  | 121 => 4#32
  | 122 => 3#32
  | 123 => 1#32
  | 124 => 1#32
  | 125 => 1#32
  | 126 => 2#32
  | 127 => 2#32
  | _ => 0#32

noncomputable abbrev lit0t0_50 (i : Nat) : BitVec 32 := match i % 128 with
  | 0 => 4#32
  | 1 => 4#32
  | 2 => 2#32
  | 3 => 4#32
  | 4 => 1#32
  | 5 => 3#32
  | 6 => 4#32
  | 7 => 1#32
  | 8 => 1#32
  | 9 => 2#32
  | 10 => 4#32
  | 11 => 1#32
  | 12 => 1#32
  | 13 => 0#32
  | 14 => 4#32
  | 15 => 4#32
  | 16 => 4#32
  | 17 => 3#32
  | 18 => 0#32
  | 19 => 1#32
  | 20 => 3#32
  | 21 => 3#32
  | 22 => 1#32
  | 23 => 2#32
  | 24 => 4#32
  | 25 => 4#32
  | 26 => 0#32
  | 27 => 2#32
  | 28 => 3#32
  | 29 => 2#32
  | 30 => 1#32
  | 31 => 4#32
  | 32 => 1#32
  | 33 => 0#32
  | 34 => 2#32
  | 35 => 0#32
  | 36 => 4#32
  | 37 => 2#32
  | 38 => 2#32
  | 39 => 2#32
  | 40 => 0#32
  | 41 => 0#32
  | 42 => 4#32
  | 43 => 4#32
  | 44 => 4#32
  | 45 => 3#32
  | 46 => 1#32
  | 47 => 4#32
  | 48 => 1#32
  | 49 => 0#32
  | 50 => 1#32
  | 51 => 2#32
  | 52 => 0#32
  | 53 => 4#32
  | 54 => 3#32
  | 55 => 3#32
  | 56 => 3#32
  | 57 => 4#32
  | 58 => 1#32
  | 59 => 1#32
  | 60 => 3#32
  | 61 => 1#32
  | 62 => 0#32
  | 63 => 1#32
  | 64 => 3#32
  | 65 => 0#32
  | 66 => 4#32
  | 67 => 2#32
  | 68 => 4#32
  | 69 => 0#32
  | 70 => 0#32
  | 71 => 1#32
  | 72 => 3#32
  | 73 => 4#32
  | 74 => 2#32
  | 75 => 4#32
  | 76 => 3#32
  | 77 => 1#32
  | 78 => 2#32
  | 79 => 0#32
  | 80 => 4#32
  | 81 => 2#32
  | 82 => 0#32
  | 83 => 1#32
  | 84 => 2#32
  | 85 => 0#32
  | 86 => 2#32
  | 87 => 4#32
  | 88 => 3#32
  | 89 => 3#32
  | 90 => 4#32
  | 91 => 4#32
  | 92 => 2#32
  | 93 => 4#32
  | 94 => 2#32
  | 95 => 0#32
  | 96 => 3#32
  | 97 => 3#32
  | 98 => 2#32
  | 99 => 3#32
  | 100 => 3#32
  | 101 => 2#32
  | 102 => 3#32
  | 103 => 4#32
  | 104 => 2#32
  | 105 => 2#32
  | 106 => 4#32
  | 107 => 2#32
  | 108 => 0#32
  | 109 => 4#32
  | 110 => 3#32
  | 111 => 2#32
  | 112 => 2#32
  | 113 => 2#32
  | 114 => 4#32
  | 115 => 0#32
  | 116 => 4#32
  | 117 => 0#32
  | 118 => 1#32
  | 119 => 4#32
  | 120 => 3#32
  | 121 => 2#32
  | 122 => 2#32
  | 123 => 0#32
  | 124 => 4#32
  | 125 => 3#32
  | 126 => 1#32
  | 127 => 3#32
  | _ => 0#32

noncomputable abbrev lit0t0_51 (i : Nat) : BitVec 32 := match i % 128 with
  | 0 => 1#32
  | 1 => 4#32
  | 2 => 4#32
  | 3 => 3#32
  | 4 => 3#32
  | 5 => 3#32
  | 6 => 3#32
  | 7 => 4#32
  | 8 => 0#32
  | 9 => 4#32
  | 10 => 1#32
  | 11 => 0#32
  | 12 => 0#32
  | 13 => 4#32
  | 14 => 2#32
  | 15 => 2#32
  | 16 => 4#32
  | 17 => 2#32
  | 18 => 4#32
  | 19 => 2#32
  | 20 => 4#32
  | 21 => 3#32
  | 22 => 0#32
  | 23 => 2#32
  | 24 => 3#32
  | 25 => 3#32
  | 26 => 0#32
  | 27 => 4#32
  | 28 => 0#32
  | 29 => 1#32
  | 30 => 2#32
  | 31 => 2#32
  | 32 => 1#32
  | 33 => 4#32
  | 34 => 1#32
  | 35 => 1#32
  | 36 => 1#32
  | 37 => 2#32
  | 38 => 3#32
  | 39 => 2#32
  | 40 => 2#32
  | 41 => 2#32
  | 42 => 1#32
  | 43 => 0#32
  | 44 => 0#32
  | 45 => 4#32
  | 46 => 2#32
  | 47 => 1#32
  | 48 => 4#32
  | 49 => 3#32
  | 50 => 0#32
  | 51 => 2#32
  | 52 => 3#32
  | 53 => 3#32
  | 54 => 2#32
  | 55 => 3#32
  | 56 => 2#32
  | 57 => 4#32
  | 58 => 4#32
  | 59 => 1#32
  | 60 => 4#32
  | 61 => 1#32
  | 62 => 0#32
  | 63 => 1#32
  | 64 => 3#32
  | 65 => 3#32
  | 66 => 2#32
  | 67 => 4#32
  | 68 => 2#32
  | 69 => 3#32
  | 70 => 2#32
  | 71 => 4#32
  | 72 => 1#32
  | 73 => 2#32
  | 74 => 1#32
  | 75 => 3#32
  | 76 => 1#32
  | 77 => 1#32
  | 78 => 2#32
  | 79 => 3#32
  | 80 => 1#32
  | 81 => 0#32
  | 82 => 4#32
  | 83 => 1#32
  | 84 => 0#32
  | 85 => 2#32
  | 86 => 0#32
  | 87 => 0#32
  | 88 => 4#32
  | 89 => 1#32
  | 90 => 3#32
  | 91 => 1#32
  | 92 => 3#32
  | 93 => 2#32
  | 94 => 4#32
  | 95 => 1#32
  | 96 => 2#32
  | 97 => 0#32
  | 98 => 1#32
  | 99 => 4#32
  | 100 => 3#32
  | 101 => 4#32
  | 102 => 4#32
  | 103 => 0#32
  | 104 => 1#32
  | 105 => 3#32
  | 106 => 2#32
  | 107 => 4#32
  | 108 => 4#32
  | 109 => 3#32
  | 110 => 1#32
  | 111 => 2#32
  | 112 => 4#32
  | 113 => 4#32
  | 114 => 0#32
  | 115 => 2#32
  | 116 => 4#32
  | 117 => 2#32
  | 118 => 1#32
  | 119 => 4#32
  | 120 => 2#32
  | 121 => 1#32
  | 122 => 4#32
  | 123 => 0#32
  | 124 => 4#32
  | 125 => 0#32
  | 126 => 3#32
  | 127 => 2#32
  | _ => 0#32

noncomputable abbrev lit0t0_52 (i : Nat) : BitVec 32 := match i % 128 with
  | 0 => 4#32
  | 1 => 0#32
  | 2 => 2#32
  | 3 => 2#32
  | 4 => 2#32
  | 5 => 4#32
  | 6 => 3#32
  | 7 => 0#32
  | 8 => 2#32
  | 9 => 3#32
  | 10 => 0#32
  | 11 => 3#32
  | 12 => 2#32
  | 13 => 4#32
  | 14 => 2#32
  | 15 => 3#32
  | 16 => 3#32
  | 17 => 3#32
  | 18 => 2#32
  | 19 => 0#32
  | 20 => 3#32
  | 21 => 1#32
  | 22 => 3#32
  | 23 => 3#32
  | 24 => 4#32
  | 25 => 4#32
  | 26 => 3#32
  | 27 => 0#32
  | 28 => 3#32
  | 29 => 3#32
  | 30 => 2#32
  | 31 => 3#32
  | 32 => 1#32
  | 33 => 3#32
  | 34 => 4#32
  | 35 => 2#32
  | 36 => 4#32
  | 37 => 1#32
  | 38 => 4#32
  | 39 => 1#32
  | 40 => 0#32
  | 41 => 2#32
  | 42 => 2#32
  | 43 => 2#32
  | 44 => 2#32
  | 45 => 2#32
  | 46 => 1#32
  | 47 => 0#32
  | 48 => 1#32
  | 49 => 0#32
  | 50 => 3#32
  | 51 => 3#32
  | 52 => 1#32
  | 53 => 3#32
  | 54 => 4#32
  | 55 => 0#32
  | 56 => 2#32
  | 57 => 3#32
  | 58 => 2#32
  | 59 => 4#32
  | 60 => 2#32
  | 61 => 1#32
  | 62 => 3#32
  | 63 => 3#32
  | 64 => 2#32
  | 65 => 1#32
  | 66 => 1#32
  | 67 => 3#32
  | 68 => 1#32
  | 69 => 3#32
  | 70 => 1#32
  | 71 => 0#32
  | 72 => 4#32
  | 73 => 4#32
  | 74 => 0#32
  | 75 => 2#32
  | 76 => 0#32
  | 77 => 1#32
  | 78 => 3#32
  | 79 => 2#32
  | 80 => 4#32
  | 81 => 3#32
  | 82 => 4#32
  | 83 => 4#32
  | 84 => 0#32
  | 85 => 0#32
  | 86 => 0#32
  | 87 => 2#32
  | 88 => 2#32
  | 89 => 0#32
  | 90 => 1#32
  | 91 => 3#32
  | 92 => 3#32
  | 93 => 3#32
  | 94 => 1#32
  | 95 => 2#32
  | 96 => 3#32
  | 97 => 0#32
  | 98 => 0#32
  | 99 => 2#32
  | 100 => 1#32
  | 101 => 2#32
  | 102 => 0#32
  | 103 => 0#32
  | 104 => 3#32
  | 105 => 0#32
  | 106 => 4#32
  | 107 => 2#32
  | 108 => 4#32
  | 109 => 3#32
  | 110 => 4#32
  | 111 => 4#32
  | 112 => 2#32
  | 113 => 3#32
  | 114 => 4#32
  | 115 => 1#32
  | 116 => 2#32
  | 117 => 2#32
  | 118 => 4#32
  | 119 => 0#32
  | 120 => 4#32
  | 121 => 2#32
  | 122 => 2#32
  | 123 => 4#32
  | 124 => 3#32
  | 125 => 0#32
  | 126 => 4#32
  | 127 => 0#32
  | _ => 0#32

noncomputable abbrev lit0t0_53 (i : Nat) : BitVec 32 := match i % 128 with
  | 0 => 3#32
  | 1 => 3#32
  | 2 => 2#32
  | 3 => 2#32
  | 4 => 0#32
  | 5 => 2#32
  | 6 => 0#32
  | 7 => 0#32
  | 8 => 4#32
  | 9 => 3#32
  | 10 => 3#32
  | 11 => 2#32
  | 12 => 2#32
  | 13 => 4#32
  | 14 => 3#32
  | 15 => 1#32
  | 16 => 4#32
  | 17 => 3#32
  | 18 => 2#32
  | 19 => 3#32
  | 20 => 4#32
  | 21 => 0#32
  | 22 => 4#32
  | 23 => 2#32
  | 24 => 0#32
  | 25 => 1#32
  | 26 => 4#32
  | 27 => 1#32
  | 28 => 0#32
  | 29 => 1#32
  | 30 => 4#32
  | 31 => 3#32
  | 32 => 2#32
  | 33 => 2#32
  | 34 => 0#32
  | 35 => 1#32
  | 36 => 1#32
  | 37 => 3#32
  | 38 => 2#32
  | 39 => 2#32
  | 40 => 1#32
  | 41 => 0#32
  | 42 => 1#32
  | 43 => 1#32
  | 44 => 2#32
  | 45 => 4#32
  | 46 => 3#32
  | 47 => 0#32
  | 48 => 0#32
  | 49 => 0#32
  | 50 => 3#32
  | 51 => 3#32
  | 52 => 0#32
  | 53 => 4#32
  | 54 => 0#32
  | 55 => 4#32
  | 56 => 1#32
  | 57 => 4#32
  | 58 => 1#32
  | 59 => 2#32
  | 60 => 4#32
  | 61 => 3#32
  | 62 => 0#32
  | 63 => 1#32
  | 64 => 2#32
  | 65 => 0#32
  | 66 => 0#32
  | 67 => 3#32
  | 68 => 2#32
  | 69 => 4#32
  | 70 => 2#32
  | 71 => 3#32
  | 72 => 2#32
  | 73 => 2#32
  | 74 => 3#32
  | 75 => 0#32
  | 76 => 2#32
  | 77 => 0#32
  | 78 => 0#32
  | 79 => 4#32
  | 80 => 2#32
  | 81 => 2#32
  | 82 => 1#32
  | 83 => 4#32
  | 84 => 2#32
  | 85 => 2#32
  | 86 => 0#32
  | 87 => 3#32
  | 88 => 3#32
  | 89 => 3#32
  | 90 => 1#32
  | 91 => 4#32
  | 92 => 0#32
  | 93 => 3#32
  | 94 => 4#32
  | 95 => 4#32
  | 96 => 0#32
  | 97 => 4#32
  | 98 => 0#32
  | 99 => 2#32
  | 100 => 1#32
  | 101 => 1#32
  | 102 => 2#32
  | 103 => 2#32
  | 104 => 1#32
  | 105 => 2#32
  | 106 => 2#32
  | 107 => 3#32
  | 108 => 3#32
  | 109 => 0#32
  | 110 => 1#32
  | 111 => 0#32
  | 112 => 4#32
  | 113 => 3#32
  | 114 => 4#32
  | 115 => 0#32
  | 116 => 3#32
  | 117 => 0#32
  | 118 => 3#32
  | 119 => 3#32
  | 120 => 4#32
  | 121 => 4#32
  | 122 => 2#32
  | 123 => 2#32
  | 124 => 1#32
  | 125 => 3#32
  | 126 => 2#32
  | 127 => 2#32
  | _ => 0#32

noncomputable abbrev lit0t0_54 (i : Nat) : BitVec 32 := match i % 128 with
  | 0 => 3#32
  | 1 => 3#32
  | 2 => 0#32
  | 3 => 4#32
  | 4 => 3#32
  | 5 => 4#32
  | 6 => 4#32
  | 7 => 4#32
  | 8 => 0#32
  | 9 => 4#32
  | 10 => 1#32
  | 11 => 3#32
  | 12 => 0#32
  | 13 => 1#32
  | 14 => 1#32
  | 15 => 0#32
  | 16 => 0#32
  | 17 => 1#32
  | 18 => 0#32
  | 19 => 1#32
  | 20 => 1#32
  | 21 => 0#32
  | 22 => 3#32
  | 23 => 3#32
  | 24 => 3#32
  | 25 => 1#32
  | 26 => 4#32
  | 27 => 3#32
  | 28 => 4#32
  | 29 => 3#32
  | 30 => 2#32
  | 31 => 2#32
  | 32 => 4#32
  | 33 => 4#32
  | 34 => 1#32
  | 35 => 1#32
  | 36 => 2#32
  | 37 => 4#32
  | 38 => 4#32
  | 39 => 0#32
  | 40 => 2#32
  | 41 => 0#32
  | 42 => 3#32
  | 43 => 0#32
  | 44 => 2#32
  | 45 => 3#32
  | 46 => 4#32
  | 47 => 4#32
  | 48 => 3#32
  | 49 => 4#32
  | 50 => 4#32
  | 51 => 2#32
  | 52 => 3#32
  | 53 => 1#32
  | 54 => 3#32
  | 55 => 1#32
  | 56 => 4#32
  | 57 => 2#32
  | 58 => 1#32
  | 59 => 3#32
  | 60 => 2#32
  | 61 => 0#32
  | 62 => 1#32
  | 63 => 1#32
  | 64 => 4#32
  | 65 => 4#32
  | 66 => 1#32
  | 67 => 0#32
  | 68 => 1#32
  | 69 => 3#32
  | 70 => 2#32
  | 71 => 1#32
  | 72 => 4#32
  | 73 => 1#32
  | 74 => 0#32
  | 75 => 2#32
  | 76 => 1#32
  | 77 => 4#32
  | 78 => 1#32
  | 79 => 2#32
  | 80 => 4#32
  | 81 => 0#32
  | 82 => 2#32
  | 83 => 3#32
  | 84 => 0#32
  | 85 => 2#32
  | 86 => 4#32
  | 87 => 2#32
  | 88 => 2#32
  | 89 => 2#32
  | 90 => 2#32
  | 91 => 0#32
  | 92 => 2#32
  | 93 => 2#32
  | 94 => 1#32
  | 95 => 2#32
  | 96 => 0#32
  | 97 => 0#32
  | 98 => 1#32
  | 99 => 4#32
  | 100 => 3#32
  | 101 => 3#32
  | 102 => 0#32
  | 103 => 4#32
  | 104 => 4#32
  | 105 => 3#32
  | 106 => 3#32
  | 107 => 0#32
  | 108 => 2#32
  | 109 => 1#32
  | 110 => 2#32
  | 111 => 0#32
  | 112 => 1#32
  | 113 => 4#32
  | 114 => 2#32
  | 115 => 4#32
  | 116 => 4#32
  | 117 => 3#32
  | 118 => 2#32
  | 119 => 2#32
  | 120 => 4#32
  | 121 => 0#32
  | 122 => 4#32
  | 123 => 1#32
  | 124 => 3#32
  | 125 => 1#32
  | 126 => 4#32
  | 127 => 0#32
  | _ => 0#32

noncomputable abbrev lit0t0_55 (i : Nat) : BitVec 32 := match i % 128 with
  | 0 => 4#32
  | 1 => 1#32
  | 2 => 4#32
  | 3 => 3#32
  | 4 => 0#32
  | 5 => 2#32
  | 6 => 1#32
  | 7 => 4#32
  | 8 => 3#32
  | 9 => 2#32
  | 10 => 3#32
  | 11 => 1#32
  | 12 => 1#32
  | 13 => 0#32
  | 14 => 3#32
  | 15 => 1#32
  | 16 => 0#32
  | 17 => 0#32
  | 18 => 1#32
  | 19 => 0#32
  | 20 => 2#32
  | 21 => 4#32
  | 22 => 2#32
  | 23 => 4#32
  | 24 => 4#32
  | 25 => 2#32
  | 26 => 0#32
  | 27 => 0#32
  | 28 => 1#32
  | 29 => 4#32
  | 30 => 4#32
  | 31 => 2#32
  | 32 => 0#32
  | 33 => 1#32
  | 34 => 3#32
  | 35 => 1#32
  | 36 => 4#32
  | 37 => 0#32
  | 38 => 0#32
  | 39 => 3#32
  | 40 => 1#32
  | 41 => 0#32
  | 42 => 3#32
  | 43 => 3#32
  | 44 => 1#32
  | 45 => 3#32
  | 46 => 1#32
  | 47 => 0#32
  | 48 => 3#32
  | 49 => 0#32
  | 50 => 2#32
  | 51 => 1#32
  | 52 => 3#32
  | 53 => 3#32
  | 54 => 2#32
  | 55 => 3#32
  | 56 => 1#32
  | 57 => 1#32
  | 58 => 1#32
  | 59 => 0#32
  | 60 => 2#32
  | 61 => 2#32
  | 62 => 0#32
  | 63 => 2#32
  | 64 => 3#32
  | 65 => 0#32
  | 66 => 3#32
  | 67 => 0#32
  | 68 => 1#32
  | 69 => 0#32
  | 70 => 0#32
  | 71 => 4#32
  | 72 => 1#32
  | 73 => 2#32
  | 74 => 0#32
  | 75 => 3#32
  | 76 => 1#32
  | 77 => 1#32
  | 78 => 1#32
  | 79 => 2#32
  | 80 => 3#32
  | 81 => 4#32
  | 82 => 4#32
  | 83 => 0#32
  | 84 => 3#32
  | 85 => 4#32
  | 86 => 4#32
  | 87 => 1#32
  | 88 => 2#32
  | 89 => 1#32
  | 90 => 4#32
  | 91 => 1#32
  | 92 => 1#32
  | 93 => 0#32
  | 94 => 1#32
  | 95 => 0#32
  | 96 => 3#32
  | 97 => 0#32
  | 98 => 2#32
  | 99 => 1#32
  | 100 => 4#32
  | 101 => 4#32
  | 102 => 3#32
  | 103 => 3#32
  | 104 => 0#32
  | 105 => 2#32
  | 106 => 4#32
  | 107 => 0#32
  | 108 => 3#32
  | 109 => 1#32
  | 110 => 4#32
  | 111 => 3#32
  | 112 => 0#32
  | 113 => 3#32
  | 114 => 0#32
  | 115 => 2#32
  | 116 => 4#32
  | 117 => 1#32
  | 118 => 1#32
  | 119 => 4#32
  | 120 => 1#32
  | 121 => 1#32
  | 122 => 2#32
  | 123 => 1#32
  | 124 => 2#32
  | 125 => 1#32
  | 126 => 4#32
  | 127 => 3#32
  | _ => 0#32

noncomputable abbrev lit0t0_56 (i : Nat) : BitVec 32 := match i % 128 with
  | 0 => 3#32
  | 1 => 1#32
  | 2 => 0#32
  | 3 => 3#32
  | 4 => 1#32
  | 5 => 3#32
  | 6 => 3#32
  | 7 => 3#32
  | 8 => 0#32
  | 9 => 0#32
  | 10 => 1#32
  | 11 => 3#32
  | 12 => 2#32
  | 13 => 4#32
  | 14 => 1#32
  | 15 => 4#32
  | 16 => 3#32
  | 17 => 0#32
  | 18 => 1#32
  | 19 => 2#32
  | 20 => 3#32
  | 21 => 2#32
  | 22 => 4#32
  | 23 => 4#32
  | 24 => 0#32
  | 25 => 2#32
  | 26 => 3#32
  | 27 => 4#32
  | 28 => 1#32
  | 29 => 4#32
  | 30 => 0#32
  | 31 => 2#32
  | 32 => 0#32
  | 33 => 4#32
  | 34 => 4#32
  | 35 => 3#32
  | 36 => 0#32
  | 37 => 1#32
  | 38 => 0#32
  | 39 => 4#32
  | 40 => 1#32
  | 41 => 3#32
  | 42 => 2#32
  | 43 => 2#32
  | 44 => 4#32
  | 45 => 4#32
  | 46 => 4#32
  | 47 => 0#32
  | 48 => 1#32
  | 49 => 4#32
  | 50 => 2#32
  | 51 => 3#32
  | 52 => 1#32
  | 53 => 0#32
  | 54 => 1#32
  | 55 => 2#32
  | 56 => 1#32
  | 57 => 4#32
  | 58 => 3#32
  | 59 => 0#32
  | 60 => 4#32
  | 61 => 2#32
  | 62 => 2#32
  | 63 => 4#32
  | 64 => 2#32
  | 65 => 1#32
  | 66 => 3#32
  | 67 => 4#32
  | 68 => 1#32
  | 69 => 4#32
  | 70 => 3#32
  | 71 => 3#32
  | 72 => 1#32
  | 73 => 0#32
  | 74 => 0#32
  | 75 => 3#32
  | 76 => 2#32
  | 77 => 3#32
  | 78 => 1#32
  | 79 => 2#32
  | 80 => 3#32
  | 81 => 1#32
  | 82 => 4#32
  | 83 => 1#32
  | 84 => 2#32
  | 85 => 4#32
  | 86 => 1#32
  | 87 => 0#32
  | 88 => 0#32
  | 89 => 4#32
  | 90 => 0#32
  | 91 => 4#32
  | 92 => 3#32
  | 93 => 4#32
  | 94 => 1#32
  | 95 => 2#32
  | 96 => 2#32
  | 97 => 2#32
  | 98 => 1#32
  | 99 => 3#32
  | 100 => 2#32
  | 101 => 0#32
  | 102 => 1#32
  | 103 => 3#32
  | 104 => 3#32
  | 105 => 2#32
  | 106 => 1#32
  | 107 => 0#32
  | 108 => 4#32
  | 109 => 1#32
  | 110 => 4#32
  | 111 => 4#32
  | 112 => 3#32
  | 113 => 4#32
  | 114 => 0#32
  | 115 => 4#32
  | 116 => 2#32
  | 117 => 1#32
  | 118 => 2#32
  | 119 => 0#32
  | 120 => 3#32
  | 121 => 4#32
  | 122 => 3#32
  | 123 => 4#32
  | 124 => 1#32
  | 125 => 3#32
  | 126 => 0#32
  | 127 => 2#32
  | _ => 0#32

noncomputable abbrev lit0t0_57 (i : Nat) : BitVec 32 := match i % 128 with
  | 0 => 3#32
  | 1 => 1#32
  | 2 => 0#32
  | 3 => 4#32
  | 4 => 2#32
  | 5 => 2#32
  | 6 => 4#32
  | 7 => 4#32
  | 8 => 0#32
  | 9 => 2#32
  | 10 => 1#32
  | 11 => 3#32
  | 12 => 3#32
  | 13 => 0#32
  | 14 => 0#32
  | 15 => 1#32
  | 16 => 4#32
  | 17 => 2#32
  | 18 => 1#32
  | 19 => 4#32
  | 20 => 3#32
  | 21 => 3#32
  | 22 => 3#32
  | 23 => 1#32
  | 24 => 0#32
  | 25 => 4#32
  | 26 => 4#32
  | 27 => 4#32
  | 28 => 0#32
  | 29 => 1#32
  | 30 => 2#32
  | 31 => 3#32
  | 32 => 4#32
  | 33 => 3#32
  | 34 => 0#32
  | 35 => 1#32
  | 36 => 2#32
  | 37 => 1#32
  | 38 => 2#32
  | 39 => 4#32
  | 40 => 2#32
  | 41 => 1#32
  | 42 => 4#32
  | 43 => 3#32
  | 44 => 3#32
  | 45 => 1#32
  | 46 => 2#32
  | 47 => 4#32
  | 48 => 3#32
  | 49 => 0#32
  | 50 => 4#32
  | 51 => 1#32
  | 52 => 3#32
  | 53 => 2#32
  | 54 => 1#32
  | 55 => 4#32
  | 56 => 4#32
  | 57 => 3#32
  | 58 => 2#32
  | 59 => 4#32
  | 60 => 4#32
  | 61 => 4#32
  | 62 => 2#32
  | 63 => 4#32
  | 64 => 3#32
  | 65 => 3#32
  | 66 => 1#32
  | 67 => 0#32
  | 68 => 1#32
  | 69 => 0#32
  | 70 => 4#32
  | 71 => 2#32
  | 72 => 0#32
  | 73 => 2#32
  | 74 => 4#32
  | 75 => 1#32
  | 76 => 1#32
  | 77 => 4#32
  | 78 => 4#32
  | 79 => 1#32
  | 80 => 3#32
  | 81 => 1#32
  | 82 => 0#32
  | 83 => 4#32
  | 84 => 0#32
  | 85 => 2#32
  | 86 => 1#32
  | 87 => 4#32
  | 88 => 2#32
  | 89 => 4#32
  | 90 => 2#32
  | 91 => 3#32
  | 92 => 1#32
  | 93 => 1#32
  | 94 => 4#32
  | 95 => 2#32
  | 96 => 1#32
  | 97 => 2#32
  | 98 => 4#32
  | 99 => 1#32
  | 100 => 0#32
  | 101 => 3#32
  | 102 => 3#32
  | 103 => 4#32
  | 104 => 1#32
  | 105 => 3#32
  | 106 => 2#32
  | 107 => 2#32
  | 108 => 1#32
  | 109 => 3#32
  | 110 => 0#32
  | 111 => 2#32
  | 112 => 4#32
  | 113 => 1#32
  | 114 => 2#32
  | 115 => 4#32
  | 116 => 0#32
  | 117 => 1#32
  | 118 => 0#32
  | 119 => 1#32
  | 120 => 4#32
  | 121 => 2#32
  | 122 => 2#32
  | 123 => 3#32
  | 124 => 1#32
  | 125 => 2#32
  | 126 => 1#32
  | 127 => 1#32
  | _ => 0#32

noncomputable abbrev lit0t0_58 (i : Nat) : BitVec 32 := match i % 128 with
  | 0 => 3#32
  | 1 => 3#32
  | 2 => 2#32
  | 3 => 4#32
  | 4 => 1#32
  | 5 => 1#32
  | 6 => 2#32
  | 7 => 1#32
  | 8 => 2#32
  | 9 => 3#32
  | 10 => 1#32
  | 11 => 2#32
  | 12 => 4#32
  | 13 => 4#32
  | 14 => 2#32
  | 15 => 4#32
  | 16 => 0#32
  | 17 => 1#32
  | 18 => 3#32
  | 19 => 2#32
  | 20 => 0#32
  | 21 => 3#32
  | 22 => 3#32
  | 23 => 3#32
  | 24 => 4#32
  | 25 => 4#32
  | 26 => 0#32
  | 27 => 0#32
  | 28 => 0#32
  | 29 => 4#32
  | 30 => 4#32
  | 31 => 4#32
  | 32 => 1#32
  | 33 => 3#32
  | 34 => 2#32
  | 35 => 3#32
  | 36 => 1#32
  | 37 => 4#32
  | 38 => 1#32
  | 39 => 4#32
  | 40 => 2#32
  | 41 => 2#32
  | 42 => 2#32
  | 43 => 0#32
  | 44 => 2#32
  | 45 => 0#32
  | 46 => 2#32
  | 47 => 1#32
  | 48 => 1#32
  | 49 => 3#32
  | 50 => 0#32
  | 51 => 4#32
  | 52 => 1#32
  | 53 => 4#32
  | 54 => 0#32
  | 55 => 1#32
  | 56 => 2#32
  | 57 => 2#32
  | 58 => 2#32
  | 59 => 1#32
  | 60 => 0#32
  | 61 => 4#32
  | 62 => 4#32
  | 63 => 1#32
  | 64 => 2#32
  | 65 => 2#32
  | 66 => 1#32
  | 67 => 4#32
  | 68 => 0#32
  | 69 => 3#32
  | 70 => 2#32
  | 71 => 4#32
  | 72 => 4#32
  | 73 => 3#32
  | 74 => 4#32
  | 75 => 2#32
  | 76 => 1#32
  | 77 => 0#32
  | 78 => 0#32
  | 79 => 4#32
  | 80 => 3#32
  | 81 => 0#32
  | 82 => 4#32
  | 83 => 1#32
  | 84 => 4#32
  | 85 => 4#32
  | 86 => 1#32
  | 87 => 2#32
  | 88 => 1#32
  | 89 => 2#32
  | 90 => 0#32
  | 91 => 2#32
  | 92 => 2#32
  | 93 => 2#32
  | 94 => 2#32
  | 95 => 0#32
  | 96 => 3#32
  | 97 => 4#32
  | 98 => 1#32
  | 99 => 3#32
  | 100 => 2#32
  | 101 => 3#32
  | 102 => 0#32
  | 103 => 1#32
  | 104 => 4#32
  | 105 => 3#32
  | 106 => 0#32
  | 107 => 1#32
  | 108 => 0#32
  | 109 => 4#32
  | 110 => 4#32
  | 111 => 1#32
  | 112 => 0#32
  | 113 => 3#32
  | 114 => 0#32
  | 115 => 1#32
  | 116 => 1#32
  | 117 => 3#32
  | 118 => 0#32
  | 119 => 3#32
  | 120 => 1#32
  | 121 => 4#32
  | 122 => 1#32
  | 123 => 2#32
  | 124 => 4#32
  | 125 => 1#32
  | 126 => 4#32
  | 127 => 0#32
  | _ => 0#32

noncomputable abbrev lit0t0_59 (i : Nat) : BitVec 32 := match i % 128 with
  | 0 => 1#32
  | 1 => 4#32
  | 2 => 0#32
  | 3 => 3#32
  | 4 => 1#32
  | 5 => 4#32
  | 6 => 0#32
  | 7 => 3#32
  | 8 => 3#32
  | 9 => 1#32
  | 10 => 4#32
  | 11 => 0#32
  | 12 => 2#32
  | 13 => 4#32
  | 14 => 0#32
  | 15 => 1#32
  | 16 => 1#32
  | 17 => 4#32
  | 18 => 3#32
  | 19 => 3#32
  | 20 => 2#32
  | 21 => 0#32
  | 22 => 0#32
  | 23 => 3#32
  | 24 => 3#32
  | 25 => 0#32
  | 26 => 3#32
  | 27 => 4#32
  | 28 => 4#32
  | 29 => 2#32
  | 30 => 3#32
  | 31 => 3#32
  | 32 => 0#32
  | 33 => 1#32
  | 34 => 3#32
  | 35 => 4#32
  | 36 => 2#32
  | 37 => 1#32
  | 38 => 4#32
  | 39 => 4#32
  | 40 => 1#32
  | 41 => 3#32
  | 42 => 0#32
  | 43 => 0#32
  | 44 => 3#32
  | 45 => 4#32
  | 46 => 4#32
  | 47 => 1#32
  | 48 => 0#32
  | 49 => 0#32
  | 50 => 1#32
  | 51 => 4#32
  | 52 => 0#32
  | 53 => 2#32
  | 54 => 0#32
  | 55 => 1#32
  | 56 => 1#32
  | 57 => 2#32
  | 58 => 2#32
  | 59 => 1#32
  | 60 => 4#32
  | 61 => 1#32
  | 62 => 3#32
  | 63 => 4#32
  | 64 => 0#32
  | 65 => 3#32
  | 66 => 2#32
  | 67 => 2#32
  | 68 => 1#32
  | 69 => 1#32
  | 70 => 1#32
  | 71 => 1#32
  | 72 => 1#32
  | 73 => 1#32
  | 74 => 0#32
  | 75 => 2#32
  | 76 => 2#32
  | 77 => 0#32
  | 78 => 0#32
  | 79 => 0#32
  | 80 => 3#32
  | 81 => 2#32
  | 82 => 3#32
  | 83 => 0#32
  | 84 => 2#32
  | 85 => 1#32
  | 86 => 3#32
  | 87 => 1#32
  | 88 => 1#32
  | 89 => 2#32
  | 90 => 4#32
  | 91 => 0#32
  | 92 => 2#32
  | 93 => 1#32
  | 94 => 2#32
  | 95 => 3#32
  | 96 => 1#32
  | 97 => 4#32
  | 98 => 1#32
  | 99 => 3#32
  | 100 => 0#32
  | 101 => 0#32
  | 102 => 1#32
  | 103 => 1#32
  | 104 => 0#32
  | 105 => 1#32
  | 106 => 2#32
  | 107 => 2#32
  | 108 => 3#32
  | 109 => 4#32
  | 110 => 2#32
  | 111 => 4#32
  | 112 => 2#32
  | 113 => 3#32
  | 114 => 4#32
  | 115 => 4#32
  | 116 => 0#32
  | 117 => 0#32
  | 118 => 0#32
  | 119 => 3#32
  | 120 => 0#32
  | 121 => 2#32
  | 122 => 1#32
  | 123 => 4#32
  | 124 => 4#32
  | 125 => 0#32
  | 126 => 1#32
  | 127 => 4#32
  | _ => 0#32

noncomputable abbrev lit0t0_60 (i : Nat) : BitVec 32 := match i % 128 with
  | 0 => 1#32
  | 1 => 0#32
  | 2 => 2#32
  | 3 => 1#32
  | 4 => 1#32
  | 5 => 4#32
  | 6 => 3#32
  | 7 => 3#32
  | 8 => 0#32
  | 9 => 0#32
  | 10 => 2#32
  | 11 => 1#32
  | 12 => 2#32
  | 13 => 4#32
  | 14 => 2#32
  | 15 => 0#32
  | 16 => 4#32
  | 17 => 1#32
  | 18 => 2#32
  | 19 => 0#32
  | 20 => 3#32
  | 21 => 0#32
  | 22 => 0#32
  | 23 => 1#32
  | 24 => 3#32
  | 25 => 4#32
  | 26 => 4#32
  | 27 => 3#32
  | 28 => 0#32
  | 29 => 3#32
  | 30 => 2#32
  | 31 => 1#32
  | 32 => 2#32
  | 33 => 2#32
  | 34 => 2#32
  | 35 => 3#32
  | 36 => 0#32
  | 37 => 1#32
  | 38 => 1#32
  | 39 => 0#32
  | 40 => 0#32
  | 41 => 2#32
  | 42 => 4#32
  | 43 => 0#32
  | 44 => 1#32
  | 45 => 1#32
  | 46 => 4#32
  | 47 => 0#32
  | 48 => 1#32
  | 49 => 1#32
  | 50 => 4#32
  | 51 => 0#32
  | 52 => 2#32
  | 53 => 1#32
  | 54 => 1#32
  | 55 => 4#32
  | 56 => 3#32
  | 57 => 2#32
  | 58 => 4#32
  | 59 => 0#32
  | 60 => 1#32
  | 61 => 1#32
  | 62 => 2#32
  | 63 => 2#32
  | 64 => 4#32
  | 65 => 1#32
  | 66 => 3#32
  | 67 => 0#32
  | 68 => 1#32
  | 69 => 4#32
  | 70 => 0#32
  | 71 => 0#32
  | 72 => 1#32
  | 73 => 1#32
  | 74 => 2#32
  | 75 => 0#32
  | 76 => 4#32
  | 77 => 3#32
  | 78 => 0#32
  | 79 => 1#32
  | 80 => 1#32
  | 81 => 3#32
  | 82 => 0#32
  | 83 => 3#32
  | 84 => 4#32
  | 85 => 2#32
  | 86 => 3#32
  | 87 => 1#32
  | 88 => 3#32
  | 89 => 1#32
  | 90 => 3#32
  | 91 => 4#32
  | 92 => 4#32
  | 93 => 2#32
  | 94 => 2#32
  | 95 => 0#32
  | 96 => 4#32
  | 97 => 3#32
  | 98 => 3#32
  | 99 => 0#32
  | 100 => 2#32
  | 101 => 2#32
  | 102 => 3#32
  | 103 => 2#32
  | 104 => 2#32
  | 105 => 4#32
  | 106 => 4#32
  | 107 => 4#32
  | 108 => 1#32
  | 109 => 1#32
  | 110 => 1#32
  | 111 => 1#32
  | 112 => 3#32
  | 113 => 4#32
  | 114 => 0#32
  | 115 => 4#32
  | 116 => 4#32
  | 117 => 0#32
  | 118 => 4#32
  | 119 => 1#32
  | 120 => 2#32
  | 121 => 3#32
  | 122 => 3#32
  | 123 => 4#32
  | 124 => 1#32
  | 125 => 4#32
  | 126 => 3#32
  | 127 => 1#32
  | _ => 0#32

noncomputable abbrev lit0t0_61 (i : Nat) : BitVec 32 := match i % 128 with
  | 0 => 0#32
  | 1 => 3#32
  | 2 => 4#32
  | 3 => 2#32
  | 4 => 4#32
  | 5 => 1#32
  | 6 => 0#32
  | 7 => 4#32
  | 8 => 1#32
  | 9 => 3#32
  | 10 => 0#32
  | 11 => 0#32
  | 12 => 0#32
  | 13 => 4#32
  | 14 => 0#32
  | 15 => 0#32
  | 16 => 2#32
  | 17 => 2#32
  | 18 => 0#32
  | 19 => 3#32
  | 20 => 0#32
  | 21 => 2#32
  | 22 => 3#32
  | 23 => 0#32
  | 24 => 4#32
  | 25 => 1#32
  | 26 => 2#32
  | 27 => 3#32
  | 28 => 0#32
  | 29 => 4#32
  | 30 => 1#32
  | 31 => 4#32
  | 32 => 1#32
  | 33 => 2#32
  | 34 => 1#32
  | 35 => 4#32
  | 36 => 0#32
  | 37 => 0#32
  | 38 => 1#32
  | 39 => 1#32
  | 40 => 3#32
  | 41 => 2#32
  | 42 => 2#32
  | 43 => 1#32
  | 44 => 2#32
  | 45 => 0#32
  | 46 => 0#32
  | 47 => 2#32
  | 48 => 2#32
  | 49 => 2#32
  | 50 => 1#32
  | 51 => 2#32
  | 52 => 1#32
  | 53 => 1#32
  | 54 => 1#32
  | 55 => 1#32
  | 56 => 0#32
  | 57 => 1#32
  | 58 => 1#32
  | 59 => 0#32
  | 60 => 2#32
  | 61 => 1#32
  | 62 => 1#32
  | 63 => 1#32
  | 64 => 2#32
  | 65 => 0#32
  | 66 => 1#32
  | 67 => 4#32
  | 68 => 3#32
  | 69 => 0#32
  | 70 => 2#32
  | 71 => 3#32
  | 72 => 4#32
  | 73 => 1#32
  | 74 => 0#32
  | 75 => 1#32
  | 76 => 4#32
  | 77 => 4#32
  | 78 => 4#32
  | 79 => 0#32
  | 80 => 3#32
  | 81 => 2#32
  | 82 => 4#32
  | 83 => 3#32
  | 84 => 3#32
  | 85 => 4#32
  | 86 => 1#32
  | 87 => 0#32
  | 88 => 2#32
  | 89 => 3#32
  | 90 => 0#32
  | 91 => 4#32
  | 92 => 1#32
  | 93 => 1#32
  | 94 => 3#32
  | 95 => 4#32
  | 96 => 4#32
  | 97 => 3#32
  | 98 => 4#32
  | 99 => 3#32
  | 100 => 2#32
  | 101 => 1#32
  | 102 => 0#32
  | 103 => 3#32
  | 104 => 4#32
  | 105 => 4#32
  | 106 => 0#32
  | 107 => 4#32
  | 108 => 0#32
  | 109 => 3#32
  | 110 => 3#32
  | 111 => 1#32
  | 112 => 1#32
  | 113 => 2#32
  | 114 => 3#32
  | 115 => 4#32
  | 116 => 1#32
  | 117 => 0#32
  | 118 => 2#32
  | 119 => 1#32
  | 120 => 4#32
  | 121 => 1#32
  | 122 => 3#32
  | 123 => 0#32
  | 124 => 1#32
  | 125 => 1#32
  | 126 => 3#32
  | 127 => 4#32
  | _ => 0#32

noncomputable abbrev lit0t0_62 (i : Nat) : BitVec 32 := match i % 128 with
  | 0 => 1#32
  | 1 => 0#32
  | 2 => 1#32
  | 3 => 3#32
  | 4 => 2#32
  | 5 => 2#32
  | 6 => 2#32
  | 7 => 4#32
  | 8 => 4#32
  | 9 => 3#32
  | 10 => 2#32
  | 11 => 0#32
  | 12 => 2#32
  | 13 => 4#32
  | 14 => 1#32
  | 15 => 2#32
  | 16 => 4#32
  | 17 => 4#32
  | 18 => 0#32
  | 19 => 1#32
  | 20 => 0#32
  | 21 => 0#32
  | 22 => 2#32
  | 23 => 3#32
  | 24 => 1#32
  | 25 => 0#32
  | 26 => 1#32
  | 27 => 1#32
  | 28 => 1#32
  | 29 => 1#32
  | 30 => 1#32
  | 31 => 4#32
  | 32 => 2#32
  | 33 => 2#32
  | 34 => 3#32
  | 35 => 3#32
  | 36 => 2#32
  | 37 => 1#32
  | 38 => 3#32
  | 39 => 2#32
  | 40 => 4#32
  | 41 => 4#32
  | 42 => 2#32
  | 43 => 4#32
  | 44 => 0#32
  | 45 => 1#32
  | 46 => 0#32
  | 47 => 2#32
  | 48 => 0#32
  | 49 => 1#32
  | 50 => 4#32
  | 51 => 1#32
  | 52 => 1#32
  | 53 => 4#32
  | 54 => 1#32
  | 55 => 1#32
  | 56 => 0#32
  | 57 => 4#32
  | 58 => 2#32
  | 59 => 2#32
  | 60 => 0#32
  | 61 => 4#32
  | 62 => 3#32
  | 63 => 0#32
  | 64 => 1#32
  | 65 => 3#32
  | 66 => 2#32
  | 67 => 3#32
  | 68 => 3#32
  | 69 => 1#32
  | 70 => 0#32
  | 71 => 3#32
  | 72 => 3#32
  | 73 => 0#32
  | 74 => 4#32
  | 75 => 1#32
  | 76 => 4#32
  | 77 => 0#32
  | 78 => 0#32
  | 79 => 1#32
  | 80 => 2#32
  | 81 => 0#32
  | 82 => 1#32
  | 83 => 0#32
  | 84 => 2#32
  | 85 => 3#32
  | 86 => 1#32
  | 87 => 0#32
  | 88 => 4#32
  | 89 => 3#32
  | 90 => 4#32
  | 91 => 1#32
  | 92 => 3#32
  | 93 => 3#32
  | 94 => 4#32
  | 95 => 2#32
  | 96 => 4#32
  | 97 => 4#32
  | 98 => 0#32
  | 99 => 2#32
  | 100 => 1#32
  | 101 => 4#32
  | 102 => 3#32
  | 103 => 2#32
  | 104 => 1#32
  | 105 => 2#32
  | 106 => 0#32
  | 107 => 1#32
  | 108 => 1#32
  | 109 => 2#32
  | 110 => 1#32
  | 111 => 4#32
  | 112 => 3#32
  | 113 => 1#32
  | 114 => 4#32
  | 115 => 0#32
  | 116 => 1#32
  | 117 => 2#32
  | 118 => 1#32
  | 119 => 4#32
  | 120 => 0#32
  | 121 => 3#32
  | 122 => 2#32
  | 123 => 3#32
  | 124 => 0#32
  | 125 => 1#32
  | 126 => 1#32
  | 127 => 3#32
  | _ => 0#32

noncomputable abbrev lit0t0_63 (i : Nat) : BitVec 32 := match i % 128 with
  | 0 => 3#32
  | 1 => 3#32
  | 2 => 2#32
  | 3 => 0#32
  | 4 => 3#32
  | 5 => 1#32
  | 6 => 3#32
  | 7 => 0#32
  | 8 => 4#32
  | 9 => 0#32
  | 10 => 1#32
  | 11 => 0#32
  | 12 => 1#32
  | 13 => 4#32
  | 14 => 4#32
  | 15 => 3#32
  | 16 => 4#32
  | 17 => 4#32
  | 18 => 1#32
  | 19 => 0#32
  | 20 => 2#32
  | 21 => 2#32
  | 22 => 0#32
  | 23 => 0#32
  | 24 => 3#32
  | 25 => 3#32
  | 26 => 4#32
  | 27 => 1#32
  | 28 => 0#32
  | 29 => 0#32
  | 30 => 1#32
  | 31 => 3#32
  | 32 => 0#32
  | 33 => 1#32
  | 34 => 4#32
  | 35 => 4#32
  | 36 => 3#32
  | 37 => 3#32
  | 38 => 4#32
  | 39 => 0#32
  | 40 => 2#32
  | 41 => 2#32
  | 42 => 1#32
  | 43 => 3#32
  | 44 => 4#32
  | 45 => 3#32
  | 46 => 3#32
  | 47 => 0#32
  | 48 => 1#32
  | 49 => 4#32
  | 50 => 3#32
  | 51 => 0#32
  | 52 => 0#32
  | 53 => 4#32
  | 54 => 0#32
  | 55 => 0#32
  | 56 => 1#32
  | 57 => 0#32
  | 58 => 4#32
  | 59 => 3#32
  | 60 => 0#32
  | 61 => 4#32
  | 62 => 2#32
  | 63 => 0#32
  | 64 => 0#32
  | 65 => 4#32
  | 66 => 0#32
  | 67 => 2#32
  | 68 => 1#32
  | 69 => 4#32
  | 70 => 2#32
  | 71 => 2#32
  | 72 => 3#32
  | 73 => 3#32
  | 74 => 0#32
  | 75 => 1#32
  | 76 => 3#32
  | 77 => 4#32
  | 78 => 1#32
  | 79 => 0#32
  | 80 => 4#32
  | 81 => 0#32
  | 82 => 3#32
  | 83 => 3#32
  | 84 => 4#32
  | 85 => 3#32
  | 86 => 2#32
  | 87 => 0#32
  | 88 => 3#32
  | 89 => 3#32
  | 90 => 3#32
  | 91 => 3#32
  | 92 => 0#32
  | 93 => 2#32
  | 94 => 2#32
  | 95 => 3#32
  | 96 => 1#32
  | 97 => 0#32
  | 98 => 4#32
  | 99 => 1#32
  | 100 => 0#32
  | 101 => 2#32
  | 102 => 0#32
  | 103 => 4#32
  | 104 => 4#32
  | 105 => 4#32
  | 106 => 2#32
  | 107 => 1#32
  | 108 => 0#32
  | 109 => 0#32
  | 110 => 0#32
  | 111 => 3#32
  | 112 => 0#32
  | 113 => 3#32
  | 114 => 1#32
  | 115 => 2#32
  | 116 => 3#32
  | 117 => 0#32
  | 118 => 0#32
  | 119 => 4#32
  | 120 => 4#32
  | 121 => 4#32
  | 122 => 2#32
  | 123 => 4#32
  | 124 => 0#32
  | 125 => 2#32
  | 126 => 3#32
  | 127 => 1#32
  | _ => 0#32

noncomputable abbrev lit0t0_64 (i : Nat) : BitVec 32 := match i % 128 with
  | 0 => 2#32
  | 1 => 3#32
  | 2 => 1#32
  | 3 => 1#32
  | 4 => 2#32
  | 5 => 3#32
  | 6 => 2#32
  | 7 => 2#32
  | 8 => 2#32
  | 9 => 4#32
  | 10 => 2#32
  | 11 => 0#32
  | 12 => 0#32
  | 13 => 0#32
  | 14 => 3#32
  | 15 => 1#32
  | 16 => 4#32
  | 17 => 2#32
  | 18 => 4#32
  | 19 => 0#32
  | 20 => 1#32
  | 21 => 3#32
  | 22 => 2#32
  | 23 => 1#32
  | 24 => 4#32
  | 25 => 4#32
  | 26 => 3#32
  | 27 => 2#32
  | 28 => 2#32
  | 29 => 0#32
  | 30 => 2#32
  | 31 => 4#32
  | 32 => 0#32
  | 33 => 4#32
  | 34 => 1#32
  | 35 => 2#32
  | 36 => 4#32
  | 37 => 1#32
  | 38 => 0#32
  | 39 => 1#32
  | 40 => 2#32
  | 41 => 0#32
  | 42 => 1#32
  | 43 => 3#32
  | 44 => 0#32
  | 45 => 0#32
  | 46 => 3#32
  | 47 => 3#32
  | 48 => 0#32
  | 49 => 2#32
  | 50 => 4#32
  | 51 => 3#32
  | 52 => 3#32
  | 53 => 0#32
  | 54 => 0#32
  | 55 => 3#32
  | 56 => 0#32
  | 57 => 4#32
  | 58 => 4#32
  | 59 => 2#32
  | 60 => 2#32
  | 61 => 4#32
  | 62 => 0#32
  | 63 => 1#32
  | 64 => 4#32
  | 65 => 0#32
  | 66 => 0#32
  | 67 => 2#32
  | 68 => 2#32
  | 69 => 0#32
  | 70 => 3#32
  | 71 => 1#32
  | 72 => 2#32
  | 73 => 2#32
  | 74 => 3#32
  | 75 => 3#32
  | 76 => 3#32
  | 77 => 0#32
  | 78 => 2#32
  | 79 => 1#32
  | 80 => 1#32
  | 81 => 1#32
  | 82 => 2#32
  | 83 => 0#32
  | 84 => 0#32
  | 85 => 2#32
  | 86 => 4#32
  | 87 => 3#32
  | 88 => 0#32
  | 89 => 2#32
  | 90 => 1#32
  | 91 => 2#32
  | 92 => 0#32
  | 93 => 4#32
  | 94 => 4#32
  | 95 => 3#32
  | 96 => 0#32
  | 97 => 3#32
  | 98 => 0#32
  | 99 => 0#32
  | 100 => 4#32
  | 101 => 2#32
  | 102 => 4#32
  | 103 => 0#32
  | 104 => 2#32
  | 105 => 4#32
  | 106 => 4#32
  | 107 => 1#32
  | 108 => 1#32
  | 109 => 0#32
  | 110 => 2#32
  | 111 => 3#32
  | 112 => 2#32
  | 113 => 2#32
  | 114 => 0#32
  | 115 => 4#32
  | 116 => 3#32
  | 117 => 4#32
  | 118 => 0#32
  | 119 => 0#32
  | 120 => 1#32
  | 121 => 1#32
  | 122 => 4#32
  | 123 => 1#32
  | 124 => 0#32
  | 125 => 0#32
  | 126 => 0#32
  | 127 => 0#32
  | _ => 0#32

noncomputable abbrev lit0t0_65 (i : Nat) : BitVec 32 := match i % 128 with
  | 0 => 1#32
  | 1 => 1#32
  | 2 => 3#32
  | 3 => 0#32
  | 4 => 4#32
  | 5 => 0#32
  | 6 => 0#32
  | 7 => 0#32
  | 8 => 3#32
  | 9 => 1#32
  | 10 => 0#32
  | 11 => 0#32
  | 12 => 0#32
  | 13 => 1#32
  | 14 => 1#32
  | 15 => 3#32
  | 16 => 0#32
  | 17 => 4#32
  | 18 => 3#32
  | 19 => 4#32
  | 20 => 4#32
  | 21 => 1#32
  | 22 => 3#32
  | 23 => 0#32
  | 24 => 4#32
  | 25 => 0#32
  | 26 => 2#32
  | 27 => 3#32
  | 28 => 1#32
  | 29 => 0#32
  | 30 => 1#32
  | 31 => 2#32
  | 32 => 0#32
  | 33 => 3#32
  | 34 => 4#32
  | 35 => 2#32
  | 36 => 3#32
  | 37 => 3#32
  | 38 => 3#32
  | 39 => 2#32
  | 40 => 3#32
  | 41 => 1#32
  | 42 => 2#32
  | 43 => 3#32
  | 44 => 0#32
  | 45 => 2#32
  | 46 => 1#32
  | 47 => 3#32
  | 48 => 2#32
  | 49 => 0#32
  | 50 => 4#32
  | 51 => 1#32
  | 52 => 4#32
  | 53 => 3#32
  | 54 => 1#32
  | 55 => 2#32
  | 56 => 1#32
  | 57 => 4#32
  | 58 => 1#32
  | 59 => 3#32
  | 60 => 0#32
  | 61 => 2#32
  | 62 => 4#32
  | 63 => 1#32
  | 64 => 4#32
  | 65 => 2#32
  | 66 => 1#32
  | 67 => 1#32
  | 68 => 4#32
  | 69 => 3#32
  | 70 => 2#32
  | 71 => 0#32
  | 72 => 2#32
  | 73 => 3#32
  | 74 => 3#32
  | 75 => 1#32
  | 76 => 2#32
  | 77 => 3#32
  | 78 => 3#32
  | 79 => 3#32
  | 80 => 2#32
  | 81 => 1#32
  | 82 => 1#32
  | 83 => 1#32
  | 84 => 4#32
  | 85 => 4#32
  | 86 => 1#32
  | 87 => 4#32
  | 88 => 3#32
  | 89 => 4#32
  | 90 => 1#32
  | 91 => 2#32
  | 92 => 1#32
  | 93 => 0#32
  | 94 => 3#32
  | 95 => 1#32
  | 96 => 3#32
  | 97 => 3#32
  | 98 => 3#32
  | 99 => 4#32
  | 100 => 0#32
  | 101 => 4#32
  | 102 => 3#32
  | 103 => 3#32
  | 104 => 3#32
  | 105 => 1#32
  | 106 => 2#32
  | 107 => 4#32
  | 108 => 1#32
  | 109 => 4#32
  | 110 => 2#32
  | 111 => 1#32
  | 112 => 2#32
  | 113 => 0#32
  | 114 => 2#32
  | 115 => 4#32
  | 116 => 4#32
  | 117 => 0#32
  | 118 => 4#32
  | 119 => 4#32
  | 120 => 2#32
  | 121 => 3#32
  | 122 => 0#32
  | 123 => 2#32
  | 124 => 0#32
  | 125 => 4#32
  | 126 => 3#32
  | 127 => 4#32
  | _ => 0#32

noncomputable abbrev lit0t0_66 (i : Nat) : BitVec 32 := match i % 128 with
  | 0 => 3#32
  | 1 => 4#32
  | 2 => 2#32
  | 3 => 4#32
  | 4 => 2#32
  | 5 => 0#32
  | 6 => 1#32
  | 7 => 3#32
  | 8 => 4#32
  | 9 => 0#32
  | 10 => 4#32
  | 11 => 3#32
  | 12 => 3#32
  | 13 => 3#32
  | 14 => 2#32
  | 15 => 4#32
  | 16 => 3#32
  | 17 => 4#32
  | 18 => 1#32
  | 19 => 2#32
  | 20 => 3#32
  | 21 => 0#32
  | 22 => 1#32
  | 23 => 0#32
  | 24 => 1#32
  | 25 => 2#32
  | 26 => 4#32
  | 27 => 0#32
  | 28 => 1#32
  | 29 => 4#32
  | 30 => 3#32
  | 31 => 2#32
  | 32 => 2#32
  | 33 => 3#32
  | 34 => 4#32
  | 35 => 0#32
  | 36 => 3#32
  | 37 => 2#32
  | 38 => 0#32
  | 39 => 3#32
  | 40 => 4#32
  | 41 => 2#32
  | 42 => 1#32
  | 43 => 3#32
  | 44 => 1#32
  | 45 => 2#32
  | 46 => 1#32
  | 47 => 3#32
  | 48 => 3#32
  | 49 => 0#32
  | 50 => 0#32
  | 51 => 2#32
  | 52 => 3#32
  | 53 => 2#32
  | 54 => 1#32
  | 55 => 3#32
  | 56 => 1#32
  | 57 => 4#32
  | 58 => 4#32
  | 59 => 3#32
  | 60 => 3#32
  | 61 => 4#32
  | 62 => 2#32
  | 63 => 0#32
  | 64 => 3#32
  | 65 => 1#32
  | 66 => 2#32
  | 67 => 0#32
  | 68 => 3#32
  | 69 => 1#32
  | 70 => 4#32
  | 71 => 4#32
  | 72 => 3#32
  | 73 => 3#32
  | 74 => 0#32
  | 75 => 0#32
  | 76 => 2#32
  | 77 => 1#32
  | 78 => 4#32
  | 79 => 0#32
  | 80 => 3#32
  | 81 => 3#32
  | 82 => 2#32
  | 83 => 3#32
  | 84 => 3#32
  | 85 => 1#32
  | 86 => 3#32
  | 87 => 0#32
  | 88 => 3#32
  | 89 => 1#32
  | 90 => 1#32
  | 91 => 4#32
  | 92 => 3#32
  | 93 => 3#32
  | 94 => 1#32
  | 95 => 4#32
  | 96 => 3#32
  | 97 => 0#32
  | 98 => 1#32
  | 99 => 1#32
  | 100 => 2#32
  | 101 => 3#32
  | 102 => 0#32
  | 103 => 4#32
  | 104 => 1#32
  | 105 => 2#32
  | 106 => 1#32
  | 107 => 3#32
  | 108 => 2#32
  | 109 => 1#32
  | 110 => 1#32
  | 111 => 1#32
  | 112 => 2#32
  | 113 => 0#32
  | 114 => 1#32
  | 115 => 0#32
  | 116 => 3#32
  | 117 => 3#32
  | 118 => 0#32
  | 119 => 1#32
  | 120 => 3#32
  | 121 => 4#32
  | 122 => 4#32
  | 123 => 4#32
  | 124 => 3#32
  | 125 => 3#32
  | 126 => 2#32
  | 127 => 3#32
  | _ => 0#32

noncomputable abbrev lit0t0_67 (i : Nat) : BitVec 32 := match i % 128 with
  | 0 => 2#32
  | 1 => 2#32
  | 2 => 4#32
  | 3 => 2#32
  | 4 => 3#32
  | 5 => 2#32
  | 6 => 0#32
  | 7 => 1#32
  | 8 => 3#32
  | 9 => 3#32
  | 10 => 4#32
  | 11 => 4#32
  | 12 => 0#32
  | 13 => 1#32
  | 14 => 3#32
  | 15 => 1#32
  | 16 => 2#32
  | 17 => 0#32
  | 18 => 0#32
  | 19 => 1#32
  | 20 => 4#32
  | 21 => 2#32
  | 22 => 4#32
  | 23 => 4#32
  | 24 => 1#32
  | 25 => 2#32
  | 26 => 2#32
  | 27 => 1#32
  | 28 => 0#32
  | 29 => 1#32
  | 30 => 4#32
  | 31 => 0#32
  | 32 => 0#32
  | 33 => 3#32
  | 34 => 0#32
  | 35 => 4#32
  | 36 => 3#32
  | 37 => 2#32
  | 38 => 4#32
  | 39 => 2#32
  | 40 => 1#32
  | 41 => 0#32
  | 42 => 3#32
  | 43 => 3#32
  | 44 => 0#32
  | 45 => 4#32
  | 46 => 4#32
  | 47 => 1#32
  | 48 => 4#32
  | 49 => 3#32
  | 50 => 2#32
  | 51 => 4#32
  | 52 => 2#32
  | 53 => 2#32
  | 54 => 2#32
  | 55 => 1#32
  | 56 => 4#32
  | 57 => 2#32
  | 58 => 2#32
  | 59 => 3#32
  | 60 => 1#32
  | 61 => 4#32
  | 62 => 1#32
  | 63 => 0#32
  | 64 => 0#32
  | 65 => 4#32
  | 66 => 2#32
  | 67 => 3#32
  | 68 => 0#32
  | 69 => 1#32
  | 70 => 1#32
  | 71 => 1#32
  | 72 => 2#32
  | 73 => 4#32
  | 74 => 0#32
  | 75 => 0#32
  | 76 => 2#32
  | 77 => 1#32
  | 78 => 0#32
  | 79 => 3#32
  | 80 => 2#32
  | 81 => 0#32
  | 82 => 0#32
  | 83 => 1#32
  | 84 => 2#32
  | 85 => 0#32
  | 86 => 4#32
  | 87 => 3#32
  | 88 => 2#32
  | 89 => 0#32
  | 90 => 4#32
  | 91 => 4#32
  | 92 => 4#32
  | 93 => 0#32
  | 94 => 4#32
  | 95 => 3#32
  | 96 => 2#32
  | 97 => 3#32
  | 98 => 4#32
  | 99 => 2#32
  | 100 => 0#32
  | 101 => 0#32
  | 102 => 4#32
  | 103 => 0#32
  | 104 => 0#32
  | 105 => 3#32
  | 106 => 0#32
  | 107 => 2#32
  | 108 => 1#32
  | 109 => 3#32
  | 110 => 4#32
  | 111 => 2#32
  | 112 => 2#32
  | 113 => 2#32
  | 114 => 4#32
  | 115 => 0#32
  | 116 => 4#32
  | 117 => 2#32
  | 118 => 4#32
  | 119 => 4#32
  | 120 => 0#32
  | 121 => 2#32
  | 122 => 2#32
  | 123 => 1#32
  | 124 => 0#32
  | 125 => 3#32
  | 126 => 2#32
  | 127 => 4#32
  | _ => 0#32

noncomputable abbrev lit0t0_68 (i : Nat) : BitVec 32 := match i % 128 with
  | 0 => 0#32
  | 1 => 4#32
  | 2 => 1#32
  | 3 => 0#32
  | 4 => 0#32
  | 5 => 0#32
  | 6 => 2#32
  | 7 => 1#32
  | 8 => 0#32
  | 9 => 0#32
  | 10 => 0#32
  | 11 => 0#32
  | 12 => 2#32
  | 13 => 3#32
  | 14 => 3#32
  | 15 => 4#32
  | 16 => 3#32
  | 17 => 0#32
  | 18 => 0#32
  | 19 => 2#32
  | 20 => 0#32
  | 21 => 3#32
  | 22 => 4#32
  | 23 => 2#32
  | 24 => 3#32
  | 25 => 1#32
  | 26 => 0#32
  | 27 => 1#32
  | 28 => 3#32
  | 29 => 2#32
  | 30 => 4#32
  | 31 => 0#32
  | 32 => 3#32
  | 33 => 0#32
  | 34 => 3#32
  | 35 => 3#32
  | 36 => 1#32
  | 37 => 0#32
  | 38 => 4#32
  | 39 => 3#32
  | 40 => 0#32
  | 41 => 1#32
  | 42 => 4#32
  | 43 => 2#32
  | 44 => 4#32
  | 45 => 1#32
  | 46 => 2#32
  | 47 => 1#32
  | 48 => 1#32
  | 49 => 0#32
  | 50 => 3#32
  | 51 => 2#32
  | 52 => 4#32
  | 53 => 2#32
  | 54 => 2#32
  | 55 => 0#32
  | 56 => 4#32
  | 57 => 3#32
  | 58 => 1#32
  | 59 => 2#32
  | 60 => 1#32
  | 61 => 4#32
  | 62 => 3#32
  | 63 => 4#32
  | 64 => 0#32
  | 65 => 1#32
  | 66 => 2#32
  | 67 => 0#32
  | 68 => 4#32
  | 69 => 2#32
  | 70 => 3#32
  | 71 => 3#32
  | 72 => 3#32
  | 73 => 3#32
  | 74 => 2#32
  | 75 => 0#32
  | 76 => 3#32
  | 77 => 3#32
  | 78 => 1#32
  | 79 => 1#32
  | 80 => 3#32
  | 81 => 1#32
  | 82 => 0#32
  | 83 => 0#32
  | 84 => 2#32
  | 85 => 3#32
  | 86 => 4#32
  | 87 => 3#32
  | 88 => 1#32
  | 89 => 0#32
  | 90 => 2#32
  | 91 => 4#32
  | 92 => 4#32
  | 93 => 1#32
  | 94 => 1#32
  | 95 => 0#32
  | 96 => 4#32
  | 97 => 3#32
  | 98 => 3#32
  | 99 => 0#32
  | 100 => 0#32
  | 101 => 1#32
  | 102 => 2#32
  | 103 => 3#32
  | 104 => 3#32
  | 105 => 2#32
  | 106 => 2#32
  | 107 => 0#32
  | 108 => 2#32
  | 109 => 4#32
  | 110 => 1#32
  | 111 => 3#32
  | 112 => 3#32
  | 113 => 4#32
  | 114 => 2#32
  | 115 => 3#32
  | 116 => 4#32
  | 117 => 0#32
  | 118 => 1#32
  | 119 => 4#32
  | 120 => 0#32
  | 121 => 2#32
  | 122 => 3#32
  | 123 => 3#32
  | 124 => 1#32
  | 125 => 0#32
  | 126 => 0#32
  | 127 => 2#32
  | _ => 0#32

noncomputable abbrev lit0t0_69 (i : Nat) : BitVec 32 := match i % 128 with
  | 0 => 3#32
  | 1 => 3#32
  | 2 => 3#32
  | 3 => 2#32
  | 4 => 0#32
  | 5 => 1#32
  | 6 => 4#32
  | 7 => 0#32
  | 8 => 1#32
  | 9 => 3#32
  | 10 => 3#32
  | 11 => 3#32
  | 12 => 4#32
  | 13 => 1#32
  | 14 => 4#32
  | 15 => 2#32
  | 16 => 2#32
  | 17 => 1#32
  | 18 => 4#32
  | 19 => 4#32
  | 20 => 1#32
  | 21 => 2#32
  | 22 => 1#32
  | 23 => 3#32
  | 24 => 4#32
  | 25 => 3#32
  | 26 => 0#32
  | 27 => 3#32
  | 28 => 3#32
  | 29 => 1#32
  | 30 => 3#32
  | 31 => 4#32
  | 32 => 2#32
  | 33 => 3#32
  | 34 => 3#32
  | 35 => 2#32
  | 36 => 2#32
  | 37 => 1#32
  | 38 => 4#32
  | 39 => 4#32
  | 40 => 3#32
  | 41 => 4#32
  | 42 => 2#32
  | 43 => 2#32
  | 44 => 3#32
  | 45 => 1#32
  | 46 => 3#32
  | 47 => 0#32
  | 48 => 1#32
  | 49 => 2#32
  | 50 => 1#32
  | 51 => 1#32
  | 52 => 0#32
  | 53 => 4#32
  | 54 => 4#32
  | 55 => 0#32
  | 56 => 2#32
  | 57 => 1#32
  | 58 => 4#32
  | 59 => 4#32
  | 60 => 3#32
  | 61 => 1#32
  | 62 => 4#32
  | 63 => 0#32
  | 64 => 1#32
  | 65 => 0#32
  | 66 => 2#32
  | 67 => 1#32
  | 68 => 0#32
  | 69 => 1#32
  | 70 => 0#32
  | 71 => 1#32
  | 72 => 1#32
  | 73 => 2#32
  | 74 => 1#32
  | 75 => 2#32
  | 76 => 0#32
  | 77 => 3#32
  | 78 => 3#32
  | 79 => 4#32
  | 80 => 1#32
  | 81 => 1#32
  | 82 => 3#32
  | 83 => 0#32
  | 84 => 1#32
  | 85 => 1#32
  | 86 => 4#32
  | 87 => 3#32
  | 88 => 0#32
  | 89 => 4#32
  | 90 => 2#32
  | 91 => 3#32
  | 92 => 0#32
  | 93 => 2#32
  | 94 => 2#32
  | 95 => 2#32
  | 96 => 4#32
  | 97 => 2#32
  | 98 => 1#32
  | 99 => 3#32
  | 100 => 3#32
  | 101 => 4#32
  | 102 => 4#32
  | 103 => 3#32
  | 104 => 4#32
  | 105 => 0#32
  | 106 => 2#32
  | 107 => 2#32
  | 108 => 1#32
  | 109 => 3#32
  | 110 => 1#32
  | 111 => 0#32
  | 112 => 4#32
  | 113 => 0#32
  | 114 => 1#32
  | 115 => 1#32
  | 116 => 0#32
  | 117 => 1#32
  | 118 => 4#32
  | 119 => 4#32
  | 120 => 1#32
  | 121 => 3#32
  | 122 => 3#32
  | 123 => 3#32
  | 124 => 3#32
  | 125 => 0#32
  | 126 => 2#32
  | 127 => 1#32
  | _ => 0#32

noncomputable abbrev lit0t0_70 (i : Nat) : BitVec 32 := match i % 128 with
  | 0 => 1#32
  | 1 => 3#32
  | 2 => 3#32
  | 3 => 4#32
  | 4 => 1#32
  | 5 => 0#32
  | 6 => 4#32
  | 7 => 0#32
  | 8 => 4#32
  | 9 => 0#32
  | 10 => 2#32
  | 11 => 0#32
  | 12 => 2#32
  | 13 => 1#32
  | 14 => 1#32
  | 15 => 3#32
  | 16 => 1#32
  | 17 => 2#32
  | 18 => 4#32
  | 19 => 1#32
  | 20 => 2#32
  | 21 => 0#32
  | 22 => 0#32
  | 23 => 0#32
  | 24 => 3#32
  | 25 => 4#32
  | 26 => 2#32
  | 27 => 4#32
  | 28 => 0#32
  | 29 => 4#32
  | 30 => 1#32
  | 31 => 2#32
  | 32 => 4#32
  | 33 => 3#32
  | 34 => 2#32
  | 35 => 1#32
  | 36 => 4#32
  | 37 => 4#32
  | 38 => 1#32
  | 39 => 0#32
  | 40 => 3#32
  | 41 => 3#32
  | 42 => 2#32
  | 43 => 0#32
  | 44 => 1#32
  | 45 => 4#32
  | 46 => 3#32
  | 47 => 2#32
  | 48 => 3#32
  | 49 => 1#32
  | 50 => 1#32
  | 51 => 2#32
  | 52 => 2#32
  | 53 => 0#32
  | 54 => 2#32
  | 55 => 1#32
  | 56 => 1#32
  | 57 => 2#32
  | 58 => 4#32
  | 59 => 1#32
  | 60 => 3#32
  | 61 => 2#32
  | 62 => 2#32
  | 63 => 1#32
  | 64 => 2#32
  | 65 => 2#32
  | 66 => 4#32
  | 67 => 1#32
  | 68 => 4#32
  | 69 => 3#32
  | 70 => 3#32
  | 71 => 0#32
  | 72 => 3#32
  | 73 => 0#32
  | 74 => 0#32
  | 75 => 1#32
  | 76 => 4#32
  | 77 => 3#32
  | 78 => 1#32
  | 79 => 4#32
  | 80 => 2#32
  | 81 => 4#32
  | 82 => 4#32
  | 83 => 4#32
  | 84 => 3#32
  | 85 => 4#32
  | 86 => 3#32
  | 87 => 4#32
  | 88 => 2#32
  | 89 => 4#32
  | 90 => 0#32
  | 91 => 1#32
  | 92 => 3#32
  | 93 => 4#32
  | 94 => 0#32
  | 95 => 1#32
  | 96 => 1#32
  | 97 => 4#32
  | 98 => 2#32
  | 99 => 2#32
  | 100 => 2#32
  | 101 => 3#32
  | 102 => 2#32
  | 103 => 4#32
  | 104 => 2#32
  | 105 => 2#32
  | 106 => 4#32
  | 107 => 3#32
  | 108 => 3#32
  | 109 => 1#32
  | 110 => 1#32
  | 111 => 2#32
  | 112 => 1#32
  | 113 => 3#32
  | 114 => 1#32
  | 115 => 1#32
  | 116 => 1#32
  | 117 => 1#32
  | 118 => 3#32
  | 119 => 1#32
  | 120 => 0#32
  | 121 => 3#32
  | 122 => 2#32
  | 123 => 0#32
  | 124 => 3#32
  | 125 => 2#32
  | 126 => 1#32
  | 127 => 4#32
  | _ => 0#32

noncomputable abbrev lit0t0_71 (i : Nat) : BitVec 32 := match i % 128 with
  | 0 => 2#32
  | 1 => 4#32
  | 2 => 4#32
  | 3 => 3#32
  | 4 => 2#32
  | 5 => 2#32
  | 6 => 3#32
  | 7 => 3#32
  | 8 => 2#32
  | 9 => 0#32
  | 10 => 1#32
  | 11 => 2#32
  | 12 => 4#32
  | 13 => 4#32
  | 14 => 4#32
  | 15 => 1#32
  | 16 => 2#32
  | 17 => 2#32
  | 18 => 1#32
  | 19 => 4#32
  | 20 => 2#32
  | 21 => 2#32
  | 22 => 3#32
  | 23 => 2#32
  | 24 => 2#32
  | 25 => 0#32
  | 26 => 1#32
  | 27 => 4#32
  | 28 => 3#32
  | 29 => 2#32
  | 30 => 4#32
  | 31 => 4#32
  | 32 => 3#32
  | 33 => 1#32
  | 34 => 0#32
  | 35 => 4#32
  | 36 => 3#32
  | 37 => 2#32
  | 38 => 1#32
  | 39 => 0#32
  | 40 => 0#32
  | 41 => 1#32
  | 42 => 1#32
  | 43 => 3#32
  | 44 => 2#32
  | 45 => 3#32
  | 46 => 3#32
  | 47 => 2#32
  | 48 => 4#32
  | 49 => 0#32
  | 50 => 0#32
  | 51 => 0#32
  | 52 => 1#32
  | 53 => 3#32
  | 54 => 2#32
  | 55 => 3#32
  | 56 => 0#32
  | 57 => 3#32
  | 58 => 2#32
  | 59 => 0#32
  | 60 => 3#32
  | 61 => 4#32
  | 62 => 3#32
  | 63 => 1#32
  | 64 => 3#32
  | 65 => 3#32
  | 66 => 1#32
  | 67 => 1#32
  | 68 => 3#32
  | 69 => 1#32
  | 70 => 2#32
  | 71 => 4#32
  | 72 => 2#32
  | 73 => 4#32
  | 74 => 1#32
  | 75 => 1#32
  | 76 => 2#32
  | 77 => 3#32
  | 78 => 0#32
  | 79 => 1#32
  | 80 => 4#32
  | 81 => 1#32
  | 82 => 4#32
  | 83 => 2#32
  | 84 => 4#32
  | 85 => 0#32
  | 86 => 2#32
  | 87 => 4#32
  | 88 => 4#32
  | 89 => 4#32
  | 90 => 2#32
  | 91 => 4#32
  | 92 => 3#32
  | 93 => 3#32
  | 94 => 4#32
  | 95 => 1#32
  | 96 => 0#32
  | 97 => 2#32
  | 98 => 0#32
  | 99 => 0#32
  | 100 => 2#32
  | 101 => 3#32
  | 102 => 0#32
  | 103 => 3#32
  | 104 => 0#32
  | 105 => 2#32
  | 106 => 1#32
  | 107 => 4#32
  | 108 => 2#32
  | 109 => 1#32
  | 110 => 4#32
  | 111 => 4#32
  | 112 => 0#32
  | 113 => 4#32
  | 114 => 3#32
  | 115 => 0#32
  | 116 => 2#32
  | 117 => 3#32
  | 118 => 3#32
  | 119 => 4#32
  | 120 => 1#32
  | 121 => 2#32
  | 122 => 4#32
  | 123 => 4#32
  | 124 => 4#32
  | 125 => 3#32
  | 126 => 4#32
  | 127 => 3#32
  | _ => 0#32

noncomputable abbrev lit0t0_72 (i : Nat) : BitVec 32 := match i % 128 with
  | 0 => 0#32
  | 1 => 0#32
  | 2 => 4#32
  | 3 => 3#32
  | 4 => 3#32
  | 5 => 2#32
  | 6 => 4#32
  | 7 => 2#32
  | 8 => 1#32
  | 9 => 3#32
  | 10 => 3#32
  | 11 => 3#32
  | 12 => 4#32
  | 13 => 3#32
  | 14 => 4#32
  | 15 => 4#32
  | 16 => 1#32
  | 17 => 0#32
  | 18 => 3#32
  | 19 => 0#32
  | 20 => 1#32
  | 21 => 0#32
  | 22 => 3#32
  | 23 => 1#32
  | 24 => 1#32
  | 25 => 1#32
  | 26 => 1#32
  | 27 => 0#32
  | 28 => 0#32
  | 29 => 0#32
  | 30 => 3#32
  | 31 => 2#32
  | 32 => 3#32
  | 33 => 2#32
  | 34 => 1#32
  | 35 => 2#32
  | 36 => 3#32
  | 37 => 0#32
  | 38 => 0#32
  | 39 => 0#32
  | 40 => 4#32
  | 41 => 4#32
  | 42 => 0#32
  | 43 => 4#32
  | 44 => 0#32
  | 45 => 1#32
  | 46 => 2#32
  | 47 => 4#32
  | 48 => 3#32
  | 49 => 2#32
  | 50 => 2#32
  | 51 => 0#32
  | 52 => 4#32
  | 53 => 2#32
  | 54 => 2#32
  | 55 => 0#32
  | 56 => 0#32
  | 57 => 2#32
  | 58 => 4#32
  | 59 => 3#32
  | 60 => 0#32
  | 61 => 1#32
  | 62 => 4#32
  | 63 => 0#32
  | 64 => 4#32
  | 65 => 2#32
  | 66 => 4#32
  | 67 => 1#32
  | 68 => 4#32
  | 69 => 2#32
  | 70 => 0#32
  | 71 => 0#32
  | 72 => 2#32
  | 73 => 2#32
  | 74 => 3#32
  | 75 => 1#32
  | 76 => 2#32
  | 77 => 2#32
  | 78 => 1#32
  | 79 => 2#32
  | 80 => 1#32
  | 81 => 1#32
  | 82 => 4#32
  | 83 => 3#32
  | 84 => 4#32
  | 85 => 2#32
  | 86 => 0#32
  | 87 => 3#32
  | 88 => 2#32
  | 89 => 2#32
  | 90 => 0#32
  | 91 => 1#32
  | 92 => 2#32
  | 93 => 1#32
  | 94 => 1#32
  | 95 => 3#32
  | 96 => 2#32
  | 97 => 2#32
  | 98 => 3#32
  | 99 => 0#32
  | 100 => 2#32
  | 101 => 3#32
  | 102 => 2#32
  | 103 => 4#32
  | 104 => 3#32
  | 105 => 2#32
  | 106 => 0#32
  | 107 => 3#32
  | 108 => 2#32
  | 109 => 1#32
  | 110 => 3#32
  | 111 => 1#32
  | 112 => 4#32
  | 113 => 1#32
  | 114 => 2#32
  | 115 => 4#32
  | 116 => 3#32
  | 117 => 4#32
  | 118 => 4#32
  | 119 => 0#32
  | 120 => 4#32
  | 121 => 4#32
  | 122 => 0#32
  | 123 => 2#32
  | 124 => 1#32
  | 125 => 4#32
  | 126 => 0#32
  | 127 => 3#32
  | _ => 0#32

noncomputable abbrev lit0t0_73 (i : Nat) : BitVec 32 := match i % 128 with
  | 0 => 0#32
  | 1 => 3#32
  | 2 => 0#32
  | 3 => 2#32
  | 4 => 3#32
  | 5 => 3#32
  | 6 => 2#32
  | 7 => 4#32
  | 8 => 1#32
  | 9 => 2#32
  | 10 => 1#32
  | 11 => 0#32
  | 12 => 4#32
  | 13 => 1#32
  | 14 => 2#32
  | 15 => 3#32
  | 16 => 1#32
  | 17 => 2#32
  | 18 => 2#32
  | 19 => 2#32
  | 20 => 4#32
  | 21 => 4#32
  | 22 => 0#32
  | 23 => 2#32
  | 24 => 3#32
  | 25 => 0#32
  | 26 => 4#32
  | 27 => 0#32
  | 28 => 3#32
  | 29 => 1#32
  | 30 => 3#32
  | 31 => 3#32
  | 32 => 1#32
  | 33 => 4#32
  | 34 => 0#32
  | 35 => 1#32
  | 36 => 2#32
  | 37 => 1#32
  | 38 => 0#32
  | 39 => 0#32
  | 40 => 4#32
  | 41 => 3#32
  | 42 => 2#32
  | 43 => 3#32
  | 44 => 4#32
  | 45 => 2#32
  | 46 => 0#32
  | 47 => 4#32
  | 48 => 3#32
  | 49 => 3#32
  | 50 => 0#32
  | 51 => 1#32
  | 52 => 3#32
  | 53 => 1#32
  | 54 => 2#32
  | 55 => 4#32
  | 56 => 2#32
  | 57 => 3#32
  | 58 => 2#32
  | 59 => 3#32
  | 60 => 0#32
  | 61 => 0#32
  | 62 => 4#32
  | 63 => 0#32
  | 64 => 1#32
  | 65 => 2#32
  | 66 => 1#32
  | 67 => 0#32
  | 68 => 0#32
  | 69 => 2#32
  | 70 => 4#32
  | 71 => 1#32
  | 72 => 4#32
  | 73 => 3#32
  | 74 => 3#32
  | 75 => 0#32
  | 76 => 0#32
  | 77 => 3#32
  | 78 => 2#32
  | 79 => 2#32
  | 80 => 0#32
  | 81 => 0#32
  | 82 => 2#32
  | 83 => 3#32
  | 84 => 3#32
  | 85 => 4#32
  | 86 => 1#32
  | 87 => 3#32
  | 88 => 1#32
  | 89 => 0#32
  | 90 => 2#32
  | 91 => 2#32
  | 92 => 2#32
  | 93 => 2#32
  | 94 => 4#32
  | 95 => 2#32
  | 96 => 4#32
  | 97 => 1#32
  | 98 => 2#32
  | 99 => 2#32
  | 100 => 2#32
  | 101 => 0#32
  | 102 => 0#32
  | 103 => 2#32
  | 104 => 0#32
  | 105 => 0#32
  | 106 => 4#32
  | 107 => 2#32
  | 108 => 2#32
  | 109 => 2#32
  | 110 => 0#32
  | 111 => 3#32
  | 112 => 2#32
  | 113 => 2#32
  | 114 => 2#32
  | 115 => 1#32
  | 116 => 3#32
  | 117 => 4#32
  | 118 => 3#32
  | 119 => 2#32
  | 120 => 2#32
  | 121 => 1#32
  | 122 => 4#32
  | 123 => 1#32
  | 124 => 2#32
  | 125 => 2#32
  | 126 => 2#32
  | 127 => 2#32
  | _ => 0#32

noncomputable abbrev lit0t0_74 (i : Nat) : BitVec 32 := match i % 128 with
  | 0 => 1#32
  | 1 => 0#32
  | 2 => 2#32
  | 3 => 1#32
  | 4 => 1#32
  | 5 => 4#32
  | 6 => 3#32
  | 7 => 1#32
  | 8 => 1#32
  | 9 => 3#32
  | 10 => 2#32
  | 11 => 1#32
  | 12 => 1#32
  | 13 => 0#32
  | 14 => 2#32
  | 15 => 1#32
  | 16 => 3#32
  | 17 => 2#32
  | 18 => 4#32
  | 19 => 0#32
  | 20 => 1#32
  | 21 => 0#32
  | 22 => 0#32
  | 23 => 2#32
  | 24 => 4#32
  | 25 => 3#32
  | 26 => 4#32
  | 27 => 2#32
  | 28 => 3#32
  | 29 => 4#32
  | 30 => 3#32
  | 31 => 4#32
  | 32 => 3#32
  | 33 => 2#32
  | 34 => 1#32
  | 35 => 0#32
  | 36 => 4#32
  | 37 => 0#32
  | 38 => 0#32
  | 39 => 4#32
  | 40 => 3#32
  | 41 => 4#32
  | 42 => 3#32
  | 43 => 1#32
  | 44 => 1#32
  | 45 => 1#32
  | 46 => 2#32
  | 47 => 3#32
  | 48 => 2#32
  | 49 => 0#32
  | 50 => 3#32
  | 51 => 1#32
  | 52 => 4#32
  | 53 => 3#32
  | 54 => 0#32
  | 55 => 0#32
  | 56 => 4#32
  | 57 => 0#32
  | 58 => 4#32
  | 59 => 4#32
  | 60 => 4#32
  | 61 => 0#32
  | 62 => 1#32
  | 63 => 1#32
  | 64 => 4#32
  | 65 => 3#32
  | 66 => 1#32
  | 67 => 2#32
  | 68 => 1#32
  | 69 => 2#32
  | 70 => 3#32
  | 71 => 4#32
  | 72 => 4#32
  | 73 => 3#32
  | 74 => 0#32
  | 75 => 4#32
  | 76 => 2#32
  | 77 => 0#32
  | 78 => 4#32
  | 79 => 0#32
  | 80 => 1#32
  | 81 => 1#32
  | 82 => 0#32
  | 83 => 0#32
  | 84 => 4#32
  | 85 => 3#32
  | 86 => 4#32
  | 87 => 0#32
  | 88 => 3#32
  | 89 => 4#32
  | 90 => 3#32
  | 91 => 4#32
  | 92 => 4#32
  | 93 => 3#32
  | 94 => 3#32
  | 95 => 3#32
  | 96 => 0#32
  | 97 => 3#32
  | 98 => 2#32
  | 99 => 2#32
  | 100 => 4#32
  | 101 => 0#32
  | 102 => 3#32
  | 103 => 2#32
  | 104 => 1#32
  | 105 => 4#32
  | 106 => 2#32
  | 107 => 4#32
  | 108 => 3#32
  | 109 => 2#32
  | 110 => 1#32
  | 111 => 1#32
  | 112 => 1#32
  | 113 => 2#32
  | 114 => 4#32
  | 115 => 2#32
  | 116 => 1#32
  | 117 => 3#32
  | 118 => 3#32
  | 119 => 3#32
  | 120 => 2#32
  | 121 => 2#32
  | 122 => 2#32
  | 123 => 1#32
  | 124 => 1#32
  | 125 => 1#32
  | 126 => 1#32
  | 127 => 4#32
  | _ => 0#32

noncomputable abbrev lit0t0_75 (i : Nat) : BitVec 32 := match i % 128 with
  | 0 => 3#32
  | 1 => 1#32
  | 2 => 4#32
  | 3 => 4#32
  | 4 => 4#32
  | 5 => 2#32
  | 6 => 4#32
  | 7 => 3#32
  | 8 => 0#32
  | 9 => 3#32
  | 10 => 3#32
  | 11 => 2#32
  | 12 => 4#32
  | 13 => 2#32
  | 14 => 2#32
  | 15 => 1#32
  | 16 => 4#32
  | 17 => 2#32
  | 18 => 1#32
  | 19 => 3#32
  | 20 => 2#32
  | 21 => 1#32
  | 22 => 1#32
  | 23 => 2#32
  | 24 => 2#32
  | 25 => 0#32
  | 26 => 4#32
  | 27 => 4#32
  | 28 => 3#32
  | 29 => 1#32
  | 30 => 2#32
  | 31 => 4#32
  | 32 => 0#32
  | 33 => 1#32
  | 34 => 2#32
  | 35 => 2#32
  | 36 => 0#32
  | 37 => 2#32
  | 38 => 3#32
  | 39 => 2#32
  | 40 => 2#32
  | 41 => 3#32
  | 42 => 4#32
  | 43 => 3#32
  | 44 => 3#32
  | 45 => 1#32
  | 46 => 4#32
  | 47 => 4#32
  | 48 => 0#32
  | 49 => 0#32
  | 50 => 2#32
  | 51 => 2#32
  | 52 => 0#32
  | 53 => 1#32
  | 54 => 0#32
  | 55 => 1#32
  | 56 => 4#32
  | 57 => 2#32
  | 58 => 1#32
  | 59 => 3#32
  | 60 => 3#32
  | 61 => 0#32
  | 62 => 2#32
  | 63 => 0#32
  | 64 => 1#32
  | 65 => 4#32
  | 66 => 3#32
  | 67 => 3#32
  | 68 => 2#32
  | 69 => 2#32
  | 70 => 4#32
  | 71 => 4#32
  | 72 => 0#32
  | 73 => 3#32
  | 74 => 2#32
  | 75 => 2#32
  | 76 => 1#32
  | 77 => 0#32
  | 78 => 1#32
  | 79 => 2#32
  | 80 => 1#32
  | 81 => 1#32
  | 82 => 4#32
  | 83 => 2#32
  | 84 => 2#32
  | 85 => 2#32
  | 86 => 1#32
  | 87 => 3#32
  | 88 => 3#32
  | 89 => 1#32
  | 90 => 2#32
  | 91 => 3#32
  | 92 => 1#32
  | 93 => 0#32
  | 94 => 3#32
  | 95 => 1#32
  | 96 => 2#32
  | 97 => 4#32
  | 98 => 4#32
  | 99 => 4#32
  | 100 => 3#32
  | 101 => 1#32
  | 102 => 3#32
  | 103 => 4#32
  | 104 => 3#32
  | 105 => 1#32
  | 106 => 1#32
  | 107 => 3#32
  | 108 => 3#32
  | 109 => 1#32
  | 110 => 4#32
  | 111 => 4#32
  | 112 => 3#32
  | 113 => 3#32
  | 114 => 4#32
  | 115 => 3#32
  | 116 => 0#32
  | 117 => 0#32
  | 118 => 4#32
  | 119 => 0#32
  | 120 => 1#32
  | 121 => 4#32
  | 122 => 3#32
  | 123 => 0#32
  | 124 => 1#32
  | 125 => 0#32
  | 126 => 4#32
  | 127 => 2#32
  | _ => 0#32

noncomputable abbrev lit0t0_76 (i : Nat) : BitVec 32 := match i % 128 with
  | 0 => 3#32
  | 1 => 1#32
  | 2 => 1#32
  | 3 => 3#32
  | 4 => 4#32
  | 5 => 0#32
  | 6 => 0#32
  | 7 => 4#32
  | 8 => 1#32
  | 9 => 1#32
  | 10 => 4#32
  | 11 => 1#32
  | 12 => 1#32
  | 13 => 3#32
  | 14 => 3#32
  | 15 => 3#32
  | 16 => 3#32
  | 17 => 3#32
  | 18 => 1#32
  | 19 => 2#32
  | 20 => 4#32
  | 21 => 2#32
  | 22 => 0#32
  | 23 => 4#32
  | 24 => 3#32
  | 25 => 0#32
  | 26 => 3#32
  | 27 => 2#32
  | 28 => 3#32
  | 29 => 2#32
  | 30 => 1#32
  | 31 => 3#32
  | 32 => 0#32
  | 33 => 0#32
  | 34 => 0#32
  | 35 => 0#32
  | 36 => 3#32
  | 37 => 3#32
  | 38 => 0#32
  | 39 => 1#32
  | 40 => 0#32
  | 41 => 1#32
  | 42 => 0#32
  | 43 => 0#32
  | 44 => 2#32
  | 45 => 4#32
  | 46 => 3#32
  | 47 => 2#32
  | 48 => 3#32
  | 49 => 3#32
  | 50 => 0#32
  | 51 => 3#32
  | 52 => 4#32
  | 53 => 0#32
  | 54 => 2#32
  | 55 => 3#32
  | 56 => 1#32
  | 57 => 3#32
  | 58 => 3#32
  | 59 => 3#32
  | 60 => 0#32
  | 61 => 4#32
  | 62 => 3#32
  | 63 => 1#32
  | 64 => 4#32
  | 65 => 3#32
  | 66 => 1#32
  | 67 => 0#32
  | 68 => 1#32
  | 69 => 2#32
  | 70 => 0#32
  | 71 => 4#32
  | 72 => 3#32
  | 73 => 1#32
  | 74 => 3#32
  | 75 => 2#32
  | 76 => 4#32
  | 77 => 0#32
  | 78 => 2#32
  | 79 => 4#32
  | 80 => 1#32
  | 81 => 4#32
  | 82 => 1#32
  | 83 => 2#32
  | 84 => 1#32
  | 85 => 1#32
  | 86 => 1#32
  | 87 => 3#32
  | 88 => 0#32
  | 89 => 3#32
  | 90 => 0#32
  | 91 => 4#32
  | 92 => 0#32
  | 93 => 4#32
  | 94 => 3#32
  | 95 => 2#32
  | 96 => 2#32
  | 97 => 1#32
  | 98 => 1#32
  | 99 => 3#32
  | 100 => 4#32
  | 101 => 3#32
  | 102 => 0#32
  | 103 => 2#32
  | 104 => 0#32
  | 105 => 1#32
  | 106 => 4#32
  | 107 => 0#32
  | 108 => 2#32
  | 109 => 3#32
  | 110 => 0#32
  | 111 => 3#32
  | 112 => 3#32
  | 113 => 0#32
  | 114 => 1#32
  | 115 => 0#32
  | 116 => 3#32
  | 117 => 0#32
  | 118 => 0#32
  | 119 => 0#32
  | 120 => 0#32
  | 121 => 1#32
  | 122 => 4#32
  | 123 => 1#32
  | 124 => 2#32
  | 125 => 1#32
  | 126 => 1#32
  | 127 => 1#32
  | _ => 0#32

noncomputable abbrev lit0t0_77 (i : Nat) : BitVec 32 := match i % 128 with
  | 0 => 4#32
  | 1 => 3#32
  | 2 => 2#32
  | 3 => 1#32
  | 4 => 2#32
  | 5 => 4#32
  | 6 => 1#32
  | 7 => 1#32
  | 8 => 4#32
  | 9 => 1#32
  | 10 => 2#32
  | 11 => 4#32
  | 12 => 0#32
  | 13 => 0#32
  | 14 => 3#32
  | 15 => 1#32
  | 16 => 4#32
  | 17 => 1#32
  | 18 => 4#32
  | 19 => 4#32
  | 20 => 2#32
  | 21 => 4#32
  | 22 => 0#32
  | 23 => 2#32
  | 24 => 0#32
  | 25 => 1#32
  | 26 => 3#32
  | 27 => 4#32
  | 28 => 0#32
  | 29 => 4#32
  | 30 => 2#32
  | 31 => 3#32
  | 32 => 2#32
  | 33 => 4#32
  | 34 => 3#32
  | 35 => 1#32
  | 36 => 2#32
  | 37 => 2#32
  | 38 => 3#32
  | 39 => 3#32
  | 40 => 0#32
  | 41 => 2#32
  | 42 => 0#32
  | 43 => 3#32
  | 44 => 1#32
  | 45 => 0#32
  | 46 => 2#32
  | 47 => 3#32
  | 48 => 0#32
  | 49 => 2#32
  | 50 => 0#32
  | 51 => 4#32
  | 52 => 4#32
  | 53 => 0#32
  | 54 => 4#32
  | 55 => 0#32
  | 56 => 0#32
  | 57 => 2#32
  | 58 => 1#32
  | 59 => 1#32
  | 60 => 0#32
  | 61 => 4#32
  | 62 => 3#32
  | 63 => 3#32
  | 64 => 2#32
  | 65 => 0#32
  | 66 => 0#32
  | 67 => 2#32
  | 68 => 1#32
  | 69 => 4#32
  | 70 => 2#32
  | 71 => 4#32
  | 72 => 0#32
  | 73 => 0#32
  | 74 => 4#32
  | 75 => 0#32
  | 76 => 4#32
  | 77 => 0#32
  | 78 => 3#32
  | 79 => 2#32
  | 80 => 0#32
  | 81 => 1#32
  | 82 => 4#32
  | 83 => 2#32
  | 84 => 2#32
  | 85 => 0#32
  | 86 => 1#32
  | 87 => 0#32
  | 88 => 4#32
  | 89 => 4#32
  | 90 => 1#32
  | 91 => 2#32
  | 92 => 0#32
  | 93 => 3#32
  | 94 => 3#32
  | 95 => 0#32
  | 96 => 2#32
  | 97 => 0#32
  | 98 => 2#32
  | 99 => 1#32
  | 100 => 4#32
  | 101 => 0#32
  | 102 => 4#32
  | 103 => 3#32
  | 104 => 1#32
  | 105 => 4#32
  | 106 => 2#32
  | 107 => 1#32
  | 108 => 2#32
  | 109 => 1#32
  | 110 => 2#32
  | 111 => 3#32
  | 112 => 4#32
  | 113 => 2#32
  | 114 => 0#32
  | 115 => 4#32
  | 116 => 0#32
  | 117 => 4#32
  | 118 => 3#32
  | 119 => 3#32
  | 120 => 0#32
  | 121 => 3#32
  | 122 => 3#32
  | 123 => 2#32
  | 124 => 4#32
  | 125 => 3#32
  | 126 => 4#32
  | 127 => 0#32
  | _ => 0#32

noncomputable abbrev lit0t0_78 (i : Nat) : BitVec 32 := match i % 128 with
  | 0 => 2#32
  | 1 => 2#32
  | 2 => 0#32
  | 3 => 3#32
  | 4 => 3#32
  | 5 => 2#32
  | 6 => 0#32
  | 7 => 0#32
  | 8 => 2#32
  | 9 => 0#32
  | 10 => 3#32
  | 11 => 1#32
  | 12 => 4#32
  | 13 => 1#32
  | 14 => 2#32
  | 15 => 3#32
  | 16 => 3#32
  | 17 => 4#32
  | 18 => 0#32
  | 19 => 3#32
  | 20 => 3#32
  | 21 => 3#32
  | 22 => 4#32
  | 23 => 1#32
  | 24 => 4#32
  | 25 => 3#32
  | 26 => 0#32
  | 27 => 1#32
  | 28 => 3#32
  | 29 => 3#32
  | 30 => 3#32
  | 31 => 3#32
  | 32 => 3#32
  | 33 => 0#32
  | 34 => 3#32
  | 35 => 3#32
  | 36 => 4#32
  | 37 => 0#32
  | 38 => 3#32
  | 39 => 2#32
  | 40 => 1#32
  | 41 => 2#32
  | 42 => 3#32
  | 43 => 4#32
  | 44 => 0#32
  | 45 => 4#32
  | 46 => 2#32
  | 47 => 3#32
  | 48 => 2#32
  | 49 => 2#32
  | 50 => 3#32
  | 51 => 2#32
  | 52 => 3#32
  | 53 => 3#32
  | 54 => 1#32
  | 55 => 3#32
  | 56 => 3#32
  | 57 => 4#32
  | 58 => 1#32
  | 59 => 4#32
  | 60 => 2#32
  | 61 => 1#32
  | 62 => 2#32
  | 63 => 2#32
  | 64 => 2#32
  | 65 => 0#32
  | 66 => 1#32
  | 67 => 2#32
  | 68 => 0#32
  | 69 => 2#32
  | 70 => 4#32
  | 71 => 0#32
  | 72 => 0#32
  | 73 => 1#32
  | 74 => 1#32
  | 75 => 2#32
  | 76 => 3#32
  | 77 => 1#32
  | 78 => 0#32
  | 79 => 0#32
  | 80 => 3#32
  | 81 => 0#32
  | 82 => 2#32
  | 83 => 4#32
  | 84 => 0#32
  | 85 => 4#32
  | 86 => 3#32
  | 87 => 1#32
  | 88 => 1#32
  | 89 => 4#32
  | 90 => 0#32
  | 91 => 0#32
  | 92 => 0#32
  | 93 => 0#32
  | 94 => 3#32
  | 95 => 0#32
  | 96 => 1#32
  | 97 => 1#32
  | 98 => 3#32
  | 99 => 4#32
  | 100 => 3#32
  | 101 => 4#32
  | 102 => 2#32
  | 103 => 4#32
  | 104 => 2#32
  | 105 => 0#32
  | 106 => 4#32
  | 107 => 1#32
  | 108 => 1#32
  | 109 => 2#32
  | 110 => 2#32
  | 111 => 1#32
  | 112 => 1#32
  | 113 => 4#32
  | 114 => 3#32
  | 115 => 4#32
  | 116 => 1#32
  | 117 => 4#32
  | 118 => 0#32
  | 119 => 2#32
  | 120 => 0#32
  | 121 => 3#32
  | 122 => 2#32
  | 123 => 3#32
  | 124 => 1#32
  | 125 => 2#32
  | 126 => 3#32
  | 127 => 0#32
  | _ => 0#32

noncomputable abbrev lit0t0_79 (i : Nat) : BitVec 32 := match i % 128 with
  | 0 => 3#32
  | 1 => 1#32
  | 2 => 0#32
  | 3 => 3#32
  | 4 => 4#32
  | 5 => 0#32
  | 6 => 2#32
  | 7 => 0#32
  | 8 => 3#32
  | 9 => 1#32
  | 10 => 1#32
  | 11 => 1#32
  | 12 => 4#32
  | 13 => 2#32
  | 14 => 4#32
  | 15 => 0#32
  | 16 => 1#32
  | 17 => 2#32
  | 18 => 0#32
  | 19 => 3#32
  | 20 => 3#32
  | 21 => 4#32
  | 22 => 0#32
  | 23 => 4#32
  | 24 => 0#32
  | 25 => 2#32
  | 26 => 0#32
  | 27 => 3#32
  | 28 => 3#32
  | 29 => 0#32
  | 30 => 1#32
  | 31 => 2#32
  | 32 => 1#32
  | 33 => 1#32
  | 34 => 0#32
  | 35 => 0#32
  | 36 => 0#32
  | 37 => 1#32
  | 38 => 3#32
  | 39 => 1#32
  | 40 => 3#32
  | 41 => 4#32
  | 42 => 0#32
  | 43 => 1#32
  | 44 => 4#32
  | 45 => 2#32
  | 46 => 1#32
  | 47 => 0#32
  | 48 => 2#32
  | 49 => 3#32
  | 50 => 2#32
  | 51 => 0#32
  | 52 => 3#32
  | 53 => 0#32
  | 54 => 4#32
  | 55 => 1#32
  | 56 => 1#32
  | 57 => 4#32
  | 58 => 3#32
  | 59 => 4#32
  | 60 => 0#32
  | 61 => 1#32
  | 62 => 0#32
  | 63 => 2#32
  | 64 => 2#32
  | 65 => 1#32
  | 66 => 4#32
  | 67 => 4#32
  | 68 => 2#32
  | 69 => 0#32
  | 70 => 1#32
  | 71 => 3#32
  | 72 => 1#32
  | 73 => 2#32
  | 74 => 4#32
  | 75 => 4#32
  | 76 => 0#32
  | 77 => 0#32
  | 78 => 3#32
  | 79 => 4#32
  | 80 => 2#32
  | 81 => 4#32
  | 82 => 4#32
  | 83 => 4#32
  | 84 => 0#32
  | 85 => 1#32
  | 86 => 0#32
  | 87 => 1#32
  | 88 => 4#32
  | 89 => 0#32
  | 90 => 0#32
  | 91 => 2#32
  | 92 => 2#32
  | 93 => 2#32
  | 94 => 1#32
  | 95 => 0#32
  | 96 => 4#32
  | 97 => 4#32
  | 98 => 1#32
  | 99 => 1#32
  | 100 => 1#32
  | 101 => 4#32
  | 102 => 0#32
  | 103 => 2#32
  | 104 => 1#32
  | 105 => 1#32
  | 106 => 4#32
  | 107 => 0#32
  | 108 => 3#32
  | 109 => 2#32
  | 110 => 1#32
  | 111 => 1#32
  | 112 => 3#32
  | 113 => 2#32
  | 114 => 4#32
  | 115 => 1#32
  | 116 => 1#32
  | 117 => 2#32
  | 118 => 1#32
  | 119 => 1#32
  | 120 => 3#32
  | 121 => 3#32
  | 122 => 3#32
  | 123 => 2#32
  | 124 => 1#32
  | 125 => 4#32
  | 126 => 0#32
  | 127 => 3#32
  | _ => 0#32

noncomputable abbrev lit0t0_80 (i : Nat) : BitVec 32 := match i % 128 with
  | 0 => 0#32
  | 1 => 2#32
  | 2 => 0#32
  | 3 => 1#32
  | 4 => 3#32
  | 5 => 1#32
  | 6 => 3#32
  | 7 => 4#32
  | 8 => 2#32
  | 9 => 3#32
  | 10 => 4#32
  | 11 => 3#32
  | 12 => 0#32
  | 13 => 1#32
  | 14 => 1#32
  | 15 => 3#32
  | 16 => 2#32
  | 17 => 4#32
  | 18 => 1#32
  | 19 => 0#32
  | 20 => 1#32
  | 21 => 4#32
  | 22 => 0#32
  | 23 => 0#32
  | 24 => 0#32
  | 25 => 2#32
  | 26 => 1#32
  | 27 => 3#32
  | 28 => 2#32
  | 29 => 2#32
  | 30 => 2#32
  | 31 => 1#32
  | 32 => 4#32
  | 33 => 1#32
  | 34 => 0#32
  | 35 => 4#32
  | 36 => 1#32
  | 37 => 3#32
  | 38 => 4#32
  | 39 => 0#32
  | 40 => 3#32
  | 41 => 2#32
  | 42 => 4#32
  | 43 => 4#32
  | 44 => 0#32
  | 45 => 3#32
  | 46 => 2#32
  | 47 => 1#32
  | 48 => 3#32
  | 49 => 0#32
  | 50 => 0#32
  | 51 => 3#32
  | 52 => 1#32
  | 53 => 3#32
  | 54 => 4#32
  | 55 => 2#32
  | 56 => 4#32
  | 57 => 1#32
  | 58 => 3#32
  | 59 => 3#32
  | 60 => 3#32
  | 61 => 0#32
  | 62 => 1#32
  | 63 => 3#32
  | 64 => 0#32
  | 65 => 1#32
  | 66 => 0#32
  | 67 => 0#32
  | 68 => 2#32
  | 69 => 3#32
  | 70 => 1#32
  | 71 => 3#32
  | 72 => 3#32
  | 73 => 0#32
  | 74 => 1#32
  | 75 => 3#32
  | 76 => 3#32
  | 77 => 4#32
  | 78 => 4#32
  | 79 => 4#32
  | 80 => 1#32
  | 81 => 4#32
  | 82 => 0#32
  | 83 => 2#32
  | 84 => 2#32
  | 85 => 3#32
  | 86 => 0#32
  | 87 => 2#32
  | 88 => 0#32
  | 89 => 2#32
  | 90 => 0#32
  | 91 => 3#32
  | 92 => 1#32
  | 93 => 4#32
  | 94 => 0#32
  | 95 => 3#32
  | 96 => 2#32
  | 97 => 0#32
  | 98 => 2#32
  | 99 => 0#32
  | 100 => 3#32
  | 101 => 2#32
  | 102 => 4#32
  | 103 => 0#32
  | 104 => 1#32
  | 105 => 4#32
  | 106 => 3#32
  | 107 => 1#32
  | 108 => 1#32
  | 109 => 1#32
  | 110 => 3#32
  | 111 => 2#32
  | 112 => 1#32
  | 113 => 2#32
  | 114 => 0#32
  | 115 => 2#32
  | 116 => 4#32
  | 117 => 3#32
  | 118 => 4#32
  | 119 => 0#32
  | 120 => 2#32
  | 121 => 0#32
  | 122 => 3#32
  | 123 => 3#32
  | 124 => 2#32
  | 125 => 1#32
  | 126 => 0#32
  | 127 => 3#32
  | _ => 0#32

noncomputable abbrev lit0t0_81 (i : Nat) : BitVec 32 := match i % 128 with
  | 0 => 1#32
  | 1 => 1#32
  | 2 => 3#32
  | 3 => 1#32
  | 4 => 0#32
  | 5 => 1#32
  | 6 => 3#32
  | 7 => 2#32
  | 8 => 2#32
  | 9 => 1#32
  | 10 => 1#32
  | 11 => 0#32
  | 12 => 4#32
  | 13 => 4#32
  | 14 => 2#32
  | 15 => 2#32
  | 16 => 2#32
  | 17 => 0#32
  | 18 => 4#32
  | 19 => 1#32
  | 20 => 0#32
  | 21 => 4#32
  | 22 => 4#32
  | 23 => 3#32
  | 24 => 2#32
  | 25 => 3#32
  | 26 => 4#32
  | 27 => 4#32
  | 28 => 3#32
  | 29 => 3#32
  | 30 => 4#32
  | 31 => 3#32
  | 32 => 1#32
  | 33 => 1#32
  | 34 => 0#32
  | 35 => 2#32
  | 36 => 4#32
  | 37 => 1#32
  | 38 => 0#32
  | 39 => 1#32
  | 40 => 1#32
  | 41 => 4#32
  | 42 => 1#32
  | 43 => 4#32
  | 44 => 0#32
  | 45 => 2#32
  | 46 => 1#32
  | 47 => 4#32
  | 48 => 4#32
  | 49 => 0#32
  | 50 => 0#32
  | 51 => 1#32
  | 52 => 0#32
  | 53 => 2#32
  | 54 => 0#32
  | 55 => 1#32
  | 56 => 0#32
  | 57 => 3#32
  | 58 => 3#32
  | 59 => 1#32
  | 60 => 2#32
  | 61 => 4#32
  | 62 => 2#32
  | 63 => 4#32
  | 64 => 4#32
  | 65 => 2#32
  | 66 => 0#32
  | 67 => 0#32
  | 68 => 3#32
  | 69 => 3#32
  | 70 => 2#32
  | 71 => 0#32
  | 72 => 4#32
  | 73 => 2#32
  | 74 => 1#32
  | 75 => 1#32
  | 76 => 4#32
  | 77 => 1#32
  | 78 => 2#32
  | 79 => 3#32
  | 80 => 4#32
  | 81 => 1#32
  | 82 => 0#32
  | 83 => 1#32
  | 84 => 3#32
  | 85 => 0#32
  | 86 => 3#32
  | 87 => 1#32
  | 88 => 2#32
  | 89 => 2#32
  | 90 => 4#32
  | 91 => 1#32
  | 92 => 3#32
  | 93 => 1#32
  | 94 => 0#32
  | 95 => 0#32
  | 96 => 2#32
  | 97 => 3#32
  | 98 => 2#32
  | 99 => 1#32
  | 100 => 3#32
  | 101 => 2#32
  | 102 => 4#32
  | 103 => 0#32
  | 104 => 2#32
  | 105 => 3#32
  | 106 => 2#32
  | 107 => 1#32
  | 108 => 2#32
  | 109 => 2#32
  | 110 => 0#32
  | 111 => 1#32
  | 112 => 4#32
  | 113 => 3#32
  | 114 => 4#32
  | 115 => 3#32
  | 116 => 4#32
  | 117 => 3#32
  | 118 => 4#32
  | 119 => 4#32
  | 120 => 3#32
  | 121 => 1#32
  | 122 => 3#32
  | 123 => 0#32
  | 124 => 0#32
  | 125 => 4#32
  | 126 => 1#32
  | 127 => 3#32
  | _ => 0#32

noncomputable abbrev lit0t0_82 (i : Nat) : BitVec 32 := match i % 128 with
  | 0 => 0#32
  | 1 => 0#32
  | 2 => 1#32
  | 3 => 3#32
  | 4 => 1#32
  | 5 => 4#32
  | 6 => 0#32
  | 7 => 1#32
  | 8 => 1#32
  | 9 => 1#32
  | 10 => 3#32
  | 11 => 1#32
  | 12 => 2#32
  | 13 => 1#32
  | 14 => 1#32
  | 15 => 4#32
  | 16 => 0#32
  | 17 => 2#32
  | 18 => 1#32
  | 19 => 1#32
  | 20 => 3#32
  | 21 => 1#32
  | 22 => 4#32
  | 23 => 2#32
  | 24 => 0#32
  | 25 => 3#32
  | 26 => 1#32
  | 27 => 3#32
  | 28 => 4#32
  | 29 => 1#32
  | 30 => 0#32
  | 31 => 0#32
  | 32 => 2#32
  | 33 => 2#32
  | 34 => 3#32
  | 35 => 3#32
  | 36 => 2#32
  | 37 => 0#32
  | 38 => 1#32
  | 39 => 1#32
  | 40 => 2#32
  | 41 => 4#32
  | 42 => 3#32
  | 43 => 3#32
  | 44 => 1#32
  | 45 => 3#32
  | 46 => 4#32
  | 47 => 4#32
  | 48 => 4#32
  | 49 => 2#32
  | 50 => 1#32
  | 51 => 3#32
  | 52 => 0#32
  | 53 => 2#32
  | 54 => 4#32
  | 55 => 0#32
  | 56 => 1#32
  | 57 => 2#32
  | 58 => 4#32
  | 59 => 0#32
  | 60 => 1#32
  | 61 => 1#32
  | 62 => 0#32
  | 63 => 4#32
  | 64 => 2#32
  | 65 => 2#32
  | 66 => 2#32
  | 67 => 1#32
  | 68 => 0#32
  | 69 => 3#32
  | 70 => 0#32
  | 71 => 4#32
  | 72 => 0#32
  | 73 => 4#32
  | 74 => 1#32
  | 75 => 1#32
  | 76 => 0#32
  | 77 => 2#32
  | 78 => 3#32
  | 79 => 4#32
  | 80 => 1#32
  | 81 => 3#32
  | 82 => 2#32
  | 83 => 0#32
  | 84 => 3#32
  | 85 => 4#32
  | 86 => 4#32
  | 87 => 4#32
  | 88 => 0#32
  | 89 => 2#32
  | 90 => 2#32
  | 91 => 4#32
  | 92 => 4#32
  | 93 => 3#32
  | 94 => 4#32
  | 95 => 3#32
  | 96 => 2#32
  | 97 => 4#32
  | 98 => 2#32
  | 99 => 0#32
  | 100 => 2#32
  | 101 => 3#32
  | 102 => 1#32
  | 103 => 0#32
  | 104 => 3#32
  | 105 => 1#32
  | 106 => 1#32
  | 107 => 4#32
  | 108 => 2#32
  | 109 => 4#32
  | 110 => 0#32
  | 111 => 2#32
  | 112 => 3#32
  | 113 => 0#32
  | 114 => 2#32
  | 115 => 0#32
  | 116 => 4#32
  | 117 => 3#32
  | 118 => 2#32
  | 119 => 3#32
  | 120 => 3#32
  | 121 => 4#32
  | 122 => 0#32
  | 123 => 4#32
  | 124 => 3#32
  | 125 => 3#32
  | 126 => 4#32
  | 127 => 0#32
  | _ => 0#32

noncomputable abbrev lit0t0_83 (i : Nat) : BitVec 32 := match i % 128 with
  | 0 => 1#32
  | 1 => 4#32
  | 2 => 1#32
  | 3 => 2#32
  | 4 => 2#32
  | 5 => 1#32
  | 6 => 0#32
  | 7 => 3#32
  | 8 => 3#32
  | 9 => 4#32
  | 10 => 0#32
  | 11 => 2#32
  | 12 => 0#32
  | 13 => 4#32
  | 14 => 2#32
  | 15 => 4#32
  | 16 => 4#32
  | 17 => 1#32
  | 18 => 0#32
  | 19 => 1#32
  | 20 => 0#32
  | 21 => 2#32
  | 22 => 3#32
  | 23 => 3#32
  | 24 => 3#32
  | 25 => 3#32
  | 26 => 2#32
  | 27 => 2#32
  | 28 => 2#32
  | 29 => 3#32
  | 30 => 2#32
  | 31 => 1#32
  | 32 => 3#32
  | 33 => 4#32
  | 34 => 0#32
  | 35 => 1#32
  | 36 => 0#32
  | 37 => 3#32
  | 38 => 4#32
  | 39 => 2#32
  | 40 => 0#32
  | 41 => 0#32
  | 42 => 3#32
  | 43 => 3#32
  | 44 => 0#32
  | 45 => 0#32
  | 46 => 3#32
  | 47 => 3#32
  | 48 => 1#32
  | 49 => 1#32
  | 50 => 1#32
  | 51 => 0#32
  | 52 => 0#32
  | 53 => 0#32
  | 54 => 3#32
  | 55 => 1#32
  | 56 => 0#32
  | 57 => 0#32
  | 58 => 2#32
  | 59 => 0#32
  | 60 => 1#32
  | 61 => 3#32
  | 62 => 1#32
  | 63 => 1#32
  | 64 => 3#32
  | 65 => 3#32
  | 66 => 3#32
  | 67 => 2#32
  | 68 => 1#32
  | 69 => 0#32
  | 70 => 4#32
  | 71 => 2#32
  | 72 => 3#32
  | 73 => 1#32
  | 74 => 2#32
  | 75 => 1#32
  | 76 => 4#32
  | 77 => 1#32
  | 78 => 0#32
  | 79 => 2#32
  | 80 => 2#32
  | 81 => 3#32
  | 82 => 1#32
  | 83 => 2#32
  | 84 => 2#32
  | 85 => 3#32
  | 86 => 2#32
  | 87 => 1#32
  | 88 => 2#32
  | 89 => 1#32
  | 90 => 4#32
  | 91 => 2#32
  | 92 => 1#32
  | 93 => 1#32
  | 94 => 4#32
  | 95 => 2#32
  | 96 => 2#32
  | 97 => 1#32
  | 98 => 3#32
  | 99 => 2#32
  | 100 => 4#32
  | 101 => 2#32
  | 102 => 1#32
  | 103 => 3#32
  | 104 => 0#32
  | 105 => 4#32
  | 106 => 2#32
  | 107 => 1#32
  | 108 => 3#32
  | 109 => 0#32
  | 110 => 4#32
  | 111 => 4#32
  | 112 => 2#32
  | 113 => 3#32
  | 114 => 2#32
  | 115 => 1#32
  | 116 => 0#32
  | 117 => 1#32
  | 118 => 4#32
  | 119 => 3#32
  | 120 => 2#32
  | 121 => 3#32
  | 122 => 1#32
  | 123 => 0#32
  | 124 => 4#32
  | 125 => 2#32
  | 126 => 0#32
  | 127 => 3#32
  | _ => 0#32

noncomputable abbrev lit0t0_84 (i : Nat) : BitVec 32 := match i % 128 with
  | 0 => 3#32
  | 1 => 4#32
  | 2 => 1#32
  | 3 => 4#32
  | 4 => 1#32
  | 5 => 1#32
  | 6 => 3#32
  | 7 => 0#32
  | 8 => 2#32
  | 9 => 3#32
  | 10 => 2#32
  | 11 => 1#32
  | 12 => 1#32
  | 13 => 2#32
  | 14 => 2#32
  | 15 => 4#32
  | 16 => 0#32
  | 17 => 1#32
  | 18 => 4#32
  | 19 => 1#32
  | 20 => 0#32
  | 21 => 4#32
  | 22 => 3#32
  | 23 => 1#32
  | 24 => 2#32
  | 25 => 2#32
  | 26 => 2#32
  | 27 => 2#32
  | 28 => 4#32
  | 29 => 0#32
  | 30 => 1#32
  | 31 => 0#32
  | 32 => 3#32
  | 33 => 1#32
  | 34 => 3#32
  | 35 => 0#32
  | 36 => 0#32
  | 37 => 2#32
  | 38 => 2#32
  | 39 => 3#32
  | 40 => 2#32
  | 41 => 4#32
  | 42 => 4#32
  | 43 => 4#32
  | 44 => 3#32
  | 45 => 3#32
  | 46 => 1#32
  | 47 => 3#32
  | 48 => 2#32
  | 49 => 2#32
  | 50 => 4#32
  | 51 => 1#32
  | 52 => 1#32
  | 53 => 4#32
  | 54 => 1#32
  | 55 => 3#32
  | 56 => 3#32
  | 57 => 4#32
  | 58 => 0#32
  | 59 => 1#32
  | 60 => 3#32
  | 61 => 3#32
  | 62 => 4#32
  | 63 => 1#32
  | 64 => 1#32
  | 65 => 4#32
  | 66 => 2#32
  | 67 => 1#32
  | 68 => 0#32
  | 69 => 1#32
  | 70 => 3#32
  | 71 => 1#32
  | 72 => 3#32
  | 73 => 1#32
  | 74 => 0#32
  | 75 => 1#32
  | 76 => 0#32
  | 77 => 3#32
  | 78 => 3#32
  | 79 => 1#32
  | 80 => 1#32
  | 81 => 2#32
  | 82 => 1#32
  | 83 => 3#32
  | 84 => 0#32
  | 85 => 4#32
  | 86 => 3#32
  | 87 => 4#32
  | 88 => 4#32
  | 89 => 2#32
  | 90 => 2#32
  | 91 => 3#32
  | 92 => 3#32
  | 93 => 3#32
  | 94 => 4#32
  | 95 => 0#32
  | 96 => 1#32
  | 97 => 2#32
  | 98 => 3#32
  | 99 => 3#32
  | 100 => 3#32
  | 101 => 1#32
  | 102 => 3#32
  | 103 => 2#32
  | 104 => 0#32
  | 105 => 4#32
  | 106 => 4#32
  | 107 => 0#32
  | 108 => 2#32
  | 109 => 1#32
  | 110 => 2#32
  | 111 => 1#32
  | 112 => 3#32
  | 113 => 0#32
  | 114 => 2#32
  | 115 => 1#32
  | 116 => 2#32
  | 117 => 3#32
  | 118 => 3#32
  | 119 => 3#32
  | 120 => 1#32
  | 121 => 2#32
  | 122 => 1#32
  | 123 => 3#32
  | 124 => 3#32
  | 125 => 0#32
  | 126 => 4#32
  | 127 => 3#32
  | _ => 0#32

noncomputable abbrev lit0t0_85 (i : Nat) : BitVec 32 := match i % 128 with
  | 0 => 1#32
  | 1 => 4#32
  | 2 => 1#32
  | 3 => 0#32
  | 4 => 1#32
  | 5 => 4#32
  | 6 => 0#32
  | 7 => 4#32
  | 8 => 3#32
  | 9 => 4#32
  | 10 => 4#32
  | 11 => 2#32
  | 12 => 2#32
  | 13 => 1#32
  | 14 => 3#32
  | 15 => 0#32
  | 16 => 4#32
  | 17 => 0#32
  | 18 => 4#32
  | 19 => 2#32
  | 20 => 1#32
  | 21 => 4#32
  | 22 => 3#32
  | 23 => 0#32
  | 24 => 4#32
  | 25 => 3#32
  | 26 => 4#32
  | 27 => 3#32
  | 28 => 4#32
  | 29 => 0#32
  | 30 => 2#32
  | 31 => 4#32
  | 32 => 3#32
  | 33 => 1#32
  | 34 => 2#32
  | 35 => 3#32
  | 36 => 4#32
  | 37 => 2#32
  | 38 => 3#32
  | 39 => 1#32
  | 40 => 0#32
  | 41 => 2#32
  | 42 => 0#32
  | 43 => 3#32
  | 44 => 3#32
  | 45 => 3#32
  | 46 => 3#32
  | 47 => 4#32
  | 48 => 1#32
  | 49 => 0#32
  | 50 => 0#32
  | 51 => 1#32
  | 52 => 0#32
  | 53 => 0#32
  | 54 => 2#32
  | 55 => 3#32
  | 56 => 2#32
  | 57 => 4#32
  | 58 => 0#32
  | 59 => 3#32
  | 60 => 1#32
  | 61 => 1#32
  | 62 => 2#32
  | 63 => 4#32
  | 64 => 3#32
  | 65 => 0#32
  | 66 => 2#32
  | 67 => 2#32
  | 68 => 4#32
  | 69 => 4#32
  | 70 => 0#32
  | 71 => 4#32
  | 72 => 1#32
  | 73 => 0#32
  | 74 => 3#32
  | 75 => 3#32
  | 76 => 3#32
  | 77 => 3#32
  | 78 => 2#32
  | 79 => 1#32
  | 80 => 3#32
  | 81 => 0#32
  | 82 => 0#32
  | 83 => 3#32
  | 84 => 2#32
  | 85 => 1#32
  | 86 => 1#32
  | 87 => 4#32
  | 88 => 3#32
  | 89 => 4#32
  | 90 => 1#32
  | 91 => 0#32
  | 92 => 2#32
  | 93 => 3#32
  | 94 => 3#32
  | 95 => 4#32
  | 96 => 0#32
  | 97 => 0#32
  | 98 => 0#32
  | 99 => 3#32
  | 100 => 1#32
  | 101 => 2#32
  | 102 => 0#32
  | 103 => 3#32
  | 104 => 2#32
  | 105 => 2#32
  | 106 => 1#32
  | 107 => 1#32
  | 108 => 4#32
  | 109 => 2#32
  | 110 => 0#32
  | 111 => 0#32
  | 112 => 2#32
  | 113 => 3#32
  | 114 => 3#32
  | 115 => 3#32
  | 116 => 3#32
  | 117 => 3#32
  | 118 => 3#32
  | 119 => 0#32
  | 120 => 2#32
  | 121 => 4#32
  | 122 => 3#32
  | 123 => 3#32
  | 124 => 3#32
  | 125 => 3#32
  | 126 => 4#32
  | 127 => 1#32
  | _ => 0#32

noncomputable abbrev lit0t0_86 (i : Nat) : BitVec 32 := match i % 128 with
  | 0 => 4#32
  | 1 => 1#32
  | 2 => 0#32
  | 3 => 4#32
  | 4 => 3#32
  | 5 => 4#32
  | 6 => 4#32
  | 7 => 3#32
  | 8 => 1#32
  | 9 => 3#32
  | 10 => 4#32
  | 11 => 0#32
  | 12 => 4#32
  | 13 => 4#32
  | 14 => 1#32
  | 15 => 1#32
  | 16 => 1#32
  | 17 => 2#32
  | 18 => 4#32
  | 19 => 2#32
  | 20 => 0#32
  | 21 => 3#32
  | 22 => 2#32
  | 23 => 2#32
  | 24 => 1#32
  | 25 => 3#32
  | 26 => 1#32
  | 27 => 4#32
  | 28 => 4#32
  | 29 => 0#32
  | 30 => 2#32
  | 31 => 1#32
  | 32 => 3#32
  | 33 => 1#32
  | 34 => 4#32
  | 35 => 1#32
  | 36 => 1#32
  | 37 => 3#32
  | 38 => 2#32
  | 39 => 0#32
  | 40 => 1#32
  | 41 => 4#32
  | 42 => 0#32
  | 43 => 3#32
  | 44 => 3#32
  | 45 => 3#32
  | 46 => 2#32
  | 47 => 2#32
  | 48 => 1#32
  | 49 => 3#32
  | 50 => 2#32
  | 51 => 0#32
  | 52 => 2#32
  | 53 => 3#32
  | 54 => 3#32
  | 55 => 3#32
  | 56 => 2#32
  | 57 => 2#32
  | 58 => 1#32
  | 59 => 2#32
  | 60 => 3#32
  | 61 => 4#32
  | 62 => 2#32
  | 63 => 2#32
  | 64 => 4#32
  | 65 => 1#32
  | 66 => 0#32
  | 67 => 1#32
  | 68 => 3#32
  | 69 => 0#32
  | 70 => 3#32
  | 71 => 4#32
  | 72 => 2#32
  | 73 => 3#32
  | 74 => 3#32
  | 75 => 3#32
  | 76 => 0#32
  | 77 => 1#32
  | 78 => 1#32
  | 79 => 3#32
  | 80 => 3#32
  | 81 => 1#32
  | 82 => 3#32
  | 83 => 2#32
  | 84 => 2#32
  | 85 => 3#32
  | 86 => 4#32
  | 87 => 3#32
  | 88 => 2#32
  | 89 => 0#32
  | 90 => 1#32
  | 91 => 4#32
  | 92 => 0#32
  | 93 => 1#32
  | 94 => 0#32
  | 95 => 2#32
  | 96 => 3#32
  | 97 => 1#32
  | 98 => 1#32
  | 99 => 3#32
  | 100 => 1#32
  | 101 => 0#32
  | 102 => 4#32
  | 103 => 0#32
  | 104 => 2#32
  | 105 => 0#32
  | 106 => 2#32
  | 107 => 4#32
  | 108 => 4#32
  | 109 => 3#32
  | 110 => 3#32
  | 111 => 3#32
  | 112 => 3#32
  | 113 => 3#32
  | 114 => 2#32
  | 115 => 3#32
  | 116 => 4#32
  | 117 => 0#32
  | 118 => 4#32
  | 119 => 1#32
  | 120 => 2#32
  | 121 => 4#32
  | 122 => 3#32
  | 123 => 1#32
  | 124 => 2#32
  | 125 => 3#32
  | 126 => 4#32
  | 127 => 4#32
  | _ => 0#32

noncomputable abbrev lit0t0_87 (i : Nat) : BitVec 32 := match i % 128 with
  | 0 => 2#32
  | 1 => 4#32
  | 2 => 3#32
  | 3 => 4#32
  | 4 => 2#32
  | 5 => 2#32
  | 6 => 1#32
  | 7 => 2#32
  | 8 => 2#32
  | 9 => 4#32
  | 10 => 2#32
  | 11 => 3#32
  | 12 => 0#32
  | 13 => 3#32
  | 14 => 0#32
  | 15 => 3#32
  | 16 => 4#32
  | 17 => 3#32
  | 18 => 3#32
  | 19 => 4#32
  | 20 => 4#32
  | 21 => 1#32
  | 22 => 3#32
  | 23 => 3#32
  | 24 => 4#32
  | 25 => 3#32
  | 26 => 0#32
  | 27 => 1#32
  | 28 => 4#32
  | 29 => 3#32
  | 30 => 4#32
  | 31 => 2#32
  | 32 => 3#32
  | 33 => 1#32
  | 34 => 0#32
  | 35 => 3#32
  | 36 => 0#32
  | 37 => 2#32
  | 38 => 3#32
  | 39 => 0#32
  | 40 => 0#32
  | 41 => 3#32
  | 42 => 0#32
  | 43 => 2#32
  | 44 => 4#32
  | 45 => 3#32
  | 46 => 2#32
  | 47 => 3#32
  | 48 => 1#32
  | 49 => 4#32
  | 50 => 0#32
  | 51 => 4#32
  | 52 => 1#32
  | 53 => 4#32
  | 54 => 3#32
  | 55 => 1#32
  | 56 => 4#32
  | 57 => 3#32
  | 58 => 1#32
  | 59 => 3#32
  | 60 => 2#32
  | 61 => 4#32
  | 62 => 4#32
  | 63 => 3#32
  | 64 => 0#32
  | 65 => 1#32
  | 66 => 4#32
  | 67 => 1#32
  | 68 => 1#32
  | 69 => 3#32
  | 70 => 3#32
  | 71 => 3#32
  | 72 => 3#32
  | 73 => 0#32
  | 74 => 0#32
  | 75 => 2#32
  | 76 => 0#32
  | 77 => 4#32
  | 78 => 2#32
  | 79 => 4#32
  | 80 => 2#32
  | 81 => 4#32
  | 82 => 0#32
  | 83 => 3#32
  | 84 => 4#32
  | 85 => 0#32
  | 86 => 1#32
  | 87 => 3#32
  | 88 => 1#32
  | 89 => 0#32
  | 90 => 1#32
  | 91 => 1#32
  | 92 => 1#32
  | 93 => 4#32
  | 94 => 1#32
  | 95 => 3#32
  | 96 => 2#32
  | 97 => 2#32
  | 98 => 1#32
  | 99 => 4#32
  | 100 => 1#32
  | 101 => 1#32
  | 102 => 0#32
  | 103 => 4#32
  | 104 => 3#32
  | 105 => 3#32
  | 106 => 1#32
  | 107 => 0#32
  | 108 => 4#32
  | 109 => 2#32
  | 110 => 1#32
  | 111 => 3#32
  | 112 => 1#32
  | 113 => 2#32
  | 114 => 2#32
  | 115 => 1#32
  | 116 => 3#32
  | 117 => 2#32
  | 118 => 2#32
  | 119 => 1#32
  | 120 => 3#32
  | 121 => 3#32
  | 122 => 4#32
  | 123 => 4#32
  | 124 => 4#32
  | 125 => 0#32
  | 126 => 0#32
  | 127 => 0#32
  | _ => 0#32

noncomputable abbrev lit0t0_88 (i : Nat) : BitVec 32 := match i % 128 with
  | 0 => 2#32
  | 1 => 0#32
  | 2 => 2#32
  | 3 => 4#32
  | 4 => 1#32
  | 5 => 4#32
  | 6 => 0#32
  | 7 => 3#32
  | 8 => 2#32
  | 9 => 3#32
  | 10 => 4#32
  | 11 => 2#32
  | 12 => 4#32
  | 13 => 4#32
  | 14 => 0#32
  | 15 => 0#32
  | 16 => 0#32
  | 17 => 3#32
  | 18 => 0#32
  | 19 => 0#32
  | 20 => 0#32
  | 21 => 0#32
  | 22 => 3#32
  | 23 => 3#32
  | 24 => 2#32
  | 25 => 4#32
  | 26 => 0#32
  | 27 => 1#32
  | 28 => 4#32
  | 29 => 4#32
  | 30 => 0#32
  | 31 => 0#32
  | 32 => 1#32
  | 33 => 3#32
  | 34 => 1#32
  | 35 => 3#32
  | 36 => 3#32
  | 37 => 4#32
  | 38 => 4#32
  | 39 => 2#32
  | 40 => 4#32
  | 41 => 1#32
  | 42 => 4#32
  | 43 => 2#32
  | 44 => 0#32
  | 45 => 1#32
  | 46 => 0#32
  | 47 => 2#32
  | 48 => 0#32
  | 49 => 0#32
  | 50 => 2#32
  | 51 => 2#32
  | 52 => 4#32
  | 53 => 2#32
  | 54 => 0#32
  | 55 => 2#32
  | 56 => 3#32
  | 57 => 3#32
  | 58 => 2#32
  | 59 => 1#32
  | 60 => 0#32
  | 61 => 3#32
  | 62 => 3#32
  | 63 => 2#32
  | 64 => 2#32
  | 65 => 3#32
  | 66 => 0#32
  | 67 => 1#32
  | 68 => 2#32
  | 69 => 4#32
  | 70 => 1#32
  | 71 => 2#32
  | 72 => 4#32
  | 73 => 4#32
  | 74 => 0#32
  | 75 => 0#32
  | 76 => 3#32
  | 77 => 3#32
  | 78 => 4#32
  | 79 => 0#32
  | 80 => 0#32
  | 81 => 3#32
  | 82 => 1#32
  | 83 => 0#32
  | 84 => 4#32
  | 85 => 1#32
  | 86 => 1#32
  | 87 => 4#32
  | 88 => 0#32
  | 89 => 4#32
  | 90 => 3#32
  | 91 => 1#32
  | 92 => 0#32
  | 93 => 3#32
  | 94 => 3#32
  | 95 => 1#32
  | 96 => 4#32
  | 97 => 4#32
  | 98 => 4#32
  | 99 => 4#32
  | 100 => 3#32
  | 101 => 1#32
  | 102 => 0#32
  | 103 => 2#32
  | 104 => 2#32
  | 105 => 0#32
  | 106 => 4#32
  | 107 => 2#32
  | 108 => 2#32
  | 109 => 2#32
  | 110 => 1#32
  | 111 => 4#32
  | 112 => 4#32
  | 113 => 3#32
  | 114 => 4#32
  | 115 => 0#32
  | 116 => 1#32
  | 117 => 2#32
  | 118 => 2#32
  | 119 => 3#32
  | 120 => 4#32
  | 121 => 4#32
  | 122 => 3#32
  | 123 => 0#32
  | 124 => 0#32
  | 125 => 1#32
  | 126 => 0#32
  | 127 => 0#32
  | _ => 0#32

noncomputable abbrev lit0t0_89 (i : Nat) : BitVec 32 := match i % 128 with
  | 0 => 4#32
  | 1 => 2#32
  | 2 => 0#32
  | 3 => 0#32
  | 4 => 0#32
  | 5 => 0#32
  | 6 => 0#32
  | 7 => 1#32
  | 8 => 0#32
  | 9 => 3#32
  | 10 => 1#32
  | 11 => 4#32
  | 12 => 3#32
  | 13 => 2#32
  | 14 => 0#32
  | 15 => 4#32
  | 16 => 4#32
  | 17 => 4#32
  | 18 => 1#32
  | 19 => 2#32
  | 20 => 4#32
  | 21 => 4#32
  | 22 => 2#32
  | 23 => 4#32
  | 24 => 1#32
  | 25 => 0#32
  | 26 => 3#32
  | 27 => 1#32
  | 28 => 0#32
  | 29 => 4#32
  | 30 => 4#32
  | 31 => 0#32
  | 32 => 2#32
  | 33 => 3#32
  | 34 => 0#32
  | 35 => 2#32
  | 36 => 1#32
  | 37 => 1#32
  | 38 => 4#32
  | 39 => 3#32
  | 40 => 2#32
  | 41 => 3#32
  | 42 => 2#32
  | 43 => 0#32
  | 44 => 4#32
  | 45 => 4#32
  | 46 => 1#32
  | 47 => 2#32
  | 48 => 3#32
  | 49 => 1#32
  | 50 => 0#32
  | 51 => 4#32
  | 52 => 3#32
  | 53 => 0#32
  | 54 => 2#32
  | 55 => 1#32
  | 56 => 0#32
  | 57 => 0#32
  | 58 => 1#32
  | 59 => 2#32
  | 60 => 1#32
  | 61 => 4#32
  | 62 => 4#32
  | 63 => 1#32
  | 64 => 0#32
  | 65 => 2#32
  | 66 => 2#32
  | 67 => 1#32
  | 68 => 4#32
  | 69 => 1#32
  | 70 => 3#32
  | 71 => 4#32
  | 72 => 1#32
  | 73 => 3#32
  | 74 => 4#32
  | 75 => 4#32
  | 76 => 3#32
  | 77 => 1#32
  | 78 => 1#32
  | 79 => 3#32
  | 80 => 2#32
  | 81 => 2#32
  | 82 => 3#32
  | 83 => 2#32
  | 84 => 2#32
  | 85 => 3#32
  | 86 => 2#32
  | 87 => 1#32
  | 88 => 3#32
  | 89 => 3#32
  | 90 => 2#32
  | 91 => 4#32
  | 92 => 2#32
  | 93 => 3#32
  | 94 => 0#32
  | 95 => 1#32
  | 96 => 4#32
  | 97 => 0#32
  | 98 => 4#32
  | 99 => 3#32
  | 100 => 1#32
  | 101 => 0#32
  | 102 => 1#32
  | 103 => 3#32
  | 104 => 0#32
  | 105 => 1#32
  | 106 => 4#32
  | 107 => 0#32
  | 108 => 0#32
  | 109 => 4#32
  | 110 => 1#32
  | 111 => 3#32
  | 112 => 2#32
  | 113 => 2#32
  | 114 => 2#32
  | 115 => 3#32
  | 116 => 2#32
  | 117 => 4#32
  | 118 => 4#32
  | 119 => 1#32
  | 120 => 1#32
  | 121 => 2#32
  | 122 => 4#32
  | 123 => 2#32
  | 124 => 4#32
  | 125 => 1#32
  | 126 => 2#32
  | 127 => 4#32
  | _ => 0#32

noncomputable abbrev lit0t0_90 (i : Nat) : BitVec 32 := match i % 128 with
  | 0 => 3#32
  | 1 => 2#32
  | 2 => 2#32
  | 3 => 3#32
  | 4 => 4#32
  | 5 => 2#32
  | 6 => 2#32
  | 7 => 3#32
  | 8 => 0#32
  | 9 => 4#32
  | 10 => 0#32
  | 11 => 4#32
  | 12 => 0#32
  | 13 => 2#32
  | 14 => 4#32
  | 15 => 4#32
  | 16 => 2#32
  | 17 => 2#32
  | 18 => 0#32
  | 19 => 1#32
  | 20 => 0#32
  | 21 => 4#32
  | 22 => 3#32
  | 23 => 3#32
  | 24 => 1#32
  | 25 => 3#32
  | 26 => 3#32
  | 27 => 0#32
  | 28 => 1#32
  | 29 => 0#32
  | 30 => 1#32
  | 31 => 4#32
  | 32 => 1#32
  | 33 => 4#32
  | 34 => 3#32
  | 35 => 2#32
  | 36 => 1#32
  | 37 => 3#32
  | 38 => 0#32
  | 39 => 1#32
  | 40 => 1#32
  | 41 => 3#32
  | 42 => 0#32
  | 43 => 1#32
  | 44 => 3#32
  | 45 => 0#32
  | 46 => 4#32
  | 47 => 1#32
  | 48 => 3#32
  | 49 => 1#32
  | 50 => 0#32
  | 51 => 0#32
  | 52 => 3#32
  | 53 => 1#32
  | 54 => 4#32
  | 55 => 1#32
  | 56 => 3#32
  | 57 => 2#32
  | 58 => 1#32
  | 59 => 2#32
  | 60 => 0#32
  | 61 => 2#32
  | 62 => 1#32
  | 63 => 0#32
  | 64 => 4#32
  | 65 => 4#32
  | 66 => 1#32
  | 67 => 1#32
  | 68 => 2#32
  | 69 => 1#32
  | 70 => 4#32
  | 71 => 1#32
  | 72 => 3#32
  | 73 => 3#32
  | 74 => 3#32
  | 75 => 3#32
  | 76 => 2#32
  | 77 => 4#32
  | 78 => 1#32
  | 79 => 0#32
  | 80 => 0#32
  | 81 => 0#32
  | 82 => 2#32
  | 83 => 4#32
  | 84 => 3#32
  | 85 => 1#32
  | 86 => 4#32
  | 87 => 2#32
  | 88 => 0#32
  | 89 => 1#32
  | 90 => 1#32
  | 91 => 1#32
  | 92 => 3#32
  | 93 => 3#32
  | 94 => 4#32
  | 95 => 0#32
  | 96 => 2#32
  | 97 => 3#32
  | 98 => 1#32
  | 99 => 0#32
  | 100 => 3#32
  | 101 => 3#32
  | 102 => 0#32
  | 103 => 3#32
  | 104 => 0#32
  | 105 => 0#32
  | 106 => 0#32
  | 107 => 1#32
  | 108 => 0#32
  | 109 => 4#32
  | 110 => 4#32
  | 111 => 4#32
  | 112 => 3#32
  | 113 => 0#32
  | 114 => 4#32
  | 115 => 1#32
  | 116 => 1#32
  | 117 => 4#32
  | 118 => 3#32
  | 119 => 0#32
  | 120 => 1#32
  | 121 => 4#32
  | 122 => 2#32
  | 123 => 3#32
  | 124 => 4#32
  | 125 => 1#32
  | 126 => 0#32
  | 127 => 2#32
  | _ => 0#32

noncomputable abbrev lit0t0_91 (i : Nat) : BitVec 32 := match i % 128 with
  | 0 => 1#32
  | 1 => 2#32
  | 2 => 2#32
  | 3 => 2#32
  | 4 => 2#32
  | 5 => 0#32
  | 6 => 4#32
  | 7 => 3#32
  | 8 => 2#32
  | 9 => 3#32
  | 10 => 0#32
  | 11 => 4#32
  | 12 => 2#32
  | 13 => 0#32
  | 14 => 0#32
  | 15 => 4#32
  | 16 => 4#32
  | 17 => 2#32
  | 18 => 2#32
  | 19 => 3#32
  | 20 => 3#32
  | 21 => 0#32
  | 22 => 1#32
  | 23 => 3#32
  | 24 => 4#32
  | 25 => 3#32
  | 26 => 3#32
  | 27 => 1#32
  | 28 => 1#32
  | 29 => 3#32
  | 30 => 4#32
  | 31 => 3#32
  | 32 => 2#32
  | 33 => 3#32
  | 34 => 0#32
  | 35 => 1#32
  | 36 => 1#32
  | 37 => 4#32
  | 38 => 1#32
  | 39 => 2#32
  | 40 => 3#32
  | 41 => 0#32
  | 42 => 4#32
  | 43 => 2#32
  | 44 => 4#32
  | 45 => 0#32
  | 46 => 3#32
  | 47 => 2#32
  | 48 => 1#32
  | 49 => 0#32
  | 50 => 0#32
  | 51 => 0#32
  | 52 => 4#32
  | 53 => 2#32
  | 54 => 1#32
  | 55 => 4#32
  | 56 => 0#32
  | 57 => 2#32
  | 58 => 1#32
  | 59 => 3#32
  | 60 => 3#32
  | 61 => 0#32
  | 62 => 0#32
  | 63 => 3#32
  | 64 => 0#32
  | 65 => 0#32
  | 66 => 0#32
  | 67 => 3#32
  | 68 => 0#32
  | 69 => 4#32
  | 70 => 2#32
  | 71 => 1#32
  | 72 => 2#32
  | 73 => 1#32
  | 74 => 2#32
  | 75 => 0#32
  | 76 => 4#32
  | 77 => 1#32
  | 78 => 1#32
  | 79 => 1#32
  | 80 => 2#32
  | 81 => 0#32
  | 82 => 0#32
  | 83 => 3#32
  | 84 => 3#32
  | 85 => 1#32
  | 86 => 0#32
  | 87 => 0#32
  | 88 => 1#32
  | 89 => 2#32
  | 90 => 1#32
  | 91 => 3#32
  | 92 => 4#32
  | 93 => 4#32
  | 94 => 4#32
  | 95 => 1#32
  | 96 => 4#32
  | 97 => 3#32
  | 98 => 1#32
  | 99 => 3#32
  | 100 => 1#32
  | 101 => 4#32
  | 102 => 1#32
  | 103 => 0#32
  | 104 => 3#32
  | 105 => 1#32
  | 106 => 4#32
  | 107 => 4#32
  | 108 => 1#32
  | 109 => 1#32
  | 110 => 1#32
  | 111 => 2#32
  | 112 => 0#32
  | 113 => 1#32
  | 114 => 4#32
  | 115 => 4#32
  | 116 => 1#32
  | 117 => 0#32
  | 118 => 1#32
  | 119 => 3#32
  | 120 => 0#32
  | 121 => 3#32
  | 122 => 1#32
  | 123 => 4#32
  | 124 => 4#32
  | 125 => 2#32
  | 126 => 0#32
  | 127 => 1#32
  | _ => 0#32

noncomputable abbrev lit0t0_92 (i : Nat) : BitVec 32 := match i % 128 with
  | 0 => 1#32
  | 1 => 1#32
  | 2 => 1#32
  | 3 => 2#32
  | 4 => 0#32
  | 5 => 2#32
  | 6 => 4#32
  | 7 => 2#32
  | 8 => 1#32
  | 9 => 0#32
  | 10 => 3#32
  | 11 => 2#32
  | 12 => 1#32
  | 13 => 0#32
  | 14 => 4#32
  | 15 => 4#32
  | 16 => 3#32
  | 17 => 0#32
  | 18 => 3#32
  | 19 => 4#32
  | 20 => 4#32
  | 21 => 0#32
  | 22 => 3#32
  | 23 => 2#32
  | 24 => 4#32
  | 25 => 1#32
  | 26 => 0#32
  | 27 => 1#32
  | 28 => 4#32
  | 29 => 2#32
  | 30 => 3#32
  | 31 => 3#32
  | 32 => 4#32
  | 33 => 4#32
  | 34 => 4#32
  | 35 => 1#32
  | 36 => 3#32
  | 37 => 0#32
  | 38 => 2#32
  | 39 => 4#32
  | 40 => 1#32
  | 41 => 2#32
  | 42 => 3#32
  | 43 => 1#32
  | 44 => 0#32
  | 45 => 0#32
  | 46 => 2#32
  | 47 => 3#32
  | 48 => 0#32
  | 49 => 0#32
  | 50 => 2#32
  | 51 => 0#32
  | 52 => 4#32
  | 53 => 1#32
  | 54 => 0#32
  | 55 => 2#32
  | 56 => 1#32
  | 57 => 1#32
  | 58 => 3#32
  | 59 => 2#32
  | 60 => 2#32
  | 61 => 0#32
  | 62 => 2#32
  | 63 => 4#32
  | 64 => 1#32
  | 65 => 4#32
  | 66 => 1#32
  | 67 => 3#32
  | 68 => 3#32
  | 69 => 3#32
  | 70 => 4#32
  | 71 => 3#32
  | 72 => 3#32
  | 73 => 3#32
  | 74 => 1#32
  | 75 => 2#32
  | 76 => 1#32
  | 77 => 2#32
  | 78 => 0#32
  | 79 => 2#32
  | 80 => 0#32
  | 81 => 0#32
  | 82 => 2#32
  | 83 => 1#32
  | 84 => 3#32
  | 85 => 3#32
  | 86 => 3#32
  | 87 => 2#32
  | 88 => 2#32
  | 89 => 4#32
  | 90 => 0#32
  | 91 => 2#32
  | 92 => 3#32
  | 93 => 3#32
  | 94 => 4#32
  | 95 => 1#32
  | 96 => 3#32
  | 97 => 3#32
  | 98 => 3#32
  | 99 => 2#32
  | 100 => 1#32
  | 101 => 1#32
  | 102 => 1#32
  | 103 => 1#32
  | 104 => 3#32
  | 105 => 4#32
  | 106 => 2#32
  | 107 => 0#32
  | 108 => 1#32
  | 109 => 4#32
  | 110 => 2#32
  | 111 => 2#32
  | 112 => 0#32
  | 113 => 2#32
  | 114 => 3#32
  | 115 => 1#32
  | 116 => 4#32
  | 117 => 3#32
  | 118 => 4#32
  | 119 => 1#32
  | 120 => 0#32
  | 121 => 4#32
  | 122 => 2#32
  | 123 => 3#32
  | 124 => 1#32
  | 125 => 0#32
  | 126 => 3#32
  | 127 => 2#32
  | _ => 0#32

noncomputable abbrev lit0t0_93 (i : Nat) : BitVec 32 := match i % 128 with
  | 0 => 2#32
  | 1 => 2#32
  | 2 => 1#32
  | 3 => 2#32
  | 4 => 1#32
  | 5 => 4#32
  | 6 => 3#32
  | 7 => 1#32
  | 8 => 2#32
  | 9 => 0#32
  | 10 => 2#32
  | 11 => 4#32
  | 12 => 3#32
  | 13 => 1#32
  | 14 => 1#32
  | 15 => 3#32
  | 16 => 2#32
  | 17 => 0#32
  | 18 => 3#32
  | 19 => 4#32
  | 20 => 3#32
  | 21 => 1#32
  | 22 => 3#32
  | 23 => 3#32
  | 24 => 0#32
  | 25 => 0#32
  | 26 => 1#32
  | 27 => 2#32
  | 28 => 2#32
  | 29 => 1#32
  | 30 => 4#32
  | 31 => 0#32
  | 32 => 2#32
  | 33 => 3#32
  | 34 => 2#32
  | 35 => 3#32
  | 36 => 3#32
  | 37 => 2#32
  | 38 => 3#32
  | 39 => 1#32
  | 40 => 1#32
  | 41 => 4#32
  | 42 => 4#32
  | 43 => 1#32
  | 44 => 2#32
  | 45 => 0#32
  | 46 => 1#32
  | 47 => 2#32
  | 48 => 1#32
  | 49 => 3#32
  | 50 => 1#32
  | 51 => 3#32
  | 52 => 3#32
  | 53 => 3#32
  | 54 => 3#32
  | 55 => 2#32
  | 56 => 0#32
  | 57 => 1#32
  | 58 => 0#32
  | 59 => 3#32
  | 60 => 0#32
  | 61 => 0#32
  | 62 => 0#32
  | 63 => 4#32
  | 64 => 2#32
  | 65 => 4#32
  | 66 => 3#32
  | 67 => 3#32
  | 68 => 1#32
  | 69 => 0#32
  | 70 => 0#32
  | 71 => 2#32
  | 72 => 4#32
  | 73 => 2#32
  | 74 => 1#32
  | 75 => 4#32
  | 76 => 1#32
  | 77 => 1#32
  | 78 => 0#32
  | 79 => 2#32
  | 80 => 0#32
  | 81 => 1#32
  | 82 => 1#32
  | 83 => 3#32
  | 84 => 2#32
  | 85 => 1#32
  | 86 => 1#32
  | 87 => 4#32
  | 88 => 0#32
  | 89 => 0#32
  | 90 => 1#32
  | 91 => 1#32
  | 92 => 0#32
  | 93 => 0#32
  | 94 => 4#32
  | 95 => 4#32
  | 96 => 1#32
  | 97 => 2#32
  | 98 => 1#32
  | 99 => 1#32
  | 100 => 4#32
  | 101 => 3#32
  | 102 => 2#32
  | 103 => 4#32
  | 104 => 0#32
  | 105 => 1#32
  | 106 => 0#32
  | 107 => 3#32
  | 108 => 3#32
  | 109 => 4#32
  | 110 => 0#32
  | 111 => 4#32
  | 112 => 1#32
  | 113 => 1#32
  | 114 => 4#32
  | 115 => 1#32
  | 116 => 3#32
  | 117 => 4#32
  | 118 => 4#32
  | 119 => 0#32
  | 120 => 1#32
  | 121 => 4#32
  | 122 => 3#32
  | 123 => 2#32
  | 124 => 3#32
  | 125 => 1#32
  | 126 => 3#32
  | 127 => 1#32
  | _ => 0#32

noncomputable abbrev lit0t0_94 (i : Nat) : BitVec 32 := match i % 128 with
  | 0 => 3#32
  | 1 => 3#32
  | 2 => 1#32
  | 3 => 0#32
  | 4 => 1#32
  | 5 => 2#32
  | 6 => 0#32
  | 7 => 4#32
  | 8 => 0#32
  | 9 => 1#32
  | 10 => 1#32
  | 11 => 2#32
  | 12 => 0#32
  | 13 => 2#32
  | 14 => 1#32
  | 15 => 1#32
  | 16 => 1#32
  | 17 => 2#32
  | 18 => 1#32
  | 19 => 4#32
  | 20 => 0#32
  | 21 => 4#32
  | 22 => 3#32
  | 23 => 1#32
  | 24 => 4#32
  | 25 => 0#32
  | 26 => 0#32
  | 27 => 2#32
  | 28 => 2#32
  | 29 => 1#32
  | 30 => 1#32
  | 31 => 4#32
  | 32 => 4#32
  | 33 => 0#32
  | 34 => 1#32
  | 35 => 4#32
  | 36 => 2#32
  | 37 => 2#32
  | 38 => 2#32
  | 39 => 4#32
  | 40 => 4#32
  | 41 => 0#32
  | 42 => 0#32
  | 43 => 0#32
  | 44 => 1#32
  | 45 => 0#32
  | 46 => 4#32
  | 47 => 0#32
  | 48 => 0#32
  | 49 => 2#32
  | 50 => 4#32
  | 51 => 4#32
  | 52 => 3#32
  | 53 => 1#32
  | 54 => 2#32
  | 55 => 1#32
  | 56 => 3#32
  | 57 => 0#32
  | 58 => 0#32
  | 59 => 4#32
  | 60 => 3#32
  | 61 => 4#32
  | 62 => 1#32
  | 63 => 3#32
  | 64 => 1#32
  | 65 => 3#32
  | 66 => 2#32
  | 67 => 4#32
  | 68 => 2#32
  | 69 => 2#32
  | 70 => 0#32
  | 71 => 0#32
  | 72 => 1#32
  | 73 => 3#32
  | 74 => 1#32
  | 75 => 2#32
  | 76 => 3#32
  | 77 => 1#32
  | 78 => 3#32
  | 79 => 2#32
  | 80 => 1#32
  | 81 => 1#32
  | 82 => 2#32
  | 83 => 2#32
  | 84 => 2#32
  | 85 => 4#32
  | 86 => 4#32
  | 87 => 4#32
  | 88 => 2#32
  | 89 => 1#32
  | 90 => 0#32
  | 91 => 4#32
  | 92 => 3#32
  | 93 => 2#32
  | 94 => 2#32
  | 95 => 4#32
  | 96 => 0#32
  | 97 => 4#32
  | 98 => 4#32
  | 99 => 4#32
  | 100 => 2#32
  | 101 => 0#32
  | 102 => 3#32
  | 103 => 3#32
  | 104 => 3#32
  | 105 => 3#32
  | 106 => 1#32
  | 107 => 1#32
  | 108 => 3#32
  | 109 => 0#32
  | 110 => 2#32
  | 111 => 1#32
  | 112 => 2#32
  | 113 => 0#32
  | 114 => 0#32
  | 115 => 2#32
  | 116 => 0#32
  | 117 => 1#32
  | 118 => 4#32
  | 119 => 2#32
  | 120 => 2#32
  | 121 => 3#32
  | 122 => 2#32
  | 123 => 3#32
  | 124 => 2#32
  | 125 => 0#32
  | 126 => 0#32
  | 127 => 3#32
  | _ => 0#32

noncomputable abbrev lit0t0_95 (i : Nat) : BitVec 32 := match i % 128 with
  | 0 => 4#32
  | 1 => 4#32
  | 2 => 1#32
  | 3 => 1#32
  | 4 => 3#32
  | 5 => 1#32
  | 6 => 2#32
  | 7 => 3#32
  | 8 => 0#32
  | 9 => 3#32
  | 10 => 0#32
  | 11 => 3#32
  | 12 => 2#32
  | 13 => 2#32
  | 14 => 3#32
  | 15 => 2#32
  | 16 => 1#32
  | 17 => 3#32
  | 18 => 2#32
  | 19 => 2#32
  | 20 => 2#32
  | 21 => 2#32
  | 22 => 2#32
  | 23 => 1#32
  | 24 => 1#32
  | 25 => 2#32
  | 26 => 3#32
  | 27 => 0#32
  | 28 => 0#32
  | 29 => 1#32
  | 30 => 3#32
  | 31 => 1#32
  | 32 => 0#32
  | 33 => 3#32
  | 34 => 4#32
  | 35 => 4#32
  | 36 => 4#32
  | 37 => 2#32
  | 38 => 4#32
  | 39 => 3#32
  | 40 => 2#32
  | 41 => 4#32
  | 42 => 0#32
  | 43 => 1#32
  | 44 => 0#32
  | 45 => 3#32
  | 46 => 2#32
  | 47 => 2#32
  | 48 => 3#32
  | 49 => 3#32
  | 50 => 0#32
  | 51 => 1#32
  | 52 => 4#32
  | 53 => 2#32
  | 54 => 4#32
  | 55 => 2#32
  | 56 => 1#32
  | 57 => 2#32
  | 58 => 4#32
  | 59 => 4#32
  | 60 => 4#32
  | 61 => 3#32
  | 62 => 3#32
  | 63 => 1#32
  | 64 => 2#32
  | 65 => 0#32
  | 66 => 0#32
  | 67 => 1#32
  | 68 => 2#32
  | 69 => 2#32
  | 70 => 2#32
  | 71 => 3#32
  | 72 => 3#32
  | 73 => 4#32
  | 74 => 1#32
  | 75 => 4#32
  | 76 => 3#32
  | 77 => 4#32
  | 78 => 1#32
  | 79 => 3#32
  | 80 => 3#32
  | 81 => 3#32
  | 82 => 4#32
  | 83 => 0#32
  | 84 => 0#32
  | 85 => 1#32
  | 86 => 4#32
  | 87 => 0#32
  | 88 => 0#32
  | 89 => 3#32
  | 90 => 3#32
  | 91 => 4#32
  | 92 => 3#32
  | 93 => 0#32
  | 94 => 2#32
  | 95 => 1#32
  | 96 => 4#32
  | 97 => 1#32
  | 98 => 2#32
  | 99 => 3#32
  | 100 => 4#32
  | 101 => 1#32
  | 102 => 0#32
  | 103 => 0#32
  | 104 => 4#32
  | 105 => 2#32
  | 106 => 3#32
  | 107 => 1#32
  | 108 => 3#32
  | 109 => 2#32
  | 110 => 3#32
  | 111 => 1#32
  | 112 => 0#32
  | 113 => 4#32
  | 114 => 1#32
  | 115 => 3#32
  | 116 => 2#32
  | 117 => 1#32
  | 118 => 1#32
  | 119 => 3#32
  | 120 => 4#32
  | 121 => 0#32
  | 122 => 4#32
  | 123 => 2#32
  | 124 => 1#32
  | 125 => 0#32
  | 126 => 4#32
  | 127 => 0#32
  | _ => 0#32

noncomputable abbrev lit0t0_96 (i : Nat) : BitVec 32 := match i % 128 with
  | 0 => 4#32
  | 1 => 2#32
  | 2 => 1#32
  | 3 => 4#32
  | 4 => 3#32
  | 5 => 4#32
  | 6 => 0#32
  | 7 => 1#32
  | 8 => 0#32
  | 9 => 1#32
  | 10 => 2#32
  | 11 => 1#32
  | 12 => 4#32
  | 13 => 3#32
  | 14 => 0#32
  | 15 => 0#32
  | 16 => 3#32
  | 17 => 3#32
  | 18 => 3#32
  | 19 => 3#32
  | 20 => 1#32
  | 21 => 0#32
  | 22 => 4#32
  | 23 => 2#32
  | 24 => 3#32
  | 25 => 4#32
  | 26 => 0#32
  | 27 => 4#32
  | 28 => 0#32
  | 29 => 0#32
  | 30 => 2#32
  | 31 => 2#32
  | 32 => 3#32
  | 33 => 4#32
  | 34 => 0#32
  | 35 => 2#32
  | 36 => 4#32
  | 37 => 3#32
  | 38 => 0#32
  | 39 => 2#32
  | 40 => 2#32
  | 41 => 3#32
  | 42 => 3#32
  | 43 => 0#32
  | 44 => 2#32
  | 45 => 4#32
  | 46 => 1#32
  | 47 => 2#32
  | 48 => 3#32
  | 49 => 2#32
  | 50 => 2#32
  | 51 => 2#32
  | 52 => 1#32
  | 53 => 3#32
  | 54 => 3#32
  | 55 => 1#32
  | 56 => 3#32
  | 57 => 1#32
  | 58 => 0#32
  | 59 => 0#32
  | 60 => 1#32
  | 61 => 3#32
  | 62 => 3#32
  | 63 => 2#32
  | 64 => 0#32
  | 65 => 0#32
  | 66 => 3#32
  | 67 => 1#32
  | 68 => 3#32
  | 69 => 0#32
  | 70 => 1#32
  | 71 => 0#32
  | 72 => 3#32
  | 73 => 2#32
  | 74 => 2#32
  | 75 => 2#32
  | 76 => 0#32
  | 77 => 2#32
  | 78 => 4#32
  | 79 => 0#32
  | 80 => 0#32
  | 81 => 4#32
  | 82 => 3#32
  | 83 => 3#32
  | 84 => 0#32
  | 85 => 0#32
  | 86 => 4#32
  | 87 => 1#32
  | 88 => 3#32
  | 89 => 3#32
  | 90 => 1#32
  | 91 => 1#32
  | 92 => 3#32
  | 93 => 4#32
  | 94 => 0#32
  | 95 => 0#32
  | 96 => 1#32
  | 97 => 1#32
  | 98 => 2#32
  | 99 => 4#32
  | 100 => 1#32
  | 101 => 1#32
  | 102 => 2#32
  | 103 => 4#32
  | 104 => 1#32
  | 105 => 0#32
  | 106 => 2#32
  | 107 => 1#32
  | 108 => 3#32
  | 109 => 3#32
  | 110 => 0#32
  | 111 => 4#32
  | 112 => 0#32
  | 113 => 4#32
  | 114 => 1#32
  | 115 => 2#32
  | 116 => 4#32
  | 117 => 4#32
  | 118 => 0#32
  | 119 => 0#32
  | 120 => 0#32
  | 121 => 3#32
  | 122 => 1#32
  | 123 => 4#32
  | 124 => 3#32
  | 125 => 4#32
  | 126 => 3#32
  | 127 => 3#32
  | _ => 0#32

noncomputable abbrev lit0t0_97 (i : Nat) : BitVec 32 := match i % 128 with
  | 0 => 4#32
  | 1 => 0#32
  | 2 => 4#32
  | 3 => 4#32
  | 4 => 4#32
  | 5 => 1#32
  | 6 => 2#32
  | 7 => 3#32
  | 8 => 2#32
  | 9 => 3#32
  | 10 => 3#32
  | 11 => 0#32
  | 12 => 3#32
  | 13 => 0#32
  | 14 => 0#32
  | 15 => 3#32
  | 16 => 3#32
  | 17 => 4#32
  | 18 => 4#32
  | 19 => 3#32
  | 20 => 4#32
  | 21 => 1#32
  | 22 => 2#32
  | 23 => 1#32
  | 24 => 3#32
  | 25 => 3#32
  | 26 => 3#32
  | 27 => 0#32
  | 28 => 0#32
  | 29 => 0#32
  | 30 => 0#32
  | 31 => 0#32
  | 32 => 2#32
  | 33 => 0#32
  | 34 => 1#32
  | 35 => 4#32
  | 36 => 1#32
  | 37 => 2#32
  | 38 => 3#32
  | 39 => 1#32
  | 40 => 3#32
  | 41 => 2#32
  | 42 => 3#32
  | 43 => 1#32
  | 44 => 1#32
  | 45 => 4#32
  | 46 => 0#32
  | 47 => 3#32
  | 48 => 3#32
  | 49 => 4#32
  | 50 => 2#32
  | 51 => 2#32
  | 52 => 1#32
  | 53 => 2#32
  | 54 => 2#32
  | 55 => 0#32
  | 56 => 4#32
  | 57 => 4#32
  | 58 => 4#32
  | 59 => 2#32
  | 60 => 4#32
  | 61 => 4#32
  | 62 => 2#32
  | 63 => 0#32
  | 64 => 0#32
  | 65 => 2#32
  | 66 => 2#32
  | 67 => 2#32
  | 68 => 2#32
  | 69 => 2#32
  | 70 => 4#32
  | 71 => 2#32
  | 72 => 1#32
  | 73 => 0#32
  | 74 => 0#32
  | 75 => 2#32
  | 76 => 3#32
  | 77 => 3#32
  | 78 => 4#32
  | 79 => 4#32
  | 80 => 1#32
  | 81 => 4#32
  | 82 => 1#32
  | 83 => 1#32
  | 84 => 1#32
  | 85 => 2#32
  | 86 => 4#32
  | 87 => 3#32
  | 88 => 0#32
  | 89 => 1#32
  | 90 => 4#32
  | 91 => 4#32
  | 92 => 3#32
  | 93 => 4#32
  | 94 => 0#32
  | 95 => 3#32
  | 96 => 2#32
  | 97 => 2#32
  | 98 => 2#32
  | 99 => 3#32
  | 100 => 3#32
  | 101 => 3#32
  | 102 => 3#32
  | 103 => 4#32
  | 104 => 3#32
  | 105 => 1#32
  | 106 => 0#32
  | 107 => 1#32
  | 108 => 3#32
  | 109 => 2#32
  | 110 => 0#32
  | 111 => 4#32
  | 112 => 4#32
  | 113 => 0#32
  | 114 => 0#32
  | 115 => 1#32
  | 116 => 3#32
  | 117 => 0#32
  | 118 => 2#32
  | 119 => 1#32
  | 120 => 1#32
  | 121 => 1#32
  | 122 => 3#32
  | 123 => 0#32
  | 124 => 1#32
  | 125 => 2#32
  | 126 => 2#32
  | 127 => 3#32
  | _ => 0#32

noncomputable abbrev lit0t0_98 (i : Nat) : BitVec 32 := match i % 128 with
  | 0 => 4#32
  | 1 => 0#32
  | 2 => 2#32
  | 3 => 3#32
  | 4 => 3#32
  | 5 => 2#32
  | 6 => 4#32
  | 7 => 2#32
  | 8 => 4#32
  | 9 => 3#32
  | 10 => 3#32
  | 11 => 4#32
  | 12 => 4#32
  | 13 => 0#32
  | 14 => 1#32
  | 15 => 2#32
  | 16 => 1#32
  | 17 => 1#32
  | 18 => 3#32
  | 19 => 4#32
  | 20 => 0#32
  | 21 => 0#32
  | 22 => 3#32
  | 23 => 0#32
  | 24 => 0#32
  | 25 => 1#32
  | 26 => 3#32
  | 27 => 2#32
  | 28 => 0#32
  | 29 => 1#32
  | 30 => 2#32
  | 31 => 0#32
  | 32 => 2#32
  | 33 => 0#32
  | 34 => 3#32
  | 35 => 3#32
  | 36 => 4#32
  | 37 => 4#32
  | 38 => 0#32
  | 39 => 4#32
  | 40 => 0#32
  | 41 => 4#32
  | 42 => 1#32
  | 43 => 1#32
  | 44 => 2#32
  | 45 => 4#32
  | 46 => 0#32
  | 47 => 3#32
  | 48 => 0#32
  | 49 => 0#32
  | 50 => 4#32
  | 51 => 1#32
  | 52 => 1#32
  | 53 => 2#32
  | 54 => 0#32
  | 55 => 2#32
  | 56 => 2#32
  | 57 => 4#32
  | 58 => 4#32
  | 59 => 0#32
  | 60 => 3#32
  | 61 => 4#32
  | 62 => 1#32
  | 63 => 3#32
  | 64 => 0#32
  | 65 => 0#32
  | 66 => 4#32
  | 67 => 1#32
  | 68 => 2#32
  | 69 => 2#32
  | 70 => 0#32
  | 71 => 2#32
  | 72 => 1#32
  | 73 => 4#32
  | 74 => 3#32
  | 75 => 4#32
  | 76 => 0#32
  | 77 => 1#32
  | 78 => 0#32
  | 79 => 1#32
  | 80 => 4#32
  | 81 => 2#32
  | 82 => 0#32
  | 83 => 3#32
  | 84 => 3#32
  | 85 => 0#32
  | 86 => 3#32
  | 87 => 2#32
  | 88 => 4#32
  | 89 => 2#32
  | 90 => 1#32
  | 91 => 3#32
  | 92 => 0#32
  | 93 => 4#32
  | 94 => 0#32
  | 95 => 4#32
  | 96 => 0#32
  | 97 => 4#32
  | 98 => 3#32
  | 99 => 2#32
  | 100 => 4#32
  | 101 => 4#32
  | 102 => 3#32
  | 103 => 4#32
  | 104 => 0#32
  | 105 => 1#32
  | 106 => 1#32
  | 107 => 3#32
  | 108 => 3#32
  | 109 => 4#32
  | 110 => 1#32
  | 111 => 0#32
  | 112 => 4#32
  | 113 => 4#32
  | 114 => 2#32
  | 115 => 2#32
  | 116 => 3#32
  | 117 => 3#32
  | 118 => 2#32
  | 119 => 2#32
  | 120 => 3#32
  | 121 => 0#32
  | 122 => 3#32
  | 123 => 4#32
  | 124 => 2#32
  | 125 => 3#32
  | 126 => 3#32
  | 127 => 1#32
  | _ => 0#32

noncomputable abbrev lit0t0_99 (i : Nat) : BitVec 32 := match i % 128 with
  | 0 => 3#32
  | 1 => 1#32
  | 2 => 1#32
  | 3 => 1#32
  | 4 => 3#32
  | 5 => 4#32
  | 6 => 3#32
  | 7 => 4#32
  | 8 => 2#32
  | 9 => 2#32
  | 10 => 1#32
  | 11 => 2#32
  | 12 => 4#32
  | 13 => 0#32
  | 14 => 4#32
  | 15 => 2#32
  | 16 => 1#32
  | 17 => 3#32
  | 18 => 3#32
  | 19 => 4#32
  | 20 => 3#32
  | 21 => 2#32
  | 22 => 4#32
  | 23 => 1#32
  | 24 => 1#32
  | 25 => 1#32
  | 26 => 2#32
  | 27 => 0#32
  | 28 => 0#32
  | 29 => 2#32
  | 30 => 1#32
  | 31 => 2#32
  | 32 => 3#32
  | 33 => 1#32
  | 34 => 0#32
  | 35 => 3#32
  | 36 => 0#32
  | 37 => 4#32
  | 38 => 3#32
  | 39 => 0#32
  | 40 => 1#32
  | 41 => 3#32
  | 42 => 3#32
  | 43 => 3#32
  | 44 => 3#32
  | 45 => 2#32
  | 46 => 3#32
  | 47 => 0#32
  | 48 => 4#32
  | 49 => 4#32
  | 50 => 2#32
  | 51 => 1#32
  | 52 => 4#32
  | 53 => 2#32
  | 54 => 2#32
  | 55 => 0#32
  | 56 => 1#32
  | 57 => 2#32
  | 58 => 4#32
  | 59 => 0#32
  | 60 => 4#32
  | 61 => 1#32
  | 62 => 0#32
  | 63 => 4#32
  | 64 => 1#32
  | 65 => 3#32
  | 66 => 1#32
  | 67 => 3#32
  | 68 => 2#32
  | 69 => 0#32
  | 70 => 1#32
  | 71 => 4#32
  | 72 => 0#32
  | 73 => 3#32
  | 74 => 3#32
  | 75 => 0#32
  | 76 => 0#32
  | 77 => 2#32
  | 78 => 1#32
  | 79 => 1#32
  | 80 => 3#32
  | 81 => 3#32
  | 82 => 1#32
  | 83 => 4#32
  | 84 => 3#32
  | 85 => 2#32
  | 86 => 2#32
  | 87 => 4#32
  | 88 => 0#32
  | 89 => 2#32
  | 90 => 3#32
  | 91 => 0#32
  | 92 => 0#32
  | 93 => 0#32
  | 94 => 2#32
  | 95 => 4#32
  | 96 => 1#32
  | 97 => 1#32
  | 98 => 3#32
  | 99 => 0#32
  | 100 => 1#32
  | 101 => 0#32
  | 102 => 3#32
  | 103 => 4#32
  | 104 => 0#32
  | 105 => 0#32
  | 106 => 3#32
  | 107 => 0#32
  | 108 => 3#32
  | 109 => 3#32
  | 110 => 4#32
  | 111 => 2#32
  | 112 => 2#32
  | 113 => 1#32
  | 114 => 4#32
  | 115 => 0#32
  | 116 => 4#32
  | 117 => 3#32
  | 118 => 3#32
  | 119 => 4#32
  | 120 => 2#32
  | 121 => 3#32
  | 122 => 4#32
  | 123 => 4#32
  | 124 => 3#32
  | 125 => 3#32
  | 126 => 2#32
  | 127 => 4#32
  | _ => 0#32

noncomputable abbrev lit0t0_100 (i : Nat) : BitVec 32 := match i % 128 with
  | 0 => 0#32
  | 1 => 0#32
  | 2 => 2#32
  | 3 => 3#32
  | 4 => 4#32
  | 5 => 2#32
  | 6 => 1#32
  | 7 => 4#32
  | 8 => 4#32
  | 9 => 2#32
  | 10 => 2#32
  | 11 => 2#32
  | 12 => 2#32
  | 13 => 3#32
  | 14 => 0#32
  | 15 => 0#32
  | 16 => 1#32
  | 17 => 2#32
  | 18 => 3#32
  | 19 => 1#32
  | 20 => 0#32
  | 21 => 3#32
  | 22 => 0#32
  | 23 => 2#32
  | 24 => 1#32
  | 25 => 1#32
  | 26 => 2#32
  | 27 => 0#32
  | 28 => 4#32
  | 29 => 3#32
  | 30 => 3#32
  | 31 => 4#32
  | 32 => 4#32
  | 33 => 0#32
  | 34 => 3#32
  | 35 => 1#32
  | 36 => 2#32
  | 37 => 4#32
  | 38 => 0#32
  | 39 => 3#32
  | 40 => 4#32
  | 41 => 0#32
  | 42 => 3#32
  | 43 => 4#32
  | 44 => 3#32
  | 45 => 2#32
  | 46 => 2#32
  | 47 => 0#32
  | 48 => 2#32
  | 49 => 0#32
  | 50 => 0#32
  | 51 => 3#32
  | 52 => 1#32
  | 53 => 3#32
  | 54 => 4#32
  | 55 => 0#32
  | 56 => 1#32
  | 57 => 1#32
  | 58 => 3#32
  | 59 => 1#32
  | 60 => 2#32
  | 61 => 3#32
  | 62 => 0#32
  | 63 => 0#32
  | 64 => 0#32
  | 65 => 1#32
  | 66 => 3#32
  | 67 => 2#32
  | 68 => 1#32
  | 69 => 2#32
  | 70 => 0#32
  | 71 => 0#32
  | 72 => 2#32
  | 73 => 4#32
  | 74 => 4#32
  | 75 => 3#32
  | 76 => 0#32
  | 77 => 0#32
  | 78 => 2#32
  | 79 => 1#32
  | 80 => 3#32
  | 81 => 2#32
  | 82 => 0#32
  | 83 => 2#32
  | 84 => 4#32
  | 85 => 3#32
  | 86 => 2#32
  | 87 => 3#32
  | 88 => 1#32
  | 89 => 4#32
  | 90 => 2#32
  | 91 => 3#32
  | 92 => 3#32
  | 93 => 1#32
  | 94 => 3#32
  | 95 => 3#32
  | 96 => 3#32
  | 97 => 4#32
  | 98 => 3#32
  | 99 => 0#32
  | 100 => 3#32
  | 101 => 3#32
  | 102 => 0#32
  | 103 => 4#32
  | 104 => 2#32
  | 105 => 4#32
  | 106 => 0#32
  | 107 => 0#32
  | 108 => 4#32
  | 109 => 1#32
  | 110 => 3#32
  | 111 => 1#32
  | 112 => 1#32
  | 113 => 3#32
  | 114 => 3#32
  | 115 => 4#32
  | 116 => 2#32
  | 117 => 1#32
  | 118 => 4#32
  | 119 => 4#32
  | 120 => 0#32
  | 121 => 3#32
  | 122 => 1#32
  | 123 => 2#32
  | 124 => 2#32
  | 125 => 1#32
  | 126 => 4#32
  | 127 => 1#32
  | _ => 0#32

noncomputable abbrev lit0t0_101 (i : Nat) : BitVec 32 := match i % 128 with
  | 0 => 0#32
  | 1 => 1#32
  | 2 => 3#32
  | 3 => 2#32
  | 4 => 4#32
  | 5 => 0#32
  | 6 => 2#32
  | 7 => 2#32
  | 8 => 1#32
  | 9 => 1#32
  | 10 => 3#32
  | 11 => 1#32
  | 12 => 3#32
  | 13 => 3#32
  | 14 => 4#32
  | 15 => 1#32
  | 16 => 0#32
  | 17 => 3#32
  | 18 => 3#32
  | 19 => 3#32
  | 20 => 0#32
  | 21 => 3#32
  | 22 => 3#32
  | 23 => 1#32
  | 24 => 4#32
  | 25 => 2#32
  | 26 => 3#32
  | 27 => 2#32
  | 28 => 4#32
  | 29 => 4#32
  | 30 => 2#32
  | 31 => 2#32
  | 32 => 3#32
  | 33 => 0#32
  | 34 => 0#32
  | 35 => 3#32
  | 36 => 4#32
  | 37 => 1#32
  | 38 => 1#32
  | 39 => 4#32
  | 40 => 0#32
  | 41 => 1#32
  | 42 => 3#32
  | 43 => 2#32
  | 44 => 0#32
  | 45 => 2#32
  | 46 => 1#32
  | 47 => 3#32
  | 48 => 1#32
  | 49 => 4#32
  | 50 => 4#32
  | 51 => 0#32
  | 52 => 3#32
  | 53 => 4#32
  | 54 => 1#32
  | 55 => 0#32
  | 56 => 2#32
  | 57 => 1#32
  | 58 => 0#32
  | 59 => 2#32
  | 60 => 2#32
  | 61 => 1#32
  | 62 => 3#32
  | 63 => 4#32
  | 64 => 4#32
  | 65 => 1#32
  | 66 => 4#32
  | 67 => 3#32
  | 68 => 4#32
  | 69 => 0#32
  | 70 => 1#32
  | 71 => 4#32
  | 72 => 4#32
  | 73 => 2#32
  | 74 => 1#32
  | 75 => 4#32
  | 76 => 4#32
  | 77 => 1#32
  | 78 => 4#32
  | 79 => 1#32
  | 80 => 3#32
  | 81 => 1#32
  | 82 => 0#32
  | 83 => 2#32
  | 84 => 4#32
  | 85 => 4#32
  | 86 => 1#32
  | 87 => 0#32
  | 88 => 1#32
  | 89 => 3#32
  | 90 => 3#32
  | 91 => 0#32
  | 92 => 2#32
  | 93 => 1#32
  | 94 => 3#32
  | 95 => 3#32
  | 96 => 0#32
  | 97 => 3#32
  | 98 => 0#32
  | 99 => 4#32
  | 100 => 4#32
  | 101 => 4#32
  | 102 => 3#32
  | 103 => 4#32
  | 104 => 0#32
  | 105 => 2#32
  | 106 => 1#32
  | 107 => 2#32
  | 108 => 1#32
  | 109 => 2#32
  | 110 => 1#32
  | 111 => 1#32
  | 112 => 3#32
  | 113 => 3#32
  | 114 => 2#32
  | 115 => 3#32
  | 116 => 0#32
  | 117 => 0#32
  | 118 => 3#32
  | 119 => 0#32
  | 120 => 3#32
  | 121 => 3#32
  | 122 => 0#32
  | 123 => 4#32
  | 124 => 3#32
  | 125 => 0#32
  | 126 => 1#32
  | 127 => 3#32
  | _ => 0#32

noncomputable abbrev lit0t0_102 (i : Nat) : BitVec 32 := match i % 128 with
  | 0 => 1#32
  | 1 => 0#32
  | 2 => 4#32
  | 3 => 2#32
  | 4 => 3#32
  | 5 => 0#32
  | 6 => 0#32
  | 7 => 1#32
  | 8 => 1#32
  | 9 => 0#32
  | 10 => 0#32
  | 11 => 0#32
  | 12 => 3#32
  | 13 => 3#32
  | 14 => 1#32
  | 15 => 0#32
  | 16 => 2#32
  | 17 => 3#32
  | 18 => 3#32
  | 19 => 3#32
  | 20 => 2#32
  | 21 => 2#32
  | 22 => 0#32
  | 23 => 4#32
  | 24 => 1#32
  | 25 => 1#32
  | 26 => 3#32
  | 27 => 4#32
  | 28 => 4#32
  | 29 => 1#32
  | 30 => 4#32
  | 31 => 2#32
  | 32 => 2#32
  | 33 => 4#32
  | 34 => 0#32
  | 35 => 0#32
  | 36 => 1#32
  | 37 => 0#32
  | 38 => 3#32
  | 39 => 3#32
  | 40 => 4#32
  | 41 => 2#32
  | 42 => 1#32
  | 43 => 0#32
  | 44 => 4#32
  | 45 => 4#32
  | 46 => 4#32
  | 47 => 4#32
  | 48 => 2#32
  | 49 => 0#32
  | 50 => 4#32
  | 51 => 3#32
  | 52 => 3#32
  | 53 => 0#32
  | 54 => 0#32
  | 55 => 3#32
  | 56 => 2#32
  | 57 => 3#32
  | 58 => 1#32
  | 59 => 3#32
  | 60 => 0#32
  | 61 => 3#32
  | 62 => 3#32
  | 63 => 0#32
  | 64 => 0#32
  | 65 => 3#32
  | 66 => 3#32
  | 67 => 1#32
  | 68 => 0#32
  | 69 => 3#32
  | 70 => 2#32
  | 71 => 4#32
  | 72 => 1#32
  | 73 => 4#32
  | 74 => 3#32
  | 75 => 3#32
  | 76 => 0#32
  | 77 => 1#32
  | 78 => 0#32
  | 79 => 1#32
  | 80 => 3#32
  | 81 => 0#32
  | 82 => 4#32
  | 83 => 2#32
  | 84 => 1#32
  | 85 => 0#32
  | 86 => 1#32
  | 87 => 2#32
  | 88 => 1#32
  | 89 => 1#32
  | 90 => 2#32
  | 91 => 2#32
  | 92 => 0#32
  | 93 => 2#32
  | 94 => 2#32
  | 95 => 2#32
  | 96 => 2#32
  | 97 => 0#32
  | 98 => 3#32
  | 99 => 4#32
  | 100 => 2#32
  | 101 => 0#32
  | 102 => 3#32
  | 103 => 0#32
  | 104 => 1#32
  | 105 => 0#32
  | 106 => 0#32
  | 107 => 4#32
  | 108 => 0#32
  | 109 => 3#32
  | 110 => 1#32
  | 111 => 4#32
  | 112 => 1#32
  | 113 => 0#32
  | 114 => 0#32
  | 115 => 1#32
  | 116 => 1#32
  | 117 => 2#32
  | 118 => 2#32
  | 119 => 0#32
  | 120 => 4#32
  | 121 => 4#32
  | 122 => 1#32
  | 123 => 2#32
  | 124 => 2#32
  | 125 => 2#32
  | 126 => 3#32
  | 127 => 0#32
  | _ => 0#32

noncomputable abbrev lit0t0_103 (i : Nat) : BitVec 32 := match i % 128 with
  | 0 => 3#32
  | 1 => 4#32
  | 2 => 3#32
  | 3 => 4#32
  | 4 => 0#32
  | 5 => 1#32
  | 6 => 4#32
  | 7 => 4#32
  | 8 => 0#32
  | 9 => 2#32
  | 10 => 3#32
  | 11 => 0#32
  | 12 => 0#32
  | 13 => 3#32
  | 14 => 0#32
  | 15 => 1#32
  | 16 => 1#32
  | 17 => 3#32
  | 18 => 1#32
  | 19 => 1#32
  | 20 => 2#32
  | 21 => 0#32
  | 22 => 1#32
  | 23 => 3#32
  | 24 => 0#32
  | 25 => 0#32
  | 26 => 1#32
  | 27 => 3#32
  | 28 => 4#32
  | 29 => 4#32
  | 30 => 1#32
  | 31 => 0#32
  | 32 => 1#32
  | 33 => 3#32
  | 34 => 3#32
  | 35 => 1#32
  | 36 => 1#32
  | 37 => 0#32
  | 38 => 3#32
  | 39 => 0#32
  | 40 => 1#32
  | 41 => 2#32
  | 42 => 0#32
  | 43 => 2#32
  | 44 => 3#32
  | 45 => 4#32
  | 46 => 2#32
  | 47 => 4#32
  | 48 => 4#32
  | 49 => 2#32
  | 50 => 4#32
  | 51 => 0#32
  | 52 => 0#32
  | 53 => 4#32
  | 54 => 2#32
  | 55 => 0#32
  | 56 => 1#32
  | 57 => 3#32
  | 58 => 1#32
  | 59 => 1#32
  | 60 => 1#32
  | 61 => 2#32
  | 62 => 1#32
  | 63 => 0#32
  | 64 => 1#32
  | 65 => 2#32
  | 66 => 0#32
  | 67 => 3#32
  | 68 => 3#32
  | 69 => 4#32
  | 70 => 3#32
  | 71 => 3#32
  | 72 => 3#32
  | 73 => 2#32
  | 74 => 1#32
  | 75 => 2#32
  | 76 => 3#32
  | 77 => 3#32
  | 78 => 3#32
  | 79 => 2#32
  | 80 => 2#32
  | 81 => 2#32
  | 82 => 1#32
  | 83 => 2#32
  | 84 => 4#32
  | 85 => 2#32
  | 86 => 4#32
  | 87 => 1#32
  | 88 => 0#32
  | 89 => 0#32
  | 90 => 3#32
  | 91 => 0#32
  | 92 => 3#32
  | 93 => 4#32
  | 94 => 2#32
  | 95 => 1#32
  | 96 => 2#32
  | 97 => 3#32
  | 98 => 2#32
  | 99 => 2#32
  | 100 => 2#32
  | 101 => 1#32
  | 102 => 1#32
  | 103 => 1#32
  | 104 => 3#32
  | 105 => 1#32
  | 106 => 0#32
  | 107 => 0#32
  | 108 => 1#32
  | 109 => 4#32
  | 110 => 2#32
  | 111 => 1#32
  | 112 => 0#32
  | 113 => 2#32
  | 114 => 3#32
  | 115 => 2#32
  | 116 => 2#32
  | 117 => 0#32
  | 118 => 2#32
  | 119 => 2#32
  | 120 => 2#32
  | 121 => 0#32
  | 122 => 4#32
  | 123 => 2#32
  | 124 => 2#32
  | 125 => 2#32
  | 126 => 2#32
  | 127 => 2#32
  | _ => 0#32

noncomputable abbrev lit0t0_104 (i : Nat) : BitVec 32 := match i % 128 with
  | 0 => 3#32
  | 1 => 3#32
  | 2 => 1#32
  | 3 => 0#32
  | 4 => 1#32
  | 5 => 1#32
  | 6 => 3#32
  | 7 => 2#32
  | 8 => 4#32
  | 9 => 2#32
  | 10 => 2#32
  | 11 => 2#32
  | 12 => 1#32
  | 13 => 0#32
  | 14 => 0#32
  | 15 => 1#32
  | 16 => 3#32
  | 17 => 4#32
  | 18 => 1#32
  | 19 => 0#32
  | 20 => 0#32
  | 21 => 1#32
  | 22 => 3#32
  | 23 => 4#32
  | 24 => 0#32
  | 25 => 3#32
  | 26 => 3#32
  | 27 => 2#32
  | 28 => 4#32
  | 29 => 1#32
  | 30 => 2#32
  | 31 => 4#32
  | 32 => 2#32
  | 33 => 0#32
  | 34 => 0#32
  | 35 => 3#32
  | 36 => 4#32
  | 37 => 4#32
  | 38 => 0#32
  | 39 => 3#32
  | 40 => 0#32
  | 41 => 2#32
  | 42 => 4#32
  | 43 => 3#32
  | 44 => 3#32
  | 45 => 1#32
  | 46 => 2#32
  | 47 => 0#32
  | 48 => 3#32
  | 49 => 0#32
  | 50 => 1#32
  | 51 => 4#32
  | 52 => 3#32
  | 53 => 4#32
  | 54 => 3#32
  | 55 => 4#32
  | 56 => 2#32
  | 57 => 3#32
  | 58 => 4#32
  | 59 => 2#32
  | 60 => 2#32
  | 61 => 3#32
  | 62 => 0#32
  | 63 => 0#32
  | 64 => 2#32
  | 65 => 4#32
  | 66 => 0#32
  | 67 => 0#32
  | 68 => 0#32
  | 69 => 2#32
  | 70 => 3#32
  | 71 => 1#32
  | 72 => 2#32
  | 73 => 2#32
  | 74 => 3#32
  | 75 => 3#32
  | 76 => 1#32
  | 77 => 4#32
  | 78 => 2#32
  | 79 => 0#32
  | 80 => 4#32
  | 81 => 2#32
  | 82 => 1#32
  | 83 => 2#32
  | 84 => 0#32
  | 85 => 0#32
  | 86 => 0#32
  | 87 => 3#32
  | 88 => 1#32
  | 89 => 0#32
  | 90 => 3#32
  | 91 => 3#32
  | 92 => 1#32
  | 93 => 2#32
  | 94 => 1#32
  | 95 => 2#32
  | 96 => 3#32
  | 97 => 4#32
  | 98 => 4#32
  | 99 => 4#32
  | 100 => 2#32
  | 101 => 1#32
  | 102 => 3#32
  | 103 => 0#32
  | 104 => 1#32
  | 105 => 4#32
  | 106 => 2#32
  | 107 => 0#32
  | 108 => 0#32
  | 109 => 1#32
  | 110 => 3#32
  | 111 => 2#32
  | 112 => 0#32
  | 113 => 3#32
  | 114 => 1#32
  | 115 => 1#32
  | 116 => 2#32
  | 117 => 1#32
  | 118 => 2#32
  | 119 => 2#32
  | 120 => 0#32
  | 121 => 0#32
  | 122 => 3#32
  | 123 => 4#32
  | 124 => 1#32
  | 125 => 1#32
  | 126 => 4#32
  | 127 => 3#32
  | _ => 0#32

noncomputable abbrev lit0t0_105 (i : Nat) : BitVec 32 := match i % 128 with
  | 0 => 0#32
  | 1 => 0#32
  | 2 => 2#32
  | 3 => 1#32
  | 4 => 4#32
  | 5 => 3#32
  | 6 => 3#32
  | 7 => 2#32
  | 8 => 0#32
  | 9 => 3#32
  | 10 => 2#32
  | 11 => 0#32
  | 12 => 2#32
  | 13 => 3#32
  | 14 => 3#32
  | 15 => 1#32
  | 16 => 3#32
  | 17 => 3#32
  | 18 => 4#32
  | 19 => 4#32
  | 20 => 1#32
  | 21 => 1#32
  | 22 => 0#32
  | 23 => 1#32
  | 24 => 0#32
  | 25 => 2#32
  | 26 => 1#32
  | 27 => 4#32
  | 28 => 2#32
  | 29 => 4#32
  | 30 => 0#32
  | 31 => 1#32
  | 32 => 4#32
  | 33 => 1#32
  | 34 => 2#32
  | 35 => 1#32
  | 36 => 1#32
  | 37 => 2#32
  | 38 => 3#32
  | 39 => 4#32
  | 40 => 3#32
  | 41 => 3#32
  | 42 => 4#32
  | 43 => 2#32
  | 44 => 1#32
  | 45 => 1#32
  | 46 => 3#32
  | 47 => 2#32
  | 48 => 0#32
  | 49 => 4#32
  | 50 => 1#32
  | 51 => 2#32
  | 52 => 0#32
  | 53 => 4#32
  | 54 => 1#32
  | 55 => 4#32
  | 56 => 1#32
  | 57 => 1#32
  | 58 => 2#32
  | 59 => 3#32
  | 60 => 1#32
  | 61 => 0#32
  | 62 => 4#32
  | 63 => 1#32
  | 64 => 2#32
  | 65 => 2#32
  | 66 => 4#32
  | 67 => 4#32
  | 68 => 2#32
  | 69 => 0#32
  | 70 => 4#32
  | 71 => 2#32
  | 72 => 3#32
  | 73 => 0#32
  | 74 => 2#32
  | 75 => 4#32
  | 76 => 2#32
  | 77 => 4#32
  | 78 => 4#32
  | 79 => 2#32
  | 80 => 4#32
  | 81 => 1#32
  | 82 => 1#32
  | 83 => 0#32
  | 84 => 3#32
  | 85 => 4#32
  | 86 => 2#32
  | 87 => 0#32
  | 88 => 1#32
  | 89 => 1#32
  | 90 => 3#32
  | 91 => 4#32
  | 92 => 0#32
  | 93 => 4#32
  | 94 => 4#32
  | 95 => 1#32
  | 96 => 0#32
  | 97 => 4#32
  | 98 => 3#32
  | 99 => 1#32
  | 100 => 0#32
  | 101 => 4#32
  | 102 => 0#32
  | 103 => 4#32
  | 104 => 3#32
  | 105 => 2#32
  | 106 => 3#32
  | 107 => 3#32
  | 108 => 3#32
  | 109 => 1#32
  | 110 => 3#32
  | 111 => 2#32
  | 112 => 2#32
  | 113 => 4#32
  | 114 => 1#32
  | 115 => 1#32
  | 116 => 4#32
  | 117 => 3#32
  | 118 => 2#32
  | 119 => 0#32
  | 120 => 0#32
  | 121 => 3#32
  | 122 => 1#32
  | 123 => 1#32
  | 124 => 0#32
  | 125 => 2#32
  | 126 => 3#32
  | 127 => 2#32
  | _ => 0#32

noncomputable abbrev lit0t0_106 (i : Nat) : BitVec 32 := match i % 128 with
  | 0 => 0#32
  | 1 => 2#32
  | 2 => 1#32
  | 3 => 0#32
  | 4 => 1#32
  | 5 => 3#32
  | 6 => 3#32
  | 7 => 4#32
  | 8 => 3#32
  | 9 => 1#32
  | 10 => 0#32
  | 11 => 4#32
  | 12 => 3#32
  | 13 => 1#32
  | 14 => 2#32
  | 15 => 3#32
  | 16 => 2#32
  | 17 => 3#32
  | 18 => 2#32
  | 19 => 0#32
  | 20 => 3#32
  | 21 => 4#32
  | 22 => 4#32
  | 23 => 2#32
  | 24 => 0#32
  | 25 => 3#32
  | 26 => 1#32
  | 27 => 4#32
  | 28 => 2#32
  | 29 => 2#32
  | 30 => 2#32
  | 31 => 2#32
  | 32 => 4#32
  | 33 => 3#32
  | 34 => 2#32
  | 35 => 0#32
  | 36 => 1#32
  | 37 => 3#32
  | 38 => 0#32
  | 39 => 3#32
  | 40 => 1#32
  | 41 => 4#32
  | 42 => 0#32
  | 43 => 4#32
  | 44 => 1#32
  | 45 => 0#32
  | 46 => 1#32
  | 47 => 1#32
  | 48 => 4#32
  | 49 => 1#32
  | 50 => 4#32
  | 51 => 4#32
  | 52 => 4#32
  | 53 => 3#32
  | 54 => 3#32
  | 55 => 0#32
  | 56 => 4#32
  | 57 => 2#32
  | 58 => 3#32
  | 59 => 4#32
  | 60 => 1#32
  | 61 => 4#32
  | 62 => 2#32
  | 63 => 1#32
  | 64 => 1#32
  | 65 => 2#32
  | 66 => 0#32
  | 67 => 4#32
  | 68 => 3#32
  | 69 => 0#32
  | 70 => 2#32
  | 71 => 3#32
  | 72 => 3#32
  | 73 => 3#32
  | 74 => 1#32
  | 75 => 0#32
  | 76 => 1#32
  | 77 => 0#32
  | 78 => 0#32
  | 79 => 3#32
  | 80 => 1#32
  | 81 => 2#32
  | 82 => 0#32
  | 83 => 4#32
  | 84 => 4#32
  | 85 => 3#32
  | 86 => 4#32
  | 87 => 4#32
  | 88 => 1#32
  | 89 => 1#32
  | 90 => 4#32
  | 91 => 4#32
  | 92 => 0#32
  | 93 => 2#32
  | 94 => 4#32
  | 95 => 4#32
  | 96 => 3#32
  | 97 => 1#32
  | 98 => 4#32
  | 99 => 1#32
  | 100 => 4#32
  | 101 => 2#32
  | 102 => 3#32
  | 103 => 4#32
  | 104 => 0#32
  | 105 => 1#32
  | 106 => 1#32
  | 107 => 3#32
  | 108 => 3#32
  | 109 => 2#32
  | 110 => 1#32
  | 111 => 2#32
  | 112 => 0#32
  | 113 => 0#32
  | 114 => 2#32
  | 115 => 3#32
  | 116 => 0#32
  | 117 => 4#32
  | 118 => 0#32
  | 119 => 0#32
  | 120 => 3#32
  | 121 => 0#32
  | 122 => 4#32
  | 123 => 3#32
  | 124 => 3#32
  | 125 => 3#32
  | 126 => 3#32
  | 127 => 3#32
  | _ => 0#32

noncomputable abbrev lit0t0_107 (i : Nat) : BitVec 32 := match i % 128 with
  | 0 => 2#32
  | 1 => 0#32
  | 2 => 4#32
  | 3 => 3#32
  | 4 => 2#32
  | 5 => 0#32
  | 6 => 4#32
  | 7 => 0#32
  | 8 => 4#32
  | 9 => 3#32
  | 10 => 4#32
  | 11 => 1#32
  | 12 => 4#32
  | 13 => 0#32
  | 14 => 4#32
  | 15 => 2#32
  | 16 => 4#32
  | 17 => 1#32
  | 18 => 2#32
  | 19 => 0#32
  | 20 => 1#32
  | 21 => 3#32
  | 22 => 1#32
  | 23 => 2#32
  | 24 => 2#32
  | 25 => 0#32
  | 26 => 0#32
  | 27 => 1#32
  | 28 => 2#32
  | 29 => 1#32
  | 30 => 0#32
  | 31 => 4#32
  | 32 => 0#32
  | 33 => 2#32
  | 34 => 1#32
  | 35 => 0#32
  | 36 => 2#32
  | 37 => 4#32
  | 38 => 2#32
  | 39 => 3#32
  | 40 => 3#32
  | 41 => 4#32
  | 42 => 3#32
  | 43 => 3#32
  | 44 => 0#32
  | 45 => 1#32
  | 46 => 2#32
  | 47 => 0#32
  | 48 => 2#32
  | 49 => 4#32
  | 50 => 4#32
  | 51 => 0#32
  | 52 => 2#32
  | 53 => 2#32
  | 54 => 2#32
  | 55 => 0#32
  | 56 => 2#32
  | 57 => 1#32
  | 58 => 2#32
  | 59 => 1#32
  | 60 => 3#32
  | 61 => 1#32
  | 62 => 4#32
  | 63 => 1#32
  | 64 => 4#32
  | 65 => 2#32
  | 66 => 1#32
  | 67 => 0#32
  | 68 => 0#32
  | 69 => 1#32
  | 70 => 3#32
  | 71 => 0#32
  | 72 => 4#32
  | 73 => 2#32
  | 74 => 2#32
  | 75 => 3#32
  | 76 => 0#32
  | 77 => 3#32
  | 78 => 3#32
  | 79 => 0#32
  | 80 => 4#32
  | 81 => 2#32
  | 82 => 2#32
  | 83 => 1#32
  | 84 => 3#32
  | 85 => 2#32
  | 86 => 0#32
  | 87 => 1#32
  | 88 => 2#32
  | 89 => 1#32
  | 90 => 4#32
  | 91 => 4#32
  | 92 => 4#32
  | 93 => 3#32
  | 94 => 3#32
  | 95 => 1#32
  | 96 => 4#32
  | 97 => 0#32
  | 98 => 2#32
  | 99 => 4#32
  | 100 => 3#32
  | 101 => 2#32
  | 102 => 0#32
  | 103 => 3#32
  | 104 => 2#32
  | 105 => 3#32
  | 106 => 2#32
  | 107 => 2#32
  | 108 => 2#32
  | 109 => 0#32
  | 110 => 0#32
  | 111 => 2#32
  | 112 => 2#32
  | 113 => 2#32
  | 114 => 1#32
  | 115 => 4#32
  | 116 => 2#32
  | 117 => 2#32
  | 118 => 4#32
  | 119 => 1#32
  | 120 => 2#32
  | 121 => 0#32
  | 122 => 4#32
  | 123 => 2#32
  | 124 => 2#32
  | 125 => 3#32
  | 126 => 0#32
  | 127 => 2#32
  | _ => 0#32

noncomputable abbrev lit0t0_108 (i : Nat) : BitVec 32 := match i % 128 with
  | 0 => 3#32
  | 1 => 1#32
  | 2 => 4#32
  | 3 => 3#32
  | 4 => 0#32
  | 5 => 1#32
  | 6 => 1#32
  | 7 => 3#32
  | 8 => 4#32
  | 9 => 4#32
  | 10 => 4#32
  | 11 => 3#32
  | 12 => 1#32
  | 13 => 1#32
  | 14 => 2#32
  | 15 => 1#32
  | 16 => 3#32
  | 17 => 1#32
  | 18 => 2#32
  | 19 => 0#32
  | 20 => 4#32
  | 21 => 3#32
  | 22 => 1#32
  | 23 => 1#32
  | 24 => 0#32
  | 25 => 4#32
  | 26 => 4#32
  | 27 => 3#32
  | 28 => 0#32
  | 29 => 2#32
  | 30 => 4#32
  | 31 => 3#32
  | 32 => 0#32
  | 33 => 2#32
  | 34 => 3#32
  | 35 => 4#32
  | 36 => 2#32
  | 37 => 2#32
  | 38 => 3#32
  | 39 => 1#32
  | 40 => 0#32
  | 41 => 4#32
  | 42 => 4#32
  | 43 => 4#32
  | 44 => 4#32
  | 45 => 4#32
  | 46 => 3#32
  | 47 => 4#32
  | 48 => 0#32
  | 49 => 2#32
  | 50 => 2#32
  | 51 => 4#32
  | 52 => 4#32
  | 53 => 0#32
  | 54 => 0#32
  | 55 => 3#32
  | 56 => 3#32
  | 57 => 0#32
  | 58 => 3#32
  | 59 => 1#32
  | 60 => 0#32
  | 61 => 4#32
  | 62 => 0#32
  | 63 => 2#32
  | 64 => 4#32
  | 65 => 0#32
  | 66 => 0#32
  | 67 => 1#32
  | 68 => 0#32
  | 69 => 3#32
  | 70 => 2#32
  | 71 => 3#32
  | 72 => 1#32
  | 73 => 1#32
  | 74 => 1#32
  | 75 => 4#32
  | 76 => 4#32
  | 77 => 0#32
  | 78 => 1#32
  | 79 => 4#32
  | 80 => 2#32
  | 81 => 1#32
  | 82 => 2#32
  | 83 => 2#32
  | 84 => 3#32
  | 85 => 1#32
  | 86 => 3#32
  | 87 => 1#32
  | 88 => 2#32
  | 89 => 0#32
  | 90 => 2#32
  | 91 => 0#32
  | 92 => 4#32
  | 93 => 0#32
  | 94 => 3#32
  | 95 => 4#32
  | 96 => 1#32
  | 97 => 0#32
  | 98 => 1#32
  | 99 => 3#32
  | 100 => 1#32
  | 101 => 3#32
  | 102 => 4#32
  | 103 => 3#32
  | 104 => 2#32
  | 105 => 2#32
  | 106 => 4#32
  | 107 => 0#32
  | 108 => 3#32
  | 109 => 1#32
  | 110 => 1#32
  | 111 => 0#32
  | 112 => 4#32
  | 113 => 1#32
  | 114 => 2#32
  | 115 => 0#32
  | 116 => 2#32
  | 117 => 2#32
  | 118 => 2#32
  | 119 => 1#32
  | 120 => 3#32
  | 121 => 0#32
  | 122 => 4#32
  | 123 => 2#32
  | 124 => 2#32
  | 125 => 4#32
  | 126 => 4#32
  | 127 => 0#32
  | _ => 0#32

noncomputable abbrev lit0t0_109 (i : Nat) : BitVec 32 := match i % 128 with
  | 0 => 2#32
  | 1 => 0#32
  | 2 => 1#32
  | 3 => 0#32
  | 4 => 4#32
  | 5 => 0#32
  | 6 => 0#32
  | 7 => 4#32
  | 8 => 2#32
  | 9 => 0#32
  | 10 => 2#32
  | 11 => 1#32
  | 12 => 1#32
  | 13 => 3#32
  | 14 => 2#32
  | 15 => 1#32
  | 16 => 0#32
  | 17 => 2#32
  | 18 => 3#32
  | 19 => 3#32
  | 20 => 2#32
  | 21 => 1#32
  | 22 => 2#32
  | 23 => 0#32
  | 24 => 4#32
  | 25 => 0#32
  | 26 => 2#32
  | 27 => 3#32
  | 28 => 0#32
  | 29 => 1#32
  | 30 => 3#32
  | 31 => 0#32
  | 32 => 0#32
  | 33 => 0#32
  | 34 => 2#32
  | 35 => 4#32
  | 36 => 0#32
  | 37 => 1#32
  | 38 => 3#32
  | 39 => 3#32
  | 40 => 0#32
  | 41 => 3#32
  | 42 => 0#32
  | 43 => 1#32
  | 44 => 3#32
  | 45 => 4#32
  | 46 => 2#32
  | 47 => 1#32
  | 48 => 3#32
  | 49 => 4#32
  | 50 => 4#32
  | 51 => 1#32
  | 52 => 3#32
  | 53 => 1#32
  | 54 => 4#32
  | 55 => 1#32
  | 56 => 2#32
  | 57 => 4#32
  | 58 => 2#32
  | 59 => 1#32
  | 60 => 1#32
  | 61 => 3#32
  | 62 => 0#32
  | 63 => 4#32
  | 64 => 1#32
  | 65 => 3#32
  | 66 => 2#32
  | 67 => 3#32
  | 68 => 4#32
  | 69 => 1#32
  | 70 => 2#32
  | 71 => 0#32
  | 72 => 3#32
  | 73 => 1#32
  | 74 => 3#32
  | 75 => 2#32
  | 76 => 4#32
  | 77 => 1#32
  | 78 => 3#32
  | 79 => 4#32
  | 80 => 1#32
  | 81 => 1#32
  | 82 => 3#32
  | 83 => 4#32
  | 84 => 2#32
  | 85 => 2#32
  | 86 => 1#32
  | 87 => 1#32
  | 88 => 4#32
  | 89 => 1#32
  | 90 => 1#32
  | 91 => 1#32
  | 92 => 0#32
  | 93 => 1#32
  | 94 => 2#32
  | 95 => 0#32
  | 96 => 1#32
  | 97 => 1#32
  | 98 => 3#32
  | 99 => 2#32
  | 100 => 0#32
  | 101 => 4#32
  | 102 => 3#32
  | 103 => 3#32
  | 104 => 4#32
  | 105 => 4#32
  | 106 => 3#32
  | 107 => 3#32
  | 108 => 3#32
  | 109 => 1#32
  | 110 => 1#32
  | 111 => 3#32
  | 112 => 4#32
  | 113 => 2#32
  | 114 => 4#32
  | 115 => 3#32
  | 116 => 1#32
  | 117 => 2#32
  | 118 => 4#32
  | 119 => 1#32
  | 120 => 2#32
  | 121 => 4#32
  | 122 => 2#32
  | 123 => 3#32
  | 124 => 2#32
  | 125 => 0#32
  | 126 => 2#32
  | 127 => 0#32
  | _ => 0#32

noncomputable abbrev lit0t0_110 (i : Nat) : BitVec 32 := match i % 128 with
  | 0 => 1#32
  | 1 => 3#32
  | 2 => 1#32
  | 3 => 3#32
  | 4 => 2#32
  | 5 => 4#32
  | 6 => 4#32
  | 7 => 2#32
  | 8 => 1#32
  | 9 => 4#32
  | 10 => 2#32
  | 11 => 3#32
  | 12 => 1#32
  | 13 => 3#32
  | 14 => 4#32
  | 15 => 1#32
  | 16 => 1#32
  | 17 => 1#32
  | 18 => 1#32
  | 19 => 2#32
  | 20 => 4#32
  | 21 => 4#32
  | 22 => 3#32
  | 23 => 3#32
  | 24 => 2#32
  | 25 => 3#32
  | 26 => 1#32
  | 27 => 3#32
  | 28 => 1#32
  | 29 => 2#32
  | 30 => 4#32
  | 31 => 1#32
  | 32 => 2#32
  | 33 => 4#32
  | 34 => 1#32
  | 35 => 0#32
  | 36 => 2#32
  | 37 => 4#32
  | 38 => 4#32
  | 39 => 2#32
  | 40 => 3#32
  | 41 => 3#32
  | 42 => 2#32
  | 43 => 3#32
  | 44 => 1#32
  | 45 => 1#32
  | 46 => 2#32
  | 47 => 0#32
  | 48 => 3#32
  | 49 => 1#32
  | 50 => 1#32
  | 51 => 2#32
  | 52 => 1#32
  | 53 => 3#32
  | 54 => 4#32
  | 55 => 0#32
  | 56 => 0#32
  | 57 => 0#32
  | 58 => 3#32
  | 59 => 0#32
  | 60 => 1#32
  | 61 => 4#32
  | 62 => 1#32
  | 63 => 1#32
  | 64 => 4#32
  | 65 => 4#32
  | 66 => 4#32
  | 67 => 2#32
  | 68 => 4#32
  | 69 => 1#32
  | 70 => 1#32
  | 71 => 3#32
  | 72 => 3#32
  | 73 => 0#32
  | 74 => 3#32
  | 75 => 0#32
  | 76 => 4#32
  | 77 => 1#32
  | 78 => 3#32
  | 79 => 0#32
  | 80 => 2#32
  | 81 => 1#32
  | 82 => 4#32
  | 83 => 1#32
  | 84 => 3#32
  | 85 => 3#32
  | 86 => 0#32
  | 87 => 1#32
  | 88 => 0#32
  | 89 => 0#32
  | 90 => 2#32
  | 91 => 0#32
  | 92 => 2#32
  | 93 => 1#32
  | 94 => 4#32
  | 95 => 2#32
  | 96 => 2#32
  | 97 => 1#32
  | 98 => 4#32
  | 99 => 3#32
  | 100 => 4#32
  | 101 => 3#32
  | 102 => 4#32
  | 103 => 2#32
  | 104 => 0#32
  | 105 => 3#32
  | 106 => 1#32
  | 107 => 3#32
  | 108 => 4#32
  | 109 => 2#32
  | 110 => 0#32
  | 111 => 0#32
  | 112 => 0#32
  | 113 => 2#32
  | 114 => 4#32
  | 115 => 3#32
  | 116 => 1#32
  | 117 => 1#32
  | 118 => 0#32
  | 119 => 0#32
  | 120 => 0#32
  | 121 => 1#32
  | 122 => 0#32
  | 123 => 2#32
  | 124 => 2#32
  | 125 => 2#32
  | 126 => 1#32
  | 127 => 1#32
  | _ => 0#32

noncomputable abbrev lit0t0_111 (i : Nat) : BitVec 32 := match i % 128 with
  | 0 => 2#32
  | 1 => 0#32
  | 2 => 4#32
  | 3 => 3#32
  | 4 => 3#32
  | 5 => 4#32
  | 6 => 0#32
  | 7 => 4#32
  | 8 => 4#32
  | 9 => 0#32
  | 10 => 1#32
  | 11 => 0#32
  | 12 => 0#32
  | 13 => 0#32
  | 14 => 3#32
  | 15 => 0#32
  | 16 => 0#32
  | 17 => 3#32
  | 18 => 1#32
  | 19 => 2#32
  | 20 => 2#32
  | 21 => 3#32
  | 22 => 4#32
  | 23 => 1#32
  | 24 => 1#32
  | 25 => 4#32
  | 26 => 2#32
  | 27 => 1#32
  | 28 => 4#32
  | 29 => 0#32
  | 30 => 1#32
  | 31 => 2#32
  | 32 => 3#32
  | 33 => 4#32
  | 34 => 4#32
  | 35 => 1#32
  | 36 => 4#32
  | 37 => 3#32
  | 38 => 1#32
  | 39 => 0#32
  | 40 => 3#32
  | 41 => 1#32
  | 42 => 2#32
  | 43 => 0#32
  | 44 => 3#32
  | 45 => 1#32
  | 46 => 2#32
  | 47 => 4#32
  | 48 => 0#32
  | 49 => 0#32
  | 50 => 1#32
  | 51 => 4#32
  | 52 => 1#32
  | 53 => 1#32
  | 54 => 3#32
  | 55 => 0#32
  | 56 => 0#32
  | 57 => 2#32
  | 58 => 1#32
  | 59 => 4#32
  | 60 => 3#32
  | 61 => 3#32
  | 62 => 3#32
  | 63 => 3#32
  | 64 => 4#32
  | 65 => 0#32
  | 66 => 4#32
  | 67 => 0#32
  | 68 => 2#32
  | 69 => 4#32
  | 70 => 1#32
  | 71 => 0#32
  | 72 => 3#32
  | 73 => 2#32
  | 74 => 1#32
  | 75 => 1#32
  | 76 => 1#32
  | 77 => 3#32
  | 78 => 0#32
  | 79 => 3#32
  | 80 => 0#32
  | 81 => 1#32
  | 82 => 4#32
  | 83 => 0#32
  | 84 => 1#32
  | 85 => 4#32
  | 86 => 4#32
  | 87 => 3#32
  | 88 => 0#32
  | 89 => 4#32
  | 90 => 3#32
  | 91 => 2#32
  | 92 => 2#32
  | 93 => 1#32
  | 94 => 0#32
  | 95 => 2#32
  | 96 => 4#32
  | 97 => 3#32
  | 98 => 0#32
  | 99 => 3#32
  | 100 => 2#32
  | 101 => 3#32
  | 102 => 0#32
  | 103 => 1#32
  | 104 => 0#32
  | 105 => 3#32
  | 106 => 0#32
  | 107 => 1#32
  | 108 => 1#32
  | 109 => 1#32
  | 110 => 0#32
  | 111 => 1#32
  | 112 => 2#32
  | 113 => 1#32
  | 114 => 1#32
  | 115 => 2#32
  | 116 => 4#32
  | 117 => 0#32
  | 118 => 0#32
  | 119 => 3#32
  | 120 => 3#32
  | 121 => 0#32
  | 122 => 1#32
  | 123 => 3#32
  | 124 => 4#32
  | 125 => 3#32
  | 126 => 0#32
  | 127 => 4#32
  | _ => 0#32

noncomputable abbrev lit0t0_112 (i : Nat) : BitVec 32 := match i % 128 with
  | 0 => 2#32
  | 1 => 1#32
  | 2 => 4#32
  | 3 => 2#32
  | 4 => 2#32
  | 5 => 1#32
  | 6 => 0#32
  | 7 => 0#32
  | 8 => 1#32
  | 9 => 4#32
  | 10 => 2#32
  | 11 => 0#32
  | 12 => 4#32
  | 13 => 1#32
  | 14 => 4#32
  | 15 => 4#32
  | 16 => 4#32
  | 17 => 0#32
  | 18 => 0#32
  | 19 => 2#32
  | 20 => 4#32
  | 21 => 3#32
  | 22 => 3#32
  | 23 => 3#32
  | 24 => 0#32
  | 25 => 3#32
  | 26 => 2#32
  | 27 => 0#32
  | 28 => 3#32
  | 29 => 0#32
  | 30 => 2#32
  | 31 => 1#32
  | 32 => 4#32
  | 33 => 2#32
  | 34 => 3#32
  | 35 => 4#32
  | 36 => 1#32
  | 37 => 3#32
  | 38 => 3#32
  | 39 => 4#32
  | 40 => 3#32
  | 41 => 3#32
  | 42 => 2#32
  | 43 => 0#32
  | 44 => 1#32
  | 45 => 2#32
  | 46 => 4#32
  | 47 => 2#32
  | 48 => 0#32
  | 49 => 1#32
  | 50 => 1#32
  | 51 => 4#32
  | 52 => 3#32
  | 53 => 1#32
  | 54 => 2#32
  | 55 => 2#32
  | 56 => 3#32
  | 57 => 1#32
  | 58 => 2#32
  | 59 => 3#32
  | 60 => 4#32
  | 61 => 2#32
  | 62 => 3#32
  | 63 => 3#32
  | 64 => 1#32
  | 65 => 1#32
  | 66 => 2#32
  | 67 => 1#32
  | 68 => 1#32
  | 69 => 0#32
  | 70 => 1#32
  | 71 => 1#32
  | 72 => 2#32
  | 73 => 3#32
  | 74 => 3#32
  | 75 => 3#32
  | 76 => 0#32
  | 77 => 2#32
  | 78 => 3#32
  | 79 => 4#32
  | 80 => 4#32
  | 81 => 2#32
  | 82 => 4#32
  | 83 => 3#32
  | 84 => 2#32
  | 85 => 4#32
  | 86 => 2#32
  | 87 => 2#32
  | 88 => 4#32
  | 89 => 1#32
  | 90 => 3#32
  | 91 => 1#32
  | 92 => 0#32
  | 93 => 1#32
  | 94 => 1#32
  | 95 => 2#32
  | 96 => 1#32
  | 97 => 2#32
  | 98 => 3#32
  | 99 => 2#32
  | 100 => 0#32
  | 101 => 3#32
  | 102 => 1#32
  | 103 => 4#32
  | 104 => 3#32
  | 105 => 0#32
  | 106 => 0#32
  | 107 => 3#32
  | 108 => 2#32
  | 109 => 4#32
  | 110 => 2#32
  | 111 => 4#32
  | 112 => 1#32
  | 113 => 2#32
  | 114 => 4#32
  | 115 => 3#32
  | 116 => 4#32
  | 117 => 1#32
  | 118 => 4#32
  | 119 => 2#32
  | 120 => 0#32
  | 121 => 2#32
  | 122 => 1#32
  | 123 => 0#32
  | 124 => 4#32
  | 125 => 1#32
  | 126 => 4#32
  | 127 => 3#32
  | _ => 0#32

noncomputable abbrev lit0t0_113 (i : Nat) : BitVec 32 := match i % 128 with
  | 0 => 2#32
  | 1 => 4#32
  | 2 => 1#32
  | 3 => 3#32
  | 4 => 0#32
  | 5 => 0#32
  | 6 => 0#32
  | 7 => 0#32
  | 8 => 2#32
  | 9 => 2#32
  | 10 => 3#32
  | 11 => 4#32
  | 12 => 0#32
  | 13 => 0#32
  | 14 => 0#32
  | 15 => 2#32
  | 16 => 3#32
  | 17 => 1#32
  | 18 => 1#32
  | 19 => 2#32
  | 20 => 0#32
  | 21 => 1#32
  | 22 => 1#32
  | 23 => 3#32
  | 24 => 1#32
  | 25 => 4#32
  | 26 => 4#32
  | 27 => 2#32
  | 28 => 3#32
  | 29 => 4#32
  | 30 => 1#32
  | 31 => 2#32
  | 32 => 3#32
  | 33 => 1#32
  | 34 => 1#32
  | 35 => 0#32
  | 36 => 4#32
  | 37 => 4#32
  | 38 => 3#32
  | 39 => 3#32
  | 40 => 2#32
  | 41 => 0#32
  | 42 => 3#32
  | 43 => 1#32
  | 44 => 4#32
  | 45 => 3#32
  | 46 => 3#32
  | 47 => 1#32
  | 48 => 3#32
  | 49 => 1#32
  | 50 => 3#32
  | 51 => 3#32
  | 52 => 4#32
  | 53 => 1#32
  | 54 => 0#32
  | 55 => 1#32
  | 56 => 1#32
  | 57 => 4#32
  | 58 => 2#32
  | 59 => 3#32
  | 60 => 1#32
  | 61 => 2#32
  | 62 => 1#32
  | 63 => 4#32
  | 64 => 0#32
  | 65 => 4#32
  | 66 => 2#32
  | 67 => 1#32
  | 68 => 2#32
  | 69 => 1#32
  | 70 => 2#32
  | 71 => 2#32
  | 72 => 0#32
  | 73 => 4#32
  | 74 => 0#32
  | 75 => 0#32
  | 76 => 2#32
  | 77 => 2#32
  | 78 => 2#32
  | 79 => 2#32
  | 80 => 0#32
  | 81 => 1#32
  | 82 => 4#32
  | 83 => 4#32
  | 84 => 2#32
  | 85 => 4#32
  | 86 => 4#32
  | 87 => 0#32
  | 88 => 2#32
  | 89 => 1#32
  | 90 => 3#32
  | 91 => 3#32
  | 92 => 1#32
  | 93 => 4#32
  | 94 => 1#32
  | 95 => 2#32
  | 96 => 4#32
  | 97 => 1#32
  | 98 => 2#32
  | 99 => 1#32
  | 100 => 0#32
  | 101 => 1#32
  | 102 => 2#32
  | 103 => 3#32
  | 104 => 2#32
  | 105 => 4#32
  | 106 => 4#32
  | 107 => 1#32
  | 108 => 1#32
  | 109 => 3#32
  | 110 => 2#32
  | 111 => 0#32
  | 112 => 3#32
  | 113 => 2#32
  | 114 => 1#32
  | 115 => 2#32
  | 116 => 4#32
  | 117 => 0#32
  | 118 => 4#32
  | 119 => 3#32
  | 120 => 2#32
  | 121 => 3#32
  | 122 => 3#32
  | 123 => 4#32
  | 124 => 0#32
  | 125 => 2#32
  | 126 => 3#32
  | 127 => 3#32
  | _ => 0#32

noncomputable abbrev lit0t0_114 (i : Nat) : BitVec 32 := match i % 128 with
  | 0 => 0#32
  | 1 => 3#32
  | 2 => 4#32
  | 3 => 4#32
  | 4 => 4#32
  | 5 => 1#32
  | 6 => 2#32
  | 7 => 3#32
  | 8 => 3#32
  | 9 => 1#32
  | 10 => 3#32
  | 11 => 3#32
  | 12 => 4#32
  | 13 => 3#32
  | 14 => 0#32
  | 15 => 2#32
  | 16 => 0#32
  | 17 => 0#32
  | 18 => 1#32
  | 19 => 1#32
  | 20 => 3#32
  | 21 => 2#32
  | 22 => 1#32
  | 23 => 0#32
  | 24 => 2#32
  | 25 => 4#32
  | 26 => 2#32
  | 27 => 4#32
  | 28 => 4#32
  | 29 => 4#32
  | 30 => 2#32
  | 31 => 3#32
  | 32 => 0#32
  | 33 => 3#32
  | 34 => 2#32
  | 35 => 0#32
  | 36 => 2#32
  | 37 => 1#32
  | 38 => 4#32
  | 39 => 2#32
  | 40 => 3#32
  | 41 => 4#32
  | 42 => 1#32
  | 43 => 4#32
  | 44 => 1#32
  | 45 => 0#32
  | 46 => 2#32
  | 47 => 0#32
  | 48 => 3#32
  | 49 => 3#32
  | 50 => 4#32
  | 51 => 3#32
  | 52 => 0#32
  | 53 => 2#32
  | 54 => 3#32
  | 55 => 4#32
  | 56 => 4#32
  | 57 => 1#32
  | 58 => 2#32
  | 59 => 0#32
  | 60 => 1#32
  | 61 => 2#32
  | 62 => 3#32
  | 63 => 4#32
  | 64 => 0#32
  | 65 => 4#32
  | 66 => 4#32
  | 67 => 1#32
  | 68 => 0#32
  | 69 => 4#32
  | 70 => 3#32
  | 71 => 1#32
  | 72 => 4#32
  | 73 => 0#32
  | 74 => 3#32
  | 75 => 0#32
  | 76 => 3#32
  | 77 => 1#32
  | 78 => 3#32
  | 79 => 2#32
  | 80 => 0#32
  | 81 => 3#32
  | 82 => 0#32
  | 83 => 0#32
  | 84 => 3#32
  | 85 => 3#32
  | 86 => 0#32
  | 87 => 0#32
  | 88 => 4#32
  | 89 => 1#32
  | 90 => 4#32
  | 91 => 2#32
  | 92 => 2#32
  | 93 => 1#32
  | 94 => 1#32
  | 95 => 1#32
  | 96 => 1#32
  | 97 => 1#32
  | 98 => 3#32
  | 99 => 4#32
  | 100 => 1#32
  | 101 => 3#32
  | 102 => 2#32
  | 103 => 2#32
  | 104 => 3#32
  | 105 => 3#32
  | 106 => 2#32
  | 107 => 4#32
  | 108 => 2#32
  | 109 => 2#32
  | 110 => 3#32
  | 111 => 2#32
  | 112 => 1#32
  | 113 => 0#32
  | 114 => 1#32
  | 115 => 3#32
  | 116 => 1#32
  | 117 => 1#32
  | 118 => 2#32
  | 119 => 2#32
  | 120 => 4#32
  | 121 => 4#32
  | 122 => 1#32
  | 123 => 3#32
  | 124 => 3#32
  | 125 => 4#32
  | 126 => 1#32
  | 127 => 1#32
  | _ => 0#32

noncomputable abbrev lit0t0_115 (i : Nat) : BitVec 32 := match i % 128 with
  | 0 => 3#32
  | 1 => 4#32
  | 2 => 4#32
  | 3 => 2#32
  | 4 => 3#32
  | 5 => 0#32
  | 6 => 4#32
  | 7 => 3#32
  | 8 => 2#32
  | 9 => 2#32
  | 10 => 1#32
  | 11 => 4#32
  | 12 => 0#32
  | 13 => 3#32
  | 14 => 2#32
  | 15 => 2#32
  | 16 => 1#32
  | 17 => 0#32
  | 18 => 3#32
  | 19 => 3#32
  | 20 => 3#32
  | 21 => 0#32
  | 22 => 0#32
  | 23 => 0#32
  | 24 => 3#32
  | 25 => 4#32
  | 26 => 1#32
  | 27 => 1#32
  | 28 => 0#32
  | 29 => 0#32
  | 30 => 1#32
  | 31 => 1#32
  | 32 => 2#32
  | 33 => 2#32
  | 34 => 0#32
  | 35 => 4#32
  | 36 => 3#32
  | 37 => 1#32
  | 38 => 2#32
  | 39 => 2#32
  | 40 => 2#32
  | 41 => 4#32
  | 42 => 0#32
  | 43 => 1#32
  | 44 => 0#32
  | 45 => 4#32
  | 46 => 3#32
  | 47 => 4#32
  | 48 => 0#32
  | 49 => 1#32
  | 50 => 2#32
  | 51 => 4#32
  | 52 => 0#32
  | 53 => 2#32
  | 54 => 4#32
  | 55 => 4#32
  | 56 => 0#32
  | 57 => 3#32
  | 58 => 0#32
  | 59 => 0#32
  | 60 => 1#32
  | 61 => 1#32
  | 62 => 3#32
  | 63 => 4#32
  | 64 => 3#32
  | 65 => 4#32
  | 66 => 1#32
  | 67 => 2#32
  | 68 => 0#32
  | 69 => 0#32
  | 70 => 4#32
  | 71 => 3#32
  | 72 => 3#32
  | 73 => 1#32
  | 74 => 2#32
  | 75 => 3#32
  | 76 => 2#32
  | 77 => 4#32
  | 78 => 3#32
  | 79 => 2#32
  | 80 => 2#32
  | 81 => 2#32
  | 82 => 0#32
  | 83 => 2#32
  | 84 => 1#32
  | 85 => 4#32
  | 86 => 1#32
  | 87 => 3#32
  | 88 => 2#32
  | 89 => 3#32
  | 90 => 4#32
  | 91 => 4#32
  | 92 => 3#32
  | 93 => 1#32
  | 94 => 0#32
  | 95 => 3#32
  | 96 => 0#32
  | 97 => 1#32
  | 98 => 1#32
  | 99 => 4#32
  | 100 => 0#32
  | 101 => 2#32
  | 102 => 3#32
  | 103 => 1#32
  | 104 => 4#32
  | 105 => 4#32
  | 106 => 4#32
  | 107 => 4#32
  | 108 => 0#32
  | 109 => 3#32
  | 110 => 4#32
  | 111 => 0#32
  | 112 => 1#32
  | 113 => 0#32
  | 114 => 1#32
  | 115 => 3#32
  | 116 => 3#32
  | 117 => 2#32
  | 118 => 4#32
  | 119 => 4#32
  | 120 => 1#32
  | 121 => 4#32
  | 122 => 2#32
  | 123 => 1#32
  | 124 => 4#32
  | 125 => 2#32
  | 126 => 0#32
  | 127 => 2#32
  | _ => 0#32

noncomputable abbrev lit0t0_116 (i : Nat) : BitVec 32 := match i % 128 with
  | 0 => 0#32
  | 1 => 2#32
  | 2 => 2#32
  | 3 => 4#32
  | 4 => 1#32
  | 5 => 3#32
  | 6 => 1#32
  | 7 => 2#32
  | 8 => 3#32
  | 9 => 0#32
  | 10 => 4#32
  | 11 => 3#32
  | 12 => 1#32
  | 13 => 4#32
  | 14 => 2#32
  | 15 => 4#32
  | 16 => 3#32
  | 17 => 2#32
  | 18 => 2#32
  | 19 => 2#32
  | 20 => 2#32
  | 21 => 4#32
  | 22 => 1#32
  | 23 => 4#32
  | 24 => 4#32
  | 25 => 2#32
  | 26 => 3#32
  | 27 => 1#32
  | 28 => 4#32
  | 29 => 4#32
  | 30 => 0#32
  | 31 => 0#32
  | 32 => 0#32
  | 33 => 0#32
  | 34 => 2#32
  | 35 => 3#32
  | 36 => 4#32
  | 37 => 4#32
  | 38 => 3#32
  | 39 => 4#32
  | 40 => 0#32
  | 41 => 2#32
  | 42 => 3#32
  | 43 => 4#32
  | 44 => 1#32
  | 45 => 3#32
  | 46 => 0#32
  | 47 => 1#32
  | 48 => 2#32
  | 49 => 3#32
  | 50 => 4#32
  | 51 => 0#32
  | 52 => 0#32
  | 53 => 3#32
  | 54 => 2#32
  | 55 => 3#32
  | 56 => 1#32
  | 57 => 3#32
  | 58 => 4#32
  | 59 => 1#32
  | 60 => 3#32
  | 61 => 3#32
  | 62 => 0#32
  | 63 => 2#32
  | 64 => 2#32
  | 65 => 2#32
  | 66 => 0#32
  | 67 => 2#32
  | 68 => 0#32
  | 69 => 4#32
  | 70 => 1#32
  | 71 => 2#32
  | 72 => 2#32
  | 73 => 0#32
  | 74 => 2#32
  | 75 => 2#32
  | 76 => 2#32
  | 77 => 2#32
  | 78 => 2#32
  | 79 => 4#32
  | 80 => 1#32
  | 81 => 3#32
  | 82 => 1#32
  | 83 => 0#32
  | 84 => 1#32
  | 85 => 1#32
  | 86 => 3#32
  | 87 => 4#32
  | 88 => 0#32
  | 89 => 4#32
  | 90 => 4#32
  | 91 => 2#32
  | 92 => 4#32
  | 93 => 3#32
  | 94 => 1#32
  | 95 => 0#32
  | 96 => 2#32
  | 97 => 1#32
  | 98 => 2#32
  | 99 => 1#32
  | 100 => 1#32
  | 101 => 1#32
  | 102 => 2#32
  | 103 => 0#32
  | 104 => 1#32
  | 105 => 4#32
  | 106 => 3#32
  | 107 => 4#32
  | 108 => 1#32
  | 109 => 2#32
  | 110 => 2#32
  | 111 => 4#32
  | 112 => 3#32
  | 113 => 3#32
  | 114 => 0#32
  | 115 => 1#32
  | 116 => 2#32
  | 117 => 3#32
  | 118 => 4#32
  | 119 => 3#32
  | 120 => 2#32
  | 121 => 1#32
  | 122 => 1#32
  | 123 => 1#32
  | 124 => 1#32
  | 125 => 2#32
  | 126 => 0#32
  | 127 => 0#32
  | _ => 0#32

noncomputable abbrev lit0t0_117 (i : Nat) : BitVec 32 := match i % 128 with
  | 0 => 1#32
  | 1 => 0#32
  | 2 => 1#32
  | 3 => 2#32
  | 4 => 0#32
  | 5 => 2#32
  | 6 => 3#32
  | 7 => 2#32
  | 8 => 4#32
  | 9 => 3#32
  | 10 => 3#32
  | 11 => 4#32
  | 12 => 0#32
  | 13 => 3#32
  | 14 => 0#32
  | 15 => 4#32
  | 16 => 1#32
  | 17 => 4#32
  | 18 => 4#32
  | 19 => 3#32
  | 20 => 3#32
  | 21 => 3#32
  | 22 => 2#32
  | 23 => 0#32
  | 24 => 4#32
  | 25 => 2#32
  | 26 => 3#32
  | 27 => 4#32
  | 28 => 0#32
  | 29 => 4#32
  | 30 => 0#32
  | 31 => 4#32
  | 32 => 2#32
  | 33 => 0#32
  | 34 => 1#32
  | 35 => 2#32
  | 36 => 0#32
  | 37 => 1#32
  | 38 => 4#32
  | 39 => 0#32
  | 40 => 3#32
  | 41 => 4#32
  | 42 => 4#32
  | 43 => 3#32
  | 44 => 0#32
  | 45 => 1#32
  | 46 => 2#32
  | 47 => 0#32
  | 48 => 0#32
  | 49 => 4#32
  | 50 => 1#32
  | 51 => 3#32
  | 52 => 1#32
  | 53 => 4#32
  | 54 => 2#32
  | 55 => 3#32
  | 56 => 0#32
  | 57 => 0#32
  | 58 => 0#32
  | 59 => 2#32
  | 60 => 0#32
  | 61 => 1#32
  | 62 => 4#32
  | 63 => 2#32
  | 64 => 1#32
  | 65 => 1#32
  | 66 => 1#32
  | 67 => 1#32
  | 68 => 3#32
  | 69 => 1#32
  | 70 => 2#32
  | 71 => 4#32
  | 72 => 4#32
  | 73 => 2#32
  | 74 => 4#32
  | 75 => 1#32
  | 76 => 1#32
  | 77 => 0#32
  | 78 => 2#32
  | 79 => 1#32
  | 80 => 4#32
  | 81 => 2#32
  | 82 => 4#32
  | 83 => 1#32
  | 84 => 0#32
  | 85 => 4#32
  | 86 => 3#32
  | 87 => 3#32
  | 88 => 3#32
  | 89 => 2#32
  | 90 => 3#32
  | 91 => 1#32
  | 92 => 4#32
  | 93 => 3#32
  | 94 => 3#32
  | 95 => 0#32
  | 96 => 4#32
  | 97 => 4#32
  | 98 => 0#32
  | 99 => 2#32
  | 100 => 0#32
  | 101 => 2#32
  | 102 => 2#32
  | 103 => 1#32
  | 104 => 0#32
  | 105 => 2#32
  | 106 => 2#32
  | 107 => 1#32
  | 108 => 4#32
  | 109 => 3#32
  | 110 => 2#32
  | 111 => 4#32
  | 112 => 3#32
  | 113 => 0#32
  | 114 => 4#32
  | 115 => 3#32
  | 116 => 3#32
  | 117 => 0#32
  | 118 => 0#32
  | 119 => 1#32
  | 120 => 1#32
  | 121 => 0#32
  | 122 => 2#32
  | 123 => 2#32
  | 124 => 2#32
  | 125 => 1#32
  | 126 => 1#32
  | 127 => 4#32
  | _ => 0#32

noncomputable abbrev lit0t0_118 (i : Nat) : BitVec 32 := match i % 128 with
  | 0 => 0#32
  | 1 => 3#32
  | 2 => 0#32
  | 3 => 2#32
  | 4 => 0#32
  | 5 => 4#32
  | 6 => 2#32
  | 7 => 4#32
  | 8 => 0#32
  | 9 => 0#32
  | 10 => 3#32
  | 11 => 1#32
  | 12 => 1#32
  | 13 => 4#32
  | 14 => 3#32
  | 15 => 3#32
  | 16 => 1#32
  | 17 => 1#32
  | 18 => 3#32
  | 19 => 3#32
  | 20 => 1#32
  | 21 => 1#32
  | 22 => 3#32
  | 23 => 0#32
  | 24 => 2#32
  | 25 => 4#32
  | 26 => 4#32
  | 27 => 1#32
  | 28 => 3#32
  | 29 => 4#32
  | 30 => 3#32
  | 31 => 4#32
  | 32 => 1#32
  | 33 => 0#32
  | 34 => 0#32
  | 35 => 1#32
  | 36 => 2#32
  | 37 => 1#32
  | 38 => 1#32
  | 39 => 4#32
  | 40 => 4#32
  | 41 => 3#32
  | 42 => 4#32
  | 43 => 4#32
  | 44 => 1#32
  | 45 => 2#32
  | 46 => 0#32
  | 47 => 0#32
  | 48 => 4#32
  | 49 => 3#32
  | 50 => 1#32
  | 51 => 3#32
  | 52 => 4#32
  | 53 => 2#32
  | 54 => 3#32
  | 55 => 1#32
  | 56 => 3#32
  | 57 => 2#32
  | 58 => 0#32
  | 59 => 2#32
  | 60 => 1#32
  | 61 => 0#32
  | 62 => 0#32
  | 63 => 2#32
  | 64 => 3#32
  | 65 => 0#32
  | 66 => 0#32
  | 67 => 0#32
  | 68 => 2#32
  | 69 => 2#32
  | 70 => 0#32
  | 71 => 1#32
  | 72 => 0#32
  | 73 => 0#32
  | 74 => 3#32
  | 75 => 0#32
  | 76 => 3#32
  | 77 => 2#32
  | 78 => 1#32
  | 79 => 2#32
  | 80 => 1#32
  | 81 => 2#32
  | 82 => 0#32
  | 83 => 3#32
  | 84 => 0#32
  | 85 => 1#32
  | 86 => 0#32
  | 87 => 4#32
  | 88 => 3#32
  | 89 => 0#32
  | 90 => 1#32
  | 91 => 0#32
  | 92 => 3#32
  | 93 => 3#32
  | 94 => 2#32
  | 95 => 2#32
  | 96 => 2#32
  | 97 => 3#32
  | 98 => 3#32
  | 99 => 2#32
  | 100 => 4#32
  | 101 => 0#32
  | 102 => 1#32
  | 103 => 1#32
  | 104 => 1#32
  | 105 => 1#32
  | 106 => 0#32
  | 107 => 1#32
  | 108 => 1#32
  | 109 => 3#32
  | 110 => 2#32
  | 111 => 0#32
  | 112 => 1#32
  | 113 => 2#32
  | 114 => 2#32
  | 115 => 0#32
  | 116 => 4#32
  | 117 => 0#32
  | 118 => 4#32
  | 119 => 3#32
  | 120 => 0#32
  | 121 => 4#32
  | 122 => 1#32
  | 123 => 3#32
  | 124 => 3#32
  | 125 => 3#32
  | 126 => 4#32
  | 127 => 0#32
  | _ => 0#32

noncomputable abbrev lit0t0_119 (i : Nat) : BitVec 32 := match i % 128 with
  | 0 => 3#32
  | 1 => 0#32
  | 2 => 2#32
  | 3 => 3#32
  | 4 => 4#32
  | 5 => 0#32
  | 6 => 0#32
  | 7 => 1#32
  | 8 => 0#32
  | 9 => 1#32
  | 10 => 2#32
  | 11 => 3#32
  | 12 => 4#32
  | 13 => 2#32
  | 14 => 1#32
  | 15 => 3#32
  | 16 => 2#32
  | 17 => 2#32
  | 18 => 3#32
  | 19 => 2#32
  | 20 => 3#32
  | 21 => 1#32
  | 22 => 3#32
  | 23 => 3#32
  | 24 => 4#32
  | 25 => 4#32
  | 26 => 0#32
  | 27 => 2#32
  | 28 => 4#32
  | 29 => 0#32
  | 30 => 1#32
  | 31 => 3#32
  | 32 => 3#32
  | 33 => 4#32
  | 34 => 4#32
  | 35 => 2#32
  | 36 => 4#32
  | 37 => 2#32
  | 38 => 3#32
  | 39 => 2#32
  | 40 => 0#32
  | 41 => 1#32
  | 42 => 0#32
  | 43 => 4#32
  | 44 => 2#32
  | 45 => 1#32
  | 46 => 1#32
  | 47 => 4#32
  | 48 => 4#32
  | 49 => 0#32
  | 50 => 1#32
  | 51 => 0#32
  | 52 => 3#32
  | 53 => 2#32
  | 54 => 0#32
  | 55 => 4#32
  | 56 => 3#32
  | 57 => 0#32
  | 58 => 4#32
  | 59 => 0#32
  | 60 => 4#32
  | 61 => 4#32
  | 62 => 3#32
  | 63 => 3#32
  | 64 => 1#32
  | 65 => 3#32
  | 66 => 1#32
  | 67 => 0#32
  | 68 => 4#32
  | 69 => 1#32
  | 70 => 4#32
  | 71 => 1#32
  | 72 => 1#32
  | 73 => 3#32
  | 74 => 0#32
  | 75 => 3#32
  | 76 => 0#32
  | 77 => 0#32
  | 78 => 3#32
  | 79 => 4#32
  | 80 => 4#32
  | 81 => 1#32
  | 82 => 0#32
  | 83 => 3#32
  | 84 => 1#32
  | 85 => 4#32
  | 86 => 0#32
  | 87 => 3#32
  | 88 => 3#32
  | 89 => 4#32
  | 90 => 2#32
  | 91 => 3#32
  | 92 => 0#32
  | 93 => 2#32
  | 94 => 0#32
  | 95 => 3#32
  | 96 => 4#32
  | 97 => 2#32
  | 98 => 0#32
  | 99 => 0#32
  | 100 => 1#32
  | 101 => 4#32
  | 102 => 4#32
  | 103 => 2#32
  | 104 => 2#32
  | 105 => 0#32
  | 106 => 2#32
  | 107 => 3#32
  | 108 => 0#32
  | 109 => 1#32
  | 110 => 2#32
  | 111 => 4#32
  | 112 => 2#32
  | 113 => 1#32
  | 114 => 1#32
  | 115 => 4#32
  | 116 => 3#32
  | 117 => 3#32
  | 118 => 2#32
  | 119 => 0#32
  | 120 => 2#32
  | 121 => 0#32
  | 122 => 0#32
  | 123 => 0#32
  | 124 => 3#32
  | 125 => 1#32
  | 126 => 2#32
  | 127 => 4#32
  | _ => 0#32

noncomputable abbrev lit0t0_120 (i : Nat) : BitVec 32 := match i % 128 with
  | 0 => 0#32
  | 1 => 4#32
  | 2 => 1#32
  | 3 => 0#32
  | 4 => 4#32
  | 5 => 0#32
  | 6 => 1#32
  | 7 => 3#32
  | 8 => 4#32
  | 9 => 3#32
  | 10 => 0#32
  | 11 => 3#32
  | 12 => 3#32
  | 13 => 2#32
  | 14 => 0#32
  | 15 => 2#32
  | 16 => 2#32
  | 17 => 4#32
  | 18 => 4#32
  | 19 => 0#32
  | 20 => 2#32
  | 21 => 0#32
  | 22 => 0#32
  | 23 => 1#32
  | 24 => 1#32
  | 25 => 1#32
  | 26 => 1#32
  | 27 => 0#32
  | 28 => 4#32
  | 29 => 0#32
  | 30 => 4#32
  | 31 => 4#32
  | 32 => 1#32
  | 33 => 2#32
  | 34 => 4#32
  | 35 => 1#32
  | 36 => 0#32
  | 37 => 3#32
  | 38 => 2#32
  | 39 => 4#32
  | 40 => 3#32
  | 41 => 3#32
  | 42 => 3#32
  | 43 => 4#32
  | 44 => 3#32
  | 45 => 1#32
  | 46 => 0#32
  | 47 => 2#32
  | 48 => 1#32
  | 49 => 1#32
  | 50 => 2#32
  | 51 => 4#32
  | 52 => 3#32
  | 53 => 1#32
  | 54 => 4#32
  | 55 => 1#32
  | 56 => 2#32
  | 57 => 2#32
  | 58 => 4#32
  | 59 => 2#32
  | 60 => 3#32
  | 61 => 2#32
  | 62 => 0#32
  | 63 => 2#32
  | 64 => 3#32
  | 65 => 0#32
  | 66 => 2#32
  | 67 => 4#32
  | 68 => 2#32
  | 69 => 1#32
  | 70 => 1#32
  | 71 => 2#32
  | 72 => 0#32
  | 73 => 1#32
  | 74 => 3#32
  | 75 => 0#32
  | 76 => 0#32
  | 77 => 4#32
  | 78 => 4#32
  | 79 => 2#32
  | 80 => 1#32
  | 81 => 4#32
  | 82 => 0#32
  | 83 => 2#32
  | 84 => 4#32
  | 85 => 0#32
  | 86 => 4#32
  | 87 => 4#32
  | 88 => 3#32
  | 89 => 3#32
  | 90 => 3#32
  | 91 => 3#32
  | 92 => 4#32
  | 93 => 3#32
  | 94 => 1#32
  | 95 => 4#32
  | 96 => 1#32
  | 97 => 4#32
  | 98 => 0#32
  | 99 => 2#32
  | 100 => 3#32
  | 101 => 3#32
  | 102 => 2#32
  | 103 => 3#32
  | 104 => 4#32
  | 105 => 0#32
  | 106 => 4#32
  | 107 => 2#32
  | 108 => 3#32
  | 109 => 0#32
  | 110 => 2#32
  | 111 => 4#32
  | 112 => 3#32
  | 113 => 4#32
  | 114 => 3#32
  | 115 => 2#32
  | 116 => 3#32
  | 117 => 1#32
  | 118 => 1#32
  | 119 => 3#32
  | 120 => 3#32
  | 121 => 3#32
  | 122 => 1#32
  | 123 => 4#32
  | 124 => 4#32
  | 125 => 4#32
  | 126 => 1#32
  | 127 => 3#32
  | _ => 0#32

noncomputable abbrev lit0t0_121 (i : Nat) : BitVec 32 := match i % 128 with
  | 0 => 2#32
  | 1 => 2#32
  | 2 => 0#32
  | 3 => 2#32
  | 4 => 4#32
  | 5 => 0#32
  | 6 => 4#32
  | 7 => 4#32
  | 8 => 0#32
  | 9 => 3#32
  | 10 => 3#32
  | 11 => 1#32
  | 12 => 2#32
  | 13 => 2#32
  | 14 => 4#32
  | 15 => 1#32
  | 16 => 1#32
  | 17 => 1#32
  | 18 => 1#32
  | 19 => 3#32
  | 20 => 1#32
  | 21 => 0#32
  | 22 => 2#32
  | 23 => 0#32
  | 24 => 2#32
  | 25 => 1#32
  | 26 => 1#32
  | 27 => 1#32
  | 28 => 2#32
  | 29 => 1#32
  | 30 => 2#32
  | 31 => 3#32
  | 32 => 2#32
  | 33 => 0#32
  | 34 => 1#32
  | 35 => 3#32
  | 36 => 4#32
  | 37 => 3#32
  | 38 => 3#32
  | 39 => 3#32
  | 40 => 3#32
  | 41 => 3#32
  | 42 => 3#32
  | 43 => 4#32
  | 44 => 3#32
  | 45 => 2#32
  | 46 => 3#32
  | 47 => 3#32
  | 48 => 2#32
  | 49 => 1#32
  | 50 => 3#32
  | 51 => 4#32
  | 52 => 2#32
  | 53 => 1#32
  | 54 => 4#32
  | 55 => 1#32
  | 56 => 0#32
  | 57 => 3#32
  | 58 => 3#32
  | 59 => 4#32
  | 60 => 3#32
  | 61 => 0#32
  | 62 => 4#32
  | 63 => 1#32
  | 64 => 2#32
  | 65 => 2#32
  | 66 => 0#32
  | 67 => 3#32
  | 68 => 3#32
  | 69 => 3#32
  | 70 => 0#32
  | 71 => 1#32
  | 72 => 3#32
  | 73 => 2#32
  | 74 => 0#32
  | 75 => 4#32
  | 76 => 4#32
  | 77 => 4#32
  | 78 => 1#32
  | 79 => 0#32
  | 80 => 2#32
  | 81 => 2#32
  | 82 => 1#32
  | 83 => 0#32
  | 84 => 2#32
  | 85 => 2#32
  | 86 => 1#32
  | 87 => 0#32
  | 88 => 2#32
  | 89 => 1#32
  | 90 => 1#32
  | 91 => 0#32
  | 92 => 2#32
  | 93 => 0#32
  | 94 => 2#32
  | 95 => 0#32
  | 96 => 2#32
  | 97 => 3#32
  | 98 => 2#32
  | 99 => 1#32
  | 100 => 2#32
  | 101 => 3#32
  | 102 => 1#32
  | 103 => 0#32
  | 104 => 1#32
  | 105 => 3#32
  | 106 => 3#32
  | 107 => 2#32
  | 108 => 1#32
  | 109 => 1#32
  | 110 => 3#32
  | 111 => 1#32
  | 112 => 3#32
  | 113 => 2#32
  | 114 => 1#32
  | 115 => 4#32
  | 116 => 1#32
  | 117 => 1#32
  | 118 => 2#32
  | 119 => 3#32
  | 120 => 1#32
  | 121 => 2#32
  | 122 => 1#32
  | 123 => 2#32
  | 124 => 2#32
  | 125 => 2#32
  | 126 => 0#32
  | 127 => 0#32
  | _ => 0#32

noncomputable abbrev lit0t0_122 (i : Nat) : BitVec 32 := match i % 128 with
  | 0 => 4#32
  | 1 => 1#32
  | 2 => 0#32
  | 3 => 4#32
  | 4 => 4#32
  | 5 => 4#32
  | 6 => 3#32
  | 7 => 1#32
  | 8 => 0#32
  | 9 => 2#32
  | 10 => 2#32
  | 11 => 1#32
  | 12 => 4#32
  | 13 => 1#32
  | 14 => 2#32
  | 15 => 1#32
  | 16 => 2#32
  | 17 => 0#32
  | 18 => 0#32
  | 19 => 3#32
  | 20 => 2#32
  | 21 => 0#32
  | 22 => 4#32
  | 23 => 2#32
  | 24 => 3#32
  | 25 => 1#32
  | 26 => 1#32
  | 27 => 1#32
  | 28 => 0#32
  | 29 => 1#32
  | 30 => 4#32
  | 31 => 0#32
  | 32 => 4#32
  | 33 => 0#32
  | 34 => 2#32
  | 35 => 2#32
  | 36 => 3#32
  | 37 => 2#32
  | 38 => 4#32
  | 39 => 3#32
  | 40 => 0#32
  | 41 => 4#32
  | 42 => 4#32
  | 43 => 0#32
  | 44 => 4#32
  | 45 => 3#32
  | 46 => 2#32
  | 47 => 3#32
  | 48 => 2#32
  | 49 => 2#32
  | 50 => 4#32
  | 51 => 0#32
  | 52 => 3#32
  | 53 => 1#32
  | 54 => 1#32
  | 55 => 3#32
  | 56 => 4#32
  | 57 => 1#32
  | 58 => 1#32
  | 59 => 4#32
  | 60 => 1#32
  | 61 => 0#32
  | 62 => 0#32
  | 63 => 1#32
  | 64 => 4#32
  | 65 => 3#32
  | 66 => 0#32
  | 67 => 1#32
  | 68 => 3#32
  | 69 => 3#32
  | 70 => 4#32
  | 71 => 0#32
  | 72 => 0#32
  | 73 => 4#32
  | 74 => 1#32
  | 75 => 2#32
  | 76 => 1#32
  | 77 => 0#32
  | 78 => 4#32
  | 79 => 1#32
  | 80 => 3#32
  | 81 => 2#32
  | 82 => 2#32
  | 83 => 3#32
  | 84 => 3#32
  | 85 => 1#32
  | 86 => 3#32
  | 87 => 2#32
  | 88 => 4#32
  | 89 => 2#32
  | 90 => 3#32
  | 91 => 2#32
  | 92 => 1#32
  | 93 => 0#32
  | 94 => 3#32
  | 95 => 4#32
  | 96 => 3#32
  | 97 => 1#32
  | 98 => 1#32
  | 99 => 0#32
  | 100 => 0#32
  | 101 => 4#32
  | 102 => 4#32
  | 103 => 2#32
  | 104 => 2#32
  | 105 => 2#32
  | 106 => 1#32
  | 107 => 4#32
  | 108 => 0#32
  | 109 => 1#32
  | 110 => 3#32
  | 111 => 1#32
  | 112 => 3#32
  | 113 => 2#32
  | 114 => 3#32
  | 115 => 0#32
  | 116 => 0#32
  | 117 => 1#32
  | 118 => 1#32
  | 119 => 4#32
  | 120 => 1#32
  | 121 => 3#32
  | 122 => 1#32
  | 123 => 1#32
  | 124 => 1#32
  | 125 => 1#32
  | 126 => 2#32
  | 127 => 1#32
  | _ => 0#32

noncomputable abbrev lit0t0_123 (i : Nat) : BitVec 32 := match i % 128 with
  | 0 => 1#32
  | 1 => 0#32
  | 2 => 4#32
  | 3 => 4#32
  | 4 => 1#32
  | 5 => 2#32
  | 6 => 3#32
  | 7 => 3#32
  | 8 => 0#32
  | 9 => 0#32
  | 10 => 2#32
  | 11 => 2#32
  | 12 => 1#32
  | 13 => 4#32
  | 14 => 2#32
  | 15 => 2#32
  | 16 => 0#32
  | 17 => 0#32
  | 18 => 4#32
  | 19 => 4#32
  | 20 => 0#32
  | 21 => 4#32
  | 22 => 3#32
  | 23 => 3#32
  | 24 => 3#32
  | 25 => 3#32
  | 26 => 3#32
  | 27 => 4#32
  | 28 => 3#32
  | 29 => 0#32
  | 30 => 0#32
  | 31 => 2#32
  | 32 => 2#32
  | 33 => 1#32
  | 34 => 0#32
  | 35 => 1#32
  | 36 => 0#32
  | 37 => 3#32
  | 38 => 1#32
  | 39 => 1#32
  | 40 => 3#32
  | 41 => 4#32
  | 42 => 4#32
  | 43 => 0#32
  | 44 => 3#32
  | 45 => 0#32
  | 46 => 0#32
  | 47 => 2#32
  | 48 => 4#32
  | 49 => 0#32
  | 50 => 1#32
  | 51 => 1#32
  | 52 => 1#32
  | 53 => 3#32
  | 54 => 3#32
  | 55 => 0#32
  | 56 => 3#32
  | 57 => 2#32
  | 58 => 3#32
  | 59 => 0#32
  | 60 => 2#32
  | 61 => 4#32
  | 62 => 1#32
  | 63 => 3#32
  | 64 => 1#32
  | 65 => 3#32
  | 66 => 4#32
  | 67 => 4#32
  | 68 => 4#32
  | 69 => 0#32
  | 70 => 4#32
  | 71 => 2#32
  | 72 => 0#32
  | 73 => 4#32
  | 74 => 2#32
  | 75 => 3#32
  | 76 => 2#32
  | 77 => 0#32
  | 78 => 4#32
  | 79 => 0#32
  | 80 => 0#32
  | 81 => 2#32
  | 82 => 1#32
  | 83 => 2#32
  | 84 => 1#32
  | 85 => 1#32
  | 86 => 2#32
  | 87 => 2#32
  | 88 => 1#32
  | 89 => 0#32
  | 90 => 4#32
  | 91 => 1#32
  | 92 => 3#32
  | 93 => 4#32
  | 94 => 1#32
  | 95 => 4#32
  | 96 => 1#32
  | 97 => 2#32
  | 98 => 3#32
  | 99 => 4#32
  | 100 => 1#32
  | 101 => 1#32
  | 102 => 1#32
  | 103 => 0#32
  | 104 => 4#32
  | 105 => 0#32
  | 106 => 3#32
  | 107 => 0#32
  | 108 => 4#32
  | 109 => 4#32
  | 110 => 2#32
  | 111 => 3#32
  | 112 => 4#32
  | 113 => 0#32
  | 114 => 4#32
  | 115 => 1#32
  | 116 => 3#32
  | 117 => 4#32
  | 118 => 3#32
  | 119 => 0#32
  | 120 => 2#32
  | 121 => 2#32
  | 122 => 0#32
  | 123 => 2#32
  | 124 => 4#32
  | 125 => 0#32
  | 126 => 2#32
  | 127 => 1#32
  | _ => 0#32

noncomputable abbrev lit0t0_124 (i : Nat) : BitVec 32 := match i % 128 with
  | 0 => 4#32
  | 1 => 1#32
  | 2 => 2#32
  | 3 => 3#32
  | 4 => 1#32
  | 5 => 2#32
  | 6 => 2#32
  | 7 => 2#32
  | 8 => 2#32
  | 9 => 0#32
  | 10 => 3#32
  | 11 => 0#32
  | 12 => 3#32
  | 13 => 0#32
  | 14 => 0#32
  | 15 => 4#32
  | 16 => 1#32
  | 17 => 4#32
  | 18 => 1#32
  | 19 => 0#32
  | 20 => 3#32
  | 21 => 0#32
  | 22 => 0#32
  | 23 => 2#32
  | 24 => 3#32
  | 25 => 1#32
  | 26 => 0#32
  | 27 => 2#32
  | 28 => 2#32
  | 29 => 1#32
  | 30 => 2#32
  | 31 => 2#32
  | 32 => 1#32
  | 33 => 4#32
  | 34 => 0#32
  | 35 => 2#32
  | 36 => 2#32
  | 37 => 2#32
  | 38 => 1#32
  | 39 => 0#32
  | 40 => 2#32
  | 41 => 1#32
  | 42 => 4#32
  | 43 => 0#32
  | 44 => 2#32
  | 45 => 1#32
  | 46 => 1#32
  | 47 => 1#32
  | 48 => 1#32
  | 49 => 0#32
  | 50 => 0#32
  | 51 => 4#32
  | 52 => 1#32
  | 53 => 4#32
  | 54 => 4#32
  | 55 => 4#32
  | 56 => 4#32
  | 57 => 4#32
  | 58 => 0#32
  | 59 => 4#32
  | 60 => 1#32
  | 61 => 1#32
  | 62 => 0#32
  | 63 => 0#32
  | 64 => 3#32
  | 65 => 2#32
  | 66 => 3#32
  | 67 => 2#32
  | 68 => 1#32
  | 69 => 4#32
  | 70 => 1#32
  | 71 => 4#32
  | 72 => 3#32
  | 73 => 0#32
  | 74 => 1#32
  | 75 => 2#32
  | 76 => 1#32
  | 77 => 0#32
  | 78 => 1#32
  | 79 => 3#32
  | 80 => 4#32
  | 81 => 0#32
  | 82 => 0#32
  | 83 => 4#32
  | 84 => 4#32
  | 85 => 1#32
  | 86 => 2#32
  | 87 => 1#32
  | 88 => 4#32
  | 89 => 0#32
  | 90 => 2#32
  | 91 => 2#32
  | 92 => 1#32
  | 93 => 0#32
  | 94 => 3#32
  | 95 => 0#32
  | 96 => 3#32
  | 97 => 1#32
  | 98 => 0#32
  | 99 => 4#32
  | 100 => 1#32
  | 101 => 2#32
  | 102 => 0#32
  | 103 => 4#32
  | 104 => 4#32
  | 105 => 1#32
  | 106 => 4#32
  | 107 => 3#32
  | 108 => 1#32
  | 109 => 1#32
  | 110 => 3#32
  | 111 => 4#32
  | 112 => 0#32
  | 113 => 4#32
  | 114 => 0#32
  | 115 => 0#32
  | 116 => 2#32
  | 117 => 0#32
  | 118 => 0#32
  | 119 => 0#32
  | 120 => 3#32
  | 121 => 3#32
  | 122 => 0#32
  | 123 => 0#32
  | 124 => 3#32
  | 125 => 0#32
  | 126 => 2#32
  | 127 => 0#32
  | _ => 0#32

noncomputable abbrev lit0t0_125 (i : Nat) : BitVec 32 := match i % 128 with
  | 0 => 1#32
  | 1 => 1#32
  | 2 => 1#32
  | 3 => 2#32
  | 4 => 3#32
  | 5 => 0#32
  | 6 => 0#32
  | 7 => 4#32
  | 8 => 2#32
  | 9 => 2#32
  | 10 => 0#32
  | 11 => 2#32
  | 12 => 4#32
  | 13 => 4#32
  | 14 => 4#32
  | 15 => 1#32
  | 16 => 1#32
  | 17 => 4#32
  | 18 => 0#32
  | 19 => 4#32
  | 20 => 4#32
  | 21 => 3#32
  | 22 => 1#32
  | 23 => 4#32
  | 24 => 0#32
  | 25 => 4#32
  | 26 => 1#32
  | 27 => 2#32
  | 28 => 4#32
  | 29 => 1#32
  | 30 => 3#32
  | 31 => 1#32
  | 32 => 4#32
  | 33 => 0#32
  | 34 => 1#32
  | 35 => 0#32
  | 36 => 2#32
  | 37 => 2#32
  | 38 => 2#32
  | 39 => 2#32
  | 40 => 3#32
  | 41 => 4#32
  | 42 => 1#32
  | 43 => 3#32
  | 44 => 3#32
  | 45 => 0#32
  | 46 => 4#32
  | 47 => 1#32
  | 48 => 2#32
  | 49 => 3#32
  | 50 => 2#32
  | 51 => 0#32
  | 52 => 3#32
  | 53 => 3#32
  | 54 => 1#32
  | 55 => 4#32
  | 56 => 2#32
  | 57 => 3#32
  | 58 => 0#32
  | 59 => 3#32
  | 60 => 1#32
  | 61 => 2#32
  | 62 => 1#32
  | 63 => 2#32
  | 64 => 2#32
  | 65 => 0#32
  | 66 => 1#32
  | 67 => 4#32
  | 68 => 0#32
  | 69 => 0#32
  | 70 => 0#32
  | 71 => 4#32
  | 72 => 1#32
  | 73 => 1#32
  | 74 => 3#32
  | 75 => 4#32
  | 76 => 0#32
  | 77 => 2#32
  | 78 => 2#32
  | 79 => 1#32
  | 80 => 0#32
  | 81 => 0#32
  | 82 => 0#32
  | 83 => 2#32
  | 84 => 2#32
  | 85 => 3#32
  | 86 => 2#32
  | 87 => 0#32
  | 88 => 1#32
  | 89 => 3#32
  | 90 => 4#32
  | 91 => 3#32
  | 92 => 2#32
  | 93 => 0#32
  | 94 => 1#32
  | 95 => 2#32
  | 96 => 4#32
  | 97 => 3#32
  | 98 => 3#32
  | 99 => 1#32
  | 100 => 2#32
  | 101 => 4#32
  | 102 => 3#32
  | 103 => 2#32
  | 104 => 0#32
  | 105 => 0#32
  | 106 => 3#32
  | 107 => 0#32
  | 108 => 0#32
  | 109 => 3#32
  | 110 => 1#32
  | 111 => 1#32
  | 112 => 3#32
  | 113 => 1#32
  | 114 => 2#32
  | 115 => 0#32
  | 116 => 1#32
  | 117 => 0#32
  | 118 => 1#32
  | 119 => 4#32
  | 120 => 2#32
  | 121 => 4#32
  | 122 => 0#32
  | 123 => 2#32
  | 124 => 4#32
  | 125 => 1#32
  | 126 => 1#32
  | 127 => 0#32
  | _ => 0#32

noncomputable abbrev lit0t0_126 (i : Nat) : BitVec 32 := match i % 128 with
  | 0 => 2#32
  | 1 => 2#32
  | 2 => 2#32
  | 3 => 4#32
  | 4 => 4#32
  | 5 => 1#32
  | 6 => 3#32
  | 7 => 4#32
  | 8 => 1#32
  | 9 => 4#32
  | 10 => 0#32
  | 11 => 3#32
  | 12 => 1#32
  | 13 => 0#32
  | 14 => 2#32
  | 15 => 4#32
  | 16 => 0#32
  | 17 => 3#32
  | 18 => 4#32
  | 19 => 3#32
  | 20 => 4#32
  | 21 => 3#32
  | 22 => 2#32
  | 23 => 2#32
  | 24 => 4#32
  | 25 => 2#32
  | 26 => 3#32
  | 27 => 1#32
  | 28 => 4#32
  | 29 => 4#32
  | 30 => 2#32
  | 31 => 1#32
  | 32 => 3#32
  | 33 => 0#32
  | 34 => 2#32
  | 35 => 3#32
  | 36 => 4#32
  | 37 => 3#32
  | 38 => 2#32
  | 39 => 3#32
  | 40 => 0#32
  | 41 => 1#32
  | 42 => 2#32
  | 43 => 4#32
  | 44 => 1#32
  | 45 => 0#32
  | 46 => 3#32
  | 47 => 4#32
  | 48 => 1#32
  | 49 => 4#32
  | 50 => 4#32
  | 51 => 0#32
  | 52 => 2#32
  | 53 => 3#32
  | 54 => 3#32
  | 55 => 4#32
  | 56 => 2#32
  | 57 => 2#32
  | 58 => 1#32
  | 59 => 0#32
  | 60 => 1#32
  | 61 => 2#32
  | 62 => 3#32
  | 63 => 3#32
  | 64 => 0#32
  | 65 => 0#32
  | 66 => 4#32
  | 67 => 2#32
  | 68 => 4#32
  | 69 => 1#32
  | 70 => 0#32
  | 71 => 2#32
  | 72 => 4#32
  | 73 => 3#32
  | 74 => 0#32
  | 75 => 4#32
  | 76 => 1#32
  | 77 => 4#32
  | 78 => 3#32
  | 79 => 0#32
  | 80 => 2#32
  | 81 => 4#32
  | 82 => 2#32
  | 83 => 2#32
  | 84 => 3#32
  | 85 => 1#32
  | 86 => 0#32
  | 87 => 4#32
  | 88 => 3#32
  | 89 => 2#32
  | 90 => 3#32
  | 91 => 0#32
  | 92 => 4#32
  | 93 => 4#32
  | 94 => 0#32
  | 95 => 0#32
  | 96 => 4#32
  | 97 => 2#32
  | 98 => 0#32
  | 99 => 4#32
  | 100 => 4#32
  | 101 => 4#32
  | 102 => 4#32
  | 103 => 2#32
  | 104 => 4#32
  | 105 => 4#32
  | 106 => 1#32
  | 107 => 2#32
  | 108 => 2#32
  | 109 => 4#32
  | 110 => 4#32
  | 111 => 3#32
  | 112 => 1#32
  | 113 => 3#32
  | 114 => 1#32
  | 115 => 1#32
  | 116 => 2#32
  | 117 => 2#32
  | 118 => 0#32
  | 119 => 4#32
  | 120 => 0#32
  | 121 => 3#32
  | 122 => 1#32
  | 123 => 4#32
  | 124 => 3#32
  | 125 => 2#32
  | 126 => 3#32
  | 127 => 0#32
  | _ => 0#32

noncomputable abbrev lit0t0_127 (i : Nat) : BitVec 32 := match i % 128 with
  | 0 => 0#32
  | 1 => 2#32
  | 2 => 2#32
  | 3 => 3#32
  | 4 => 1#32
  | 5 => 4#32
  | 6 => 0#32
  | 7 => 2#32
  | 8 => 4#32
  | 9 => 0#32
  | 10 => 3#32
  | 11 => 3#32
  | 12 => 4#32
  | 13 => 3#32
  | 14 => 2#32
  | 15 => 3#32
  | 16 => 3#32
  | 17 => 0#32
  | 18 => 3#32
  | 19 => 0#32
  | 20 => 2#32
  | 21 => 4#32
  | 22 => 2#32
  | 23 => 4#32
  | 24 => 2#32
  | 25 => 1#32
  | 26 => 4#32
  | 27 => 3#32
  | 28 => 0#32
  | 29 => 3#32
  | 30 => 1#32
  | 31 => 0#32
  | 32 => 1#32
  | 33 => 3#32
  | 34 => 0#32
  | 35 => 0#32
  | 36 => 1#32
  | 37 => 0#32
  | 38 => 1#32
  | 39 => 3#32
  | 40 => 3#32
  | 41 => 0#32
  | 42 => 1#32
  | 43 => 0#32
  | 44 => 4#32
  | 45 => 1#32
  | 46 => 4#32
  | 47 => 0#32
  | 48 => 1#32
  | 49 => 1#32
  | 50 => 3#32
  | 51 => 4#32
  | 52 => 1#32
  | 53 => 3#32
  | 54 => 2#32
  | 55 => 4#32
  | 56 => 0#32
  | 57 => 2#32
  | 58 => 1#32
  | 59 => 3#32
  | 60 => 2#32
  | 61 => 2#32
  | 62 => 2#32
  | 63 => 1#32
  | 64 => 2#32
  | 65 => 1#32
  | 66 => 1#32
  | 67 => 3#32
  | 68 => 0#32
  | 69 => 3#32
  | 70 => 0#32
  | 71 => 2#32
  | 72 => 1#32
  | 73 => 4#32
  | 74 => 4#32
  | 75 => 3#32
  | 76 => 4#32
  | 77 => 2#32
  | 78 => 1#32
  | 79 => 0#32
  | 80 => 2#32
  | 81 => 2#32
  | 82 => 3#32
  | 83 => 2#32
  | 84 => 3#32
  | 85 => 0#32
  | 86 => 3#32
  | 87 => 0#32
  | 88 => 2#32
  | 89 => 2#32
  | 90 => 1#32
  | 91 => 1#32
  | 92 => 1#32
  | 93 => 1#32
  | 94 => 2#32
  | 95 => 0#32
  | 96 => 2#32
  | 97 => 4#32
  | 98 => 4#32
  | 99 => 0#32
  | 100 => 1#32
  | 101 => 4#32
  | 102 => 4#32
  | 103 => 2#32
  | 104 => 3#32
  | 105 => 2#32
  | 106 => 2#32
  | 107 => 2#32
  | 108 => 1#32
  | 109 => 4#32
  | 110 => 1#32
  | 111 => 3#32
  | 112 => 2#32
  | 113 => 0#32
  | 114 => 1#32
  | 115 => 0#32
  | 116 => 0#32
  | 117 => 2#32
  | 118 => 0#32
  | 119 => 3#32
  | 120 => 3#32
  | 121 => 1#32
  | 122 => 0#32
  | 123 => 2#32
  | 124 => 2#32
  | 125 => 2#32
  | 126 => 4#32
  | 127 => 1#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#32

noncomputable abbrev lit0 : Fin 16384 → BitVec 32 := fun ⟨i, _⟩ => lit0t i

def fn_part2 {F : FTy → Type} [FloatOps F] (main_arg2 : IVec S16384 32) (main_c : IVec S16384 32) (main_v31 : IVec S16384 1) (main_v36 : IVec S16384 1) : IVec S16384 1 × IVec S16384 1 :=
  let main_v37 : IVec S16384 1 := ori main_v31 main_v36
  let main_v38 : IVec S16384 1 := cmpi .eq main_arg2 main_c
  (main_v37, main_v38)

def fn_part1 {F : FTy → Type} [FloatOps F] (main_arg1 : FVec F S16384 .f32) (main_arg2 : IVec S16384 32) (main_c : IVec S16384 32) (main_v2 : FVec F S16384x64 .f32) (main_v18 : IVec S16384x1x2 32) : IVec S16384 1 × IVec S16384 1 :=
  let main_v19 : FVec F S16384x1 .f32 := (fun x i => Host.gather gather_S16384x64_S16384x1x2_S16384x1_n_01_n_n_01_2_11 x i) main_v2 main_v18
  let main_v20 : FVec F S16384 .f32 := shapeCast S16384 main_v19 shapeCasts_S16384x1_S16384
  let main_cst : FVec F S_ .f32 := constant S_ .f32 0x3F800000#32
  let main_v21 : FVec F S16384 .f32 := broadcastInDim S16384 ![] bcast_S_S16384 main_cst
  let main_v22 : FVec F S16384 .f32 := addf main_v21 main_v20
  let main_v23 : FVec F S16384 .f32 := Host.log main_v22
  let main_cst_4 : FVec F S_ .f32 := constant S_ .f32 0x3FB8AA3B#32
  let main_v24 : FVec F S16384 .f32 := broadcastInDim S16384 ![] bcast_S_S16384 main_cst_4
  let main_v25 : FVec F S16384 .f32 := mulf main_v23 main_v24
  let main_cst_5 : FVec F S_ .f32 := constant S_ .f32 0x3F666666#32
  let main_v26 : FVec F S16384 .f32 := broadcastInDim S16384 ![] bcast_S_S16384 main_cst_5
  let main_v27 : FVec F S16384 .f32 := mulf main_v26 main_v25
  let main_v28 : FVec F S16384 .f32 := subf main_arg1 main_v27
  let main_v29 : FVec F S16384 .f32 := Host.absf main_v28
  let main_cst_6 : FVec F S_ .f32 := constant S_ .f32 0x37FBA882#32
  let main_v30 : FVec F S16384 .f32 := broadcastInDim S16384 ![] bcast_S_S16384 main_cst_6
  let main_v31 : IVec S16384 1 := cmpf .ole main_v29 main_v30
  let main_cst_7 : FVec F S_ .f32 := constant S_ .f32 0x00000000#32
  let main_v32 : FVec F S16384 .f32 := broadcastInDim S16384 ![] bcast_S_S16384 main_cst_7
  let main_v33 : IVec S16384 1 := cmpf .olt main_v20 main_v32
  let main_cst_8 : FVec F S_ .f32 := constant S_ .f32 0x3F800000#32
  let main_v34 : FVec F S16384 .f32 := broadcastInDim S16384 ![] bcast_S_S16384 main_cst_8
  let main_v35 : IVec S16384 1 := cmpf .ogt main_v20 main_v34
  let main_v36 : IVec S16384 1 := ori main_v33 main_v35
  fn_part2 (F := F) main_arg2 main_c main_v31 main_v36

def fn {F : FTy → Type} [FloatOps F] (main_arg0 : FVec F S1x16384x50x64 .f32) (main_arg1 : FVec F S16384 .f32) (main_arg2 : IVec S16384 32) : IVec S16384 1 × IVec S16384 1 :=
  let main_c : IVec S16384 32 := fun i => lit0 (S16384.rowMajor i)
  let main_v0 : FVec F S16384x50x64 .f32 := shapeCast S16384x50x64 main_arg0 shapeCasts_S1x16384x50x64_S16384x50x64
  let main_v1 : FVec F S16384x1x64 .f32 := (extractStridedSlice S16384x1x64 ![0, 49, 0] · slices_S16384x50x64_S16384x1x64_0_49_0) main_v0
  let main_v2 : FVec F S16384x64 .f32 := shapeCast S16384x64 main_v1 shapeCasts_S16384x1x64_S16384x64
  let main_v3 : IVec S16384 32 := iotaInDim S16384 32 0
  let main_v4 : IVec S16384x1 32 := broadcastInDim S16384x1 ![0] bcast_S16384_S16384x1_0 main_v3
  let main_v5 : IVec S16384x1 32 := broadcastInDim S16384x1 ![0] bcast_S16384_S16384x1_0 main_c
  let main_c_0 : IVec S_ 32 := constantI S_ 32 0#32
  let main_v6 : IVec S16384x1 32 := broadcastInDim S16384x1 ![] bcast_S_S16384x1 main_c_0
  let main_v7 : IVec S16384x1 1 := cmpi .slt main_v4 main_v6
  let main_c_1 : IVec S_ 32 := constantI S_ 32 16384#32
  let main_v8 : IVec S16384x1 32 := broadcastInDim S16384x1 ![] bcast_S_S16384x1 main_c_1
  let main_v9 : IVec S16384x1 32 := addi main_v4 main_v8
  let main_v10 : IVec S16384x1 32 := select main_v7 main_v9 main_v4
  let main_c_2 : IVec S_ 32 := constantI S_ 32 0#32
  let main_v11 : IVec S16384x1 32 := broadcastInDim S16384x1 ![] bcast_S_S16384x1 main_c_2
  let main_v12 : IVec S16384x1 1 := cmpi .slt main_v5 main_v11
  let main_c_3 : IVec S_ 32 := constantI S_ 32 64#32
  let main_v13 : IVec S16384x1 32 := broadcastInDim S16384x1 ![] bcast_S_S16384x1 main_c_3
  let main_v14 : IVec S16384x1 32 := addi main_v5 main_v13
  let main_v15 : IVec S16384x1 32 := select main_v12 main_v14 main_v5
  let main_v16 : IVec S16384x1x1 32 := broadcastInDim S16384x1x1 ![0, 1] bcast_S16384x1_S16384x1x1_0_1 main_v10
  let main_v17 : IVec S16384x1x1 32 := broadcastInDim S16384x1x1 ![0, 1] bcast_S16384x1_S16384x1x1_0_1 main_v15
  let main_v18 : IVec S16384x1x2 32 := (fun a b => concatenate S16384x1x2 2 [⟨S16384x1x1, a⟩, ⟨S16384x1x1, b⟩] concatenates_S16384x1x1_S16384x1x1_S16384x1x2_d2) main_v16 main_v17
  fn_part1 (F := F) main_arg1 main_arg2 main_c main_v2 main_v18
-- ==== Kernel.lean ====
abbrev S1x16384x50x64 : Shape := ⟨4, ![1, 16384, 50, 64]⟩
abbrev S16384 : Shape := ⟨1, ![16384]⟩
abbrev S1x50x64x16384 : Shape := ⟨4, ![1, 50, 64, 16384]⟩
abbrev S512 : Shape := ⟨1, ![512]⟩
abbrev S8x512 : Shape := ⟨2, ![8, 512]⟩
abbrev S_ : Shape := ⟨0, ![]⟩
abbrev S1x1x8x512 : Shape := ⟨4, ![1, 1, 8, 512]⟩
abbrev S16 : Shape := ⟨1, ![16]⟩

abbrev nBuf : Table → Nat
  | .hbm => 5
  | .local .scVector .vmem => 3
  | _ => 0

abbrev bufTy : (tb : Table) → Fin (nBuf tb) → BufTy
  | .hbm, ⟨0, _⟩ => ⟨S1x16384x50x64, .f32⟩
  | .hbm, ⟨1, _⟩ => ⟨S16384, .i32⟩
  | .hbm, ⟨2, _⟩ => ⟨S1x50x64x16384, .f32⟩
  | .hbm, ⟨3, _⟩ => ⟨S16384, .f32⟩
  | .hbm, ⟨4, _⟩ => ⟨S16384, .i32⟩
  | .local .scVector .vmem, ⟨0, _⟩ => ⟨S512, .i32⟩
  | .local .scVector .vmem, ⟨1, _⟩ => ⟨S8x512, .f32⟩
  | .local .scVector .vmem, ⟨2, _⟩ => ⟨S512, .f32⟩
  | _, _ => ⟨S1x16384x50x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v0_scv : Ref sig .scVector := ⟨.hbm, 2, rfl⟩
abbrev main_c_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32 : BitVec 32 := 0#32
  let c49_i32 : BitVec 32 := 49#32
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, 49, 0, v2.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_6 : BitVec 32 := 0#32
  let c32_i32 : BitVec 32 := 32#32
  let v16 : BitVec 32 := Scalar.addi c0_i32_6 c32_i32
  let c1_i32 : BitVec 32 := 1#32
  ⟨c0_i32_6, v16, c1_i32⟩
def k0_off3 (k0_t1 : Fin k0_t1_loop.trips) : Fin 1 → Nat :=
  let c0_i32_9 : BitVec 32 := 0#32
  let c0_i32_6 : BitVec 32 := 0#32
  let c1_i32 : BitVec 32 := 1#32
  let arg12 : BitVec 32 := Scf.iv c0_i32_6 c1_i32 k0_t1
  let c1_i32_8 : BitVec 32 := 1#32
  let v25 : BitVec 32 := Scalar.muli arg12 c1_i32_8
  let v26 : BitVec 32 := Scalar.addi c0_i32_9 v25
  let c16_i32 : BitVec 32 := 16#32
  let v27 : BitVec 32 := Scalar.muli v26 c16_i32
  let v30 : Index := Scalar.indexCast v27
  ![v30.toNat]

def k0_chk1 (v29 : IVec S16 32) (v31 : IVec S16 32) : Prop :=
  (∀ a x, ((![v31, v29] : Fin 2 → IVec S16 32) a x).toNat < S8x512.size a)
theorem k0_idx1_inb : ∀ (v29 : IVec S16 32) (v31 : IVec S16 32) (k0_hw1 : k0_chk1 v29 v31), ∀ a x, ((![v31, v29] : Fin 2 → IVec S16 32) a x).toNat < S8x512.size a := fun v29 v31 k0_hw1 => k0_hw1
def k0_off4 (k0_t1 : Fin k0_t1_loop.trips) : Fin 1 → Nat :=
  let c0_i32_9 : BitVec 32 := 0#32
  let c0_i32_6 : BitVec 32 := 0#32
  let c1_i32 : BitVec 32 := 1#32
  let arg12 : BitVec 32 := Scf.iv c0_i32_6 c1_i32 k0_t1
  let c1_i32_8 : BitVec 32 := 1#32
  let v25 : BitVec 32 := Scalar.muli arg12 c1_i32_8
  let v26 : BitVec 32 := Scalar.addi c0_i32_9 v25
  let c16_i32 : BitVec 32 := 16#32
  let v27 : BitVec 32 := Scalar.muli v26 c16_i32
  let v49 : Index := Scalar.indexCast v27
  ![v49.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x16384x50x64 : Shape := ⟨4, ![1, 16384, 50, 64]⟩
abbrev S16384 : Shape := ⟨1, ![16384]⟩
abbrev S16384x50x64 : Shape := ⟨3, ![16384, 50, 64]⟩
abbrev S16384x1x64 : Shape := ⟨3, ![16384, 1, 64]⟩
abbrev S16384x64 : Shape := ⟨2, ![16384, 64]⟩
abbrev S16384x1 : Shape := ⟨2, ![16384, 1]⟩
abbrev S_ : Shape := ⟨0, ![]⟩
abbrev S16384x1x1 : Shape := ⟨3, ![16384, 1, 1]⟩
abbrev S16384x1x2 : Shape := ⟨3, ![16384, 1, 2]⟩

abbrev nBuf : Space → Nat
  | .hbm => 49
  | .vmem => 0
  | .smem => 0
  | _ => 0

abbrev bufTy : (tb : Table) → Fin (tcTables nBuf tb) → BufTy
  | .hbm, ⟨0, _⟩ => ⟨S1x16384x50x64, .f32⟩
  | .hbm, ⟨1, _⟩ => ⟨S16384, .i32⟩
  | .hbm, ⟨2, _⟩ => ⟨S16384x50x64, .f32⟩
  | .hbm, ⟨3, _⟩ => ⟨S16384x1x64, .f32⟩
  | .hbm, ⟨4, _⟩ => ⟨S16384x64, .f32⟩
  | .hbm, ⟨5, _⟩ => ⟨S16384, .i32⟩
  | .hbm, ⟨6, _⟩ => ⟨S16384x1, .i32⟩
  | .hbm, ⟨7, _⟩ => ⟨S16384x1, .i32⟩
  | .hbm, ⟨8, _⟩ => ⟨S_, .i32⟩
  | .hbm, ⟨9, _⟩ => ⟨S16384x1, .i32⟩
  | .hbm, ⟨10, _⟩ => ⟨S16384x1, .i1⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S_, .i32⟩
  | .hbm, ⟨19, _⟩ => ⟨S16384x1, .i32⟩
  | .hbm, ⟨20, _⟩ => ⟨S16384x1, .i32⟩
  | .hbm, ⟨21, _⟩ => ⟨S16384x1, .i32⟩
  | .hbm, ⟨22, _⟩ => ⟨S16384x1x1, .i32⟩
  | .hbm, ⟨23, _⟩ => ⟨S16384x1x1, .i32⟩
  | .hbm, ⟨24, _⟩ => ⟨S16384x1x2, .i32⟩
  | .hbm, ⟨25, _⟩ => ⟨S16384x1, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | _, _ => ⟨S1x16384x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Table.lean ====
/-
  The table of random indices that the kernel reads, `lit0` (the program's literal constant): every entry is one of
  0, 1, 2, 3, 4, so that the indexed load the kernel makes with it stays inside the eight rows it fetched.
-/
module

public import proofs.«01_k».proof.Proof.Gen.KernelIdeal

@[expose] public section

namespace Cert.Proof.Table

open Cert.KernelIdeal

/-- Every entry of the table is below 5, looked up by its two base-128 digits. -/
theorem lit0_digits : ∀ a : Fin 128, ∀ b : Fin 128, (lit0t (128 * a.val + b.val)).toNat < 5 := by decide +kernel

/-- Every entry of the table is below 5. -/
theorem lit0_lt (i : Fin 16384) : (lit0 i).toNat < 5 := by
  have h := lit0_digits ⟨i.val / 128, by omega⟩ ⟨i.val % 128, by omega⟩
  simp only [Nat.div_add_mod] at h
  exact h

end Cert.Proof.Table
-- ==== Proof.Setup.lean ====
/-
  What the certificate of the SparseCore kernel is stated over: the program as the launch theorem sees it, the arrays,
  and the values that each of the thirty-two tasks (two SparseCores × sixteen tiles) reads and leaves.

  Task `(c, i)` works on elements `base … base + 511`, `base = 1024·i + 512·c`, of both results. It fetches rows 0–7 of
  time step 49 of the transposed input at those columns, and those entries of the table of indices; for each column it
  takes the row the table names, evaluates the kernel's polynomial of degree 5 at it, and writes the values and the
  indices out.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import proofs.«01_k».proof.Proof.Gen.KernelIdeal
public import proofs.«01_k».proof.Proof.Gen.KernelIdeal.Skeleton
public import proofs.«01_k».proof.Proof.Table

@[expose] public section

noncomputable section

namespace Cert.Proof.Rate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen tiles of a SparseCore. -/
theorem nSub_zero : (K (F := F)).nSub 0 = 16 := rfl
/-- The call runs on two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and unscoped, and no scratch is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev cLoc (d : Dev nD) : Loc nD τ sig := (SparseCore.T d).loc main_c
abbrev xLoc (d : Dev nD) : Loc nD τ sig := (SparseCore.T d).loc main_v0
abbrev oLoc (d : Dev nD) : Loc nD τ sig := (SparseCore.T d).loc main_v1_0
abbrev iLoc (d : Dev nD) : Loc nD τ sig := (SparseCore.T d).loc main_v1_1

local notation "xV" => (Memref.whole Cert.KernelIdeal.main_v0_scv : Memref Cert.KernelIdeal.sig Kind.scVector Space.hbm Cert.KernelIdeal.S1x50x64x16384 EltTy.f32)
local notation "cV" => (Memref.whole Cert.KernelIdeal.main_c_scv : Memref Cert.KernelIdeal.sig Kind.scVector Space.hbm Cert.KernelIdeal.S16384 EltTy.i32)
local notation "oV" => (Memref.whole Cert.KernelIdeal.main_v1_0_scv : Memref Cert.KernelIdeal.sig Kind.scVector Space.hbm Cert.KernelIdeal.S16384 EltTy.f32)
local notation "iV" => (Memref.whole Cert.KernelIdeal.main_v1_1_scv : Memref Cert.KernelIdeal.sig Kind.scVector Space.hbm Cert.KernelIdeal.S16384 EltTy.i32)

/-! ## The blocks of the results -/

/-- Thirty-two blocks divide the vector evenly. -/
theorem div32 : 32 ∣ S16384.size 0 := ⟨512, rfl⟩
/-- Block `b` of the thirty-two blocks of 512 elements of a result. -/
abbrev blk (b : Fin 32) : Rect S16384 := Rect.part (s := S16384) (a₀ := 0) div32 b
/-- The number of the block that task `(c, i)` writes. -/
abbrev blkNo (c : Fin 2) (i : Fin 16) : Fin 32 := ⟨2 * i.val + c.val, by omega⟩
abbrev oSet (b : Fin 32) : Finset S16384.Idx := ((oV).view.slice (blk b)).set
abbrev iSet (b : Fin 32) : Finset S16384.Idx := ((iV).view.slice (blk b)).set

/-! ## The values -/

/-- The index of element `n` of a vector of 16384. -/
abbrev ix (n : Fin 16384) : S16384.Idx := Fin.cons n finZeroElim
/-- The index `[0, 49, r, n]` of the transposed input. -/
abbrev ix4 (r : Fin 64) (n : Fin 16384) : S1x50x64x16384.Idx :=
  Fin.cons (0 : Fin 1) (Fin.cons (49 : Fin 50) (Fin.cons r (Fin.cons n finZeroElim)))

/-- The table of indices as a row of words. -/
@[irreducible] def tbl : S16384.Idx → BitVec 32 := fun j => lit0 (S16384.rowMajor j)

/-- Every entry of the table is below 5. -/
theorem tbl_lt (j : S16384.Idx) : (tbl j).toNat < 5 := by unfold tbl; exact Table.lit0_lt _

variable [FloatOps F]

/-- The kernel's polynomial of degree 5, by Horner's rule, on one float. -/
def poly (s : F .f32) : F .f32 :=
  FloatOps.addf (FloatOps.mulf (FloatOps.addf (FloatOps.mulf (FloatOps.addf (FloatOps.mulf (FloatOps.addf (FloatOps.mulf (FloatOps.addf (FloatOps.mulf
    (Scalar.ofBits .f32 0x3D201825#32) s) (Scalar.ofBits .f32 0xBE2D00D2#32)) s) (Scalar.ofBits .f32 0x3EBC5673#32)) s)
    (Scalar.ofBits .f32 0xBF229809#32)) s) (Scalar.ofBits .f32 0x3FA608B2#32)) s) (Scalar.ofBits .f32 0x37F111E5#32)

/-- What a trip of the loop stores is the polynomial of what it gathered, lane by lane. -/
theorem pay_apply (v : Vec F S16 .f32) (x : S16.Idx) : k0_pay2 v x = poly (v x) := rfl

variable (m : (ℓ : Loc nD τ sig) → Buf (Elt F) ℓ)

/-- The transposed input. -/
def xT (d : Dev nD) : Buf (Elt F) (xLoc d) :=
  transpose S1x50x64x16384 [0, 2, 3, 1] (m (aLoc d)) transposes_S1x16384x50x64_S1x50x64x16384_0_2_3_1

/-- The element of the transposed input that the table selects for column `n`. -/
def sel (X : S1x50x64x16384.Idx → F .f32) (n : Fin 16384) : F .f32 :=
  X (ix4 ⟨(tbl (ix n)).toNat, (tbl_lt _).trans (by omega)⟩ n)

/-- The first result: the polynomial of the selected elements. -/
def rateV (d : Dev nD) : Buf (Elt F) (oLoc d) := fun j => poly (sel (xT m d) (j 0))
/-- The second result: the table. -/
def idxV (d : Dev nD) : Buf (Elt F) (iLoc d) := tbl
/-- The table in its HBM array. -/
def tblC (d : Dev nD) : Buf (Elt F) (cLoc d) := tbl

end Cert.Proof.Rate

end
-- ==== Proof.Tile.lean ====
/-
  One task of the kernel: the two fetches, the loop of thirty-two trips, the two write-outs. The transfers are the
  symbolic executor's, the two write-outs as a batch of two on their one semaphore; the loop's invariant says what the
  trips so far have stored.
-/
module

public import proofs.«01_k».proof.Proof.Setup

@[expose] public section

noncomputable section

namespace Cert.Proof.Rate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1x50x64x16384 EltTy.f32)
local notation "cV" => (Memref.whole Cert.KernelIdeal.main_c_scv : Memref Cert.KernelIdeal.sig Kind.scVector Space.hbm Cert.KernelIdeal.S16384 EltTy.i32)
local notation "oV" => (Memref.whole Cert.KernelIdeal.main_v1_0_scv : Memref Cert.KernelIdeal.sig Kind.scVector Space.hbm Cert.KernelIdeal.S16384 EltTy.f32)
local notation "iV" => (Memref.whole Cert.KernelIdeal.main_v1_1_scv : Memref Cert.KernelIdeal.sig Kind.scVector Space.hbm Cert.KernelIdeal.S16384 EltTy.i32)
local notation "gV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S8x512 EltTy.f32)
local notation "wV" => (Memref.whole Cert.KernelIdeal.cc0_scratch2 : Memref Cert.KernelIdeal.sig Kind.scVector Space.vmem Cert.KernelIdeal.S512 EltTy.f32)

variable (d : Dev nD) (L : grid0.Coords)

abbrev cV' (L : grid0.Coords) : Fin τ.nSC := (L 0).castLE hcore0
abbrev jV' (L : grid0.Coords) : Fin τ.nSub := (L 1).castLE hsub0
/-- The task's thread. -/
abbrev thr (d : Dev nD) (L : grid0.Coords) : Thread nD τ := V d (cV' L) (jV' L)
/-- There are two SparseCores. -/
theorem bound_zero : grid0.bound 0 = 2 := rfl
/-- There are sixteen tiles in each. -/
theorem bound_one : grid0.bound 1 = 16 := rfl
abbrev cL (L : grid0.Coords) : Fin 2 := Fin.cast bound_zero (L 0)
abbrev jL (L : grid0.Coords) : Fin 16 := Fin.cast bound_one (L 1)
/-- The block that the task writes. -/
abbrev bL (L : grid0.Coords) : Fin 32 := blkNo (cL L) (jL L)

/-! ## The arrays as the task addresses them -/

abbrev vecK (L : grid0.Coords) : Rect S16384 := Rect.unit (s := S16384) (k0_off2 L) S512.size (k0_off2_inb L)
abbrev xRowK (L : grid0.Coords) : Memref sig .scVector .hbm S8x512 .f32 :=
  ((xV).slice (Rect.unit (s := S1x50x64x16384) (k0_off1 L) S1x1x8x512.size (k0_off1_inb L)) (fun _ => rfl)).squeeze S8x512 squeezes_S1x1x8x512_S8x512
abbrev cBlkK (L : grid0.Coords) : Memref sig .scVector .hbm S512 .i32 := (cV).slice (vecK L) (fun _ => rfl)
abbrev oBlkK (L : grid0.Coords) : Memref sig .scVector .hbm S512 .f32 := (oV).slice (vecK L) (fun _ => rfl)
abbrev iBlkK (L : grid0.Coords) : Memref sig .scVector .hbm S512 .i32 := (iV).slice (vecK L) (fun _ => rfl)

/-- The 512 elements that a task addresses are its block. -/
theorem vecK_eq : vecK L = blk (bL L) := by
  unfold vecK blk Rect.part Rect.block
  congr 1 <;> funext a
  · rw [k0_off2_eq]
    match a with
    | 0 => simp [Shape.partIx, Shape.partSize]; omega
  · match a with
    | 0 => simp [Shape.partSize]

/-- The part of the first result that a task addresses is its block. -/
theorem set_oBlkK : (oBlkK L).view.set = oSet (bL L) := by
  show ((oV).view.slice (vecK L)).set = ((oV).view.slice (blk (bL L))).set
  exact vecK_eq L ▸ rfl
/-- The part of the second result that a task addresses is its block. -/
theorem set_iBlkK : (iBlkK L).view.set = iSet (bL L) := by
  show ((iV).view.slice (vecK L)).set = ((iV).view.slice (blk (bL L))).set
  exact vecK_eq L ▸ rfl

/-- The task's view of its block of the first result is that block. -/
theorem pts_o (f : Buf (Elt F) (oLoc d)) :
    ((oBlkK L).view.loc (thr d L) ↦[(oBlkK L).view.set]{fullShare} f : sProp 𝕄) = oLoc d ↦[oSet (bL L)]{fullShare} f := by
  rw [set_oBlkK]
/-- The task's view of its block of the second result is that block. -/
theorem pts_i (f : Buf (Elt F) (iLoc d)) :
    ((iBlkK L).view.loc (thr d L) ↦[(iBlkK L).view.set]{fullShare} f : sProp 𝕄) = iLoc d ↦[iSet (bL L)]{fullShare} f := by
  rw [set_iBlkK]
/-- The task's view of the transposed input is that array. -/
theorem pts_x (q : PosShare TreeShare) (f : Buf (Elt F) (xLoc d)) :
    ((xV).view.loc (thr d L) ↦{q} f : sProp 𝕄) = xLoc d ↦{q} f := rfl
/-- The task's view of the table is that array. -/
theorem pts_c (q : PosShare TreeShare) (f : Buf (Elt F) (cLoc d)) :
    ((cV).view.loc (thr d L) ↦{q} f : sProp 𝕄) = cLoc d ↦{q} f := rfl
/-- The index scratch as a whole. -/
theorem pts_g (f : Buf (Elt F) ((thr d L).loc cc0_scratch0)) :
    ((gV).view.loc (thr d L) ↦{fullShare} f : sProp 𝕄) = (thr d L).loc cc0_scratch0 ↦{fullShare} f := rfl
/-- The row scratch as a whole. -/
theorem pts_r (f : Buf (Elt F) ((thr d L).loc cc0_scratch1)) :
    ((rV).view.loc (thr d L) ↦{fullShare} f : sProp 𝕄) = (thr d L).loc cc0_scratch1 ↦{fullShare} f := rfl
/-- The result scratch as a whole. -/
theorem pts_w (f : Buf (Elt F) ((thr d L).loc cc0_scratch2)) :
    ((wV).view.loc (thr d L) ↦{fullShare} f : sProp 𝕄) = (thr d L).loc cc0_scratch2 ↦{fullShare} f := rfl

/-! ## The task's own semaphores and scratch -/

abbrev aCell (d : Dev nD) (L : grid0.Coords) : GSem nD τ sig := (thr d L, .dma cc0_scratch3.sem)
abbrev bCell (d : Dev nD) (L : grid0.Coords) : GSem nD τ sig := (thr d L, .dma cc0_scratch4.sem)
abbrev eCell (d : Dev nD) (L : grid0.Coords) : GSem nD τ sig := (thr d L, .dma cc0_scratch5.sem)

/-- The semaphore of the rows' copy is the tile's own. -/
theorem scoped3 : (SemLoc.dma cc0_scratch3.sem : SemLoc sig).isScoped .scVector = true := by decide
/-- The semaphore of the indices' copy is the tile's own. -/
theorem scoped4 : (SemLoc.dma cc0_scratch4.sem : SemLoc sig).isScoped .scVector = true := by decide
/-- The semaphore of the copies out is the tile's own. -/
theorem scoped5 : (SemLoc.dma cc0_scratch5.sem : SemLoc sig).isScoped .scVector = true := by decide

/-- The three DMA semaphores are among the task's own, at zero. -/
theorem ownSems0_V :
    (ownSems0 (thr d L) : sProp 𝕄)
      = iprop(semVal (aCell d L) 0 ∗ semVal (bCell d L) 0 ∗ semVal (eCell d L) 0
          ∗ bigSep ((((ownCells (thr d L)).erase (aCell d L)).erase (bCell d L)).erase (eCell d L)) fun g => semVal g 0) := by
  unfold SparseCore.Cfg.ownSems0
  rw [SparseCore.bigSep_erase' ((mem_ownCells (g := aCell d L)).mpr ⟨rfl, scoped3⟩),
    SparseCore.bigSep_erase' (Finset.mem_erase.mpr ⟨by simp [aCell, bCell]; decide, (mem_ownCells (g := bCell d L)).mpr ⟨rfl, scoped4⟩⟩),
    SparseCore.bigSep_erase' (Finset.mem_erase.mpr ⟨by simp [bCell, eCell]; decide, Finset.mem_erase.mpr ⟨by simp [aCell, eCell]; decide,
      (mem_ownCells (g := eCell d L)).mpr ⟨rfl, scoped5⟩⟩⟩)]

abbrev pL (L : grid0.Coords) : Proc τ := Proc.scVector (cV' L) (jV' L)

/-- The three scratch buffers are among the task's own, each at some contents. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (pL L)).erase ((pL L).devRef cc0_scratch0)).erase ((pL L).devRef cc0_scratch1)).erase ((pL L).devRef cc0_scratch2))
              fun b => iprop(∃ f, ((d, b) : Loc nD τ sig) ↦{fullShare} f)) := by
  have ne (a b : Ref sig .scVector) (h : a ≠ b) : (pL L).devRef a ≠ (pL L).devRef b := fun e => h (Proc.devRef_injective _ e)
  unfold SparseCore.Cfg.ownBufs
  refine (SparseCore.bigSep_erase' (SparseCore.Cfg.mem_ownRefs_of_owner (p := pL L) (b := (pL L).devRef cc0_scratch0) rfl)).trans ?_
  rw [SparseCore.bigSep_erase' (Finset.mem_erase.mpr ⟨ne cc0_scratch1 cc0_scratch0 (by decide),
      SparseCore.Cfg.mem_ownRefs_of_owner (p := pL L) (b := (pL L).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := pL L) (b := (pL L).devRef cc0_scratch2) rfl⟩⟩)]

variable [FloatOps F] (m : (ℓ : Loc nD τ sig) → Buf (Elt F) ℓ)

/-- The words the task fetches into its index scratch. -/
def gW (d : Dev nD) (L : grid0.Coords) : Buf (Elt F) ((thr d L).loc cc0_scratch0) := (cBlkK L).view.read (Elt F) (tblC (F := F) d)
/-- The rows the task fetches into its row scratch. -/
def rW (d : Dev nD) (L : grid0.Coords) : Buf (Elt F) ((thr d L).loc cc0_scratch1) := (xRowK L).view.read (Elt F) (xT m d)

/-- What a task is given: a share of the transposed input, a share of the table, its block of each result at the launch contents. -/
abbrev goP (q₁ q₂ : PosShare TreeShare) (b : Fin 32) : sProp 𝕄 :=
  iprop((xLoc d ↦{q₁} xT m d) ∗ (cLoc d ↦{q₂} tblC d) ∗ (oLoc d ↦[oSet b]{fullShare} m (oLoc d)) ∗ (iLoc d ↦[iSet b]{fullShare} m (iLoc d)))
/-- What it hands back: the shares, its blocks at the results' values. -/
abbrev tdP (q₁ q₂ : PosShare TreeShare) (b : Fin 32) : sProp 𝕄 :=
  iprop((xLoc d ↦{q₁} xT m d) ∗ (cLoc d ↦{q₂} tblC d) ∗ (oLoc d ↦[oSet b]{fullShare} rateV m d) ∗ (iLoc d ↦[iSet b]{fullShare} idxV d))

/-- Row `r`, column `j` of the row scratch. -/
abbrev ix2 (r : Fin 8) (j : Fin 512) : S8x512.Idx := Fin.cons r (Fin.cons j finZeroElim)

/-- Every word a task fetches is a row's number. -/
theorem gW_lt (j : S512.Idx) : (gW (F := F) d L j).toNat < 5 := tbl_lt _

/-- Element `j` of what a task computes: the polynomial of the row scratch at the row that the index scratch names. -/
def outW (j : S512.Idx) : F .f32 := poly (rW m d L (ix2 ⟨(gW (F := F) d L j).toNat, (gW_lt d L j).trans (by omega)⟩ (j 0)))

/-- The loop makes 32 trips of 16 lanes. -/
theorem trips_eq : k0_t1_loop.trips = 32 := by decide

/-- Lane `y` of trip `k`'s column numbers is `16 k + y`. -/
theorem pay1_toNat (k : Fin k0_t1_loop.trips) (y : S16.Idx) : (k0_pay1 k y).toNat = 16 * k.val + (y 0).val := by
  have hk : k.val < 32 := lt_of_lt_of_eq k.isLt trips_eq
  have hy : (y 0).val < 16 := (y 0).isLt
  show (BitVec.ofNat 32 (0 * 16 + (y 0).val) + (0#32 + (0#32 + k.val * 1#32) * 1#32) * 16#32).toNat = _
  simp [BitVec.toNat_add, BitVec.toNat_mul, BitVec.toNat_ofNat]
  omega

/-- The element of a vector of 512 at lane `y` of trip `k`. -/
abbrev lane (k : Fin k0_t1_loop.trips) (y : S16.Idx) : S512.Idx :=
  (Rect.unit (s := S512) (k0_off3 k) S16.size (k0_off3_inb k)).emb y
/-- Lane `y` of trip `k` is element `16 k + y` of the block. -/
theorem lane_val (k : Fin k0_t1_loop.trips) (y : S16.Idx) : (lane k y 0).val = 16 * k.val + (y 0).val := by
  show k0_off3 k 0 + 1 * (y 0).val = _
  rw [k0_off3_eq]
  simp

/-- The words a trip loads from the index scratch. -/
abbrev gT (k : Fin k0_t1_loop.trips) : IVec S16 32 :=
  View.readAt (Elt F) (gV).view (Rect.unit (s := S512) (k0_off3 k) S16.size (k0_off3_inb k)).toLoadRect (gW d L)
/-- A trip's words are the index scratch at its lanes. -/
theorem gT_apply (k : Fin k0_t1_loop.trips) (y : S16.Idx) : gT (F := F) d L k y = gW (F := F) d L (lane k y) := rfl

/-- A trip gathers inside the row scratch. -/
theorem chk_holds (k : Fin k0_t1_loop.trips) : k0_chk1 (k0_pay1 k) (gT (F := F) d L k) := by
  have hk : k.val < 32 := lt_of_lt_of_eq k.isLt trips_eq
  intro a y
  match a with
  | 0 => exact (gW_lt (F := F) d L _).trans (by decide)
  | 1 =>
    show (k0_pay1 k y).toNat < 512
    rw [pay1_toNat]
    have hy : (y 0).val < 16 := (y 0).isLt
    omega

/-- What a trip stores is what its lanes compute. -/
theorem pay2_apply (k : Fin k0_t1_loop.trips) (h : ∀ a x, ((![gT (F := F) d L k, k0_pay1 k] : Fin 2 → IVec S16 32) a x).toNat < S8x512.size a) (y : S16.Idx) :
    k0_pay2 (loadIdx (View.read (Elt F) ((rV).access (Rect.whole S8x512)) (rW m d L)) ![gT (F := F) d L k, k0_pay1 k] h) y = outW d L m (lane k y) := by
  have hr : View.read (Elt F) ((rV).access (Rect.whole S8x512)) (rW m d L) = rW m d L :=
    funext fun y => congrArg (rW m d L) (Rect.emb_whole_apply S8x512 y)
  rw [hr, pay_apply]
  unfold outW loadIdx
  refine congrArg poly (congrArg (rW m d L) ?_)
  funext a
  match a with
  | 0 => rfl
  | 1 => exact Fin.ext ((pay1_toNat k y).trans (lane_val k y).symm)

/-- The column that lane `j` of the task's block has in the whole vector. -/
abbrev col (j : Fin 512) : Fin 16384 := ⟨1024 * (L 1).val + 512 * (L 0).val + j.val, by
  have h0 : (L 0).val < 2 := (L 0).isLt
  have h1 : (L 1).val < 16 := (L 1).isLt
  omega⟩

/-- Element `j` of the task's block is column `col L j` of the whole vector. -/
theorem vecK_emb (j : S512.Idx) : (vecK L).emb j = ix (col L (j 0)) := by
  funext a
  match a with
  | 0 =>
    refine Fin.ext ?_
    have e : k0_off2 L 0 = 1024 * (L 1).val + 512 * (L 0).val := congrFun (k0_off2_eq L) 0
    show k0_off2 L 0 + 1 * (j 0).val = 1024 * (L 1).val + 512 * (L 0).val + (j 0).val
    omega

/-- The index scratch holds the table's entries for the task's columns. -/
theorem gW_apply (j : S512.Idx) : gW (F := F) d L j = tbl (ix (col L (j 0))) := by
  show tbl ((vecK L).emb j) = _
  rw [vecK_emb]

/-- The row scratch holds the first eight rows of the last time step at the task's columns. -/
theorem rW_apply (r : Fin 8) (j : Fin 512) : rW m d L (ix2 r j) = xT m d (ix4 (r.castLE (by omega)) (col L j)) := by
  show xT m d ((Rect.unit (s := S1x50x64x16384) (k0_off1 L) S1x1x8x512.size (k0_off1_inb L)).emb (Shape.reshapeEquiv _ (ix2 r j))) = _
  rw [Shape.reshapeEquiv_eq_of_rowMajor (y := (Fin.cons (0 : Fin 1) (Fin.cons (0 : Fin 1) (ix2 r j)) : S1x1x8x512.Idx)) _ (by
    rw [Shape.rowMajor_val_four, Shape.rowMajor_val_two]; show ((0 * 1 + 0) * 8 + r.val) * 512 + j.val = r.val * 512 + j.val; omega)]
  congr 1
  funext a
  refine Fin.ext ?_
  match a with
  | 0 => exact congrFun (k0_off1_eq L) 0
  | 1 => exact congrFun (k0_off1_eq L) 1
  | 2 =>
    have e : k0_off1 L 2 = 0 := congrFun (k0_off1_eq L) 2
    show k0_off1 L 2 + 1 * r.val = r.val
    omega
  | 3 =>
    have e : k0_off1 L 3 = 1024 * (L 1).val + 512 * (L 0).val := congrFun (k0_off1_eq L) 3
    show k0_off1 L 3 + 1 * j.val = 1024 * (L 1).val + 512 * (L 0).val + j.val
    omega

/-- A task's values are the whole result's at its block. -/
theorem outW_eq (j : S512.Idx) : outW d L m j = rateV m d ((vecK L).emb j) := by
  rw [vecK_emb]
  refine congrArg poly ((rW_apply d L m _ _).trans ?_)
  refine congrArg (xT m d) (congrArg (fun r => ix4 r (col L (j 0))) (Fin.ext ?_))
  show (gW (F := F) d L j).toNat = (tbl (ix (col L (j 0)))).toNat
  rw [gW_apply]

/-- A trip's store leaves the invariant's next stage. -/
theorem stored (k : Fin k0_t1_loop.trips) (f : Buf (Elt F) ((thr d L).loc cc0_scratch2)) (hf : ∀ j : S512.Idx, (j 0).val < 16 * k.val → f j = outW d L m j)
    (w : S16.Idx → F .f32) (hw : ∀ y, w y = outW d L m (lane k y)) (j : S512.Idx) (hj : (j 0).val < 16 * (k.val + 1)) :
    (wV).view.writes (Elt F) f [⟨Rect.unit (s := S512) (k0_off4 k) S16.size (k0_off4_inb k), w⟩] j = outW d L m j := by
  have he (y : S16.Idx) : (Rect.unit (s := S512) (k0_off4 k) S16.size (k0_off4_inb k)).emb y = lane k y := by
    funext a; match a with | 0 => exact Fin.ext (congrArg (· + 1 * (y 0).val) ((congrFun (k0_off4_eq k) 0).trans (congrFun (k0_off3_eq k) 0).symm))
  by_cases hk : (j 0).val < 16 * k.val
  · refine (View.read_writes_cons_miss_of_axis (v := (wV).view) (f := f) _ [] j 0 (16 * k.val) 16 ?_ rfl rfl (Or.inl hk)).trans (hf j hk)
    exact congrFun (k0_off4_eq k) 0
  · have hy : (j 0).val - 16 * k.val < 16 := by omega
    have hl : lane k (Fin.cons ⟨(j 0).val - 16 * k.val, hy⟩ finZeroElim : S16.Idx) = j := by
      funext a; match a with | 0 => exact Fin.ext ((lane_val k _).trans (by show 16 * k.val + ((j 0).val - 16 * k.val) = (j 0).val; omega))
    have h := View.read_writes_cons_emb (v := (wV).view) (f := f) (Rect.unit (s := S512) (k0_off4 k) S16.size (k0_off4_inb k)) w []
      (Fin.cons ⟨(j 0).val - 16 * k.val, hy⟩ finZeroElim : S16.Idx)
    rw [he, hl] at h
    exact h.trans ((hw _).trans (congrArg (outW d L m) hl))

/-- The write-out of the result scratch leaves the first result's block at its values. -/
theorem wrote_o (f : Buf (Elt F) ((thr d L).loc cc0_scratch2)) (hf : ∀ j : S512.Idx, (j 0).val < 16 * 32 → f j = outW d L m j)
    (i : Idx (oLoc d)) (hi : i ∈ oSet (bL L)) :
    (oBlkK L).view.writes (Elt F) (m (oLoc d)) [⟨Rect.whole S512, (wV).view.read (Elt F) f⟩] i = rateV m d i := by
  rw [← set_oBlkK] at hi
  obtain ⟨y, -, rfl⟩ := Finset.mem_map.mp hi
  have h := View.read_writes_cons_emb (v := (oBlkK L).view) (f := m (oLoc d)) (Rect.whole S512) ((wV).view.read (Elt F) f) [] y
  rw [Rect.emb_whole_apply] at h
  exact h.trans ((hf y (y 0).isLt).trans (outW_eq d L m y))

/-- The write-out of the index scratch leaves the second result's block at its values. -/
theorem wrote_i (i : Idx (iLoc d)) (hi : i ∈ iSet (bL L)) :
    (iBlkK L).view.writes (Elt F) (m (iLoc d)) [⟨Rect.whole S512, (gV).view.read (Elt F) (gW (F := F) d L)⟩] i = idxV (F := F) d i := by
  rw [← set_iBlkK] at hi
  obtain ⟨y, -, rfl⟩ := Finset.mem_map.mp hi
  have h := View.read_writes_cons_emb (v := (iBlkK L).view) (f := m (iLoc d)) (Rect.whole S512) ((gV).view.read (Elt F) (gW (F := F) d L)) [] y
  rw [Rect.emb_whole_apply] at h
  exact h

/-- The loop's invariant before trip `k`: the index and row scratch at what was fetched, the first `16 k` elements of the
    result scratch at their values. -/
def inv (k : Nat) (_ : PUnit) : sProp 𝕄 :=
  iprop(((gV).view.loc (thr d L) ↦{fullShare} gW d L)
    ∗ ((rV).view.loc (thr d L) ↦{fullShare} rW m d L)
    ∗ ∃ f : Buf (Elt F) ((thr d L).loc cc0_scratch2), ⌜∀ j : S512.Idx, (j 0).val < 16 * k → f j = outW d L m j⌝ ∗ (wV).view.loc (thr d L) ↦{fullShare} f)

set_option maxHeartbeats 1000000 in
/-- The kernel's body on one tile: it copies in its rows and indices, computes its 512 elements, and copies both results out. -/
theorem tile_body (hF : (K (F := F)).Facts) (q₁ q₂ : PosShare TreeShare) (O : CellTallies nD τ sig (HIx 1)) (W : Waits sig (HIx 1)) (hO : ∀ g, O g none = 0) :
    iprop(levAts (K (F := F)).L (K (F := F)).lev ∗ emp
        ∗ goP d m q₁ q₂ (bL L)
        ∗ scopedBufs (thr d L) ∗ scopedSems0 (thr d L) ∗ owes (thr d L) O W)
      ⊢ wp frame (wpE (defs₀ (F := F)) 𝒱₀ (thr d L) none) Set.univ
          (cc0_body L xV (Memref.isWhole_whole _) cV (Memref.isWhole_whole _) oV (Memref.isWhole_whole _) iV (Memref.isWhole_whole _)
            gV (Memref.isWhole_whole _) rV (Memref.isWhole_whole _) wV (Memref.isWhole_whole _) cc0_scratch3 cc0_scratch4 cc0_scratch5)
          fun _ => iprop(tdP d m q₁ q₂ (bL L)
            ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV' L) (jV' L), SparseCore.Cfg.scopedSems0_V (Val := Elt F) d (cV' L) (jV' L), ownSems0_V, ownBufs_V]
  iintro ⟨#Hlv, -, ⟨Hx, Hc, Ho, Hi⟩, ⟨⟨%fg, Hg⟩, ⟨%fr, Hr⟩, ⟨%fw, Hw⟩, Hbufs⟩, ⟨HsA, HsB, HsE, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (pts_o (F := F) d L _).symm) $$ Ho
  ihave Hi' := (Entails.of_eq (pts_i (F := F) d L _).symm) $$ Hi
  ihave Hx' := (Entails.of_eq (pts_x (F := F) d L _ _).symm) $$ Hx
  ihave Hc' := (Entails.of_eq (pts_c (F := F) d L _ _).symm) $$ Hc
  ihave Hg' := (Entails.of_eq (pts_g (F := F) d L _).symm) $$ Hg
  ihave Hr' := (Entails.of_eq (pts_r (F := F) d L _).symm) $$ Hr
  ihave Hw' := (Entails.of_eq (pts_w (F := F) d L _).symm) $$ Hw
  sl_exec
  have eg : View.write (Elt F) (gV).view fg (tile_body.sl.dma0_1 d L) Finset.univ = gW (F := F) d L := View.write_whole_univ cc0_scratch0 fg _
  have er : View.write (Elt F) (rV).view fr (tile_body.sl.dma0 d L m) Finset.univ = rW (F := F) m d L := View.write_whole_univ cc0_scratch1 fr _
  rw [eg, er]
  sl_for (inv d L m) $$ [Hg' Hr' Hw']
  case region =>
    intro k _
    unfold inv
    iintro ⟨Hg, Hr, %f, %hf, Hw⟩
    sl_exec
    rw [wp_assume_of _ _ _ _ (chk_holds (F := F) d L k)]
    iapply (SparseCore.wp_vectorLoadIdx 𝒱₀ (thr d L) none Set.univ (base := (rV : Memref sig .scVector .vmem S8x512 .f32)) (S := Finset.univ) (q := fullShare) (Finset.subset_univ _)) $$ Hr
    iintro Hr
    sl_exec
    sl_step
    isplitl [Hg]; · iexact Hg
    isplitl [Hr]; · iexact Hr
    iexists _; isplitr; rotate_left
    · iexact Hw
    · ipureintro; exact stored d L m k f hf _ (pay2_apply d L m k _)
  · unfold inv
    isplitl [Hg']; · iexact Hg'
    isplitl [Hr']; · iexact Hr'
    iexists fw; isplitr
    · ipureintro; intro j hj; omega
    · iexact Hw'
  iintro %_ HI
  unfold inv
  icases HI with ⟨Hg', Hr', %f, %hf, Hw'⟩
  have hB : Transfers.BatchOf (thr d L) (.dma cc0_scratch5.sem) 2 := trivial
  sl_exec
  sl_step
  ihave Ho := (Entails.of_eq (pts_o (F := F) d L _)) $$ Ho'
  ihave Hi := (Entails.of_eq (pts_i (F := F) d L _)) $$ Hi'
  isplitl [Hx' Hc' Ho Hi]
  · isplitl [Hx']; · iexact Hx'
    isplitl [Hc']; · iexact Hc'
    isplitl [Ho]
    · iapply (Entails.of_eq (pointsTo_congr (wrote_o d L m f hf))); iexact Ho
    · iapply (Entails.of_eq (pointsTo_congr (wrote_i d L m))); iexact Hi
  isplitl [Hg' Hr' Hw' Hbufs]
  · isplitl [Hg']; · iexists _; iexact Hg'
    isplitl [Hr']; · iexists _; iexact Hr'
    isplitl [Hw']; · iexists _; iexact Hw'
    iexact Hbufs
  isplitl [HsA HsB HsE Hsems]
  · isplitl [HsA]; · iexact HsA
    isplitl [HsB]; · iexact HsB
    isplitl [HsE]; · iexact HsE
    iexact Hsems
  iexists _; isplitr; rotate_left
  · iexact HO
  · ipureintro
    intro p hp
    simp only [Finset.mem_insert] at hp
    rcases hp with rfl | rfl | rfl | rfl | hp
    · exact .inr rfl
    · exact .inr rfl
    · exact .inr rfl
    · exact .inr rfl
    · exact .inl hp
end Cert.Proof.Rate

end
-- ==== Proof.Run.lean ====
/-
  The kernel's run: the call's operands dealt among the thirty-two tasks and joined again, `@main`'s two host operations,
  the call, and the results at their values.
-/
module

public import proofs.«01_k».proof.Proof.Tile

@[expose] public section

noncomputable section

namespace Cert.Proof.Rate

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S1x50x64x16384 EltTy.f32)
local notation "cV" => (Memref.whole Cert.KernelIdeal.main_c_scv : Memref Cert.KernelIdeal.sig Kind.scVector Space.hbm Cert.KernelIdeal.S16384 EltTy.i32)
local notation "oV" => (Memref.whole Cert.KernelIdeal.main_v1_0_scv : Memref Cert.KernelIdeal.sig Kind.scVector Space.hbm Cert.KernelIdeal.S16384 EltTy.f32)
local notation "iV" => (Memref.whole Cert.KernelIdeal.main_v1_1_scv : Memref Cert.KernelIdeal.sig Kind.scVector Space.hbm Cert.KernelIdeal.S16384 EltTy.i32)
local notation "gV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S8x512 EltTy.f32)
local notation "wV" => (Memref.whole Cert.KernelIdeal.cc0_scratch2 : Memref Cert.KernelIdeal.sig Kind.scVector Space.vmem Cert.KernelIdeal.S512 EltTy.f32)

/-! ## What the call takes and gives back -/

/-- The share of each of the two operands that task `b` reads. -/
def sh (b : Fin 32) : PosShare TreeShare := Transfers.dealOf fullShare Finset.univ b

variable [FloatOps F] (m : (ℓ : Loc nD τ sig) → Buf (Elt F) ℓ) (ρ : Dev nD → PrngReg)

/-- Task `b`'s part before the call. -/
abbrev goB (d : Dev nD) (b : Fin 32) : sProp 𝕄 := goP d m (sh b) (sh b) b
/-- Task `b`'s part after the call. -/
abbrev tdB (d : Dev nD) (b : Fin 32) : sProp 𝕄 := tdP d m (sh b) (sh b) b

/-- Each SparseCore takes its sixteen tasks' parts, each task its own. -/
def P : (K (F := F)).Pay (nD := nD) (Val := Elt F) (Name := ℕ) (U := UU) where
  st := fun q d c => match q with | 0 => bigSep Finset.univ fun i : Fin 16 => goB m d (blkNo (Fin.cast nCore_zero c) i)
  dn := fun q d c => match q with | 0 => bigSep Finset.univ fun i : Fin 16 => tdB m d (blkNo (Fin.cast nCore_zero c) i)
  go := fun q d c i => match q with | 0 => goB m d (blkNo (Fin.cast nCore_zero c) (Fin.cast nSub_zero i))
  td := fun q d c i => match q with | 0 => tdB m d (blkNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => goB m d (blkNo (Fin.cast nCore_zero c) i)))
  dn q d c := match q with
    | 0 => (inferInstance : BI.Storable (upEmb : UEmb _ 𝕄) (bigSep Finset.univ fun i : Fin 16 => tdB m d (blkNo (Fin.cast nCore_zero c) i)))
  go q d c i := match q with
    | 0 => (inferInstance : BI.Storable (upEmb : UEmb _ 𝕄) (goB m d (blkNo (Fin.cast nCore_zero c) (Fin.cast nSub_zero i))))
  td q d c i := match q with
    | 0 => (inferInstance : BI.Storable (upEmb : UEmb _ 𝕄) (tdB m d (blkNo (Fin.cast nCore_zero c) (Fin.cast nSub_zero i))))

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

/-- A tile's task is the kernel's body at the tile's own coordinates. -/
theorem defs₀_vector (c : Fin τ.nSC) (s : Fin τ.nSub) :
    defs₀ (F := F) (.scVector c s) 0 ()
      = SparseCore.onTile hcore0 hsub0 (fun c s => cc0_body (coordsV c s)
          xV (Memref.isWhole_whole _) cV (Memref.isWhole_whole _) oV (Memref.isWhole_whole _) iV (Memref.isWhole_whole _)
          gV (Memref.isWhole_whole _) rV (Memref.isWhole_whole _) wV (Memref.isWhole_whole _) cc0_scratch3 cc0_scratch4 cc0_scratch5) ⟨⟩ c s := rfl

omit [FloatOps F] in
/-- A task's end in the form that the launch asks for: it owes nothing new. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, from its share of the inputs and its block of the results, ends with the block at its values. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF (sh (blkNo (Fin.cast nCore_zero c) (Fin.cast nSub_zero i)))
    (sh (blkNo (Fin.cast nCore_zero c) (Fin.cast nSub_zero i))) O W hO).trans (wp_mono frame _ _ fun _ => obl_post)

/-! ## The blocks split and join -/

omit [FloatOps F] in
/-- The sixteen tasks of a SparseCore, counted by `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- The two SparseCores, counted by `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a SparseCore is given is what its sixteen tasks are given, and what it gives back is what they give back. -/
theorem vecSplit : (K (F := F)).VecSplit' (P m) 0 := by
  intro d c
  show (bigSep Finset.univ fun i : Fin 16 => goB m d (blkNo (Fin.cast nCore_zero c) i)) ⊢ |={Set.univ}=> iprop(
      (bigSep Finset.univ fun i : Fin ((K (F := F)).nSub 0) => goB m d (blkNo (Fin.cast nCore_zero c) (Fin.cast nSub_zero i)))
      ∗ ((bigSep Finset.univ fun i : Fin ((K (F := F)).nSub 0) => tdB m d (blkNo (Fin.cast nCore_zero c) (Fin.cast nSub_zero i)))
          -∗ (bigSep Finset.univ fun i : Fin 16 => tdB m d (blkNo (Fin.cast nCore_zero c) i))))
  rw [bigSep_tasks (F := F) (fun i => goB m d (blkNo (Fin.cast nCore_zero c) i)),
    bigSep_tasks (F := F) (fun i => tdB m d (blkNo (Fin.cast nCore_zero c) i))]
  iintro H; imodintro
  isplitl [H]; · iexact H
  iintro H; iexact H

/-- The tasks, by SparseCore and tile, are the thirty-two blocks. -/
def taskEquiv : Fin 2 × Fin 16 ≃ Fin 32 where
  toFun p := blkNo p.1 p.2
  invFun b := (⟨b.val % 2, Nat.mod_lt _ (by decide)⟩, ⟨b.val / 2, by omega⟩)
  left_inv p := Prod.ext (Fin.ext (by show (2 * p.2.val + p.1.val) % 2 = p.1.val; omega)) (Fin.ext (by show (2 * p.2.val + p.1.val) / 2 = p.2.val; omega))
  right_inv b := Fin.ext (by show 2 * (b.val / 2) + b.val % 2 = b.val; omega)

omit [FloatOps F] in
/-- One piece for every task is one piece for every block. -/
theorem bigSep_blocks (Φ : Fin 32 → sProp 𝕄) :
    (bigSep Finset.univ fun c : Fin 2 => bigSep Finset.univ fun i : Fin 16 => Φ (blkNo c i)) = bigSep Finset.univ Φ :=
  ((bigSep_univ_equiv taskEquiv Φ).trans (bigSep_univ_prod fun p => Φ (taskEquiv p))).symm

/-- The elements of a block of the first result. -/
theorem oSet_eq (b : Fin 32) : oSet b = (blk b).set := by
  show ((View.whole (main_v1_0_scv : Ref sig .scVector)).slice (blk b)).set = _
  rw [View.set_slice]; exact Finset.map_refl
/-- The elements of a block of the second result. -/
theorem iSet_eq (b : Fin 32) : iSet b = (blk b).set := by
  show ((View.whole (main_v1_1_scv : Ref sig .scVector)).slice (blk b)).set = _
  rw [View.set_slice]; exact Finset.map_refl
/-- Two blocks of the first result share no element. -/
theorem oBlks_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint div32 h
/-- Two blocks of the second result share no element. -/
theorem iBlks_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint div32 h
/-- The blocks of the first result are all of it. -/
theorem oBlks_cover : (Finset.univ : Finset (Fin 32)).biUnion oSet = Finset.univ :=
  (Finset.biUnion_congr rfl fun i _ => oSet_eq i).trans (Rect.biUnion_part div32)
/-- The blocks of the second result are all of it. -/
theorem iBlks_cover : (Finset.univ : Finset (Fin 32)).biUnion iSet = Finset.univ :=
  (Finset.biUnion_congr rfl fun i _ => iSet_eq i).trans (Rect.biUnion_part div32)

omit [FloatOps F] in
/-- Owning the first result is owning its thirty-two blocks. -/
theorem oPts_blocks (d : Dev nD) (f : Buf (Elt F) (oLoc d)) :
    (oLoc d ↦{fullShare} f : sProp 𝕄) = bigSep Finset.univ fun b : Fin 32 => oLoc d ↦[oSet b]{fullShare} f := by
  rw [← pointsTo_biUnion Finset.univ (ℓ := oLoc d) oSet oBlks_disjoint, oBlks_cover]; try rfl
omit [FloatOps F] in
/-- Owning the second result is owning its thirty-two blocks. -/
theorem iPts_blocks (d : Dev nD) (f : Buf (Elt F) (iLoc d)) :
    (iLoc d ↦{fullShare} f : sProp 𝕄) = bigSep Finset.univ fun b : Fin 32 => iLoc d ↦[iSet b]{fullShare} f := by
  rw [← pointsTo_biUnion Finset.univ (ℓ := iLoc d) iSet iBlks_disjoint, iBlks_cover]; try rfl
omit [FloatOps F] in
/-- Owning the transposed input is owning its thirty-two read shares. -/
theorem xPts_shares (d : Dev nD) (f : Buf (Elt F) (xLoc d)) :
    (xLoc d ↦{fullShare} f : sProp 𝕄) = bigSep Finset.univ fun b : Fin 32 => xLoc d ↦{sh b} f :=
  Transfers.pointsTo_deal (Finset.univ : Finset (Fin 32)) Finset.univ_nonempty fullShare
omit [FloatOps F] in
/-- Owning the table is owning its thirty-two read shares. -/
theorem cPts_shares (d : Dev nD) (f : Buf (Elt F) (cLoc d)) :
    (cLoc d ↦{fullShare} f : sProp 𝕄) = bigSep Finset.univ fun b : Fin 32 => cLoc d ↦{sh b} f :=
  Transfers.pointsTo_deal (Finset.univ : Finset (Fin 32)) Finset.univ_nonempty fullShare

/-- The call takes the transposed input, the table and both results whole. -/
theorem st0_eq (d : Dev nD) : (bigSep Finset.univ fun c : Fin ((K (F := F)).nCore 0) => (P m).st 0 d c)
    = iprop((xLoc d ↦{fullShare} xT m d) ∗ (cLoc d ↦{fullShare} tblC d) ∗ (oLoc d ↦{fullShare} m (oLoc d)) ∗ iLoc d ↦{fullShare} m (iLoc d)) := by
  refine (bigSep_cores (F := F) (fun c => bigSep Finset.univ fun i : Fin 16 => goB m d (blkNo c i))).trans ?_
  rw [bigSep_blocks (fun b => goB m d b), bigSep_sep', bigSep_sep', bigSep_sep', ← xPts_shares, ← cPts_shares, ← oPts_blocks, ← iPts_blocks]
/-- It gives back the same, the results at their values. -/
theorem dn0_eq (d : Dev nD) : (bigSep Finset.univ fun c : Fin ((K (F := F)).nCore 0) => (P m).dn 0 d c)
    = iprop((xLoc d ↦{fullShare} xT m d) ∗ (cLoc d ↦{fullShare} tblC d) ∗ (oLoc d ↦{fullShare} rateV m d) ∗ iLoc d ↦{fullShare} idxV d) := by
  refine (bigSep_cores (F := F) (fun c => bigSep Finset.univ fun i : Fin 16 => tdB m d (blkNo c i))).trans ?_
  rw [bigSep_blocks (fun b => tdB m d b), bigSep_sep', bigSep_sep', bigSep_sep', ← xPts_shares, ← cPts_shares, ← oPts_blocks, ← iPts_blocks]

/-! ## The launch element of the certificate's ghost state -/

def u₀ : UU := (initOf (K (F := F)).hsCells (K (F := F)).hsToks, 1)

omit [FloatOps F] in
/-- Any number of empty pieces is nothing. -/
theorem bigSep_emp' {I : Type} (s : Finset I) : (bigSep s fun _ => iprop(emp)) = (iprop(emp) : sProp 𝕄) := bigSep_emp_const s

/-- The launch's ghost state holds what the call's hand-over needs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev c' : DevRef τ sig := Proc.devRef .tc (main_c : Ref sig .tc)
abbrev x' : DevRef τ sig := Proc.devRef .tc (main_v0 : Ref sig .tc)
abbrev o' : DevRef τ sig := Proc.devRef .tc (main_v1_0 : Ref sig .tc)
abbrev i' : DevRef τ sig := Proc.devRef .tc (main_v1_1 : Ref sig .tc)
abbrev opC : HloOp τ sig (Elt F) := StableHlo.nullary main_c (fun i => lit0 (S16384.rowMajor i))
abbrev opT : HloOp τ sig (Elt F) := StableHlo.unary main_arg0 main_v0 ((transpose S1x50x64x16384 [0, 2, 3, 1] · transposes_S1x16384x50x64_S1x50x64x16384_0_2_3_1) : (⟨S1x16384x50x64, .f32⟩ : BufTy).Contents (Elt F) → (⟨S1x50x64x16384, .f32⟩ : BufTy).Contents (Elt F))

/-- The TensorCore's arrays. -/
abbrev S5 : Finset (DevRef τ sig) := {a', c', x', o', i'}

omit [FloatOps F] in
/-- The five arrays of the TensorCore, one by one. -/
theorem held_S5 (d : Dev nD) (W : Valuation τ sig (Elt F)) :
    (held (T d) S5 W : sProp 𝕄)
      = iprop((aLoc d ↦{fullShare} W a') ∗ (cLoc d ↦{fullShare} W c') ∗ (xLoc d ↦{fullShare} W x') ∗ (oLoc d ↦{fullShare} W o') ∗ iLoc d ↦{fullShare} W i') := by
  unfold held S5
  rw [SparseCore.bigSep_insert' (by decide), SparseCore.bigSep_insert' (by decide), SparseCore.bigSep_insert' (by decide),
    SparseCore.bigSep_insert' (by decide), bigSep_singleton]

omit [FloatOps F] in
/-- The arrays that the launch gives the TensorCore are these five. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (cLoc d ↦{fullShare} W main_c) ∗ (xLoc d ↦{fullShare} W main_v0)
          ∗ (oLoc d ↦{fullShare} W main_v1_0) ∗ iLoc d ↦{fullShare} W main_v1_1) := by
  unfold unscopedBufs
  rw [show (Finset.univ.filter fun b : Ref sig .tc => ¬ b.isScoped) = {main_arg0, main_c, main_v0, main_v1_0, main_v1_1} by decide,
    SparseCore.bigSep_insert' (by decide), SparseCore.bigSep_insert' (by decide), SparseCore.bigSep_insert' (by decide),
    SparseCore.bigSep_insert' (by decide), bigSep_singleton]

/-- The launch valuation, and the valuation before the call: the two operations' results. -/
def V0 (d : Dev nD) : Valuation τ sig (Elt F) := fun b => m (d, b)
def V1 (d : Dev nD) : Valuation τ sig (Elt F) := (opC (F := F)).result (V0 m d)
def V2 (d : Dev nD) : Valuation τ sig (Elt F) := (opT (F := F)).result (V1 m d)

/-- At the launch the five arrays hold the launch memory. -/
theorem unscoped_held (d : Dev nD) : (unscopedBufs d (fun b => m ((SparseCore.T d).loc b)) : sProp 𝕄) = held (T d) S5 (V0 m d) := by
  rw [unscopedBufs_eq, held_S5]; rfl

/-- The constant changes its own array only. -/
theorem V1_of_ne (d : Dev nD) (b : DevRef τ sig) (h : b ∉ ({c'} : Finset (DevRef τ sig))) : V1 m d b = m (d, b) :=
  (opC (F := F)).result_of_not_mem _ h
/-- The transpose changes its own array only. -/
theorem V2_of_ne (d : Dev nD) (b : DevRef τ sig) (h : b ∉ ({x'} : Finset (DevRef τ sig))) : V2 m d b = V1 m d b :=
  (opT (F := F)).result_of_not_mem _ h
/-- Before the call the input is as at the launch. -/
theorem V2_a (d : Dev nD) : V2 m d a' = m (aLoc d) := (V2_of_ne m d _ (by decide)).trans (V1_of_ne m d _ (by decide))
/-- Before the call the first result is as at the launch. -/
theorem V2_o (d : Dev nD) : V2 m d o' = m (oLoc d) := (V2_of_ne m d _ (by decide)).trans (V1_of_ne m d _ (by decide))
/-- Before the call the second result is as at the launch. -/
theorem V2_i (d : Dev nD) : V2 m d i' = m (iLoc d) := (V2_of_ne m d _ (by decide)).trans (V1_of_ne m d _ (by decide))
/-- Before the call the constant's array holds the table. -/
theorem V2_c (d : Dev nD) : V2 m d c' = tblC d := by
  refine (V2_of_ne m d _ (by decide)).trans ((StableHlo.nullary_result _ _ _ _).trans ?_)
  unfold tblC tbl; rfl
/-- Before the call the transpose's array holds the transposed input. -/
theorem V2_x (d : Dev nD) : V2 m d x' = xT m d := by
  refine (StableHlo.unary_result _ _ _ _ _ _).trans ?_
  rw [V1_of_ne m d a' (by decide)]; rfl

/-- The five arrays before the call. -/
theorem held_V2 (d : Dev nD) :
    (held (SparseCore.T d) S5 ((opT (F := F)).result ((opC (F := F)).result (V0 m d))) : sProp 𝕄)
      = iprop((aLoc d ↦{fullShare} m (aLoc d)) ∗ (cLoc d ↦{fullShare} tblC d) ∗ (xLoc d ↦{fullShare} xT m d) ∗ (oLoc d ↦{fullShare} m (oLoc d)) ∗ iLoc d ↦{fullShare} m (iLoc d)) := by
  show (held (SparseCore.T d) S5 (V2 m d) : sProp 𝕄) = _
  rw [held_S5, V2_a, V2_c, V2_x, V2_o, V2_i]

/-- The constant touches only the five arrays. -/
theorem hC : (opC (F := F)).bufs ⊆ S5 := show ({c'} : Finset (DevRef τ sig)) ⊆ S5 by decide
/-- The transpose touches only the five arrays. -/
theorem hT : (opT (F := F)).bufs ⊆ S5 := show ({a', x'} : Finset (DevRef τ sig)) ⊆ S5 by decide

/-- What `@main` leaves the claims: the input at its launch contents, the results at their values. -/
abbrev FIN (d : Dev nD) : sProp 𝕄 :=
  iprop((aLoc d ↦{fullShare} m (aLoc d)) ∗ (oLoc d ↦{fullShare} rateV m d) ∗ iLoc d ↦{fullShare} idxV d)

/-- `@main` on device `d`'s TensorCore: the table, the transpose, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S5) hC (V := V0 m d)) $$ [Hb Hheld]
  · isplitl [Hb] <;> iassumption
  iintro ⟨Hb, Hheld⟩
  rw [wp_ret]; imodintro
  iapply (wp_hlo_within 𝒱 (SparseCore.T d) none Set.univ (op := opT) (S := S5) hT (V := (opC (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hc, Hx, Ho, Hi⟩
  iapply ((K (F := F)).wp_run (D (F := F)) 𝒱 (EH := EH) (P := P m) κ d 0) $$ [Hst Hx Hc Ho Hi Hb Ha Hts]
  isplitr; · iexact Hctx
  isplitl [Hst]; · iexact Hst
  isplitl [Hx Hc Ho Hi]
  · rw [st0_eq]
    isplitl [Hx]; · iexact Hx
    isplitl [Hc]; · iexact Hc
    isplitl [Ho]; · iexact Ho
    iexact Hi
  iintro ⟨Hst, Hdn⟩
  ihave Hdn' := (Entails.of_eq (dn0_eq m d)) $$ Hdn
  icases Hdn' with ⟨-, -, Ho, Hi⟩
  imodintro
  isplitl [Hst]; · iexact Hst
  isplitr [Hb Hts]
  · isplitl [Ha]; · iexact Ha
    isplitl [Ho]; · iexact Ho
    iexact Hi
  isplitl [Hb] <;> iassumption

/-- What the claims read of device `d`'s final state. -/
def fq (d : Dev nD) (s' : Phys nD τ sig (Elt F)) : Prop :=
  s'.mem.mem (oLoc d) = rateV m d ∧ s'.mem.mem (iLoc d) = idxV d ∧ s'.mem.mem (aLoc d) = m (aLoc d)

set_option maxRecDepth 16384 in
/-- What `@main` leaves is what the final memory holds. -/
theorem hfin (d : Dev nD) (s' : Phys nD τ sig (Elt F)) : iprop(FIN m d ∗ SI s') ⊢ (⌜fq m d s'⌝ : sProp 𝕄) := by
  iintro ⟨⟨Ha, Ho, Hi⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := oLoc d) (I := Finset.univ) (q := fullShare) (f := rateV m d))) $$ [HSI Ho]
  · isplitl [HSI] <;> iassumption
  icases H with ⟨%ho, HSI, -⟩
  ihave H := (SI_pointsTo_agree (st := s') (ℓ := iLoc d) (I := Finset.univ) (q := fullShare) (f := idxV d)) $$ [HSI Hi]
  · isplitl [HSI] <;> iassumption
  icases H with %hi
  ipureintro
  exact ⟨funext fun j => ho j (Finset.mem_univ j), funext fun j => hi j (Finset.mem_univ j), funext fun j => ha j (Finset.mem_univ j)⟩

/-! ## The program's run -/

def QC : PUnit × MemSt nD τ sig (Elt F) → Prop := fun r =>
  (∀ c : Dev nD, r.2.mem (oLoc c) = rateV m c ∧ r.2.mem (iLoc c) = idxV c ∧ r.2.mem (aLoc c) = m (aLoc c)) ∧ r.2.sem = fun _ => 0

/-- The kernel runs from any memory, over any floats: the results end at their values, the input as it was, every
    semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rate

end
-- ==== Proof.Pick.lean ====
/-
  What jnp's `x[0, :, -1, :][arange(n)[:, None], t[:, None]].squeeze()` reads, for a table `t` of small non-negative
  words: element `i` of the result is `x[0, i, 49, t i]`.
-/
module

public import Idealize.ShloMosaic.Lib.ValueIdx
public import Idealize.ShloMosaic.Lib.Pointwise.ShapeOpsCore
public import Idealize.ShloMosaic.Lib.Pointwise.Reshape
public import Idealize.ShloMosaic.Lib.Pipeline.Value

@[expose] public section

noncomputable section

namespace Cert.Proof.Pick

open Idealize.ShloMosaic

abbrev X4 : Shape := ⟨4, ![1, 16384, 50, 64]⟩
abbrev X3 : Shape := ⟨3, ![16384, 50, 64]⟩
abbrev X31 : Shape := ⟨3, ![16384, 1, 64]⟩
abbrev X2 : Shape := ⟨2, ![16384, 64]⟩
abbrev V1 : Shape := ⟨1, ![16384]⟩
abbrev C1 : Shape := ⟨2, ![16384, 1]⟩
abbrev C11 : Shape := ⟨3, ![16384, 1, 1]⟩
abbrev C12 : Shape := ⟨3, ![16384, 1, 2]⟩

/-- A gather of single elements of a matrix, whose start indices are pairs (row, column) kept on the last axis: result
    `(p, 0)` reads the matrix at pair `p`, each component read signed and clamped into its axis. -/
theorem gather_pair {α : Type} {N M n w : Nat} (hN : 0 < N) (hM : 0 < M)
    (d : GatherDims ⟨2, ![N, M]⟩ ⟨3, ![n, 1, 2]⟩ ⟨2, ![n, 1]⟩)
    (hoff : d.offsetDims = []) (hcoll : d.collapsedSliceDims = [0, 1]) (hob : d.operandBatchingDims = [])
    (hsim : d.startIndexMap = [0, 1]) (hivd : d.indexVectorDim = 2)
    (x : (⟨2, ![N, M]⟩ : Shape).Idx → α) (idx : IVec ⟨3, ![n, 1, 2]⟩ w) (p : Fin n) :
    Host.gather d x idx (ix2 p 0)
      = x (ix2 ⟨min (idx (ix3 p 0 0)).toInt.toNat (N - 1), by omega⟩ ⟨min (idx (ix3 p 0 1)).toInt.toNat (M - 1), by omega⟩) := by
  unfold Host.gather
  congr 1
  have hbd : d.batchDims = [0, 1] := by unfold GatherDims.batchDims; rw [hoff]; rfl
  have hsk : d.siKept = [0, 1] := by unfold GatherDims.siKept; rw [hivd]; rfl
  have hidx : ∀ (k : Fin 2) (hk : k.val < d.startIndexMap.length), d.siIdx (ix2 p 0) ⟨k.val, hk⟩ = (ix3 p 0 k : (⟨3, ![n, 1, 2]⟩ : Shape).Idx) := by
    intro k hk
    funext b
    match b with
    | ⟨0, _⟩ =>
      unfold GatherDims.siIdx
      rw [dif_neg (by rw [hivd]; simp)]
      unfold GatherDims.siCoord
      apply Fin.ext
      have hz : d.siKept.idxOf (⟨0, by decide⟩ : Fin 3) = 0 := by rw [hsk]; rfl
      have hg : ∀ h, d.batchDims[d.siKept.idxOf (⟨0, by decide⟩ : Fin 3)]'h = (0 : Fin 2) := fun h => by
        rw [List.getElem_of_eq hbd]; simp only [hz]; rfl
      exact congrArg (fun a : Fin 2 => ((ix2 p 0 : (⟨2, ![n, 1]⟩ : Shape).Idx) a).val) (hg _)
    | ⟨1, _⟩ => exact Subsingleton.elim (α := Fin 1) _ _
    | ⟨2, _⟩ =>
      unfold GatherDims.siIdx
      rw [dif_pos (by rw [hivd])]
      rfl
  funext a
  apply Fin.ext
  have hc : ∀ a : Fin 2, a ∈ d.collapsedSliceDims := fun a => by rw [hcoll]; fin_cases a <;> simp
  have hb : a ∉ d.operandBatchingDims := by rw [hob]; exact List.not_mem_nil
  have hk : a ∉ d.sKept := by rw [GatherDims.mem_sKept]; exact fun h => h.1 (hc a)
  have hsl : d.sliceSizes a = 1 := d.slice_collapsed a (hc a)
  have hm : a ∈ d.startIndexMap := by rw [hsim]; fin_cases a <;> simp
  simp only [GatherDims.operandIdx, GatherDims.batchCoord_eq_zero _ _ _ hb, GatherDims.offCoord_eq_zero _ _ _ hk,
    Nat.add_zero, GatherDims.start, dif_pos hm, hsl]
  have hpos : d.startIndexMap.idxOf a = a.val := by rw [hsim]; fin_cases a <;> rfl
  have hi := hidx a (by rw [← hpos]; exact List.idxOf_lt_length_iff.2 hm)
  simp only [hpos, hi]
  match a with
  | ⟨0, _⟩ => rfl
  | ⟨1, _⟩ => rfl

/-- A signed word that is below 64 and stands for a natural number is not negative, so a select that adds the axis's
    extent to the negative ones leaves it. -/
theorem wrap_of_small (e t : BitVec 32) (ht : t.toNat < 2 ^ 31) :
    Scalar.select (IntOp.cmpi .slt t 0#32) (IntOp.addi t e) t = t := by
  have h : ¬ t.toInt < 0 := by rw [BitVec.toInt_eq_toNat_of_lt (by omega)]; omega
  have : IntOp.cmpi .slt t 0#32 = 0#1 := by
    simp [IntOp.cmpi, BitVec.slt, h]
  rw [this]; rfl

/-- Two columns side by side: the first component of a pair is the first column's. -/
theorem pair_fst {α : Type} (A B : C11.Idx → α) (hc : Shape.Concatenates [C11, C11] C12 2) (p : Fin 16384) :
    concatenate C12 2 [⟨C11, A⟩, ⟨C11, B⟩] hc (ix3 p 0 0) = A (ix3 p 0 0) :=
  concatenate_pair_apply_left (t := C12) 2 A B hc _ rfl _ (by intro b; fin_cases b <;> rfl)

/-- Two columns side by side: the second component of a pair is the second column's. -/
theorem pair_snd {α : Type} (A B : C11.Idx → α) (hc : Shape.Concatenates [C11, C11] C12 2) (p : Fin 16384) :
    concatenate C12 2 [⟨C11, A⟩, ⟨C11, B⟩] hc (ix3 p 0 1) = B (ix3 p 0 0) :=
  concatenate_pair_apply_right (t := C12) 2 A B hc _ rfl rfl _
    (by intro b hb; fin_cases b; rfl; rfl; exact absurd rfl hb) rfl

/-- The column of start indices that jnp makes of a vector of small non-negative words holds that vector. -/
theorem column_apply (b1 : V1.BroadcastsInDim C1 ![0]) (b0 : (⟨0, ![]⟩ : Shape).BroadcastsInDim C1 ![]) (b11 : C1.BroadcastsInDim C11 ![0, 1])
    (e : BitVec 32) (T : IVec V1 32) (p : Fin 16384) (hT : (T (ix1 p)).toNat < 2 ^ 31) :
    broadcastInDim C11 ![0, 1] b11 (select (cmpi .slt (broadcastInDim C1 ![0] b1 T) (broadcastInDim C1 ![] b0 (constantI ⟨0, ![]⟩ 32 0#32)))
            (addi (broadcastInDim C1 ![0] b1 T) (broadcastInDim C1 ![] b0 (constantI ⟨0, ![]⟩ 32 e)))
            (broadcastInDim C1 ![0] b1 T)) (ix3 p 0 0) = T (ix1 p) := by
  have h11 : ∀ f : C1.Idx → BitVec 32, broadcastInDim C11 ![0, 1] b11 f (ix3 p 0 0) = f (ix2 p 0) := fun f => by
    rw [Pointwise.broadcastInDim_apply]
    congr 1
    funext a
    match a with
    | ⟨0, _⟩ => rfl
    | ⟨1, _⟩ => rfl
  have h1 : broadcastInDim C1 ![0] b1 T (ix2 p 0) = T (ix1 p) := by
    rw [Pointwise.broadcastInDim_apply]
    congr 1
    funext a
    match a with
    | ⟨0, _⟩ => rfl
  rw [h11]
  show Scalar.select (IntOp.cmpi .slt (broadcastInDim C1 ![0] b1 T (ix2 p 0)) 0#32) (IntOp.addi (broadcastInDim C1 ![0] b1 T (ix2 p 0)) e) (broadcastInDim C1 ![0] b1 T (ix2 p 0)) = _
  rw [h1]
  exact wrap_of_small e _ hT

/-- Element `i` of the picked row is `x[0, i, 49, t i]`. -/
theorem pick_apply {α : Type} (d : GatherDims X2 C12 C1)
    (hoff : d.offsetDims = []) (hcoll : d.collapsedSliceDims = [0, 1]) (hob : d.operandBatchingDims = [])
    (hsim : d.startIndexMap = [0, 1]) (hivd : d.indexVectorDim = 2)
    (h1 : X4.ShapeCasts X3) (h2 : X3.Slices ![0, 49, 0] X31) (h3 : X31.ShapeCasts X2) (h4 : C1.ShapeCasts V1)
    (b1 : V1.BroadcastsInDim C1 ![0]) (b0 : (⟨0, ![]⟩ : Shape).BroadcastsInDim C1 ![]) (b11 : C1.BroadcastsInDim C11 ![0, 1])
    (hc : Shape.Concatenates [C11, C11] C12 2)
    (X : X4.Idx → α) (T : IVec V1 32) (hT : ∀ j, (T j).toNat < 64) (p : Fin 16384) :
    shapeCast V1 (Host.gather d (shapeCast X2 (extractStridedSlice X31 ![0, 49, 0] (shapeCast X3 X h1) h2) h3)
      (concatenate C12 2
        [⟨C11, broadcastInDim C11 ![0, 1] b11 (select (cmpi .slt (broadcastInDim C1 ![0] b1 (iotaInDim V1 32 0)) (broadcastInDim C1 ![] b0 (constantI ⟨0, ![]⟩ 32 0#32)))
            (addi (broadcastInDim C1 ![0] b1 (iotaInDim V1 32 0)) (broadcastInDim C1 ![] b0 (constantI ⟨0, ![]⟩ 32 16384#32)))
            (broadcastInDim C1 ![0] b1 (iotaInDim V1 32 0)))⟩,
         ⟨C11, broadcastInDim C11 ![0, 1] b11 (select (cmpi .slt (broadcastInDim C1 ![0] b1 T) (broadcastInDim C1 ![] b0 (constantI ⟨0, ![]⟩ 32 0#32)))
            (addi (broadcastInDim C1 ![0] b1 T) (broadcastInDim C1 ![] b0 (constantI ⟨0, ![]⟩ 32 64#32)))
            (broadcastInDim C1 ![0] b1 T))⟩] hc)) h4 (ix1 p)
      = X (ix4 0 p 49 ⟨(T (ix1 p)).toNat, hT _⟩) := by
  rw [Pointwise.shapeCast_apply, show ∀ h, Shape.reshapeEquiv h (ix1 p : V1.Idx) = (ix2 p 0 : C1.Idx) from fun h =>
      Shape.reshapeEquiv_eq_of_vals h _ _ _ _ (rowMajor_val2 _ 1 rfl) (rowMajor_val1 _) (by simp),
    gather_pair (by omega) (by omega) d hoff hcoll hob hsim hivd]
  simp only [pair_fst, pair_snd]
  have hi : (iotaInDim V1 32 0 (ix1 p)) = BitVec.ofNat 32 p.val := rfl
  have hn : (BitVec.ofNat 32 p.val).toNat = p.val := by simp; omega
  have hp : (iotaInDim V1 32 0 (ix1 p)).toNat < 2 ^ 31 := by rw [hi, hn]; omega
  have ht := hT (ix1 p)
  simp only [column_apply b1 b0 b11 _ _ p hp, column_apply b1 b0 b11 _ T p (by omega)]
  have e0 : min (iotaInDim V1 32 0 (ix1 p)).toInt.toNat (16384 - 1) = p.val := by
    rw [BitVec.toInt_eq_toNat_of_lt (by omega), hi, hn]; omega
  have e1 : min (T (ix1 p)).toInt.toNat (64 - 1) = (T (ix1 p)).toNat := by
    rw [BitVec.toInt_eq_toNat_of_lt (by omega)]; omega
  simp only [e0, e1, Fin.eta]
  generalize (⟨(T (ix1 p)).toNat, ht⟩ : Fin 64) = r
  rw [Pointwise.shapeCast_apply, show ∀ h, Shape.reshapeEquiv h (ix2 p r : X2.Idx) = (ix3 p 0 r : X31.Idx) from fun h =>
      Shape.reshapeEquiv_eq_of_vals h _ _ _ _ (rowMajor_val3 _ 64 64 rfl rfl) (rowMajor_val2 _ 64 rfl) (by simp)]
  have h31 : ∀ f : X3.Idx → α, extractStridedSlice X31 ![0, 49, 0] f h2 (ix3 p 0 r) = f (ix3 p 49 r) := fun f => by
    rw [Pointwise.extractStridedSlice_apply]
    congr 1
    funext a
    match a with
    | ⟨0, _⟩ => apply Fin.ext; show 0 + p.val = p.val; omega
    | ⟨1, _⟩ => rfl
    | ⟨2, _⟩ => apply Fin.ext; show 0 + r.val = r.val; omega
  rw [h31, Pointwise.shapeCast_apply, show ∀ h, Shape.reshapeEquiv h (ix3 p 49 r : X3.Idx) = (ix4 0 p 49 r : X4.Idx) from fun h =>
      Shape.reshapeEquiv_eq_of_vals h _ _ _ _ (rowMajor_val4 _ (16384 * (50 * 64)) (50 * 64) 64 rfl rfl rfl) (rowMajor_val3 _ (50 * 64) 64 rfl rfl) (by simp)]

end Cert.Proof.Pick

end
-- ==== Proof.Consts.lean ====
/-
  The six coefficients of the kernel's polynomial as extended reals: each float literal is the rational that its word is.
-/
module

public import Idealize.ShloMosaic.Lib.IdealHost

@[expose] public section

noncomputable section

namespace Cert.Proof.Consts

open Idealize.ShloMosaic

/-- The coefficient of the fifth power. -/
theorem c5 : Ideal.ofBits .f32 0x3D201825#32 = ((10491941 / 268435456 : ℝ) : EReal) := by
  simp [Ideal.ofBits, Ideal.ieee, -EReal.coe_mul, -EReal.coe_neg]; norm_num

/-- The coefficient of the fourth power. -/
theorem c4 : Ideal.ofBits .f32 0xBE2D00D2#32 = ((-5668969 / 33554432 : ℝ) : EReal) := by
  simp [Ideal.ofBits, Ideal.ieee, -EReal.coe_mul, -EReal.coe_neg]; norm_num

/-- The coefficient of the third power. -/
theorem c3 : Ideal.ofBits .f32 0x3EBC5673#32 = ((12342899 / 33554432 : ℝ) : EReal) := by
  simp [Ideal.ofBits, Ideal.ieee, -EReal.coe_mul, -EReal.coe_neg]; norm_num

/-- The coefficient of the square. -/
theorem c2 : Ideal.ofBits .f32 0xBF229809#32 = ((-10655753 / 16777216 : ℝ) : EReal) := by
  simp [Ideal.ofBits, Ideal.ieee, -EReal.coe_mul, -EReal.coe_neg]; norm_num

/-- The coefficient of the first power. -/
theorem c1 : Ideal.ofBits .f32 0x3FA608B2#32 = ((5440601 / 4194304 : ℝ) : EReal) := by
  simp [Ideal.ofBits, Ideal.ieee, -EReal.coe_mul, -EReal.coe_neg]; norm_num

/-- The constant term. -/
theorem c0 : Ideal.ofBits .f32 0x37F111E5#32 = ((15798757 / 549755813888 : ℝ) : EReal) := by
  simp [Ideal.ofBits, Ideal.ieee, -EReal.coe_mul, -EReal.coe_neg]; norm_num

/-- The coefficient of the fourth power with its sign taken off, as the reference spells it. -/
theorem n4 : Ideal.ofBits .f32 0x3E2D00D2#32 = ((5668969 / 33554432 : ℝ) : EReal) := by
  simp [Ideal.ofBits, Ideal.ieee, -EReal.coe_mul]; norm_num

/-- The coefficient of the square with its sign taken off, as the reference spells it. -/
theorem n2 : Ideal.ofBits .f32 0x3F229809#32 = ((10655753 / 16777216 : ℝ) : EReal) := by
  simp [Ideal.ofBits, Ideal.ieee, -EReal.coe_mul]; norm_num

/-- Subtracting the positive literal is adding the negative one (the fourth power's). -/
theorem sub_n4 (a : EReal) : a - Ideal.ofBits .f32 0x3E2D00D2#32 = a + Ideal.ofBits .f32 0xBE2D00D2#32 := by
  rw [n4, c4, sub_eq_add_neg, ← EReal.coe_neg]; congr 2; norm_num

/-- Subtracting the positive literal is adding the negative one (the square's). -/
theorem sub_n2 (a : EReal) : a - Ideal.ofBits .f32 0x3F229809#32 = a + Ideal.ofBits .f32 0xBF229809#32 := by
  rw [n2, c2, sub_eq_add_neg, ← EReal.coe_neg]; congr 2; norm_num

end Cert.Proof.Consts

end
-- ==== Proof.RefTable.lean ====
/-
  The reference's table of random indices is the table that the kernel reads.
-/
module

public import proofs.«01_k».proof.Proof.Setup
public import proofs.«01_k».proof.Proof.Gen.ReferenceIdeal.Run

@[expose] public section

noncomputable section

namespace Cert.Proof.Ref

/-- The reference's table and the kernel's are one table, looked up by the two base-128 digits. -/
theorem lit0_digits : ∀ a : Fin 128, ∀ b : Fin 128,
    Cert.ReferenceIdeal.lit0t (128 * a.val + b.val) = Cert.KernelIdeal.lit0t (128 * a.val + b.val) := by decide +kernel

/-- The reference's table and the kernel's are one table. -/
theorem lit0_eq : Cert.ReferenceIdeal.lit0 = Cert.KernelIdeal.lit0 := by
  funext i
  have h := lit0_digits ⟨i.val / 128, by omega⟩ ⟨i.val % 128, by omega⟩
  simp only [Nat.div_add_mod] at h
  exact h

/-- The reference's table as the launch set-up names it. -/
theorem table_eq : (fun i => Cert.ReferenceIdeal.lit0 (Cert.ReferenceIdeal.S16384.rowMajor i)) = Rate.tbl := by
  unfold Rate.tbl; rw [lit0_eq]

end Cert.Proof.Ref

end
-- ==== Proof.Ref.lean ====
/-
  What the reference computes: element `i` of its first result is the polynomial of `x[0, i, 49, t i]`, its second
  result is the table `t`; these are the kernel's two results.
-/
module

public import proofs.«01_k».proof.Proof.Pick
public import proofs.«01_k».proof.Proof.Consts
public import proofs.«01_k».proof.Proof.RefTable

@[expose] public section

noncomputable section

namespace Cert.Proof.Ref

open Idealize.ShloMosaic Idealize.ShloMosaic.TcCoe Idealize.SL.Sem

open Cert.ReferenceIdeal Cert.ReferenceIdeal.Gen in
/-- The vector of elements that the reference picks from an input `X`: its last step, indexed by the table. -/
def pickR (X : Pick.X4.Idx → EReal) : Pick.V1.Idx → EReal :=
  shapeCast S16384 (Host.gather gather_S16384x64_S16384x1x2_S16384x1_n_01_n_n_01_2_11 (shapeCast S16384x64 (extractStridedSlice S16384x1x64 ![0, 49, 0] (shapeCast S16384x50x64 X Facts₀.shapeCasts_S1x16384x50x64_S16384x50x64) Facts₀.slices_S16384x50x64_S16384x1x64_0_49_0) Facts₀.shapeCasts_S16384x1x64_S16384x64)
      (concatenate S16384x1x2 2 [⟨S16384x1x1, (broadcastInDim S16384x1x1 ![0, 1] Facts₀.bcast_S16384x1_S16384x1x1_0_1 (select (cmpi .slt (broadcastInDim S16384x1 ![0] Facts₀.bcast_S16384_S16384x1_0 (iotaInDim S16384 32 0)) (broadcastInDim S16384x1 ![] Facts₀.bcast_S_S16384x1 (constantI S_ 32 0#32))) (addi (broadcastInDim S16384x1 ![0] Facts₀.bcast_S16384_S16384x1_0 (iotaInDim S16384 32 0)) (broadcastInDim S16384x1 ![] Facts₀.bcast_S_S16384x1 (constantI S_ 32 16384#32))) (broadcastInDim S16384x1 ![0] Facts₀.bcast_S16384_S16384x1_0 (iotaInDim S16384 32 0))))⟩, ⟨S16384x1x1, (broadcastInDim S16384x1x1 ![0, 1] Facts₀.bcast_S16384x1_S16384x1x1_0_1 (select (cmpi .slt (broadcastInDim S16384x1 ![0] Facts₀.bcast_S16384_S16384x1_0 Rate.tbl) (broadcastInDim S16384x1 ![] Facts₀.bcast_S_S16384x1 (constantI S_ 32 0#32))) (addi (broadcastInDim S16384x1 ![0] Facts₀.bcast_S16384_S16384x1_0 Rate.tbl) (broadcastInDim S16384x1 ![] Facts₀.bcast_S_S16384x1 (constantI S_ 32 64#32))) (broadcastInDim S16384x1 ![0] Facts₀.bcast_S16384_S16384x1_0 Rate.tbl)))⟩] Facts₀.concatenates_S16384x1x1_S16384x1x1_S16384x1x2_d2)) Facts₀.shapeCasts_S16384x1_S16384

/-- The reference's picked element `i` is `x[0, i, 49, t i]`. -/
theorem picked (X : Pick.X4.Idx → EReal) (p : Fin 16384) :
    pickR X (ix1 p) = X (ix4 0 p 49 ⟨(Rate.tbl (ix1 p)).toNat, (Rate.tbl_lt _).trans (by omega)⟩) :=
  Pick.pick_apply _ rfl rfl rfl rfl rfl _ _ _ _ _ _ _ _ X Rate.tbl (fun j => (Rate.tbl_lt j).trans (by omega)) p

/-- What the kernel selects for column `p` of the transposed input is the same element. -/
theorem sel_xT (m : (ℓ : Loc Cert.KernelIdeal.nD Cert.KernelIdeal.τ Cert.KernelIdeal.sig) → Buf (Elt Ideal) ℓ) (d : Dev Cert.KernelIdeal.nD) (p : Fin 16384) :
    Rate.sel (F := Idealize.ShloMosaic.Ideal) (Rate.xT m d) p = (m (Rate.aLoc d) : Pick.X4.Idx → EReal) (ix4 0 p 49 ⟨(Rate.tbl (ix1 p)).toNat, (Rate.tbl_lt _).trans (by omega)⟩) := by
  have e1 : (Rate.ix p : Pick.V1.Idx) = ix1 p := by funext a; match a with | ⟨0, _⟩ => rfl
  unfold Rate.sel Rate.xT
  rw [Pointwise.transpose_apply]
  simp only [e1]
  congr 1
  funext a
  match a with
  | ⟨0, _⟩ => rfl
  | ⟨1, _⟩ => rfl
  | ⟨2, _⟩ => rfl
  | ⟨3, _⟩ => rfl

/-- The reference's first result is the kernel's, whenever the two start from the same input. -/
theorem out0_eq (m : (ℓ : Loc Cert.KernelIdeal.nD Cert.KernelIdeal.τ Cert.KernelIdeal.sig) → Buf (Elt Ideal) ℓ) (d : Dev Cert.KernelIdeal.nD)
    (m' : (ℓ : Loc Cert.ReferenceIdeal.nD Cert.ReferenceIdeal.τ Cert.ReferenceIdeal.sig) → Buf (Elt Ideal) ℓ) (c : Dev Cert.ReferenceIdeal.nD)
    (h : (m' ((c.tc : Thread Cert.ReferenceIdeal.nD Cert.ReferenceIdeal.τ).loc Cert.ReferenceIdeal.main_arg0) : Pick.X4.Idx → EReal) = m (Rate.aLoc d)) :
    (Cert.ReferenceIdeal.Value.res_out0 m' c : Pick.V1.Idx → EReal) = Rate.rateV m d := by
  funext j
  obtain ⟨p, rfl⟩ : ∃ p : Fin 16384, j = ix1 p := ⟨j 0, by funext a; match a with | ⟨0, _⟩ => rfl⟩
  show _ = Rate.poly (Rate.sel (F := Idealize.ShloMosaic.Ideal) (Rate.xT m d) p)
  rw [sel_xT, ← h, ← picked (m' ((c.tc : Thread Cert.ReferenceIdeal.nD Cert.ReferenceIdeal.τ).loc Cert.ReferenceIdeal.main_arg0))]
  unfold Cert.ReferenceIdeal.Value.res_out0 Cert.ReferenceIdeal.Value.res_main_v36
  rw [table_eq]
  show ((((Ideal.ofBits .f32 0x3D201825#32 * pickR _ (ix1 p) - Ideal.ofBits .f32 0x3E2D00D2#32) * pickR _ (ix1 p) + Ideal.ofBits .f32 0x3EBC5673#32) * pickR _ (ix1 p)
    - Ideal.ofBits .f32 0x3F229809#32) * pickR _ (ix1 p) + Ideal.ofBits .f32 0x3FA608B2#32) * pickR _ (ix1 p) + Ideal.ofBits .f32 0x37F111E5#32 = _
  rw [Consts.sub_n4, Consts.sub_n2]
  rfl

end Cert.Proof.Ref

end
-- ==== Proof.CloseTable.lean ====
/-
  The table of drawn indices in the predicate `close_to_log2` is the table that the kernel reads.
-/
module

public import proofs.«01_k».proof.Post_close_to_log2
public import proofs.«01_k».proof.Proof.Setup

@[expose] public section

noncomputable section

namespace Cert.Proof.Close

/-- The predicate's table and the kernel's are one table, looked up by the two base-128 digits. -/
theorem lit0_digits : ∀ a : Fin 128, ∀ b : Fin 128,
    Cert.Post_close_to_log2.lit0t (128 * a.val + b.val) = Cert.KernelIdeal.lit0t (128 * a.val + b.val) := by decide +kernel

/-- The predicate's table and the kernel's are one table. -/
theorem lit0_eq : Cert.Post_close_to_log2.lit0 = Cert.KernelIdeal.lit0 := by
  funext i
  have h := lit0_digits ⟨i.val / 128, by omega⟩ ⟨i.val % 128, by omega⟩
  simp only [Nat.div_add_mod] at h
  exact h

/-- The predicate's table as the launch set-up names it. -/
theorem table_eq : (fun i => Cert.Post_close_to_log2.lit0 (Cert.Post_close_to_log2.S16384.rowMajor i)) = Rate.tbl := by
  unfold Rate.tbl; rw [lit0_eq]

end Cert.Proof.Close

end
-- ==== Proof.LogBound.lean ====
/-
  The kernel's polynomial is within 3e-5 of `0.9 * log2(1 + s)` for every real `s` from 0 to 1.

  The difference has a small derivative on the interval, so it is enough to bound it at the middles of 4096 equal cells.
  There the logarithm is enclosed by eight terms of the series of `log((1 + u) / (1 - u))`, and what is left is an
  inequality between integers.
-/
module

public import Idealize.ShloMosaic.Lib.IdealHost
public import Mathlib.Analysis.SpecialFunctions.Log.Basic
public import Mathlib.Analysis.SpecialFunctions.ExpDeriv
public import Mathlib.Analysis.Calculus.MeanValue
public import Mathlib.Analysis.Calculus.Deriv.Inverse
public import Mathlib.Analysis.Calculus.Deriv.Pow
public import Mathlib.Analysis.Calculus.Deriv.Comp

@[expose] public section

noncomputable section

namespace Cert.Proof.LogBound

open Real Finset

/-- The kernel's polynomial over the reals. -/
def poly (s : ℝ) : ℝ :=
  ((((10491941 / 268435456 * s + -5668969 / 33554432) * s + 12342899 / 33554432) * s + -10655753 / 16777216) * s
    + 5440601 / 4194304) * s + 15798757 / 549755813888

/-- `0.9 * log2(1 + s)` as jnp computes it: the natural logarithm times the float nearest to `1 / ln 2`, times the float
    nearest to 0.9. -/
def exact (s : ℝ) : ℝ := 15099494 / 16777216 * (log (1 + s) * (12102203 / 8388608))

/-- Half of the first eight terms of the series of `log((1 + u) / (1 - u))`. -/
def series (u : ℝ) : ℝ := u + u ^ 3 / 3 + u ^ 5 / 5 + u ^ 7 / 7 + u ^ 9 / 9 + u ^ 11 / 11 + u ^ 13 / 13 + u ^ 15 / 15

/-- The derivative of the logarithm at a positive number. -/
theorem log_deriv (x : ℝ) (hx : 0 < x) : HasDerivAt log x⁻¹ x := by
  have h : HasDerivAt exp (exp (log x)) (log x) := hasDerivAt_exp _
  have := HasDerivAt.of_local_left_inverse (f := exp) (g := log) (a := x) (continuousAt_log hx.ne') h (exp_pos _).ne'
    (Filter.eventually_of_mem (Ioi_mem_nhds hx) (fun y hy => exp_log hy))
  rwa [exp_log hx] at this

/-- The logarithm of `1 + u` against that of `1 - u` is near the series for `u` up to a third. -/
theorem log_near (u : ℝ) (h0 : 0 ≤ u) (h1 : u ≤ 1 / 3) : |log (1 + u) - log (1 - u) - 2 * series u| ≤ 1 / 20000000 := by
  have hd : ∀ x ∈ Set.Icc (0 : ℝ) (1 / 3), HasDerivWithinAt (fun x => log (1 + x) - log (1 - x) - 2 * series x) (2 * x ^ 16 / (1 - x ^ 2)) (Set.Icc (0 : ℝ) (1 / 3)) x := by
    intro x hx
    have ha : HasDerivAt (fun x : ℝ => log (1 + x)) ((1 + x)⁻¹ * 1) x :=
      (log_deriv (1 + x) (by linarith [hx.1])).comp x ((hasDerivAt_id x).const_add 1)
    have hb : HasDerivAt (fun x : ℝ => log (1 - x)) ((1 - x)⁻¹ * (-1)) x :=
      (log_deriv (1 - x) (by linarith [hx.2])).comp x ((hasDerivAt_id x).const_sub 1)
    have hs : HasDerivAt series (1 + x ^ 2 + x ^ 4 + x ^ 6 + x ^ 8 + x ^ 10 + x ^ 12 + x ^ 14) x := by
      have hp := fun n : ℕ => hasDerivAt_pow n x
      have := ((((((((hasDerivAt_id x).add ((hp 3).div_const 3)).add ((hp 5).div_const 5)).add ((hp 7).div_const 7)).add
        ((hp 9).div_const 9)).add ((hp 11).div_const 11)).add ((hp 13).div_const 13)).add ((hp 15).div_const 15))
      refine this.congr_deriv ?_
      push_cast
      ring
    refine HasDerivAt.hasDerivWithinAt (((ha.sub hb).sub (hs.const_mul 2)).congr_deriv ?_)
    have h2 : (1 + x) ≠ 0 := by linarith [hx.1]
    have h3 : (1 - x) ≠ 0 := by linarith [hx.2]
    have h4 : (1 - x ^ 2) ≠ 0 := by
      have : 1 - x ^ 2 = (1 + x) * (1 - x) := by ring
      rw [this]; exact mul_ne_zero h2 h3
    field_simp
    ring
  have hb : ∀ x ∈ Set.Icc (0 : ℝ) (1 / 3), ‖2 * x ^ 16 / (1 - x ^ 2)‖ ≤ 3 / 20000000 := by
    intro x hx
    have hx2 : x ^ 2 ≤ 1 / 9 := by nlinarith [hx.1, hx.2]
    have hx16 : x ^ 16 ≤ (1 / 3) ^ 16 := pow_le_pow_left₀ hx.1 hx.2 16
    have hp : 0 ≤ x ^ 16 := pow_nonneg hx.1 16
    rw [Real.norm_eq_abs, abs_of_nonneg (div_nonneg (by linarith) (by linarith)), div_le_iff₀ (by linarith)]
    norm_num at hx16
    linarith
  have := (convex_Icc (0 : ℝ) (1 / 3)).norm_image_sub_le_of_norm_hasDerivWithin_le hd hb (x := 0) (y := u) ⟨le_rfl, by norm_num⟩ ⟨h0, h1⟩
  simp only [series, Real.norm_eq_abs] at this
  norm_num at this
  rw [abs_of_nonneg h0] at this
  unfold series
  refine this.trans ?_
  linarith

/-- Half the series at `n / d`, times `45045 * d ^ 15`. -/
abbrev seriesZ (n : ℤ) (d2 n2 : ℤ) : ℤ :=
  n * (((((((45045 * d2 + 15015 * n2) * d2 + 9009 * (n2 * n2)) * d2 + 6435 * (n2 * n2 * n2)) * d2 + 5005 * (n2 * n2 * n2 * n2)) * d2
    + 4095 * (n2 * n2 * n2 * n2 * n2)) * d2 + 3465 * (n2 * n2 * n2 * n2 * n2 * n2)) * d2 + 3003 * (n2 * n2 * n2 * n2 * n2 * n2 * n2))

/-- The fifteenth power, by its square. -/
abbrev pow15Z (d d2 : ℤ) : ℤ := d * (d2 * d2 * d2 * d2 * d2 * d2 * d2)

/-- The polynomial at `n / 8192`, times `2 ^ 104`. -/
abbrev polyZ (n : ℤ) : ℤ :=
  ((((10491941 * 2048 * n + -5668969 * 16384 * 8192) * n + 12342899 * 16384 * 67108864) * n + -10655753 * 32768 * 549755813888) * n
    + 5440601 * 131072 * 4503599627370496) * n + 15798757 * 36893488147419103232

/-- The lower and the upper inequality at the middle `n / 8192` of a cell. -/
abbrev good (n : ℤ) : Prop :=
  45045 * pow15Z (16384 + n) ((16384 + n) * (16384 + n)) * (10000000 * polyZ n - 289 * 20282409603651670423947251286016)
      ≤ 2 * (15099494 * 12102203) * 144115188075855872 * 10000000 * seriesZ n ((16384 + n) * (16384 + n)) (n * n)
  ∧ 2 * (15099494 * 12102203) * 144115188075855872 * 10000000 * seriesZ n ((16384 + n) * (16384 + n)) (n * n)
      ≤ 45045 * pow15Z (16384 + n) ((16384 + n) * (16384 + n)) * (10000000 * polyZ n + 280 * 20282409603651670423947251286016)

/-- Both inequalities hold at the middle of each of the 4096 cells. -/
theorem all_good : ∀ i : Fin 64, ∀ j : Fin 64, good (2 * (64 * (i.val : ℤ) + (j.val : ℤ)) + 1) := by decide +kernel

/-- What the integers say of the reals: at the middle `n / 8192` of a cell, whose `u` is `n / (16384 + n)`. -/
theorem good_real (n : ℤ) (h : good n) (N : ℝ) (hN : (n : ℝ) = N) (h0 : 0 < N) :
    |2 * (15099494 / 16777216 * (12102203 / 8388608)) * series (N / (16384 + N)) - poly (N / 8192)| ≤ 289 / 10000000 := by
  obtain ⟨h1, h2⟩ := h
  have hd : 0 < 16384 + N := by linarith
  have eP : ((polyZ n : ℤ) : ℝ) = 20282409603651670423947251286016 * poly (N / 8192) := by
    unfold polyZ poly; push_cast; rw [hN]; ring
  have eS : ((seriesZ n ((16384 + n) * (16384 + n)) (n * n) : ℤ) : ℝ) = 45045 * (16384 + N) ^ 15 * series (N / (16384 + N)) := by
    unfold seriesZ series; push_cast; rw [hN]
    generalize hD : 16384 + N = D at hd
    field_simp
    ring
  have eD : ((pow15Z (16384 + n) ((16384 + n) * (16384 + n)) : ℤ) : ℝ) = (16384 + N) ^ 15 := by
    unfold pow15Z; push_cast; rw [hN]; ring
  generalize polyZ n = p at h1 h2 eP
  generalize seriesZ n ((16384 + n) * (16384 + n)) (n * n) = q at h1 h2 eS
  generalize pow15Z (16384 + n) ((16384 + n) * (16384 + n)) = r at h1 h2 eD
  have h1' := (Int.cast_le (R := ℝ)).2 h1
  have h2' := (Int.cast_le (R := ℝ)).2 h2
  push_cast at h1' h2'
  rw [eP, eD, eS] at h1' h2'
  have hp : 0 < (45045 : ℝ) * (16384 + N) ^ 15 := by positivity
  generalize (45045 : ℝ) * (16384 + N) ^ 15 = E at h1' h2' hp
  generalize series (N / (16384 + N)) = S at h1' h2' ⊢
  generalize poly (N / 8192) = Q at h1' h2' ⊢
  have g1 : 10000000 * (20282409603651670423947251286016 * Q) - 289 * 20282409603651670423947251286016
      ≤ 2 * (15099494 * 12102203) * 144115188075855872 * 10000000 * S := by
    refine le_of_mul_le_mul_left ?_ hp
    linarith
  have g2 : 2 * (15099494 * 12102203) * 144115188075855872 * 10000000 * S
      ≤ 10000000 * (20282409603651670423947251286016 * Q) + 280 * 20282409603651670423947251286016 := by
    refine le_of_mul_le_mul_left ?_ hp
    linarith
  rw [abs_le]
  constructor <;> linarith

/-- At the middle of a cell the polynomial is within 2.9e-5 of the exact value. -/
theorem near_mid (k : ℕ) (hk : k < 4096) :
    |exact ((2 * (k : ℝ) + 1) / 8192) - poly ((2 * (k : ℝ) + 1) / 8192)| ≤ 29 / 1000000 := by
  have hg := all_good ⟨k / 64, by omega⟩ ⟨k % 64, by omega⟩
  have hkz : (64 * ((k / 64 : ℕ) : ℤ) + ((k % 64 : ℕ) : ℤ)) = k := by omega
  simp only [hkz] at hg
  obtain ⟨n, hn⟩ : ∃ n : ℝ, n = 2 * (k : ℝ) + 1 := ⟨_, rfl⟩
  have hn0 : 0 < n := by rw [hn]; positivity
  have hn1 : n ≤ 8192 := by
    have : (k : ℝ) + 1 ≤ 4096 := by exact_mod_cast hk
    linarith
  have hr := good_real _ hg n (by rw [hn]; push_cast; ring) hn0
  rw [← hn]
  have hu1 : n / (16384 + n) ≤ 1 / 3 := by rw [div_le_iff₀ (by linarith)]; linarith
  have hl := log_near (n / (16384 + n)) (by positivity) hu1
  have hlog : log (1 + n / 8192) = log (1 + n / (16384 + n)) - log (1 - n / (16384 + n)) := by
    rw [← log_div (by positivity) (by linarith)]
    congr 1
    have : 16384 + n - n ≠ 0 := by norm_num
    field_simp
    ring
  unfold exact
  rw [hlog]
  generalize log (1 + n / (16384 + n)) - log (1 - n / (16384 + n)) = l at hl
  rw [abs_le] at hl hr ⊢
  constructor <;> linarith [hl.1, hl.2, hr.1, hr.2]

/-- The derivative of the polynomial. -/
def dpoly (x : ℝ) : ℝ := 5440601/4194304 - 10655753/8388608 * x + 37028697/33554432 * x ^ 2 - 5668969/8388608 * x ^ 3 + 52459705/268435456 * x ^ 4

/-- The derivative of the difference is small: its numerator is a polynomial whose coefficients in `x ^ i * (1 - x) ^ (5 - i)`
    are small. -/
theorem slope (x : ℝ) (h0 : 0 ≤ x) (h1 : x ≤ 1) :
    |15099494 / 16777216 * ((1 + x)⁻¹ * (12102203 / 8388608)) - dpoly x| ≤ 77 / 10000 := by
  obtain ⟨y, hy⟩ : ∃ y : ℝ, y = 1 - x := ⟨_, rfl⟩
  have hy0 : 0 ≤ y := by linarith
  have hlo : 0 ≤ 77 / 10000 + (15099494 / 16777216 * (12102203 / 8388608) - (1 + x) * dpoly x) := by
    have : 77 / 10000 + (15099494 / 16777216 * (12102203 / 8388608) - (1 + x) * dpoly x) =
        395169984995633/43980465111040000 * (x ^ 0 * y ^ 5) +
        158769574371633/8796093022208000 * (x ^ 1 * y ^ 4) +
        655627219427633/4398046511104000 * (x ^ 2 * y ^ 3) +
        4489966051633/4398046511104000 * (x ^ 3 * y ^ 2) +
        549450084835633/8796093022208000 * (x ^ 4 * y ^ 1) +
        264947003875633/43980465111040000 * (x ^ 5 * y ^ 0) := by
      rw [hy]; unfold dpoly; ring
    rw [this]; positivity
  have hhi : 0 ≤ 77 / 10000 - (15099494 / 16777216 * (12102203 / 8388608) - (1 + x) * dpoly x) := by
    have : 77 / 10000 - (15099494 / 16777216 * (12102203 / 8388608) - (1 + x) * dpoly x) =
        282129177714383/43980465111040000 * (x ^ 0 * y ^ 5) +
        518529588338383/8796093022208000 * (x ^ 1 * y ^ 4) +
        21671943282383/4398046511104000 * (x ^ 2 * y ^ 3) +
        672809196658383/4398046511104000 * (x ^ 3 * y ^ 2) +
        127849077874383/8796093022208000 * (x ^ 4 * y ^ 1) +
        412352158834383/43980465111040000 * (x ^ 5 * y ^ 0) := by
      rw [hy]; unfold dpoly; ring
    rw [this]; positivity
  have hx : 0 < 1 + x := by linarith
  have e : 15099494 / 16777216 * ((1 + x)⁻¹ * (12102203 / 8388608)) - dpoly x
      = (15099494 / 16777216 * (12102203 / 8388608) - (1 + x) * dpoly x) / (1 + x) := by
    field_simp
  rw [e, abs_le, le_div_iff₀ hx, div_le_iff₀ hx]
  constructor <;> linarith

/-- The difference between the exact value and the polynomial changes slowly. -/
theorem lipschitz (a s : ℝ) (ha : a ∈ Set.Icc (0 : ℝ) 1) (hs : s ∈ Set.Icc (0 : ℝ) 1) :
    |(exact s - poly s) - (exact a - poly a)| ≤ 77 / 10000 * |s - a| := by
  have hd : ∀ x ∈ Set.Icc (0 : ℝ) 1, HasDerivWithinAt (fun x => exact x - poly x)
      (15099494 / 16777216 * ((1 + x)⁻¹ * (12102203 / 8388608)) - dpoly x) (Set.Icc (0 : ℝ) 1) x := by
    intro x hx
    have ha : HasDerivAt (fun x : ℝ => log (1 + x)) ((1 + x)⁻¹ * 1) x :=
      (log_deriv (1 + x) (by linarith [hx.1])).comp x ((hasDerivAt_id x).const_add 1)
    have he : HasDerivAt exact (15099494 / 16777216 * ((1 + x)⁻¹ * 1 * (12102203 / 8388608))) x :=
      (ha.mul_const _).const_mul _
    have hp : HasDerivAt poly (dpoly x) x := by
      have hid := hasDerivAt_id x
      have := (((((((((hid.const_mul (10491941 / 268435456)).add_const (-5668969 / 33554432)).mul hid).add_const (12342899 / 33554432)).mul hid).add_const
        (-10655753 / 16777216)).mul hid).add_const (5440601 / 4194304)).mul hid).add_const (15798757 / 549755813888)
      refine this.congr_deriv ?_
      simp only [id, Pi.mul_apply]
      unfold dpoly
      ring
    refine HasDerivAt.hasDerivWithinAt ((he.sub hp).congr_deriv ?_)
    rw [mul_one]
  exact (convex_Icc (0 : ℝ) 1).norm_image_sub_le_of_norm_hasDerivWithin_le hd (fun x hx => slope x hx.1 hx.2) ha hs

/-- On the interval the polynomial is within the float nearest to 3e-5 of the exact value. -/
theorem near (s : ℝ) (h0 : 0 ≤ s) (h1 : s ≤ 1) : |poly s - exact s| ≤ 8246337 / 274877906944 := by
  obtain ⟨k, hk, hl, hu⟩ : ∃ k : ℕ, k < 4096 ∧ (k : ℝ) ≤ 4096 * s ∧ 4096 * s ≤ k + 1 := by
    by_cases hs : s = 1
    · exact ⟨4095, by norm_num, by rw [hs]; norm_num, by rw [hs]; norm_num⟩
    · have hlt : s < 1 := lt_of_le_of_ne h1 hs
      have hp : 0 ≤ 4096 * s := by linarith
      exact ⟨⌊4096 * s⌋₊, (Nat.floor_lt hp).2 (by push_cast; linarith), Nat.floor_le hp, (Nat.lt_floor_add_one _).le⟩
  have hk' : (k : ℝ) + 1 ≤ 4096 := by exact_mod_cast hk
  have hk0 : (0 : ℝ) ≤ k := Nat.cast_nonneg k
  have hm := near_mid k hk
  have hL := lipschitz ((2 * (k : ℝ) + 1) / 8192) s ⟨by positivity, by linarith⟩ ⟨h0, h1⟩
  have hd : |s - (2 * (k : ℝ) + 1) / 8192| ≤ 1 / 8192 := by
    rw [abs_le]; constructor <;> linarith
  rw [abs_le] at hL hm ⊢
  constructor <;> linarith [hL.1, hL.2, hm.1, hm.2]

end Cert.Proof.LogBound

end
-- ==== Proof.Close.lean ====
/-
  The kernel's rate is within 3e-5 of `0.9 * log2(1 + s)` wherever the selected element `s` is from 0 to 1, and its
  indices are the drawn ones: the predicate `close_to_log2` of the kernel's results is all ones.
-/
module

public import proofs.«01_k».proof.Proof.CloseTable
public import proofs.«01_k».proof.Proof.Ref
public import proofs.«01_k».proof.Proof.LogBound

@[expose] public section

noncomputable section

namespace Cert.Proof.Close

open Idealize.ShloMosaic Idealize.ShloMosaic.TcCoe Idealize.SL.Sem

open Cert.Post_close_to_log2 in
/-- The side conditions that the predicate states. -/
instance facts : Cert.Post_close_to_log2.Facts where
  shapeCasts_S1x16384x50x64_S16384x50x64 := by decide
  slices_S16384x50x64_S16384x1x64_0_49_0 := by decide
  shapeCasts_S16384x1x64_S16384x64 := by decide
  bcast_S16384_S16384x1_0 := by decide
  bcast_S_S16384x1 := by decide
  bcast_S16384x1_S16384x1x1_0_1 := by decide
  concatenates_S16384x1x1_S16384x1x1_S16384x1x2_d2 := by decide
  shapeCasts_S16384x1_S16384 := by decide
  bcast_S_S16384 := by decide
  gather_S16384x64_S16384x1x2_S16384x1_n_01_n_n_01_2_11_wf := by decide

/-! ## The predicate on one element -/

/-- The float nearest to 3e-5. -/
theorem tol : Ideal.ofBits .f32 0x37FBA882#32 = ((8246337 / 274877906944 : ℝ) : EReal) := by
  simp [Ideal.ofBits, Ideal.ieee, -EReal.coe_mul, -EReal.coe_neg]; norm_num

/-- The float nearest to `1 / ln 2`. -/
theorem invLn2 : Ideal.ofBits .f32 0x3FB8AA3B#32 = ((12102203 / 8388608 : ℝ) : EReal) := by
  simp [Ideal.ofBits, Ideal.ieee, -EReal.coe_mul, -EReal.coe_neg]; norm_num

/-- The float nearest to 0.9. -/
theorem share : Ideal.ofBits .f32 0x3F666666#32 = ((15099494 / 16777216 : ℝ) : EReal) := by
  simp [Ideal.ofBits, Ideal.ieee, -EReal.coe_mul, -EReal.coe_neg]; norm_num

/-- One. -/
theorem one : Ideal.ofBits .f32 0x3F800000#32 = ((1 : ℝ) : EReal) := by
  simp [Ideal.ofBits, Ideal.ieee, -EReal.coe_mul, -EReal.coe_neg]; norm_num

/-- Zero. -/
theorem zero : Ideal.ofBits .f32 0x00000000#32 = ((0 : ℝ) : EReal) := by
  simp [Ideal.ofBits, Ideal.ieee, -EReal.coe_mul, -EReal.coe_neg]

/-- `0.9 * log2(1 + s)` over the extended reals, as the predicate computes it. -/
def exactE (s : EReal) : EReal :=
  Ideal.ofBits .f32 0x3F666666#32 * (Ideal.log (Ideal.ofBits .f32 0x3F800000#32 + s) * Ideal.ofBits .f32 0x3FB8AA3B#32)

/-- The kernel's polynomial of a real is real. -/
theorem poly_coe (r : ℝ) : Rate.poly (F := Idealize.ShloMosaic.Ideal) (r : EReal) = ((LogBound.poly r : ℝ) : EReal) := by
  show ((((Ideal.ofBits .f32 0x3D201825#32 * (r : EReal) + Ideal.ofBits .f32 0xBE2D00D2#32) * (r : EReal) + Ideal.ofBits .f32 0x3EBC5673#32) * (r : EReal)
    + Ideal.ofBits .f32 0xBF229809#32) * (r : EReal) + Ideal.ofBits .f32 0x3FA608B2#32) * (r : EReal) + Ideal.ofBits .f32 0x37F111E5#32 = _
  rw [Consts.c5, Consts.c4, Consts.c3, Consts.c2, Consts.c1, Consts.c0]
  simp only [← EReal.coe_mul, ← EReal.coe_add]
  rfl

/-- The exact value at a real from 0 on is real. -/
theorem exact_coe (r : ℝ) (h : 0 ≤ r) : exactE (r : EReal) = ((LogBound.exact r : ℝ) : EReal) := by
  unfold exactE
  rw [share, one, invLn2, ← EReal.coe_add, Ideal.log_coe, if_neg (by linarith)]
  simp only [← EReal.coe_mul]
  rfl

/-- The predicate's first result on one element is true: the rate is near the exact value, or the element is outside. -/
theorem elem (s : EReal) :
    IntOp.ori (Ideal.cmp .ole (max (Rate.poly (F := Idealize.ShloMosaic.Ideal) s - exactE s) (-(Rate.poly (F := Idealize.ShloMosaic.Ideal) s - exactE s))) (Ideal.ofBits .f32 0x37FBA882#32))
      (IntOp.ori (Ideal.cmp .olt s (Ideal.ofBits .f32 0x00000000#32)) (Ideal.cmp .ogt s (Ideal.ofBits .f32 0x3F800000#32))) = 1#1 := by
  have hor : ∀ a b : BitVec 1, a = 1#1 ∨ b = 1#1 → IntOp.ori a b = 1#1 := by decide
  have hlt : s < 0 → Ideal.cmp .olt s (Ideal.ofBits .f32 0x00000000#32) = 1#1 := fun h => by
    rw [zero]; simp [Ideal.cmp, h]
  have hgt : 1 < s → Ideal.cmp .ogt s (Ideal.ofBits .f32 0x3F800000#32) = 1#1 := fun h => by
    rw [one]; simp [Ideal.cmp, h]
  refine hor _ _ ?_
  by_cases h0 : s < 0
  · exact Or.inr (hor _ _ (Or.inl (hlt h0)))
  by_cases h1 : 1 < s
  · exact Or.inr (hor _ _ (Or.inr (hgt h1)))
  left
  rw [not_lt] at h0 h1
  induction s using EReal.rec with
  | bot => simp at h0
  | top => exact absurd h1 (not_le.2 (EReal.coe_lt_top 1))
  | coe r =>
    have r0 : 0 ≤ r := by exact_mod_cast h0
    have r1 : r ≤ 1 := by exact_mod_cast h1
    have hn := abs_le.1 (LogBound.near r r0 r1)
    have hm : max (((LogBound.poly r - LogBound.exact r : ℝ) : EReal)) (-((LogBound.poly r - LogBound.exact r : ℝ) : EReal))
        ≤ ((8246337 / 274877906944 : ℝ) : EReal) := by
      rw [← EReal.coe_neg]
      exact max_le (EReal.coe_le_coe_iff.2 hn.2) (EReal.coe_le_coe_iff.2 (by linarith [hn.1]))
    rw [poly_coe, exact_coe r r0, tol, ← EReal.coe_sub]
    show BitVec.ofBool (decide (_ ≤ _)) = 1#1
    rw [decide_eq_true hm]; rfl

/-! ## The predicate on the kernel's results -/

open Cert.Post_close_to_log2 Cert.Post_close_to_log2.Facts in
/-- The vector of elements that the predicate picks from an input `X`: its last step, indexed by the table. -/
def pickP (X : Pick.X4.Idx → EReal) (T : IVec Pick.V1 32) : Pick.V1.Idx → EReal :=
  shapeCast S16384 (Host.gather gather_S16384x64_S16384x1x2_S16384x1_n_01_n_n_01_2_11 (shapeCast S16384x64 (extractStridedSlice S16384x1x64 ![0, 49, 0] (shapeCast S16384x50x64 X shapeCasts_S1x16384x50x64_S16384x50x64) slices_S16384x50x64_S16384x1x64_0_49_0) shapeCasts_S16384x1x64_S16384x64)
      (concatenate S16384x1x2 2 [⟨S16384x1x1, (broadcastInDim S16384x1x1 ![0, 1] bcast_S16384x1_S16384x1x1_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0))))⟩, ⟨S16384x1x1, (broadcastInDim S16384x1x1 ![0, 1] bcast_S16384x1_S16384x1x1_0_1 (select (cmpi .slt (broadcastInDim S16384x1 ![0] bcast_S16384_S16384x1_0 T) (broadcastInDim S16384x1 ![] bcast_S_S16384x1 (constantI S_ 32 0#32))) (addi (broadcastInDim S16384x1 ![0] bcast_S16384_S16384x1_0 T) (broadcastInDim S16384x1 ![] bcast_S_S16384x1 (constantI S_ 32 64#32))) (broadcastInDim S16384x1 ![0] bcast_S16384_S16384x1_0 T)))⟩] concatenates_S16384x1x1_S16384x1x1_S16384x1x2_d2)) shapeCasts_S16384x1_S16384

/-- The predicate's picked element `i` is `x[0, i, 49, t i]`. -/
theorem picked (X : Pick.X4.Idx → EReal) (p : Fin 16384) :
    pickP X Rate.tbl (ix1 p) = X (ix4 0 p 49 ⟨(Rate.tbl (ix1 p)).toNat, (Rate.tbl_lt _).trans (by omega)⟩) :=
  Pick.pick_apply _ rfl rfl rfl rfl rfl _ _ _ _ _ _ _ _ X Rate.tbl (fun j => (Rate.tbl_lt j).trans (by omega)) p

/-- The predicate's first result at one place, over what it picks there and the rate there. -/
theorem fst_apply (X : Pick.X4.Idx → EReal) (R : Pick.V1.Idx → EReal) (I : IVec Pick.V1 32) (j : Pick.V1.Idx) :
    (Cert.Post_close_to_log2.fn (F := Idealize.ShloMosaic.Ideal) X R I).1 j
      = IntOp.ori (Ideal.cmp .ole (max (R j - exactE (pickP X (fun i => Cert.Post_close_to_log2.lit0 (Cert.Post_close_to_log2.S16384.rowMajor i)) j))
            (-(R j - exactE (pickP X (fun i => Cert.Post_close_to_log2.lit0 (Cert.Post_close_to_log2.S16384.rowMajor i)) j)))) (Ideal.ofBits .f32 0x37FBA882#32))
          (IntOp.ori (Ideal.cmp .olt (pickP X (fun i => Cert.Post_close_to_log2.lit0 (Cert.Post_close_to_log2.S16384.rowMajor i)) j) (Ideal.ofBits .f32 0x00000000#32))
            (Ideal.cmp .ogt (pickP X (fun i => Cert.Post_close_to_log2.lit0 (Cert.Post_close_to_log2.S16384.rowMajor i)) j) (Ideal.ofBits .f32 0x3F800000#32))) := rfl

/-- The predicate's first result on the kernel's rate is all ones. -/
theorem fst_ones (m : (ℓ : Loc Cert.KernelIdeal.nD Cert.KernelIdeal.τ Cert.KernelIdeal.sig) → Buf (Elt Ideal) ℓ) (d : Dev Cert.KernelIdeal.nD)
    (I : IVec Pick.V1 32) :
    (Cert.Post_close_to_log2.fn (F := Idealize.ShloMosaic.Ideal) (m (Rate.aLoc d)) (Rate.rateV m d) I).1 = fun _ => 1#1 := by
  funext j
  obtain ⟨p, rfl⟩ : ∃ p : Fin 16384, j = ix1 p := ⟨j 0, by funext a; match a with | ⟨0, _⟩ => rfl⟩
  rw [fst_apply, table_eq, picked (m (Rate.aLoc d)), ← Ref.sel_xT m d p]
  exact elem _

/-- The predicate's second result on the kernel's indices is all ones. -/
theorem snd_ones (X : Pick.X4.Idx → EReal) (R : Pick.V1.Idx → EReal) :
    (Cert.Post_close_to_log2.fn (F := Idealize.ShloMosaic.Ideal) X R Rate.tbl).2 = fun _ => 1#1 := by
  funext j
  show IntOp.cmpi .eq (Rate.tbl j) ((fun i => Cert.Post_close_to_log2.lit0 (Cert.Post_close_to_log2.S16384.rowMajor i)) j) = 1#1
  rw [table_eq]
  simp [IntOp.cmpi]

end Cert.Proof.Close

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Run
public import proofs.«01_k».proof.Proof.Ref
public import proofs.«01_k».proof.Proof.Close
public import Idealize.ShloMosaic.Adequacy
public import Idealize.ShloMosaic.Init

@[expose] public section

noncomputable section

namespace Cert.Proof

open Idealize.ShloMosaic Idealize.SL.Sem Cert.Kernel

/-- The ideal program terminates without fault, leaves its argument as it was and every semaphore counter at zero. -/
theorem frame_ideal : Cert.quiescent_KernelIdeal := fun m ρ _ =>
  (θ_run Cert.KernelIdeal.defs _ _).mono (fun _ h => ⟨fun c => (h.1 c).2.2, h.2⟩) (Rate.run_main (F := Idealize.ShloMosaic.Ideal) m ρ)

/-- The program on words, whose text is the ideal program's: the same run with its floats read as words. -/
theorem frame_kernel : Cert.quiescent_Kernel := fun m ρ _ =>
  (θ_run Cert.KernelIdeal.defs _ _).mono (fun _ h => ⟨fun c => (h.1 c).2.2, h.2⟩) (Rate.run_main (F := Bits) m ρ)

/-- The reference terminates and leaves its argument as it was; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Idealize.ShloMosaic.Ideal) m ρ)

/-- Over the extended reals the kernel and the reference end with the same two arrays. -/
theorem algebraic : Cert.algebraic_KernelIdeal_ReferenceIdeal := by
  intro m ρ m' ρ' _ hagree
  refine ⟨fun c => Rate.rateV m c, fun c => Rate.idxV c,
    (θ_run Cert.KernelIdeal.defs _ _).mono (fun _ h c => h.1 c) (Rate.run_main (F := Idealize.ShloMosaic.Ideal) m ρ), ?_⟩
  refine (θ_run Cert.ReferenceIdeal.defs _ _).mono (fun _ h c => ⟨(h c).1.trans (Ref.out0_eq m c m' c (hagree c)), (h c).2.1.trans Ref.table_eq, (h c).2.2⟩)
    (Cert.ReferenceIdeal.Value.run (F := Idealize.ShloMosaic.Ideal) m' ρ')

/-- Over the extended reals the kernel's rate is within 3e-5 of `0.9 * log2(1 + s)` wherever the selected element `s` is from
    0 to 1, and its indices are the drawn ones. -/
theorem close : Cert.holds_KernelIdeal_close_to_log2 := fun m ρ _ =>
  (θ_run Cert.KernelIdeal.defs _ _).mono (fun r h c => by
      refine ⟨(h.1 c).2.2, ?_, ?_⟩
      · exact (congrArg (fun R => (Cert.Post_close_to_log2.fn (F := Idealize.ShloMosaic.Ideal) (m (Rate.aLoc c)) R (r.2.mem (Rate.iLoc c))).1) (h.1 c).1).trans
          (Close.fst_ones m c _)
      · exact (congrArg (fun I => (Cert.Post_close_to_log2.fn (F := Idealize.ShloMosaic.Ideal) (m (Rate.aLoc c)) (r.2.mem (Rate.oLoc c)) I).2) (h.1 c).2.1).trans
          (Close.snd_ones _ _))
    (Rate.run_main (F := Idealize.ShloMosaic.Ideal) m ρ)

/-- All six claims. -/
theorem claim : Cert.Claim := ⟨Cert.Kernel.Gen.facts, Cert.KernelIdeal.Gen.facts, Cert.ReferenceIdeal.Gen.facts, Close.facts,
  frame_kernel, frame_ideal, frame_reference, trivial, algebraic, close⟩

end Cert.Proof

end
